-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_windows_fit [hPre_windows_fit : Cert.Pre_windows_fit.Facts] (m : (ℓ : Loc Cert.KernelIdeal.nD Cert.KernelIdeal.τ Cert.KernelIdeal.sig) → Buf (Elt Ideal) ℓ) : Prop :=
  ∀ c : Dev Cert.KernelIdeal.nD,
    (Cert.Pre_windows_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_windows_fit [hPre_windows_fit : Cert.Pre_windows_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_windows_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_windows_fit [hKernelIdeal : Cert.KernelIdeal.Facts] [hPre_windows_fit : Cert.Pre_windows_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_windows_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_windows_fit [hReferenceIdeal : Cert.ReferenceIdeal.Facts] [hPre_windows_fit : Cert.Pre_windows_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_windows_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_windows_fit [hKernelIdeal : Cert.KernelIdeal.Facts] [hReferenceIdeal : Cert.ReferenceIdeal.Facts] [hPre_windows_fit : Cert.Pre_windows_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_windows_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_batch_in_range : Cert.Pre_batch_in_range.Facts) (hPre_windows_fit : Cert.Pre_windows_fit.Facts),
    quiescent_Kernel (hKernel := hKernel) (hPre_batch_in_range := hPre_batch_in_range)
    ∧ quiescent_KernelIdeal (hKernelIdeal := hKernelIdeal) (hPre_batch_in_range := hPre_batch_in_range)
    ∧ quiescent_KernelIdeal_pre_windows_fit (hKernelIdeal := hKernelIdeal) (hPre_windows_fit := hPre_windows_fit)
    ∧ quiescent_ReferenceIdeal (hReferenceIdeal := hReferenceIdeal)
    ∧ quiescent_ReferenceIdeal_pre_windows_fit (hReferenceIdeal := hReferenceIdeal) (hPre_windows_fit := hPre_windows_fit)
    ∧ preserves_Kernel_KernelIdeal
    ∧ algebraic_KernelIdeal_ReferenceIdeal_pre_windows_fit (hKernelIdeal := hKernelIdeal) (hReferenceIdeal := hReferenceIdeal) (hPre_windows_fit := hPre_windows_fit)
-- ==== Pre_batch_in_range.lean ====
abbrev S2x256x200x272 : Shape := ⟨4, ![2, 256, 200, 272]⟩
abbrev S256x5 : Shape := ⟨2, ![256, 5]⟩
abbrev S256x1 : Shape := ⟨2, ![256, 1]⟩
abbrev S256 : Shape := ⟨1, ![256]⟩
abbrev S_ : Shape := ⟨0, ![]⟩

class Facts : Prop where
  slices_S256x5_S256x1_0_0 : S256x5.Slices ![0, 0] S256x1
  shapeCasts_S256x1_S256 : S256x1.ShapeCasts S256
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S2x256x200x272 .f32) (main_arg1 : FVec F S256x5 .f32) : IVec S_ 1 :=
  let main_v0 : FVec F S256x1 .f32 := (extractStridedSlice S256x1 ![0, 0] · slices_S256x5_S256x1_0_0) main_arg1
  let main_v1 : FVec F S256 .f32 := shapeCast S256 main_v0 shapeCasts_S256x1_S256
  let main_v2 : IVec S256 32 := fptosi 32 main_v1
  let main_c : IVec S_ 32 := constantI S_ 32 0#32
  let main_v3 : IVec S256 32 := broadcastInDim S256 ![] bcast_S_S256 main_c
  let main_v4 : IVec S256 1 := cmpi .sge main_v2 main_v3
  let main_c_0 : IVec S_ 32 := constantI S_ 32 2#32
  let main_v5 : IVec S256 32 := broadcastInDim S256 ![] bcast_S_S256 main_c_0
  let main_v6 : IVec S256 1 := cmpi .slt main_v2 main_v5
  let main_v7 : IVec S256 1 := andi main_v4 main_v6
  let main_c_1 : IVec S_ 1 := constantI S_ 1 1#1
  let main_v8 : IVec S_ 1 := (fun x v => Host.reduce IntOp.andi x v reducesTo_S256_S_d0 h_S_) main_v7 main_c_1
  main_v8
-- ==== Pre_windows_fit.lean ====
abbrev S2x256x200x272 : Shape := ⟨4, ![2, 256, 200, 272]⟩
abbrev S256x5 : Shape := ⟨2, ![256, 5]⟩
abbrev S256x1 : Shape := ⟨2, ![256, 1]⟩
abbrev S256 : Shape := ⟨1, ![256]⟩
abbrev S_ : Shape := ⟨0, ![]⟩
abbrev S30 : Shape := ⟨1, ![30]⟩
abbrev S1x30 : Shape := ⟨2, ![1, 30]⟩
abbrev S256x30 : Shape := ⟨2, ![256, 30]⟩

class Facts : Prop where
  slices_S256x5_S256x1_0_0 : S256x5.Slices ![0, 0] S256x1
  shapeCasts_S256x1_S256 : S256x1.ShapeCasts S256
  slices_S256x5_S256x1_0_1 : S256x5.Slices ![0, 1] S256x1
  bcast_S_S256 : S_.BroadcastsInDim S256 (![] : Fin 0 → Fin S256.rank)
  slices_S256x5_S256x1_0_2 : S256x5.Slices ![0, 2] S256x1
  slices_S256x5_S256x1_0_3 : S256x5.Slices ![0, 3] S256x1
  slices_S256x5_S256x1_0_4 : S256x5.Slices ![0, 4] S256x1
  bcast_S256_S256x1_0 : S256.BroadcastsInDim S256x1 (![0] : Fin 1 → Fin S256x1.rank)
  bcast_S30_S1x30_1 : S30.BroadcastsInDim S1x30 (![1] : Fin 1 → Fin S1x30.rank)
  bcast_S_S1x30 : S_.BroadcastsInDim S1x30 (![] : Fin 0 → Fin S1x30.rank)
  bcast_S_S256x1 : S_.BroadcastsInDim S256x1 (![] : Fin 0 → Fin S256x1.rank)
  bcast_S1x30_S256x30_0_1 : S1x30.BroadcastsInDim S256x30 (![0, 1] : Fin 2 → Fin S256x30.rank)
  bcast_S256x1_S256x30_0_1 : S256x1.BroadcastsInDim S256x30 (![0, 1] : Fin 2 → Fin S256x30.rank)
  bcast_S_S256x30 : S_.BroadcastsInDim S256x30 (![] : Fin 0 → Fin S256x30.rank)
  reducesTo_S256x30_S256_d1 : S256x30.ReducesTo [1] S256
  h_S_ : 0 < S_.numel
  reducesTo_S256_S_d0 : S256.ReducesTo [0] S_
  bcast_S_S256x5 : S_.BroadcastsInDim S256x5 (![] : Fin 0 → Fin S256x5.rank)
  reducesTo_S256x5_S_d0_1 : S256x5.ReducesTo [0, 1] S_
  reducesTo_S256x30_S_d0_1 : S256x30.ReducesTo [0, 1] S_

variable [Facts]

def fn_clip {F : FTy → Type} [FloatOps F] (arg0 : FVec F S256x30 .f32) (arg1 : FVec F S_ .f32) (arg2 : FVec F S_ .f32) : FVec F S256x30 .f32 :=
  let v0 : FVec F S_ .f32 := id arg1
  let v1 : FVec F S256x30 .f32 := broadcastInDim S256x30 ![] bcast_S_S256x30 v0
  let v2 : FVec F S256x30 .f32 := maximumf v1 arg0
  let v3 : FVec F S_ .f32 := id arg2
  let v4 : FVec F S256x30 .f32 := broadcastInDim S256x30 ![] bcast_S_S256x30 v3
  let v5 : FVec F S256x30 .f32 := minimumf v4 v2
  v5

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn_clip_0 {F : FTy → Type} [FloatOps F] (arg0 : IVec S256 32) (arg1 : IVec S_ 32) (arg2 : IVec S_ 32) : IVec S256 32 :=
  let v0 : IVec S_ 32 := id arg1
  let v1 : IVec S256 32 := broadcastInDim S256 ![] bcast_S_S256 v0
  let v2 : IVec S256 32 := maxsi v1 arg0
  let v3 : IVec S_ 32 := id arg2
  let v4 : IVec S256 32 := broadcastInDim S256 ![] bcast_S_S256 v3
  let v5 : IVec S256 32 := minsi v4 v2
  v5

def fn_part11 {F : FTy → Type} [FloatOps F] (main_v181 : IVec S256x30 1) (main_v196 : IVec S_ 1) : IVec S_ 1 :=
  let main_c_65 : IVec S_ 1 := constantI S_ 1 1#1
  let main_v197 : IVec S_ 1 := (fun x v => Host.reduce IntOp.andi x v reducesTo_S256x30_S_d0_1 h_S_) main_v181 main_c_65
  let main_v198 : IVec S_ 1 := andi main_v196 main_v197
  main_v198

def fn_part10 {F : FTy → Type} [FloatOps F] (main_arg1 : FVec F S256x5 .f32) (main_v2 : IVec S256 32) (main_v170 : IVec S256x30 1) (main_v172 : IVec S256x30 1) (main_v175 : IVec S256x30 1) (main_v179 : IVec S256x30 1) : IVec S_ 1 :=
  let main_v180 : IVec S256x30 1 := andi main_v175 main_v179
  let main_v181 : IVec S256x30 1 := ori main_v172 main_v180
  let main_c_58 : IVec S_ 32 := constantI S_ 32 0#32
  let main_v182 : IVec S256 32 := broadcastInDim S256 ![] bcast_S_S256 main_c_58
  let main_v183 : IVec S256 1 := cmpi .sge main_v2 main_v182
  let main_c_59 : IVec S_ 32 := constantI S_ 32 2#32
  let main_v184 : IVec S256 32 := broadcastInDim S256 ![] bcast_S_S256 main_c_59
  let main_v185 : IVec S256 1 := cmpi .slt main_v2 main_v184
  let main_v186 : IVec S256 1 := andi main_v183 main_v185
  let main_c_60 : IVec S_ 1 := constantI S_ 1 1#1
  let main_v187 : IVec S_ 1 := (fun x v => Host.reduce IntOp.andi x v reducesTo_S256_S_d0 h_S_) main_v186 main_c_60
  let main_cst_61 : FVec F S_ .f32 := constant S_ .f32 0xFF800000#32
  let main_v188 : FVec F S256x5 .f32 := broadcastInDim S256x5 ![] bcast_S_S256x5 main_cst_61
  let main_v189 : IVec S256x5 1 := cmpf .ogt main_arg1 main_v188
  let main_cst_62 : FVec F S_ .f32 := constant S_ .f32 0x7F800000#32
  let main_v190 : FVec F S256x5 .f32 := broadcastInDim S256x5 ![] bcast_S_S256x5 main_cst_62
  let main_v191 : IVec S256x5 1 := cmpf .olt main_arg1 main_v190
  let main_v192 : IVec S256x5 1 := andi main_v189 main_v191
  let main_c_63 : IVec S_ 1 := constantI S_ 1 1#1
  let main_v193 : IVec S_ 1 := (fun x v => Host.reduce IntOp.andi x v reducesTo_S256x5_S_d0_1 h_S_) main_v192 main_c_63
  let main_v194 : IVec S_ 1 := andi main_v187 main_v193
  let main_c_64 : IVec S_ 1 := constantI S_ 1 1#1
  let main_v195 : IVec S_ 1 := (fun x v => Host.reduce IntOp.andi x v reducesTo_S256x30_S_d0_1 h_S_) main_v170 main_c_64
  let main_v196 : IVec S_ 1 := andi main_v194 main_v195
  fn_part11 (F := F) main_v181 main_v196

def fn_part9 {F : FTy → Type} [FloatOps F] (main_arg1 : FVec F S256x5 .f32) (main_v2 : IVec S256 32) (main_v89 : IVec S256 32) (main_v91 : IVec S256 32) (main_v99 : IVec S256 32) (main_v104 : IVec S256 32) (main_v142 : IVec S256x30 32) (main_v143 : IVec S256x30 32) (main_v144 : FVec F S256x30 .f32) (main_v149 : IVec S256x30 1) (main_v155 : FVec F S256x30 .f32) (main_v157 : IVec S256x30 32) : IVec S_ 1 :=
  let main_v158 : IVec S256x30 32 := fptosi 32 main_v155
  let main_v159 : FVec F S256x30 .f32 := uitofp .f32 main_v149
  let main_cst_56 : FVec F S_ .f32 := constant S_ .f32 0x00000000#32
  let main_v160 : FVec F S256x30 .f32 := broadcastInDim S256x30 ![] bcast_S_S256x30 main_cst_56
  let main_v161 : IVec S256x30 1 := cmpf .oeq main_v144 main_v160
  let main_v162 : IVec S256x1 32 := broadcastInDim S256x1 ![0] bcast_S256_S256x1_0 main_v89
  let main_v163 : IVec S256x30 32 := broadcastInDim S256x30 ![0, 1] bcast_S256x1_S256x30_0_1 main_v162
  let main_v164 : IVec S256x30 1 := cmpi .sge main_v142 main_v163
  let main_v165 : IVec S256 32 := addi main_v89 main_v99
  let main_v166 : IVec S256x1 32 := broadcastInDim S256x1 ![0] bcast_S256_S256x1_0 main_v165
  let main_v167 : IVec S256x30 32 := broadcastInDim S256x30 ![0, 1] bcast_S256x1_S256x30_0_1 main_v166
  let main_v168 : IVec S256x30 1 := cmpi .slt main_v143 main_v167
  let main_v169 : IVec S256x30 1 := andi main_v164 main_v168
  let main_v170 : IVec S256x30 1 := ori main_v161 main_v169
  let main_cst_57 : FVec F S_ .f32 := constant S_ .f32 0x00000000#32
  let main_v171 : FVec F S256x30 .f32 := broadcastInDim S256x30 ![] bcast_S_S256x30 main_cst_57
  let main_v172 : IVec S256x30 1 := cmpf .oeq main_v159 main_v171
  let main_v173 : IVec S256x1 32 := broadcastInDim S256x1 ![0] bcast_S256_S256x1_0 main_v91
  let main_v174 : IVec S256x30 32 := broadcastInDim S256x30 ![0, 1] bcast_S256x1_S256x30_0_1 main_v173
  let main_v175 : IVec S256x30 1 := cmpi .sge main_v157 main_v174
  let main_v176 : IVec S256 32 := addi main_v91 main_v104
  let main_v177 : IVec S256x1 32 := broadcastInDim S256x1 ![0] bcast_S256_S256x1_0 main_v176
  let main_v178 : IVec S256x30 32 := broadcastInDim S256x30 ![0, 1] bcast_S256x1_S256x30_0_1 main_v177
  let main_v179 : IVec S256x30 1 := cmpi .slt main_v158 main_v178
  fn_part10 (F := F) main_arg1 main_v2 main_v170 main_v172 main_v175 main_v179

def fn_part8 {F : FTy → Type} [FloatOps F] (main_arg1 : FVec F S256x5 .f32) (main_v2 : IVec S256 32) (main_v89 : IVec S256 32) (main_v91 : IVec S256 32) (main_v99 : IVec S256 32) (main_v104 : IVec S256 32) (main_v117 : FVec F S256x30 .f32) (main_v134 : IVec S256x30 1) (main_v135 : FVec F S256x30 .f32) (main_v136 : FVec F S256x30 .f32) (main_v138 : FVec F S256x30 .f32) (main_v139 : FVec F S256x30 .f32) : IVec S_ 1 :=
  let main_v140 : FVec F S256x30 .f32 := minimumf main_v138 main_v139
  let main_v141 : FVec F S256x30 .f32 := subf main_v135 main_v136
  let main_v142 : IVec S256x30 32 := fptosi 32 main_v136
  let main_v143 : IVec S256x30 32 := fptosi 32 main_v140
  let main_v144 : FVec F S256x30 .f32 := uitofp .f32 main_v134
  let main_cst_50 : FVec F S_ .f32 := constant S_ .f32 0xBF800000#32
  let main_v145 : FVec F S256x30 .f32 := broadcastInDim S256x30 ![] bcast_S_S256x30 main_cst_50
  let main_v146 : IVec S256x30 1 := cmpf .ogt main_v117 main_v145
  let main_cst_51 : FVec F S_ .f32 := constant S_ .f32 0x43880000#32
  let main_v147 : FVec F S256x30 .f32 := broadcastInDim S256x30 ![] bcast_S_S256x30 main_cst_51
  let main_v148 : IVec S256x30 1 := cmpf .olt main_v117 main_v147
  let main_v149 : IVec S256x30 1 := andi main_v146 main_v148
  let main_cst_52 : FVec F S_ .f32 := constant S_ .f32 0x00000000#32
  let main_cst_53 : FVec F S_ .f32 := constant S_ .f32 0x43878000#32
  let main_v150 : FVec F S256x30 .f32 := fn_clip (F := F) main_v117 main_cst_52 main_cst_53
  let main_v151 : FVec F S256x30 .f32 := Host.floor main_v150
  let main_cst_54 : FVec F S_ .f32 := constant S_ .f32 0x3F800000#32
  let main_v152 : FVec F S256x30 .f32 := broadcastInDim S256x30 ![] bcast_S_S256x30 main_cst_54
  let main_v153 : FVec F S256x30 .f32 := addf main_v151 main_v152
  let main_cst_55 : FVec F S_ .f32 := constant S_ .f32 0x43878000#32
  let main_v154 : FVec F S256x30 .f32 := broadcastInDim S256x30 ![] bcast_S_S256x30 main_cst_55
  let main_v155 : FVec F S256x30 .f32 := minimumf main_v153 main_v154
  let main_v156 : FVec F S256x30 .f32 := subf main_v150 main_v151
  let main_v157 : IVec S256x30 32 := fptosi 32 main_v151
  fn_part9 (F := F) main_arg1 main_v2 main_v89 main_v91 main_v99 main_v104 main_v142 main_v143 main_v144 main_v149 main_v155 main_v157

def fn_part7 {F : FTy → Type} [FloatOps F] (main_arg1 : FVec F S256x5 .f32) (main_v2 : IVec S256 32) (main_v89 : IVec S256 32) (main_v91 : IVec S256 32) (main_v99 : IVec S256 32) (main_v104 : IVec S256 32) (main_v117 : FVec F S256x30 .f32) (main_v118 : FVec F S256x1 .f32) (main_v121 : FVec F S1x30 .f32) (main_v122 : FVec F S256x1 .f32) : IVec S_ 1 :=
  let main_cst_43 : FVec F S_ .f32 := constant S_ .f32 0x40000000#32
  let main_v123 : FVec F S256x1 .f32 := broadcastInDim S256x1 ![] bcast_S_S256x1 main_cst_43
  let main_v124 : FVec F S256x1 .f32 := Host.divf main_v122 main_v123
  let main_v125 : FVec F S256x30 .f32 := broadcastInDim S256x30 ![0, 1] bcast_S1x30_S256x30_0_1 main_v121
  let main_v126 : FVec F S256x30 .f32 := broadcastInDim S256x30 ![0, 1] bcast_S256x1_S256x30_0_1 main_v124
  let main_v127 : FVec F S256x30 .f32 := mulf main_v125 main_v126
  let main_v128 : FVec F S256x30 .f32 := broadcastInDim S256x30 ![0, 1] bcast_S256x1_S256x30_0_1 main_v118
  let main_v129 : FVec F S256x30 .f32 := addf main_v128 main_v127
  let main_cst_44 : FVec F S_ .f32 := constant S_ .f32 0xBF800000#32
  let main_v130 : FVec F S256x30 .f32 := broadcastInDim S256x30 ![] bcast_S_S256x30 main_cst_44
  let main_v131 : IVec S256x30 1 := cmpf .ogt main_v129 main_v130
  let main_cst_45 : FVec F S_ .f32 := constant S_ .f32 0x43480000#32
  let main_v132 : FVec F S256x30 .f32 := broadcastInDim S256x30 ![] bcast_S_S256x30 main_cst_45
  let main_v133 : IVec S256x30 1 := cmpf .olt main_v129 main_v132
  let main_v134 : IVec S256x30 1 := andi main_v131 main_v133
  let main_cst_46 : FVec F S_ .f32 := constant S_ .f32 0x00000000#32
  let main_cst_47 : FVec F S_ .f32 := constant S_ .f32 0x43470000#32
  let main_v135 : FVec F S256x30 .f32 := fn_clip (F := F) main_v129 main_cst_46 main_cst_47
  let main_v136 : FVec F S256x30 .f32 := Host.floor main_v135
  let main_cst_48 : FVec F S_ .f32 := constant S_ .f32 0x3F800000#32
  let main_v137 : FVec F S256x30 .f32 := broadcastInDim S256x30 ![] bcast_S_S256x30 main_cst_48
  let main_v138 : FVec F S256x30 .f32 := addf main_v136 main_v137
  let main_cst_49 : FVec F S_ .f32 := constant S_ .f32 0x43470000#32
  let main_v139 : FVec F S256x30 .f32 := broadcastInDim S256x30 ![] bcast_S_S256x30 main_cst_49
  fn_part8 (F := F) main_arg1 main_v2 main_v89 main_v91 main_v99 main_v104 main_v117 main_v134 main_v135 main_v136 main_v138 main_v139

def fn_part6 {F : FTy → Type} [FloatOps F] (main_arg1 : FVec F S256x5 .f32) (main_v2 : IVec S256 32) (main_v6 : FVec F S256 .f32) (main_v10 : FVec F S256 .f32) (main_v26 : FVec F S256 .f32) (main_v28 : FVec F S256 .f32) (main_v89 : IVec S256 32) (main_v91 : IVec S256 32) (main_v99 : IVec S256 32) (main_v103 : IVec S256 32) : IVec S_ 1 :=
  let main_c_38 : IVec S_ 32 := constantI S_ 32 1#32
  let main_c_39 : IVec S_ 32 := constantI S_ 32 106#32
  let main_v104 : IVec S256 32 := fn_clip_0 (F := F) main_v103 main_c_38 main_c_39
  let main_v105 : FVec F S30 .f32 := sitofp .f32 (iotaInDim S30 32 0)
  let main_v106 : FVec F S256x1 .f32 := broadcastInDim S256x1 ![0] bcast_S256_S256x1_0 main_v6
  let main_v107 : FVec F S1x30 .f32 := broadcastInDim S1x30 ![1] bcast_S30_S1x30_1 main_v105
  let main_cst_40 : FVec F S_ .f32 := constant S_ .f32 0x3F000000#32
  let main_v108 : FVec F S1x30 .f32 := broadcastInDim S1x30 ![] bcast_S_S1x30 main_cst_40
  let main_v109 : FVec F S1x30 .f32 := addf main_v107 main_v108
  let main_v110 : FVec F S256x1 .f32 := broadcastInDim S256x1 ![0] bcast_S256_S256x1_0 main_v26
  let main_cst_41 : FVec F S_ .f32 := constant S_ .f32 0x40000000#32
  let main_v111 : FVec F S256x1 .f32 := broadcastInDim S256x1 ![] bcast_S_S256x1 main_cst_41
  let main_v112 : FVec F S256x1 .f32 := Host.divf main_v110 main_v111
  let main_v113 : FVec F S256x30 .f32 := broadcastInDim S256x30 ![0, 1] bcast_S1x30_S256x30_0_1 main_v109
  let main_v114 : FVec F S256x30 .f32 := broadcastInDim S256x30 ![0, 1] bcast_S256x1_S256x30_0_1 main_v112
  let main_v115 : FVec F S256x30 .f32 := mulf main_v113 main_v114
  let main_v116 : FVec F S256x30 .f32 := broadcastInDim S256x30 ![0, 1] bcast_S256x1_S256x30_0_1 main_v106
  let main_v117 : FVec F S256x30 .f32 := addf main_v116 main_v115
  let main_v118 : FVec F S256x1 .f32 := broadcastInDim S256x1 ![0] bcast_S256_S256x1_0 main_v10
  let main_v119 : FVec F S1x30 .f32 := broadcastInDim S1x30 ![1] bcast_S30_S1x30_1 main_v105
  let main_cst_42 : FVec F S_ .f32 := constant S_ .f32 0x3F000000#32
  let main_v120 : FVec F S1x30 .f32 := broadcastInDim S1x30 ![] bcast_S_S1x30 main_cst_42
  let main_v121 : FVec F S1x30 .f32 := addf main_v119 main_v120
  let main_v122 : FVec F S256x1 .f32 := broadcastInDim S256x1 ![0] bcast_S256_S256x1_0 main_v28
  fn_part7 (F := F) main_arg1 main_v2 main_v89 main_v91 main_v99 main_v104 main_v117 main_v118 main_v121 main_v122

def fn_part5 {F : FTy → Type} [FloatOps F] (main_arg1 : FVec F S256x5 .f32) (main_v2 : IVec S256 32) (main_v6 : FVec F S256 .f32) (main_v10 : FVec F S256 .f32) (main_v26 : FVec F S256 .f32) (main_v28 : FVec F S256 .f32) (main_v67 : IVec S256x30 32) (main_v81 : IVec S256x30 32) (main_v82 : IVec S256x30 32) (main_v89 : IVec S256 32) (main_c_27 : IVec S_ 32) : IVec S_ 1 :=
  let main_v90 : IVec S256 32 := (fun x v => Host.reduce IntOp.minsi x v reducesTo_S256x30_S256_d1 h_S_) main_v81 main_c_27
  let main_c_28 : IVec S_ 32 := constantI S_ 32 0#32
  let main_c_29 : IVec S_ 32 := constantI S_ 32 166#32
  let main_v91 : IVec S256 32 := fn_clip_0 (F := F) main_v90 main_c_28 main_c_29
  let main_c_30 : IVec S_ 32 := constantI S_ 32 2147483648#32
  let main_v92 : IVec S256 32 := (fun x v => Host.reduce IntOp.maxsi x v reducesTo_S256x30_S256_d1 h_S_) main_v67 main_c_30
  let main_v93 : IVec S256 32 := subi main_v92 main_v89
  let main_c_31 : IVec S_ 32 := constantI S_ 32 8#32
  let main_v94 : IVec S256 32 := broadcastInDim S256 ![] bcast_S_S256 main_c_31
  let main_v95 : IVec S256 32 := addi main_v93 main_v94
  let main_c_32 : IVec S_ 32 := constantI S_ 32 8#32
  let main_v96 : IVec S256 32 := fn_floor_divide (F := F) main_v95 main_c_32
  let main_c_33 : IVec S_ 32 := constantI S_ 32 8#32
  let main_v97 : IVec S256 32 := broadcastInDim S256 ![] bcast_S_S256 main_c_33
  let main_v98 : IVec S256 32 := muli main_v96 main_v97
  let main_c_34 : IVec S_ 32 := constantI S_ 32 8#32
  let main_c_35 : IVec S_ 32 := constantI S_ 32 88#32
  let main_v99 : IVec S256 32 := fn_clip_0 (F := F) main_v98 main_c_34 main_c_35
  let main_c_36 : IVec S_ 32 := constantI S_ 32 2147483648#32
  let main_v100 : IVec S256 32 := (fun x v => Host.reduce IntOp.maxsi x v reducesTo_S256x30_S256_d1 h_S_) main_v82 main_c_36
  let main_v101 : IVec S256 32 := subi main_v100 main_v91
  let main_c_37 : IVec S_ 32 := constantI S_ 32 1#32
  let main_v102 : IVec S256 32 := broadcastInDim S256 ![] bcast_S_S256 main_c_37
  let main_v103 : IVec S256 32 := addi main_v101 main_v102
  fn_part6 (F := F) main_arg1 main_v2 main_v6 main_v10 main_v26 main_v28 main_v89 main_v91 main_v99 main_v103

def fn_part4 {F : FTy → Type} [FloatOps F] (main_arg1 : FVec F S256x5 .f32) (main_v2 : IVec S256 32) (main_v6 : FVec F S256 .f32) (main_v10 : FVec F S256 .f32) (main_v26 : FVec F S256 .f32) (main_v28 : FVec F S256 .f32) (main_v42 : FVec F S256x30 .f32) (main_v66 : IVec S256x30 32) (main_v67 : IVec S256x30 32) (main_v74 : IVec S256x30 1) (main_cst_19 : FVec F S_ .f32) : IVec S_ 1 :=
  let main_cst_20 : FVec F S_ .f32 := constant S_ .f32 0x43878000#32
  let main_v75 : FVec F S256x30 .f32 := fn_clip (F := F) main_v42 main_cst_19 main_cst_20
  let main_v76 : FVec F S256x30 .f32 := Host.floor main_v75
  let main_cst_21 : FVec F S_ .f32 := constant S_ .f32 0x3F800000#32
  let main_v77 : FVec F S256x30 .f32 := broadcastInDim S256x30 ![] bcast_S_S256x30 main_cst_21
  let main_v78 : FVec F S256x30 .f32 := addf main_v76 main_v77
  let main_cst_22 : FVec F S_ .f32 := constant S_ .f32 0x43878000#32
  let main_v79 : FVec F S256x30 .f32 := broadcastInDim S256x30 ![] bcast_S_S256x30 main_cst_22
  let main_v80 : FVec F S256x30 .f32 := minimumf main_v78 main_v79
  let main_v81 : IVec S256x30 32 := fptosi 32 main_v76
  let main_v82 : IVec S256x30 32 := fptosi 32 main_v80
  let main_v83 : FVec F S256x30 .f32 := subf main_v75 main_v76
  let main_v84 : FVec F S256x30 .f32 := uitofp .f32 main_v74
  let main_c : IVec S_ 32 := constantI S_ 32 2147483647#32
  let main_v85 : IVec S256 32 := (fun x v => Host.reduce IntOp.minsi x v reducesTo_S256x30_S256_d1 h_S_) main_v66 main_c
  let main_c_23 : IVec S_ 32 := constantI S_ 32 8#32
  let main_v86 : IVec S256 32 := fn_floor_divide (F := F) main_v85 main_c_23
  let main_c_24 : IVec S_ 32 := constantI S_ 32 8#32
  let main_v87 : IVec S256 32 := broadcastInDim S256 ![] bcast_S_S256 main_c_24
  let main_v88 : IVec S256 32 := muli main_v86 main_v87
  let main_c_25 : IVec S_ 32 := constantI S_ 32 0#32
  let main_c_26 : IVec S_ 32 := constantI S_ 32 112#32
  let main_v89 : IVec S256 32 := fn_clip_0 (F := F) main_v88 main_c_25 main_c_26
  let main_c_27 : IVec S_ 32 := constantI S_ 32 2147483647#32
  fn_part5 (F := F) main_arg1 main_v2 main_v6 main_v10 main_v26 main_v28 main_v67 main_v81 main_v82 main_v89 main_c_27

def fn_part3 {F : FTy → Type} [FloatOps F] (main_arg1 : FVec F S256x5 .f32) (main_v2 : IVec S256 32) (main_v6 : FVec F S256 .f32) (main_v10 : FVec F S256 .f32) (main_v26 : FVec F S256 .f32) (main_v28 : FVec F S256 .f32) (main_v42 : FVec F S256x30 .f32) (main_v54 : FVec F S256x30 .f32) (main_v56 : IVec S256x30 1) (main_v57 : FVec F S256x30 .f32) : IVec S_ 1 :=
  let main_v58 : IVec S256x30 1 := cmpf .olt main_v54 main_v57
  let main_v59 : IVec S256x30 1 := andi main_v56 main_v58
  let main_cst_13 : FVec F S_ .f32 := constant S_ .f32 0x00000000#32
  let main_cst_14 : FVec F S_ .f32 := constant S_ .f32 0x43470000#32
  let main_v60 : FVec F S256x30 .f32 := fn_clip (F := F) main_v54 main_cst_13 main_cst_14
  let main_v61 : FVec F S256x30 .f32 := Host.floor main_v60
  let main_cst_15 : FVec F S_ .f32 := constant S_ .f32 0x3F800000#32
  let main_v62 : FVec F S256x30 .f32 := broadcastInDim S256x30 ![] bcast_S_S256x30 main_cst_15
  let main_v63 : FVec F S256x30 .f32 := addf main_v61 main_v62
  let main_cst_16 : FVec F S_ .f32 := constant S_ .f32 0x43470000#32
  let main_v64 : FVec F S256x30 .f32 := broadcastInDim S256x30 ![] bcast_S_S256x30 main_cst_16
  let main_v65 : FVec F S256x30 .f32 := minimumf main_v63 main_v64
  let main_v66 : IVec S256x30 32 := fptosi 32 main_v61
  let main_v67 : IVec S256x30 32 := fptosi 32 main_v65
  let main_v68 : FVec F S256x30 .f32 := subf main_v60 main_v61
  let main_v69 : FVec F S256x30 .f32 := uitofp .f32 main_v59
  let main_cst_17 : FVec F S_ .f32 := constant S_ .f32 0xBF800000#32
  let main_v70 : FVec F S256x30 .f32 := broadcastInDim S256x30 ![] bcast_S_S256x30 main_cst_17
  let main_v71 : IVec S256x30 1 := cmpf .ogt main_v42 main_v70
  let main_cst_18 : FVec F S_ .f32 := constant S_ .f32 0x43880000#32
  let main_v72 : FVec F S256x30 .f32 := broadcastInDim S256x30 ![] bcast_S_S256x30 main_cst_18
  let main_v73 : IVec S256x30 1 := cmpf .olt main_v42 main_v72
  let main_v74 : IVec S256x30 1 := andi main_v71 main_v73
  let main_cst_19 : FVec F S_ .f32 := constant S_ .f32 0x00000000#32
  fn_part4 (F := F) main_arg1 main_v2 main_v6 main_v10 main_v26 main_v28 main_v42 main_v66 main_v67 main_v74 main_cst_19

def fn_part2 {F : FTy → Type} [FloatOps F] (main_arg1 : FVec F S256x5 .f32) (main_v2 : IVec S256 32) (main_v6 : FVec F S256 .f32) (main_v10 : FVec F S256 .f32) (main_v26 : FVec F S256 .f32) (main_v28 : FVec F S256 .f32) (main_v30 : FVec F S30 .f32) (main_v31 : FVec F S256x1 .f32) (main_v34 : FVec F S1x30 .f32) (main_v37 : FVec F S256x1 .f32) : IVec S_ 1 :=
  let main_v38 : FVec F S256x30 .f32 := broadcastInDim S256x30 ![0, 1] bcast_S1x30_S256x30_0_1 main_v34
  let main_v39 : FVec F S256x30 .f32 := broadcastInDim S256x30 ![0, 1] bcast_S256x1_S256x30_0_1 main_v37
  let main_v40 : FVec F S256x30 .f32 := mulf main_v38 main_v39
  let main_v41 : FVec F S256x30 .f32 := broadcastInDim S256x30 ![0, 1] bcast_S256x1_S256x30_0_1 main_v31
  let main_v42 : FVec F S256x30 .f32 := addf main_v41 main_v40
  let main_v43 : FVec F S256x1 .f32 := broadcastInDim S256x1 ![0] bcast_S256_S256x1_0 main_v10
  let main_v44 : FVec F S1x30 .f32 := broadcastInDim S1x30 ![1] bcast_S30_S1x30_1 main_v30
  let main_cst_9 : FVec F S_ .f32 := constant S_ .f32 0x3F000000#32
  let main_v45 : FVec F S1x30 .f32 := broadcastInDim S1x30 ![] bcast_S_S1x30 main_cst_9
  let main_v46 : FVec F S1x30 .f32 := addf main_v44 main_v45
  let main_v47 : FVec F S256x1 .f32 := broadcastInDim S256x1 ![0] bcast_S256_S256x1_0 main_v28
  let main_cst_10 : FVec F S_ .f32 := constant S_ .f32 0x40000000#32
  let main_v48 : FVec F S256x1 .f32 := broadcastInDim S256x1 ![] bcast_S_S256x1 main_cst_10
  let main_v49 : FVec F S256x1 .f32 := Host.divf main_v47 main_v48
  let main_v50 : FVec F S256x30 .f32 := broadcastInDim S256x30 ![0, 1] bcast_S1x30_S256x30_0_1 main_v46
  let main_v51 : FVec F S256x30 .f32 := broadcastInDim S256x30 ![0, 1] bcast_S256x1_S256x30_0_1 main_v49
  let main_v52 : FVec F S256x30 .f32 := mulf main_v50 main_v51
  let main_v53 : FVec F S256x30 .f32 := broadcastInDim S256x30 ![0, 1] bcast_S256x1_S256x30_0_1 main_v43
  let main_v54 : FVec F S256x30 .f32 := addf main_v53 main_v52
  let main_cst_11 : FVec F S_ .f32 := constant S_ .f32 0xBF800000#32
  let main_v55 : FVec F S256x30 .f32 := broadcastInDim S256x30 ![] bcast_S_S256x30 main_cst_11
  let main_v56 : IVec S256x30 1 := cmpf .ogt main_v54 main_v55
  let main_cst_12 : FVec F S_ .f32 := constant S_ .f32 0x43480000#32
  let main_v57 : FVec F S256x30 .f32 := broadcastInDim S256x30 ![] bcast_S_S256x30 main_cst_12
  fn_part3 (F := F) main_arg1 main_v2 main_v6 main_v10 main_v26 main_v28 main_v42 main_v54 main_v56 main_v57

def fn_part1 {F : FTy → Type} [FloatOps F] (main_arg1 : FVec F S256x5 .f32) (main_v2 : IVec S256 32) (main_v6 : FVec F S256 .f32) (main_v10 : FVec F S256 .f32) (main_v18 : FVec F S256 .f32) (main_v19 : FVec F S256 .f32) : IVec S_ 1 :=
  let main_cst_3 : FVec F S_ .f32 := constant S_ .f32 0x3F800000#32
  let main_v20 : FVec F S256 .f32 := broadcastInDim S256 ![] bcast_S_S256 main_cst_3
  let main_v21 : FVec F S256 .f32 := maximumf main_v19 main_v20
  let main_v22 : FVec F S256 .f32 := subf main_v18 main_v10
  let main_cst_4 : FVec F S_ .f32 := constant S_ .f32 0x3F800000#32
  let main_v23 : FVec F S256 .f32 := broadcastInDim S256 ![] bcast_S_S256 main_cst_4
  let main_v24 : FVec F S256 .f32 := maximumf main_v22 main_v23
  let main_cst_5 : FVec F S_ .f32 := constant S_ .f32 0x41700000#32
  let main_v25 : FVec F S256 .f32 := broadcastInDim S256 ![] bcast_S_S256 main_cst_5
  let main_v26 : FVec F S256 .f32 := Host.divf main_v21 main_v25
  let main_cst_6 : FVec F S_ .f32 := constant S_ .f32 0x41700000#32
  let main_v27 : FVec F S256 .f32 := broadcastInDim S256 ![] bcast_S_S256 main_cst_6
  let main_v28 : FVec F S256 .f32 := Host.divf main_v24 main_v27
  let main_v29 : FVec F S30 .f32 := sitofp .f32 (iotaInDim S30 32 0)
  let main_v30 : FVec F S30 .f32 := sitofp .f32 (iotaInDim S30 32 0)
  let main_v31 : FVec F S256x1 .f32 := broadcastInDim S256x1 ![0] bcast_S256_S256x1_0 main_v6
  let main_v32 : FVec F S1x30 .f32 := broadcastInDim S1x30 ![1] bcast_S30_S1x30_1 main_v29
  let main_cst_7 : FVec F S_ .f32 := constant S_ .f32 0x3F000000#32
  let main_v33 : FVec F S1x30 .f32 := broadcastInDim S1x30 ![] bcast_S_S1x30 main_cst_7
  let main_v34 : FVec F S1x30 .f32 := addf main_v32 main_v33
  let main_v35 : FVec F S256x1 .f32 := broadcastInDim S256x1 ![0] bcast_S256_S256x1_0 main_v26
  let main_cst_8 : FVec F S_ .f32 := constant S_ .f32 0x40000000#32
  let main_v36 : FVec F S256x1 .f32 := broadcastInDim S256x1 ![] bcast_S_S256x1 main_cst_8
  let main_v37 : FVec F S256x1 .f32 := Host.divf main_v35 main_v36
  fn_part2 (F := F) main_arg1 main_v2 main_v6 main_v10 main_v26 main_v28 main_v30 main_v31 main_v34 main_v37

def fn {F : FTy → Type} [FloatOps F] (main_arg0 : FVec F S2x256x200x272 .f32) (main_arg1 : FVec F S256x5 .f32) : IVec S_ 1 :=
  let main_v0 : FVec F S256x1 .f32 := (extractStridedSlice S256x1 ![0, 0] · slices_S256x5_S256x1_0_0) main_arg1
  let main_v1 : FVec F S256 .f32 := shapeCast S256 main_v0 shapeCasts_S256x1_S256
  let main_v2 : IVec S256 32 := fptosi 32 main_v1
  let main_v3 : FVec F S256x1 .f32 := (extractStridedSlice S256x1 ![0, 1] · slices_S256x5_S256x1_0_1) main_arg1
  let main_v4 : FVec F S256 .f32 := shapeCast S256 main_v3 shapeCasts_S256x1_S256
  let main_cst : FVec F S_ .f32 := constant S_ .f32 0x3E800000#32
  let main_v5 : FVec F S256 .f32 := broadcastInDim S256 ![] bcast_S_S256 main_cst
  let main_v6 : FVec F S256 .f32 := mulf main_v4 main_v5
  let main_v7 : FVec F S256x1 .f32 := (extractStridedSlice S256x1 ![0, 2] · slices_S256x5_S256x1_0_2) main_arg1
  let main_v8 : FVec F S256 .f32 := shapeCast S256 main_v7 shapeCasts_S256x1_S256
  let main_cst_0 : FVec F S_ .f32 := constant S_ .f32 0x3E800000#32
  let main_v9 : FVec F S256 .f32 := broadcastInDim S256 ![] bcast_S_S256 main_cst_0
  let main_v10 : FVec F S256 .f32 := mulf main_v8 main_v9
  let main_v11 : FVec F S256x1 .f32 := (extractStridedSlice S256x1 ![0, 3] · slices_S256x5_S256x1_0_3) main_arg1
  let main_v12 : FVec F S256 .f32 := shapeCast S256 main_v11 shapeCasts_S256x1_S256
  let main_cst_1 : FVec F S_ .f32 := constant S_ .f32 0x3E800000#32
  let main_v13 : FVec F S256 .f32 := broadcastInDim S256 ![] bcast_S_S256 main_cst_1
  let main_v14 : FVec F S256 .f32 := mulf main_v12 main_v13
  let main_v15 : FVec F S256x1 .f32 := (extractStridedSlice S256x1 ![0, 4] · slices_S256x5_S256x1_0_4) main_arg1
  let main_v16 : FVec F S256 .f32 := shapeCast S256 main_v15 shapeCasts_S256x1_S256
  let main_cst_2 : FVec F S_ .f32 := constant S_ .f32 0x3E800000#32
  let main_v17 : FVec F S256 .f32 := broadcastInDim S256 ![] bcast_S_S256 main_cst_2
  let main_v18 : FVec F S256 .f32 := mulf main_v16 main_v17
  let main_v19 : FVec F S256 .f32 := subf main_v14 main_v6
  fn_part1 (F := F) main_arg1 main_v2 main_v6 main_v10 main_v18 main_v19
-- ==== Kernel.lean ====
abbrev S2x256x200x272 : Shape := ⟨4, ![2, 256, 200, 272]⟩
abbrev S256x5 : Shape := ⟨2, ![256, 5]⟩
abbrev S256x1 : Shape := ⟨2, ![256, 1]⟩
abbrev S256 : Shape := ⟨1, ![256]⟩
abbrev S_ : Shape := ⟨0, ![]⟩
abbrev S30 : Shape := ⟨1, ![30]⟩
abbrev S1x30 : Shape := ⟨2, ![1, 30]⟩
abbrev S256x30 : Shape := ⟨2, ![256, 30]⟩
abbrev S2x200x272x256 : Shape := ⟨4, ![2, 200, 272, 256]⟩
abbrev S2x200x69632 : Shape := ⟨3, ![2, 200, 69632]⟩
abbrev S256x14x16x256 : Shape := ⟨4, ![256, 14, 16, 256]⟩
abbrev S1x14x16x256 : Shape := ⟨4, ![1, 14, 16, 256]⟩
abbrev S4x88x27136 : Shape := ⟨3, ![4, 88, 27136]⟩
abbrev S16x27136 : Shape := ⟨2, ![16, 27136]⟩
abbrev S1498x128 : Shape := ⟨2, ![1498, 128]⟩
abbrev S4 : Shape := ⟨1, ![4]⟩
abbrev S88x27136 : Shape := ⟨2, ![88, 27136]⟩
abbrev S1x88x27136 : Shape := ⟨3, ![1, 88, 27136]⟩
abbrev S1 : Shape := ⟨1, ![1]⟩
abbrev S32x88 : Shape := ⟨2, ![32, 88]⟩
abbrev S32x106 : Shape := ⟨2, ![32, 106]⟩
abbrev S16x32 : Shape := ⟨2, ![16, 32]⟩
abbrev S16x88 : Shape := ⟨2, ![16, 88]⟩
abbrev S14x88 : Shape := ⟨2, ![14, 88]⟩
abbrev S16x106 : Shape := ⟨2, ![16, 106]⟩
abbrev S14x106 : Shape := ⟨2, ![14, 106]⟩
abbrev S1x88x14336 : Shape := ⟨3, ![1, 88, 14336]⟩
abbrev S88x14336 : Shape := ⟨2, ![88, 14336]⟩
abbrev S14x14336 : Shape := ⟨2, ![14, 14336]⟩
abbrev S14x128 : Shape := ⟨2, ![14, 128]⟩
abbrev S1x88x12800 : Shape := ⟨3, ![1, 88, 12800]⟩
abbrev S88x12800 : Shape := ⟨2, ![88, 12800]⟩
abbrev S14x12800 : Shape := ⟨2, ![14, 12800]⟩
abbrev S106x128 : Shape := ⟨2, ![106, 128]⟩
abbrev S1x1x14x128 : Shape := ⟨4, ![1, 1, 14, 128]⟩
abbrev S256x14x14x256 : Shape := ⟨4, ![256, 14, 14, 256]⟩
abbrev S256x256x14x14 : Shape := ⟨4, ![256, 256, 14, 14]⟩

abbrev nBuf : Space → Nat
  | .hbm => 223
  | .vmem => 6
  | .smem => 9
  | _ => 0

abbrev hbmTy0_0 (i : Nat) : BufTy := match i % 128 with
  | 0 => ⟨S2x256x200x272, .f32⟩
  | 1 => ⟨S256x5, .f32⟩
  | 2 => ⟨S256x1, .f32⟩
  | 3 => ⟨S256, .f32⟩
  | 4 => ⟨S256x1, .f32⟩
  | 5 => ⟨S256, .f32⟩
  | 6 => ⟨S_, .f32⟩
  | 7 => ⟨S256, .f32⟩
  | 8 => ⟨S256, .f32⟩
  | 9 => ⟨S256x1, .f32⟩
  | 10 => ⟨S256, .f32⟩
  | 11 => ⟨S_, .f32⟩
  | 12 => ⟨S256, .f32⟩
  | 13 => ⟨S256, .f32⟩
  | 14 => ⟨S256x1, .f32⟩
  | 15 => ⟨S256, .f32⟩
  | 16 => ⟨S_, .f32⟩
  | 17 => ⟨S256, .f32⟩
  | 18 => ⟨S256, .f32⟩
  | 19 => ⟨S256x1, .f32⟩
  | 20 => ⟨S256, .f32⟩
  | 21 => ⟨S_, .f32⟩
  | 22 => ⟨S256, .f32⟩
  | 23 => ⟨S256, .f32⟩
  | 24 => ⟨S256, .f32⟩
  | 25 => ⟨S_, .f32⟩
  | 26 => ⟨S256, .f32⟩
  | 27 => ⟨S256, .f32⟩
  | 28 => ⟨S256, .f32⟩
  | 29 => ⟨S_, .f32⟩
  | 30 => ⟨S256, .f32⟩
  | 31 => ⟨S256, .f32⟩
  | 32 => ⟨S_, .f32⟩
  | 33 => ⟨S256, .f32⟩
  | 34 => ⟨S256, .f32⟩
  | 35 => ⟨S_, .f32⟩
  | 36 => ⟨S256, .f32⟩
  | 37 => ⟨S256, .f32⟩
  | 38 => ⟨S30, .f32⟩
  | 39 => ⟨S30, .f32⟩
  | 40 => ⟨S256x1, .f32⟩
  | 41 => ⟨S1x30, .f32⟩
  | 42 => ⟨S_, .f32⟩
  | 43 => ⟨S1x30, .f32⟩
  | 44 => ⟨S1x30, .f32⟩
  | 45 => ⟨S256x1, .f32⟩
  | 46 => ⟨S_, .f32⟩
  | 47 => ⟨S256x1, .f32⟩
  | 48 => ⟨S256x1, .f32⟩
  | 49 => ⟨S256x30, .f32⟩
  | 50 => ⟨S256x30, .f32⟩
  | 51 => ⟨S256x30, .f32⟩
  | 52 => ⟨S256x30, .f32⟩
  | 53 => ⟨S256x30, .f32⟩
  | 54 => ⟨S256x1, .f32⟩
  | 55 => ⟨S1x30, .f32⟩
  | 56 => ⟨S_, .f32⟩
  | 57 => ⟨S1x30, .f32⟩
  | 58 => ⟨S1x30, .f32⟩
  | 59 => ⟨S256x1, .f32⟩
  | 60 => ⟨S_, .f32⟩
  | 61 => ⟨S256x1, .f32⟩
  | 62 => ⟨S256x1, .f32⟩
  | 63 => ⟨S256x30, .f32⟩
  | 64 => ⟨S256x30, .f32⟩
  | 65 => ⟨S256x30, .f32⟩
  | 66 => ⟨S256x30, .f32⟩
  | 67 => ⟨S256x30, .f32⟩
  | 68 => ⟨S_, .f32⟩
  | 69 => ⟨S256x30, .f32⟩
  | 70 => ⟨S256x30, .i1⟩
  | 71 => ⟨S_, .f32⟩
  | 72 => ⟨S256x30, .f32⟩
  | 73 => ⟨S256x30, .i1⟩
  | 74 => ⟨S256x30, .i1⟩
  | 75 => ⟨S_, .f32⟩
  | 76 => ⟨S_, .f32⟩
  | 77 => ⟨S_, .f32⟩
  | 78 => ⟨S256x30, .f32⟩
  | 79 => ⟨S256x30, .f32⟩
  | 80 => ⟨S_, .f32⟩
  | 81 => ⟨S256x30, .f32⟩
  | 82 => ⟨S256x30, .f32⟩
  | 83 => ⟨S256x30, .f32⟩
  | 84 => ⟨S_, .f32⟩
  | 85 => ⟨S256x30, .f32⟩
  | 86 => ⟨S256x30, .f32⟩
  | 87 => ⟨S_, .f32⟩
  | 88 => ⟨S256x30, .f32⟩
  | 89 => ⟨S256x30, .f32⟩
  | 90 => ⟨S256x30, .i32⟩
  | 91 => ⟨S256x30, .i32⟩
  | 92 => ⟨S256x30, .f32⟩
  | 93 => ⟨S256x30, .f32⟩
  | 94 => ⟨S_, .f32⟩
  | 95 => ⟨S256x30, .f32⟩
  | 96 => ⟨S256x30, .i1⟩
  | 97 => ⟨S_, .f32⟩
  | 98 => ⟨S256x30, .f32⟩
  | 99 => ⟨S256x30, .i1⟩
  | 100 => ⟨S256x30, .i1⟩
  | 101 => ⟨S_, .f32⟩
  | 102 => ⟨S_, .f32⟩
  | 103 => ⟨S_, .f32⟩
  | 104 => ⟨S256x30, .f32⟩
  | 105 => ⟨S256x30, .f32⟩
  | 106 => ⟨S_, .f32⟩
  | 107 => ⟨S256x30, .f32⟩
  | 108 => ⟨S256x30, .f32⟩
  | 109 => ⟨S256x30, .f32⟩
  | 110 => ⟨S_, .f32⟩
  | 111 => ⟨S256x30, .f32⟩
  | 112 => ⟨S256x30, .f32⟩
  | 113 => ⟨S_, .f32⟩
  | 114 => ⟨S256x30, .f32⟩
  | 115 => ⟨S256x30, .f32⟩
  | 116 => ⟨S256x30, .i32⟩
  | 117 => ⟨S256x30, .i32⟩
  | 118 => ⟨S256x30, .f32⟩
  | 119 => ⟨S256x30, .f32⟩
  | 120 => ⟨S_, .i32⟩
  | 121 => ⟨S256, .i32⟩
  | 122 => ⟨S_, .i32⟩
  | 123 => ⟨S_, .i32⟩
  | 124 => ⟨S256, .i32⟩
  | 125 => ⟨S256, .i32⟩
  | 126 => ⟨S256, .i32⟩
  | 127 => ⟨S_, .i32⟩
  | _ => ⟨S2x256x200x272, .f32⟩

abbrev hbmTy0_1 (i : Nat) : BufTy := match i % 128 with
  | 0 => ⟨S256, .i32⟩
  | 1 => ⟨S256, .i1⟩
  | 2 => ⟨S256, .i32⟩
  | 3 => ⟨S256, .i32⟩
  | 4 => ⟨S_, .i32⟩
  | 5 => ⟨S256, .i32⟩
  | 6 => ⟨S256, .i1⟩
  | 7 => ⟨S256, .i1⟩
  | 8 => ⟨S_, .i32⟩
  | 9 => ⟨S256, .i32⟩
  | 10 => ⟨S256, .i32⟩
  | 11 => ⟨S256, .i32⟩
  | 12 => ⟨S_, .i32⟩
  | 13 => ⟨S256, .i32⟩
  | 14 => ⟨S256, .i32⟩
  | 15 => ⟨S_, .i32⟩
  | 16 => ⟨S_, .i32⟩
  | 17 => ⟨S_, .i32⟩
  | 18 => ⟨S256, .i32⟩
  | 19 => ⟨S256, .i32⟩
  | 20 => ⟨S_, .i32⟩
  | 21 => ⟨S256, .i32⟩
  | 22 => ⟨S_, .i32⟩
  | 23 => ⟨S256, .i32⟩
  | 24 => ⟨S_, .i32⟩
  | 25 => ⟨S_, .i32⟩
  | 26 => ⟨S_, .i32⟩
  | 27 => ⟨S256, .i32⟩
  | 28 => ⟨S256, .i32⟩
  | 29 => ⟨S_, .i32⟩
  | 30 => ⟨S256, .i32⟩
  | 31 => ⟨S256, .i32⟩
  | 32 => ⟨S_, .i32⟩
  | 33 => ⟨S256, .i32⟩
  | 34 => ⟨S256, .i32⟩
  | 35 => ⟨S_, .i32⟩
  | 36 => ⟨S256, .i32⟩
  | 37 => ⟨S256, .i32⟩
  | 38 => ⟨S_, .i32⟩
  | 39 => ⟨S_, .i32⟩
  | 40 => ⟨S256, .i32⟩
  | 41 => ⟨S256, .i32⟩
  | 42 => ⟨S256, .i32⟩
  | 43 => ⟨S_, .i32⟩
  | 44 => ⟨S256, .i32⟩
  | 45 => ⟨S256, .i1⟩
  | 46 => ⟨S256, .i32⟩
  | 47 => ⟨S256, .i32⟩
  | 48 => ⟨S_, .i32⟩
  | 49 => ⟨S256, .i32⟩
  | 50 => ⟨S256, .i1⟩
  | 51 => ⟨S256, .i1⟩
  | 52 => ⟨S_, .i32⟩
  | 53 => ⟨S256, .i32⟩
  | 54 => ⟨S256, .i32⟩
  | 55 => ⟨S256, .i32⟩
  | 56 => ⟨S_, .i32⟩
  | 57 => ⟨S256, .i32⟩
  | 58 => ⟨S256, .i32⟩
  | 59 => ⟨S_, .i32⟩
  | 60 => ⟨S_, .i32⟩
  | 61 => ⟨S_, .i32⟩
  | 62 => ⟨S256, .i32⟩
  | 63 => ⟨S256, .i32⟩
  | 64 => ⟨S_, .i32⟩
  | 65 => ⟨S256, .i32⟩
  | 66 => ⟨S_, .i32⟩
  | 67 => ⟨S256, .i32⟩
  | 68 => ⟨S256, .i32⟩
  | 69 => ⟨S_, .i32⟩
  | 70 => ⟨S256, .i32⟩
  | 71 => ⟨S256, .i32⟩
  | 72 => ⟨S_, .i32⟩
  | 73 => ⟨S_, .i32⟩
  | 74 => ⟨S_, .i32⟩
  | 75 => ⟨S256, .i32⟩
  | 76 => ⟨S256, .i32⟩
  | 77 => ⟨S_, .i32⟩
  | 78 => ⟨S256, .i32⟩
  | 79 => ⟨S256, .i32⟩
  | 80 => ⟨S2x200x272x256, .f32⟩
  | 81 => ⟨S2x200x69632, .f32⟩
  | 82 => ⟨S_, .i32⟩
  | 83 => ⟨S256, .i32⟩
  | 84 => ⟨S_, .i32⟩
  | 85 => ⟨S256, .i32⟩
  | 86 => ⟨S_, .f32⟩
  | 87 => ⟨S256, .f32⟩
  | 88 => ⟨S256, .f32⟩
  | 89 => ⟨S_, .f32⟩
  | 90 => ⟨S256, .f32⟩
  | 91 => ⟨S256, .f32⟩
  | 92 => ⟨S256x14x16x256, .f32⟩
  | 93 => ⟨S256x14x14x256, .f32⟩
  | 94 => ⟨S256x256x14x14, .f32⟩
  | _ => ⟨S2x256x200x272, .f32⟩

abbrev hbmTy (i : Nat) : BufTy := match i / 128 with
  | 0 => hbmTy0_0 i
  | 1 => hbmTy0_1 i
  | _ => ⟨S2x256x200x272, .f32⟩

abbrev bufTy : (tb : Table) → Fin (tcTables nBuf tb) → BufTy
  | .hbm, ⟨i, _⟩ => hbmTy i
  | .local _ .vmem, ⟨0, _⟩ => ⟨S1x14x16x256, .f32⟩
  | .local _ .vmem, ⟨1, _⟩ => ⟨S1x14x16x256, .f32⟩
  | .local _ .vmem, ⟨2, _⟩ => ⟨S4x88x27136, .f32⟩
  | .local _ .vmem, ⟨3, _⟩ => ⟨S16x27136, .f32⟩
  | .local _ .vmem, ⟨4, _⟩ => ⟨S1498x128, .f32⟩
  | .local _ .vmem, ⟨5, _⟩ => ⟨S1498x128, .f32⟩
  | .local _ .smem, ⟨0, _⟩ => ⟨S256, .i32⟩
  | .local _ .smem, ⟨1, _⟩ => ⟨S256, .i32⟩
  | .local _ .smem, ⟨2, _⟩ => ⟨S256, .i32⟩
  | .local _ .smem, ⟨3, _⟩ => ⟨S256, .i32⟩
  | .local _ .smem, ⟨4, _⟩ => ⟨S256, .i32⟩
  | .local _ .smem, ⟨5, _⟩ => ⟨S256, .f32⟩
  | .local _ .smem, ⟨6, _⟩ => ⟨S256, .f32⟩
  | .local _ .smem, ⟨7, _⟩ => ⟨S256, .f32⟩
  | .local _ .smem, ⟨8, _⟩ => ⟨S256, .f32⟩
  | _, _ => ⟨S2x256x200x272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_v24 : Ref sig .tc := ⟨.hbm, 31, rfl⟩
abbrev main_cst_5 : Ref sig .tc := ⟨.hbm, 32, rfl⟩
abbrev main_v25 : Ref sig .tc := ⟨.hbm, 33, rfl⟩
abbrev main_v26 : Ref sig .tc := ⟨.hbm, 34, rfl⟩
abbrev main_cst_6 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_7 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_9 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_11 : Ref sig .tc := ⟨.hbm, 68, rfl⟩
abbrev main_v55 : Ref sig .tc := ⟨.hbm, 69, rfl⟩
abbrev main_v56 : Ref sig .tc := ⟨.hbm, 70, rfl⟩
abbrev main_cst_12 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_13 : Ref sig .tc := ⟨.hbm, 75, rfl⟩
abbrev main_cst_14 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_19 : Ref sig .tc := ⟨.hbm, 101, rfl⟩
abbrev main_cst_20 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_v75 : Ref sig .tc := ⟨.hbm, 108, rfl⟩
abbrev main_v76 : Ref sig .tc := ⟨.hbm, 109, rfl⟩
abbrev main_cst_21 : Ref sig .tc := ⟨.hbm, 110, rfl⟩
abbrev main_v77 : Ref sig .tc := ⟨.hbm, 111, rfl⟩
abbrev main_v78 : Ref sig .tc := ⟨.hbm, 112, rfl⟩
abbrev main_cst_22 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c : Ref sig .tc := ⟨.hbm, 120, rfl⟩
abbrev main_v85 : Ref sig .tc := ⟨.hbm, 121, rfl⟩
abbrev main_c_23 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_v7 : Ref sig .tc := ⟨.hbm, 130, rfl⟩
abbrev main_call2_v8 : Ref sig .tc := ⟨.hbm, 131, rfl⟩
abbrev main_call2_c : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_c_0 : Ref sig .tc := ⟨.hbm, 136, rfl⟩
abbrev main_call2_v12 : Ref sig .tc := ⟨.hbm, 137, rfl⟩
abbrev main_call2_v13 : Ref sig .tc := ⟨.hbm, 138, rfl⟩
abbrev main_v86 : Ref sig .tc := ⟨.hbm, 139, rfl⟩
abbrev main_c_24 : Ref sig .tc := ⟨.hbm, 140, rfl⟩
abbrev main_v87 : Ref sig .tc := ⟨.hbm, 141, rfl⟩
abbrev main_v88 : Ref sig .tc := ⟨.hbm, 142, rfl⟩
abbrev main_c_25 : Ref sig .tc := ⟨.hbm, 143, rfl⟩
abbrev main_c_26 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_c_27 : Ref sig .tc := ⟨.hbm, 150, rfl⟩
abbrev main_v90 : Ref sig .tc := ⟨.hbm, 151, rfl⟩
abbrev main_c_28 : Ref sig .tc := ⟨.hbm, 152, rfl⟩
abbrev main_c_29 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_v91 : Ref sig .tc := ⟨.hbm, 159, rfl⟩
abbrev main_c_30 : Ref sig .tc := ⟨.hbm, 160, rfl⟩
abbrev main_v92 : Ref sig .tc := ⟨.hbm, 161, rfl⟩
abbrev main_v93 : Ref sig .tc := ⟨.hbm, 162, rfl⟩
abbrev main_c_31 : Ref sig .tc := ⟨.hbm, 163, rfl⟩
abbrev main_v94 : Ref sig .tc := ⟨.hbm, 164, rfl⟩
abbrev main_v95 : Ref sig .tc := ⟨.hbm, 165, rfl⟩
abbrev main_c_32 : Ref sig .tc := ⟨.hbm, 166, rfl⟩
abbrev main_call5_v0 : Ref sig .tc := ⟨.hbm, 167, rfl⟩
abbrev main_call5_v1 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_v5 : Ref sig .tc := ⟨.hbm, 172, rfl⟩
abbrev main_call5_v6 : Ref sig .tc := ⟨.hbm, 173, rfl⟩
abbrev main_call5_v7 : Ref sig .tc := ⟨.hbm, 174, rfl⟩
abbrev main_call5_v8 : Ref sig .tc := ⟨.hbm, 175, rfl⟩
abbrev main_call5_c : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_c_0 : Ref sig .tc := ⟨.hbm, 180, rfl⟩
abbrev main_call5_v12 : Ref sig .tc := ⟨.hbm, 181, rfl⟩
abbrev main_call5_v13 : Ref sig .tc := ⟨.hbm, 182, rfl⟩
abbrev main_v96 : Ref sig .tc := ⟨.hbm, 183, rfl⟩
abbrev main_c_33 : Ref sig .tc := ⟨.hbm, 184, rfl⟩
abbrev main_v97 : Ref sig .tc := ⟨.hbm, 185, rfl⟩
abbrev main_v98 : Ref sig .tc := ⟨.hbm, 186, rfl⟩
abbrev main_c_34 : Ref sig .tc := ⟨.hbm, 187, rfl⟩
abbrev main_c_35 : Ref sig .tc := ⟨.hbm, 188, rfl⟩
abbrev main_call6_v0 : Ref sig .tc := ⟨.hbm, 189, rfl⟩
abbrev main_call6_v1 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_c_36 : Ref sig .tc := ⟨.hbm, 194, rfl⟩
abbrev main_v100 : Ref sig .tc := ⟨.hbm, 195, rfl⟩
abbrev main_v101 : Ref sig .tc := ⟨.hbm, 196, rfl⟩
abbrev main_c_37 : Ref sig .tc := ⟨.hbm, 197, rfl⟩
abbrev main_v102 : Ref sig .tc := ⟨.hbm, 198, rfl⟩
abbrev main_v103 : Ref sig .tc := ⟨.hbm, 199, rfl⟩
abbrev main_c_38 : Ref sig .tc := ⟨.hbm, 200, rfl⟩
abbrev main_c_39 : Ref sig .tc := ⟨.hbm, 201, rfl⟩
abbrev main_call7_v0 : Ref sig .tc := ⟨.hbm, 202, rfl⟩
abbrev main_call7_v1 : Ref sig .tc := ⟨.hbm, 203, rfl⟩
abbrev main_call7_v2 : Ref sig .tc := ⟨.hbm, 204, rfl⟩
abbrev main_call7_v3 : Ref sig .tc := ⟨.hbm, 205, rfl⟩
abbrev main_call7_v4 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_c_40 : Ref sig .tc := ⟨.hbm, 210, rfl⟩
abbrev main_v107 : Ref sig .tc := ⟨.hbm, 211, rfl⟩
abbrev main_c_41 : Ref sig .tc := ⟨.hbm, 212, rfl⟩
abbrev main_v109 : Ref sig .tc := ⟨.hbm, 213, rfl⟩
abbrev main_cst_42 : Ref sig .tc := ⟨.hbm, 214, rfl⟩
abbrev main_v111 : Ref sig .tc := ⟨.hbm, 215, rfl⟩
abbrev main_v112 : Ref sig .tc := ⟨.hbm, 216, rfl⟩
abbrev main_cst_43 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v2 : Ref sig .tc := ⟨.smem, 0, rfl⟩
abbrev main_v89 : Ref sig .tc := ⟨.smem, 1, rfl⟩
abbrev main_v108 : Ref sig .tc := ⟨.smem, 2, rfl⟩
abbrev main_v99 : Ref sig .tc := ⟨.smem, 3, rfl⟩
abbrev main_v110 : Ref sig .tc := ⟨.smem, 4, rfl⟩
abbrev cc0_stg4_0 : Ref sig .tc := ⟨.vmem, 0, rfl⟩
abbrev cc0_stg4_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg0_0 : Ref sig .tc := ⟨.smem, 5, rfl⟩
abbrev cc0_stg1_0 : Ref sig .tc := ⟨.smem, 6, rfl⟩
abbrev cc0_stg2_0 : Ref sig .tc := ⟨.smem, 7, rfl⟩
abbrev cc0_stg3_0 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨2, ![2, 128], ![false, false]⟩

abbrev pre0 : Pipeline.Prefetch sig := ⟨5, ![main_v2.idx, main_v89.idx, main_v108.idx, main_v99.idx, main_v110.idx], fun | 0 => main_v2.names | 1 => main_v89.names | 2 => main_v108.names | 3 => main_v99.names | 4 => main_v110.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

def k0_off1 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c0_i32_532 : BitVec 32 := 0#32
  let v802 : BitVec 32 := Scalar.addi v1 c0_i32_532
  let v803 : Index := Scalar.indexCast v802
  ![v803.toNat]
def k0_mult1 (v804 : BitVec 32) : BitVec 32 :=
  v804

def k0_chk1 (i : grid0.Coords) (v804 : BitVec 32) : Prop :=
  (∀ (k0_h1 : k0_cond1 i = 1#1), 8 ∣ (k0_mult1 v804).toNat)
theorem k0_mult1_dvd : ∀ (i : grid0.Coords) (v804 : BitVec 32) (k0_hw1 : k0_chk1 i v804), ∀ (k0_h1 : k0_cond1 i = 1#1), 8 ∣ (k0_mult1 v804).toNat := fun i v804 k0_hw1 k0_h1 => k0_hw1 k0_h1

def k0_off2 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c0_i32_532 : BitVec 32 := 0#32
  let v802 : BitVec 32 := Scalar.addi v1 c0_i32_532
  let v806 : Index := Scalar.indexCast v802
  ![v806.toNat]
def k0_mult2 (v807 : BitVec 32) : BitVec 32 :=
  v807

def k0_chk2 (i : grid0.Coords) (v807 : BitVec 32) : Prop :=
  (∀ (k0_h1 : k0_cond1 i = 1#1), 128 ∣ (k0_mult2 v807).toNat)
theorem k0_mult2_dvd : ∀ (i : grid0.Coords) (v807 : BitVec 32) (k0_hw2 : k0_chk2 i v807), ∀ (k0_h1 : k0_cond1 i = 1#1), 128 ∣ (k0_mult2 v807).toNat := fun i v807 k0_hw2 k0_h1 => k0_hw2 k0_h1

def k0_off3 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c0_i32_532 : BitVec 32 := 0#32
  let v802 : BitVec 32 := Scalar.addi v1 c0_i32_532
  let v809 : Index := Scalar.indexCast v802
  ![v809.toNat]
def k0_mult3 (v810 : BitVec 32) : BitVec 32 :=
  v810

def k0_chk3 (i : grid0.Coords) (v810 : BitVec 32) : Prop :=
  (∀ (k0_h1 : k0_cond1 i = 1#1), 8 ∣ (k0_mult3 v810).toNat)
theorem k0_mult3_dvd : ∀ (i : grid0.Coords) (v810 : BitVec 32) (k0_hw3 : k0_chk3 i v810), ∀ (k0_h1 : k0_cond1 i = 1#1), 8 ∣ (k0_mult3 v810).toNat := fun i v810 k0_hw3 k0_h1 => k0_hw3 k0_h1

def k0_off4 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c0_i32_532 : BitVec 32 := 0#32
  let v802 : BitVec 32 := Scalar.addi v1 c0_i32_532
  let v812 : Index := Scalar.indexCast v802
  ![v812.toNat]
def k0_mult4 (v813 : BitVec 32) : BitVec 32 :=
  v813

def k0_off5 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c0_i32_532 : BitVec 32 := 0#32
  let v802 : BitVec 32 := Scalar.addi v1 c0_i32_532
  let v815 : Index := Scalar.indexCast v802
  ![v815.toNat]
def k0_off6 (v810 : BitVec 32) (v813 : BitVec 32) : (Fin 3 → Nat) × (Fin 3 → Nat) :=
  let c0_i32_533 : BitVec 32 := 0#32
  let c0_i32_535 : BitVec 32 := 0#32
  let c0_i32_536 : BitVec 32 := 0#32
  let v811 : BitVec 32 := v810
  let v814 : BitVec 32 := v813
  ⟨![0, 0, 0], ![1, v811.toNat, v814.toNat]⟩
def k0_sz1 (v810 : BitVec 32) (v813 : BitVec 32) : Fin 2 → Nat :=
  let v811 : BitVec 32 := v810
  let v814 : BitVec 32 := v813
  ![v811.toNat, v814.toNat]

def k0_chk4 (i : grid0.Coords) (v810 : BitVec 32) (v813 : BitVec 32) : Prop :=
  (∀ (k0_h1 : k0_cond1 i = 1#1), 128 ∣ (k0_mult4 v813).toNat) ∧
  (∀ (k0_h1 : k0_cond1 i = 1#1), ∀ a, (k0_off6 v810 v813).2 a = 0 ∨ (k0_off6 v810 v813).1 a + (k0_off6 v810 v813).2 a ≤ S4x88x27136.size a) ∧
  (∀ (k0_h1 : k0_cond1 i = 1#1), (⟨3, (k0_off6 v810 v813).2⟩ : Shape).Squeezes ⟨2, k0_sz1 v810 v813⟩)
theorem k0_mult4_dvd : ∀ (i : grid0.Coords) (v810 : BitVec 32) (v813 : BitVec 32) (k0_hw4 : k0_chk4 i v810 v813), ∀ (k0_h1 : k0_cond1 i = 1#1), 128 ∣ (k0_mult4 v813).toNat := fun i v810 v813 k0_hw4 k0_h1 => k0_hw4.1 k0_h1
theorem k0_off6_inb : ∀ (i : grid0.Coords) (v810 : BitVec 32) (v813 : BitVec 32) (k0_hw4 : k0_chk4 i v810 v813), ∀ (k0_h1 : k0_cond1 i = 1#1), ∀ a, (k0_off6 v810 v813).2 a = 0 ∨ (k0_off6 v810 v813).1 a + (k0_off6 v810 v813).2 a ≤ S4x88x27136.size a := fun i v810 v813 k0_hw4 k0_h1 => k0_hw4.2.1 k0_h1
theorem k0_sz1_squeezes : ∀ (i : grid0.Coords) (v810 : BitVec 32) (v813 : BitVec 32) (k0_hw4 : k0_chk4 i v810 v813), ∀ (k0_h1 : k0_cond1 i = 1#1), (⟨3, (k0_off6 v810 v813).2⟩ : Shape).Squeezes ⟨2, k0_sz1 v810 v813⟩ := fun i v810 v813 k0_hw4 k0_h1 => k0_hw4.2.2 k0_h1

def k0_off7 (v804 : BitVec 32) (v807 : BitVec 32) (v810 : BitVec 32) (v813 : BitVec 32) (v816 : BitVec 32) : (Fin 3 → Nat) × (Fin 3 → Nat) :=
  let v805 : BitVec 32 := v804
  let v808 : BitVec 32 := v807
  let v811 : BitVec 32 := v810
  let v814 : BitVec 32 := v813
  ⟨![v816.toNat, v805.toNat, v808.toNat], ![1, v811.toNat, v814.toNat]⟩

def k0_sz2 (v810 : BitVec 32) (v813 : BitVec 32) : Fin 2 → Nat :=
  let v811 : BitVec 32 := v810
  let v814 : BitVec 32 := v813
  ![v811.toNat, v814.toNat]

def k0_chk5 (i : grid0.Coords) (v804 : BitVec 32) (v807 : BitVec 32) (v810 : BitVec 32) (v813 : BitVec 32) (v816 : BitVec 32) : Prop :=
  (∀ (k0_h1 : k0_cond1 i = 1#1), ∀ a, (k0_off7 v804 v807 v810 v813 v816).2 a = 0 ∨ (k0_off7 v804 v807 v810 v813 v816).1 a + (k0_off7 v804 v807 v810 v813 v816).2 a ≤ S2x200x69632.size a) ∧
  (∀ (k0_h1 : k0_cond1 i = 1#1), (⟨3, (k0_off7 v804 v807 v810 v813 v816).2⟩ : Shape).Squeezes ⟨2, k0_sz2 v810 v813⟩)
theorem k0_off7_inb : ∀ (i : grid0.Coords) (v804 : BitVec 32) (v807 : BitVec 32) (v810 : BitVec 32) (v813 : BitVec 32) (v816 : BitVec 32) (k0_hw5 : k0_chk5 i v804 v807 v810 v813 v816), ∀ (k0_h1 : k0_cond1 i = 1#1), ∀ a, (k0_off7 v804 v807 v810 v813 v816).2 a = 0 ∨ (k0_off7 v804 v807 v810 v813 v816).1 a + (k0_off7 v804 v807 v810 v813 v816).2 a ≤ S2x200x69632.size a := fun i v804 v807 v810 v813 v816 k0_hw5 k0_h1 => k0_hw5.1 k0_h1
theorem k0_sz2_squeezes : ∀ (i : grid0.Coords) (v804 : BitVec 32) (v807 : BitVec 32) (v810 : BitVec 32) (v813 : BitVec 32) (v816 : BitVec 32) (k0_hw5 : k0_chk5 i v804 v807 v810 v813 v816), ∀ (k0_h1 : k0_cond1 i = 1#1), (⟨3, (k0_off7 v804 v807 v810 v813 v816).2⟩ : Shape).Squeezes ⟨2, k0_sz2 v810 v813⟩ := fun i v804 v807 v810 v813 v816 k0_hw5 k0_h1 => k0_hw5.2 k0_h1

def k0_off8 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c1_i32_537 : BitVec 32 := 1#32
  let v823 : BitVec 32 := Scalar.addi v1 c1_i32_537
  let v824 : Index := Scalar.indexCast v823
  ![v824.toNat]
def k0_mult5 (v825 : BitVec 32) : BitVec 32 :=
  v825

def k0_chk6 (i : grid0.Coords) (v825 : BitVec 32) : Prop :=
  (∀ (k0_h1 : k0_cond1 i = 1#1), 8 ∣ (k0_mult5 v825).toNat)
theorem k0_mult5_dvd : ∀ (i : grid0.Coords) (v825 : BitVec 32) (k0_hw6 : k0_chk6 i v825), ∀ (k0_h1 : k0_cond1 i = 1#1), 8 ∣ (k0_mult5 v825).toNat := fun i v825 k0_hw6 k0_h1 => k0_hw6 k0_h1

def k0_off9 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c1_i32_537 : BitVec 32 := 1#32
  let v823 : BitVec 32 := Scalar.addi v1 c1_i32_537
  let v827 : Index := Scalar.indexCast v823
  ![v827.toNat]
def k0_mult6 (v828 : BitVec 32) : BitVec 32 :=
  v828

def k0_chk7 (i : grid0.Coords) (v828 : BitVec 32) : Prop :=
  (∀ (k0_h1 : k0_cond1 i = 1#1), 128 ∣ (k0_mult6 v828).toNat)
theorem k0_mult6_dvd : ∀ (i : grid0.Coords) (v828 : BitVec 32) (k0_hw7 : k0_chk7 i v828), ∀ (k0_h1 : k0_cond1 i = 1#1), 128 ∣ (k0_mult6 v828).toNat := fun i v828 k0_hw7 k0_h1 => k0_hw7 k0_h1

def k0_off10 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c1_i32_537 : BitVec 32 := 1#32
  let v823 : BitVec 32 := Scalar.addi v1 c1_i32_537
  let v830 : Index := Scalar.indexCast v823
  ![v830.toNat]
def k0_mult7 (v831 : BitVec 32) : BitVec 32 :=
  v831

def k0_chk8 (i : grid0.Coords) (v831 : BitVec 32) : Prop :=
  (∀ (k0_h1 : k0_cond1 i = 1#1), 8 ∣ (k0_mult7 v831).toNat)
theorem k0_mult7_dvd : ∀ (i : grid0.Coords) (v831 : BitVec 32) (k0_hw8 : k0_chk8 i v831), ∀ (k0_h1 : k0_cond1 i = 1#1), 8 ∣ (k0_mult7 v831).toNat := fun i v831 k0_hw8 k0_h1 => k0_hw8 k0_h1

def k0_off11 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c1_i32_537 : BitVec 32 := 1#32
  let v823 : BitVec 32 := Scalar.addi v1 c1_i32_537
  let v833 : Index := Scalar.indexCast v823
  ![v833.toNat]
def k0_mult8 (v834 : BitVec 32) : BitVec 32 :=
  v834

def k0_off12 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c1_i32_537 : BitVec 32 := 1#32
  let v823 : BitVec 32 := Scalar.addi v1 c1_i32_537
  let v836 : Index := Scalar.indexCast v823
  ![v836.toNat]
def k0_off13 (v831 : BitVec 32) (v834 : BitVec 32) : (Fin 3 → Nat) × (Fin 3 → Nat) :=
  let c1_i32_538 : BitVec 32 := 1#32
  let c0_i32_540 : BitVec 32 := 0#32
  let c0_i32_541 : BitVec 32 := 0#32
  let v832 : BitVec 32 := v831
  let v835 : BitVec 32 := v834
  ⟨![1, 0, 0], ![1, v832.toNat, v835.toNat]⟩
def k0_sz3 (v831 : BitVec 32) (v834 : BitVec 32) : Fin 2 → Nat :=
  let v832 : BitVec 32 := v831
  let v835 : BitVec 32 := v834
  ![v832.toNat, v835.toNat]

def k0_chk9 (i : grid0.Coords) (v831 : BitVec 32) (v834 : BitVec 32) : Prop :=
  (∀ (k0_h1 : k0_cond1 i = 1#1), 128 ∣ (k0_mult8 v834).toNat) ∧
  (∀ (k0_h1 : k0_cond1 i = 1#1), ∀ a, (k0_off13 v831 v834).2 a = 0 ∨ (k0_off13 v831 v834).1 a + (k0_off13 v831 v834).2 a ≤ S4x88x27136.size a) ∧
  (∀ (k0_h1 : k0_cond1 i = 1#1), (⟨3, (k0_off13 v831 v834).2⟩ : Shape).Squeezes ⟨2, k0_sz3 v831 v834⟩)
theorem k0_mult8_dvd : ∀ (i : grid0.Coords) (v831 : BitVec 32) (v834 : BitVec 32) (k0_hw9 : k0_chk9 i v831 v834), ∀ (k0_h1 : k0_cond1 i = 1#1), 128 ∣ (k0_mult8 v834).toNat := fun i v831 v834 k0_hw9 k0_h1 => k0_hw9.1 k0_h1
theorem k0_off13_inb : ∀ (i : grid0.Coords) (v831 : BitVec 32) (v834 : BitVec 32) (k0_hw9 : k0_chk9 i v831 v834), ∀ (k0_h1 : k0_cond1 i = 1#1), ∀ a, (k0_off13 v831 v834).2 a = 0 ∨ (k0_off13 v831 v834).1 a + (k0_off13 v831 v834).2 a ≤ S4x88x27136.size a := fun i v831 v834 k0_hw9 k0_h1 => k0_hw9.2.1 k0_h1
theorem k0_sz3_squeezes : ∀ (i : grid0.Coords) (v831 : BitVec 32) (v834 : BitVec 32) (k0_hw9 : k0_chk9 i v831 v834), ∀ (k0_h1 : k0_cond1 i = 1#1), (⟨3, (k0_off13 v831 v834).2⟩ : Shape).Squeezes ⟨2, k0_sz3 v831 v834⟩ := fun i v831 v834 k0_hw9 k0_h1 => k0_hw9.2.2 k0_h1

def k0_off14 (v825 : BitVec 32) (v828 : BitVec 32) (v831 : BitVec 32) (v834 : BitVec 32) (v837 : BitVec 32) : (Fin 3 → Nat) × (Fin 3 → Nat) :=
  let v826 : BitVec 32 := v825
  let v829 : BitVec 32 := v828
  let v832 : BitVec 32 := v831
  let v835 : BitVec 32 := v834
  ⟨![v837.toNat, v826.toNat, v829.toNat], ![1, v832.toNat, v835.toNat]⟩

def k0_sz4 (v831 : BitVec 32) (v834 : BitVec 32) : Fin 2 → Nat :=
  let v832 : BitVec 32 := v831
  let v835 : BitVec 32 := v834
  ![v832.toNat, v835.toNat]

def k0_chk10 (i : grid0.Coords) (v825 : BitVec 32) (v828 : BitVec 32) (v831 : BitVec 32) (v834 : BitVec 32) (v837 : BitVec 32) : Prop :=
  (∀ (k0_h1 : k0_cond1 i = 1#1), ∀ a, (k0_off14 v825 v828 v831 v834 v837).2 a = 0 ∨ (k0_off14 v825 v828 v831 v834 v837).1 a + (k0_off14 v825 v828 v831 v834 v837).2 a ≤ S2x200x69632.size a) ∧
  (∀ (k0_h1 : k0_cond1 i = 1#1), (⟨3, (k0_off14 v825 v828 v831 v834 v837).2⟩ : Shape).Squeezes ⟨2, k0_sz4 v831 v834⟩)
theorem k0_off14_inb : ∀ (i : grid0.Coords) (v825 : BitVec 32) (v828 : BitVec 32) (v831 : BitVec 32) (v834 : BitVec 32) (v837 : BitVec 32) (k0_hw10 : k0_chk10 i v825 v828 v831 v834 v837), ∀ (k0_h1 : k0_cond1 i = 1#1), ∀ a, (k0_off14 v825 v828 v831 v834 v837).2 a = 0 ∨ (k0_off14 v825 v828 v831 v834 v837).1 a + (k0_off14 v825 v828 v831 v834 v837).2 a ≤ S2x200x69632.size a := fun i v825 v828 v831 v834 v837 k0_hw10 k0_h1 => k0_hw10.1 k0_h1
theorem k0_sz4_squeezes : ∀ (i : grid0.Coords) (v825 : BitVec 32) (v828 : BitVec 32) (v831 : BitVec 32) (v834 : BitVec 32) (v837 : BitVec 32) (k0_hw10 : k0_chk10 i v825 v828 v831 v834 v837), ∀ (k0_h1 : k0_cond1 i = 1#1), (⟨3, (k0_off14 v825 v828 v831 v834 v837).2⟩ : Shape).Squeezes ⟨2, k0_sz4 v831 v834⟩ := fun i v825 v828 v831 v834 v837 k0_hw10 k0_h1 => k0_hw10.2 k0_h1

def k0_off15 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c2_i32 : BitVec 32 := 2#32
  let v844 : BitVec 32 := Scalar.addi v1 c2_i32
  let v845 : Index := Scalar.indexCast v844
  ![v845.toNat]
def k0_mult9 (v846 : BitVec 32) : BitVec 32 :=
  v846

def k0_chk11 (i : grid0.Coords) (v846 : BitVec 32) : Prop :=
  (∀ (k0_h1 : k0_cond1 i = 1#1), 8 ∣ (k0_mult9 v846).toNat)
theorem k0_mult9_dvd : ∀ (i : grid0.Coords) (v846 : BitVec 32) (k0_hw11 : k0_chk11 i v846), ∀ (k0_h1 : k0_cond1 i = 1#1), 8 ∣ (k0_mult9 v846).toNat := fun i v846 k0_hw11 k0_h1 => k0_hw11 k0_h1

def k0_off16 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c2_i32 : BitVec 32 := 2#32
  let v844 : BitVec 32 := Scalar.addi v1 c2_i32
  let v848 : Index := Scalar.indexCast v844
  ![v848.toNat]
def k0_mult10 (v849 : BitVec 32) : BitVec 32 :=
  v849

def k0_chk12 (i : grid0.Coords) (v849 : BitVec 32) : Prop :=
  (∀ (k0_h1 : k0_cond1 i = 1#1), 128 ∣ (k0_mult10 v849).toNat)
theorem k0_mult10_dvd : ∀ (i : grid0.Coords) (v849 : BitVec 32) (k0_hw12 : k0_chk12 i v849), ∀ (k0_h1 : k0_cond1 i = 1#1), 128 ∣ (k0_mult10 v849).toNat := fun i v849 k0_hw12 k0_h1 => k0_hw12 k0_h1

def k0_off17 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c2_i32 : BitVec 32 := 2#32
  let v844 : BitVec 32 := Scalar.addi v1 c2_i32
  let v851 : Index := Scalar.indexCast v844
  ![v851.toNat]
def k0_mult11 (v852 : BitVec 32) : BitVec 32 :=
  v852

def k0_chk13 (i : grid0.Coords) (v852 : BitVec 32) : Prop :=
  (∀ (k0_h1 : k0_cond1 i = 1#1), 8 ∣ (k0_mult11 v852).toNat)
theorem k0_mult11_dvd : ∀ (i : grid0.Coords) (v852 : BitVec 32) (k0_hw13 : k0_chk13 i v852), ∀ (k0_h1 : k0_cond1 i = 1#1), 8 ∣ (k0_mult11 v852).toNat := fun i v852 k0_hw13 k0_h1 => k0_hw13 k0_h1

def k0_off18 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c2_i32 : BitVec 32 := 2#32
  let v844 : BitVec 32 := Scalar.addi v1 c2_i32
  let v854 : Index := Scalar.indexCast v844
  ![v854.toNat]
def k0_mult12 (v855 : BitVec 32) : BitVec 32 :=
  v855

def k0_off19 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c2_i32 : BitVec 32 := 2#32
  let v844 : BitVec 32 := Scalar.addi v1 c2_i32
  let v857 : Index := Scalar.indexCast v844
  ![v857.toNat]
def k0_off20 (v852 : BitVec 32) (v855 : BitVec 32) : (Fin 3 → Nat) × (Fin 3 → Nat) :=
  let c2_i32_542 : BitVec 32 := 2#32
  let c0_i32_544 : BitVec 32 := 0#32
  let c0_i32_545 : BitVec 32 := 0#32
  let v853 : BitVec 32 := v852
  let v856 : BitVec 32 := v855
  ⟨![2, 0, 0], ![1, v853.toNat, v856.toNat]⟩
def k0_sz5 (v852 : BitVec 32) (v855 : BitVec 32) : Fin 2 → Nat :=
  let v853 : BitVec 32 := v852
  let v856 : BitVec 32 := v855
  ![v853.toNat, v856.toNat]

def k0_chk14 (i : grid0.Coords) (v852 : BitVec 32) (v855 : BitVec 32) : Prop :=
  (∀ (k0_h1 : k0_cond1 i = 1#1), 128 ∣ (k0_mult12 v855).toNat) ∧
  (∀ (k0_h1 : k0_cond1 i = 1#1), ∀ a, (k0_off20 v852 v855).2 a = 0 ∨ (k0_off20 v852 v855).1 a + (k0_off20 v852 v855).2 a ≤ S4x88x27136.size a) ∧
  (∀ (k0_h1 : k0_cond1 i = 1#1), (⟨3, (k0_off20 v852 v855).2⟩ : Shape).Squeezes ⟨2, k0_sz5 v852 v855⟩)
theorem k0_mult12_dvd : ∀ (i : grid0.Coords) (v852 : BitVec 32) (v855 : BitVec 32) (k0_hw14 : k0_chk14 i v852 v855), ∀ (k0_h1 : k0_cond1 i = 1#1), 128 ∣ (k0_mult12 v855).toNat := fun i v852 v855 k0_hw14 k0_h1 => k0_hw14.1 k0_h1
theorem k0_off20_inb : ∀ (i : grid0.Coords) (v852 : BitVec 32) (v855 : BitVec 32) (k0_hw14 : k0_chk14 i v852 v855), ∀ (k0_h1 : k0_cond1 i = 1#1), ∀ a, (k0_off20 v852 v855).2 a = 0 ∨ (k0_off20 v852 v855).1 a + (k0_off20 v852 v855).2 a ≤ S4x88x27136.size a := fun i v852 v855 k0_hw14 k0_h1 => k0_hw14.2.1 k0_h1
theorem k0_sz5_squeezes : ∀ (i : grid0.Coords) (v852 : BitVec 32) (v855 : BitVec 32) (k0_hw14 : k0_chk14 i v852 v855), ∀ (k0_h1 : k0_cond1 i = 1#1), (⟨3, (k0_off20 v852 v855).2⟩ : Shape).Squeezes ⟨2, k0_sz5 v852 v855⟩ := fun i v852 v855 k0_hw14 k0_h1 => k0_hw14.2.2 k0_h1

def k0_off21 (v846 : BitVec 32) (v849 : BitVec 32) (v852 : BitVec 32) (v855 : BitVec 32) (v858 : BitVec 32) : (Fin 3 → Nat) × (Fin 3 → Nat) :=
  let v847 : BitVec 32 := v846
  let v850 : BitVec 32 := v849
  let v853 : BitVec 32 := v852
  let v856 : BitVec 32 := v855
  ⟨![v858.toNat, v847.toNat, v850.toNat], ![1, v853.toNat, v856.toNat]⟩

def k0_sz6 (v852 : BitVec 32) (v855 : BitVec 32) : Fin 2 → Nat :=
  let v853 : BitVec 32 := v852
  let v856 : BitVec 32 := v855
  ![v853.toNat, v856.toNat]

def k0_chk15 (i : grid0.Coords) (v846 : BitVec 32) (v849 : BitVec 32) (v852 : BitVec 32) (v855 : BitVec 32) (v858 : BitVec 32) : Prop :=
  (∀ (k0_h1 : k0_cond1 i = 1#1), ∀ a, (k0_off21 v846 v849 v852 v855 v858).2 a = 0 ∨ (k0_off21 v846 v849 v852 v855 v858).1 a + (k0_off21 v846 v849 v852 v855 v858).2 a ≤ S2x200x69632.size a) ∧
  (∀ (k0_h1 : k0_cond1 i = 1#1), (⟨3, (k0_off21 v846 v849 v852 v855 v858).2⟩ : Shape).Squeezes ⟨2, k0_sz6 v852 v855⟩)
theorem k0_off21_inb : ∀ (i : grid0.Coords) (v846 : BitVec 32) (v849 : BitVec 32) (v852 : BitVec 32) (v855 : BitVec 32) (v858 : BitVec 32) (k0_hw15 : k0_chk15 i v846 v849 v852 v855 v858), ∀ (k0_h1 : k0_cond1 i = 1#1), ∀ a, (k0_off21 v846 v849 v852 v855 v858).2 a = 0 ∨ (k0_off21 v846 v849 v852 v855 v858).1 a + (k0_off21 v846 v849 v852 v855 v858).2 a ≤ S2x200x69632.size a := fun i v846 v849 v852 v855 v858 k0_hw15 k0_h1 => k0_hw15.1 k0_h1
theorem k0_sz6_squeezes : ∀ (i : grid0.Coords) (v846 : BitVec 32) (v849 : BitVec 32) (v852 : BitVec 32) (v855 : BitVec 32) (v858 : BitVec 32) (k0_hw15 : k0_chk15 i v846 v849 v852 v855 v858), ∀ (k0_h1 : k0_cond1 i = 1#1), (⟨3, (k0_off21 v846 v849 v852 v855 v858).2⟩ : Shape).Squeezes ⟨2, k0_sz6 v852 v855⟩ := fun i v846 v849 v852 v855 v858 k0_hw15 k0_h1 => k0_hw15.2 k0_h1

def k0_cond2 (i : grid0.Coords) : BitVec 1 :=
  let arg1 : BitVec 32 := BitVec.ofNat 32 (i 1).val
  let c4_i32_1 : BitVec 32 := 4#32
  let v6 : BitVec 32 := Scalar.addi arg1 c4_i32_1
  let c1_i32 : BitVec 32 := 1#32
  let v7 : BitVec 32 := Scalar.subi v6 c1_i32
  let c128_i32_2 : BitVec 32 := 128#32
  let v8 : BitVec 1 := Scalar.cmpi .slt v7 c128_i32_2
  let v9 : BitVec 32 := Scalar.extui v8
  let c0_i32_3 : BitVec 32 := 0#32
  let v10 : BitVec 1 := Scalar.cmpi .ne v9 c0_i32_3
  v10

def k0_off22 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c4_i32_510 : BitVec 32 := 4#32
  let v778 : BitVec 32 := Scalar.addi v1 c4_i32_510
  let c1_i32_511 : BitVec 32 := 1#32
  let v779 : BitVec 32 := Scalar.subi v778 c1_i32_511
  let v783 : Index := Scalar.indexCast v779
  ![v783.toNat]
def k0_mult13 (v784 : BitVec 32) : BitVec 32 :=
  v784

def k0_chk16 (i : grid0.Coords) (v784 : BitVec 32) : Prop :=
  (∀ (k0_h2 : k0_cond2 i = 1#1), 8 ∣ (k0_mult13 v784).toNat)
theorem k0_mult13_dvd : ∀ (i : grid0.Coords) (v784 : BitVec 32) (k0_hw16 : k0_chk16 i v784), ∀ (k0_h2 : k0_cond2 i = 1#1), 8 ∣ (k0_mult13 v784).toNat := fun i v784 k0_hw16 k0_h2 => k0_hw16 k0_h2

def k0_off23 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c4_i32_510 : BitVec 32 := 4#32
  let v778 : BitVec 32 := Scalar.addi v1 c4_i32_510
  let c1_i32_511 : BitVec 32 := 1#32
  let v779 : BitVec 32 := Scalar.subi v778 c1_i32_511
  let v786 : Index := Scalar.indexCast v779
  ![v786.toNat]
def k0_mult14 (v787 : BitVec 32) : BitVec 32 :=
  v787

def k0_chk17 (i : grid0.Coords) (v787 : BitVec 32) : Prop :=
  (∀ (k0_h2 : k0_cond2 i = 1#1), 128 ∣ (k0_mult14 v787).toNat)
theorem k0_mult14_dvd : ∀ (i : grid0.Coords) (v787 : BitVec 32) (k0_hw17 : k0_chk17 i v787), ∀ (k0_h2 : k0_cond2 i = 1#1), 128 ∣ (k0_mult14 v787).toNat := fun i v787 k0_hw17 k0_h2 => k0_hw17 k0_h2

def k0_off24 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c4_i32_510 : BitVec 32 := 4#32
  let v778 : BitVec 32 := Scalar.addi v1 c4_i32_510
  let c1_i32_511 : BitVec 32 := 1#32
  let v779 : BitVec 32 := Scalar.subi v778 c1_i32_511
  let v789 : Index := Scalar.indexCast v779
  ![v789.toNat]
def k0_mult15 (v790 : BitVec 32) : BitVec 32 :=
  v790

def k0_chk18 (i : grid0.Coords) (v790 : BitVec 32) : Prop :=
  (∀ (k0_h2 : k0_cond2 i = 1#1), 8 ∣ (k0_mult15 v790).toNat)
theorem k0_mult15_dvd : ∀ (i : grid0.Coords) (v790 : BitVec 32) (k0_hw18 : k0_chk18 i v790), ∀ (k0_h2 : k0_cond2 i = 1#1), 8 ∣ (k0_mult15 v790).toNat := fun i v790 k0_hw18 k0_h2 => k0_hw18 k0_h2

def k0_off25 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c4_i32_510 : BitVec 32 := 4#32
  let v778 : BitVec 32 := Scalar.addi v1 c4_i32_510
  let c1_i32_511 : BitVec 32 := 1#32
  let v779 : BitVec 32 := Scalar.subi v778 c1_i32_511
  let v792 : Index := Scalar.indexCast v779
  ![v792.toNat]
def k0_mult16 (v793 : BitVec 32) : BitVec 32 :=
  v793

def k0_off26 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let c4_i32_510 : BitVec 32 := 4#32
  let v778 : BitVec 32 := Scalar.addi v1 c4_i32_510
  let c1_i32_511 : BitVec 32 := 1#32
  let v779 : BitVec 32 := Scalar.subi v778 c1_i32_511
  let v795 : Index := Scalar.indexCast v779
  ![v795.toNat]
def k0_off27 (i : grid0.Coords) : Fin 1 → Nat :=
  let arg1 : BitVec 32 := BitVec.ofNat 32 (i 1).val
  let c4_i32_512 : BitVec 32 := 4#32
  let v780 : BitVec 32 := Scalar.addi arg1 c4_i32_512
  let c1_i32_513 : BitVec 32 := 1#32
  let v781 : BitVec 32 := Scalar.subi v780 c1_i32_513
  let c4_i32_514 : BitVec 32 := 4#32
  let v782 : BitVec 32 := Scalar.remsi v781 c4_i32_514
  ![v782.toNat]
def k0_off28 (i : grid0.Coords) (v790 : BitVec 32) (v793 : BitVec 32) : (Fin 3 → Nat) × (Fin 3 → Nat) :=
  let arg1 : BitVec 32 := BitVec.ofNat 32 (i 1).val
  let c4_i32_512 : BitVec 32 := 4#32
  let v780 : BitVec 32 := Scalar.addi arg1 c4_i32_512
  let c1_i32_513 : BitVec 32 := 1#32
  let v781 : BitVec 32 := Scalar.subi v780 c1_i32_513
  let c4_i32_514 : BitVec 32 := 4#32
  let v782 : BitVec 32 := Scalar.remsi v781 c4_i32_514
  let c0_i32_515 : BitVec 32 := 0#32
  let c0_i32_516 : BitVec 32 := 0#32
  let v791 : BitVec 32 := v790
  let v794 : BitVec 32 := v793
  ⟨![v782.toNat, 0, 0], ![1, v791.toNat, v794.toNat]⟩
def k0_sz7 (v790 : BitVec 32) (v793 : BitVec 32) : Fin 2 → Nat :=
  let v791 : BitVec 32 := v790
  let v794 : BitVec 32 := v793
  ![v791.toNat, v794.toNat]

def k0_chk19 (i : grid0.Coords) (v790 : BitVec 32) (v793 : BitVec 32) : Prop :=
  (∀ (k0_h2 : k0_cond2 i = 1#1), 128 ∣ (k0_mult16 v793).toNat) ∧
  (∀ (k0_h2 : k0_cond2 i = 1#1), ∀ a, (k0_off28 i v790 v793).2 a = 0 ∨ (k0_off28 i v790 v793).1 a + (k0_off28 i v790 v793).2 a ≤ S4x88x27136.size a) ∧
  (∀ (k0_h2 : k0_cond2 i = 1#1), (⟨3, (k0_off28 i v790 v793).2⟩ : Shape).Squeezes ⟨2, k0_sz7 v790 v793⟩)
theorem k0_mult16_dvd : ∀ (i : grid0.Coords) (v790 : BitVec 32) (v793 : BitVec 32) (k0_hw19 : k0_chk19 i v790 v793), ∀ (k0_h2 : k0_cond2 i = 1#1), 128 ∣ (k0_mult16 v793).toNat := fun i v790 v793 k0_hw19 k0_h2 => k0_hw19.1 k0_h2
theorem k0_off28_inb : ∀ (i : grid0.Coords) (v790 : BitVec 32) (v793 : BitVec 32) (k0_hw19 : k0_chk19 i v790 v793), ∀ (k0_h2 : k0_cond2 i = 1#1), ∀ a, (k0_off28 i v790 v793).2 a = 0 ∨ (k0_off28 i v790 v793).1 a + (k0_off28 i v790 v793).2 a ≤ S4x88x27136.size a := fun i v790 v793 k0_hw19 k0_h2 => k0_hw19.2.1 k0_h2
theorem k0_sz7_squeezes : ∀ (i : grid0.Coords) (v790 : BitVec 32) (v793 : BitVec 32) (k0_hw19 : k0_chk19 i v790 v793), ∀ (k0_h2 : k0_cond2 i = 1#1), (⟨3, (k0_off28 i v790 v793).2⟩ : Shape).Squeezes ⟨2, k0_sz7 v790 v793⟩ := fun i v790 v793 k0_hw19 k0_h2 => k0_hw19.2.2 k0_h2

def k0_off29 (v784 : BitVec 32) (v787 : BitVec 32) (v790 : BitVec 32) (v793 : BitVec 32) (v796 : BitVec 32) : (Fin 3 → Nat) × (Fin 3 → Nat) :=
  let v785 : BitVec 32 := v784
  let v788 : BitVec 32 := v787
  let v791 : BitVec 32 := v790
  let v794 : BitVec 32 := v793
  ⟨![v796.toNat, v785.toNat, v788.toNat], ![1, v791.toNat, v794.toNat]⟩

def k0_sz8 (v790 : BitVec 32) (v793 : BitVec 32) : Fin 2 → Nat :=
  let v791 : BitVec 32 := v790
  let v794 : BitVec 32 := v793
  ![v791.toNat, v794.toNat]

def k0_chk20 (i : grid0.Coords) (v784 : BitVec 32) (v787 : BitVec 32) (v790 : BitVec 32) (v793 : BitVec 32) (v796 : BitVec 32) : Prop :=
  (∀ (k0_h2 : k0_cond2 i = 1#1), ∀ a, (k0_off29 v784 v787 v790 v793 v796).2 a = 0 ∨ (k0_off29 v784 v787 v790 v793 v796).1 a + (k0_off29 v784 v787 v790 v793 v796).2 a ≤ S2x200x69632.size a) ∧
  (∀ (k0_h2 : k0_cond2 i = 1#1), (⟨3, (k0_off29 v784 v787 v790 v793 v796).2⟩ : Shape).Squeezes ⟨2, k0_sz8 v790 v793⟩)
theorem k0_off29_inb : ∀ (i : grid0.Coords) (v784 : BitVec 32) (v787 : BitVec 32) (v790 : BitVec 32) (v793 : BitVec 32) (v796 : BitVec 32) (k0_hw20 : k0_chk20 i v784 v787 v790 v793 v796), ∀ (k0_h2 : k0_cond2 i = 1#1), ∀ a, (k0_off29 v784 v787 v790 v793 v796).2 a = 0 ∨ (k0_off29 v784 v787 v790 v793 v796).1 a + (k0_off29 v784 v787 v790 v793 v796).2 a ≤ S2x200x69632.size a := fun i v784 v787 v790 v793 v796 k0_hw20 k0_h2 => k0_hw20.1 k0_h2
theorem k0_sz8_squeezes : ∀ (i : grid0.Coords) (v784 : BitVec 32) (v787 : BitVec 32) (v790 : BitVec 32) (v793 : BitVec 32) (v796 : BitVec 32) (k0_hw20 : k0_chk20 i v784 v787 v790 v793 v796), ∀ (k0_h2 : k0_cond2 i = 1#1), (⟨3, (k0_off29 v784 v787 v790 v793 v796).2⟩ : Shape).Squeezes ⟨2, k0_sz8 v790 v793⟩ := fun i v784 v787 v790 v793 v796 k0_hw20 k0_h2 => k0_hw20.2 k0_h2

def k0_off30 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v11 : Index := Scalar.indexCast v1
  ![v11.toNat]
def k0_mult17 (v12 : BitVec 32) : BitVec 32 :=
  v12

def k0_chk21 (v12 : BitVec 32) : Prop :=
  (8 ∣ (k0_mult17 v12).toNat)
theorem k0_mult17_dvd : ∀ (v12 : BitVec 32) (k0_hw21 : k0_chk21 v12), 8 ∣ (k0_mult17 v12).toNat := fun v12 k0_hw21 => k0_hw21

def k0_off31 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v14 : Index := Scalar.indexCast v1
  ![v14.toNat]
def k0_mult18 (v15 : BitVec 32) : BitVec 32 :=
  v15

def k0_chk22 (v15 : BitVec 32) : Prop :=
  (128 ∣ (k0_mult18 v15).toNat)
theorem k0_mult18_dvd : ∀ (v15 : BitVec 32) (k0_hw22 : k0_chk22 v15), 128 ∣ (k0_mult18 v15).toNat := fun v15 k0_hw22 => k0_hw22

def k0_off32 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v17 : Index := Scalar.indexCast v1
  ![v17.toNat]
def k0_mult19 (v18 : BitVec 32) : BitVec 32 :=
  v18

def k0_chk23 (v18 : BitVec 32) : Prop :=
  (8 ∣ (k0_mult19 v18).toNat)
theorem k0_mult19_dvd : ∀ (v18 : BitVec 32) (k0_hw23 : k0_chk23 v18), 8 ∣ (k0_mult19 v18).toNat := fun v18 k0_hw23 => k0_hw23

def k0_off33 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v20 : Index := Scalar.indexCast v1
  ![v20.toNat]
def k0_mult20 (v21 : BitVec 32) : BitVec 32 :=
  v21

def k0_off34 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v23 : Index := Scalar.indexCast v1
  ![v23.toNat]
def k0_off35 (i : grid0.Coords) : Fin 1 → Nat :=
  let arg1 : BitVec 32 := BitVec.ofNat 32 (i 1).val
  let c4_i32 : BitVec 32 := 4#32
  let v2 : BitVec 32 := Scalar.remsi arg1 c4_i32
  ![v2.toNat]
def k0_off36 (i : grid0.Coords) (v18 : BitVec 32) (v21 : BitVec 32) : (Fin 3 → Nat) × (Fin 3 → Nat) :=
  let arg1 : BitVec 32 := BitVec.ofNat 32 (i 1).val
  let c4_i32 : BitVec 32 := 4#32
  let v2 : BitVec 32 := Scalar.remsi arg1 c4_i32
  let c0_i32_4 : BitVec 32 := 0#32
  let c0_i32_5 : BitVec 32 := 0#32
  let v19 : BitVec 32 := v18
  let v22 : BitVec 32 := v21
  ⟨![v2.toNat, 0, 0], ![1, v19.toNat, v22.toNat]⟩

def k0_sz9 (v18 : BitVec 32) (v21 : BitVec 32) : Fin 2 → Nat :=
  let v19 : BitVec 32 := v18
  let v22 : BitVec 32 := v21
  ![v19.toNat, v22.toNat]

def k0_chk24 (i : grid0.Coords) (v18 : BitVec 32) (v21 : BitVec 32) : Prop :=
  (128 ∣ (k0_mult20 v21).toNat) ∧
  ((⟨3, (k0_off36 i v18 v21).2⟩ : Shape).Squeezes ⟨2, k0_sz9 v18 v21⟩)
theorem k0_mult20_dvd : ∀ (i : grid0.Coords) (v18 : BitVec 32) (v21 : BitVec 32) (k0_hw24 : k0_chk24 i v18 v21), 128 ∣ (k0_mult20 v21).toNat := fun i v18 v21 k0_hw24 => k0_hw24.1
theorem k0_sz9_squeezes : ∀ (i : grid0.Coords) (v18 : BitVec 32) (v21 : BitVec 32) (k0_hw24 : k0_chk24 i v18 v21), (⟨3, (k0_off36 i v18 v21).2⟩ : Shape).Squeezes ⟨2, k0_sz9 v18 v21⟩ := fun i v18 v21 k0_hw24 => k0_hw24.2

def k0_off37 (v12 : BitVec 32) (v15 : BitVec 32) (v18 : BitVec 32) (v21 : BitVec 32) (v24 : BitVec 32) : (Fin 3 → Nat) × (Fin 3 → Nat) :=
  let v13 : BitVec 32 := v12
  let v16 : BitVec 32 := v15
  let v19 : BitVec 32 := v18
  let v22 : BitVec 32 := v21
  ⟨![v24.toNat, v13.toNat, v16.toNat], ![1, v19.toNat, v22.toNat]⟩

def k0_sz10 (v18 : BitVec 32) (v21 : BitVec 32) : Fin 2 → Nat :=
  let v19 : BitVec 32 := v18
  let v22 : BitVec 32 := v21
  ![v19.toNat, v22.toNat]

def k0_chk25 (v12 : BitVec 32) (v15 : BitVec 32) (v18 : BitVec 32) (v21 : BitVec 32) (v24 : BitVec 32) : Prop :=
  ((⟨3, (k0_off37 v12 v15 v18 v21 v24).2⟩ : Shape).Squeezes ⟨2, k0_sz10 v18 v21⟩)
theorem k0_sz10_squeezes : ∀ (v12 : BitVec 32) (v15 : BitVec 32) (v18 : BitVec 32) (v21 : BitVec 32) (v24 : BitVec 32) (k0_hw25 : k0_chk25 v12 v15 v18 v21 v24), (⟨3, (k0_off37 v12 v15 v18 v21 v24).2⟩ : Shape).Squeezes ⟨2, k0_sz10 v18 v21⟩ := fun v12 v15 v18 v21 v24 k0_hw25 => k0_hw25

def k0_off38 (i : grid0.Coords) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let v1 : BitVec 32 := Scalar.addi v0 arg1
  let v31 : Index := Scalar.indexCast v1
  ![v31.toNat]
def k0_off39 (i : grid0.Coords) : Fin 3 → Nat :=
  let arg1 : BitVec 32 := BitVec.ofNat 32 (i 1).val
  let c4_i32 : BitVec 32 := 4#32
  let v2 : BitVec 32 := Scalar.remsi arg1 c4_i32
  let v178 : Index := Scalar.indexCast v2
  let c0 : Index := 0#32
  let c0_40 : Index := 0#32
  ![v178.toNat, 0, 0]
def k0_off40 (i : grid0.Coords) : Fin 3 → Nat :=
  let arg1 : BitVec 32 := BitVec.ofNat 32 (i 1).val
  let c4_i32 : BitVec 32 := 4#32
  let v2 : BitVec 32 := Scalar.remsi arg1 c4_i32
  let v778 : Index := Scalar.indexCast v2
  let c0_510 : Index := 0#32
  let c14336 : Index := 14336#32
  ![v778.toNat, 0, 14336]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 1 → Memref sig .tc .smem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x14x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x256x200x272 : Shape := ⟨4, ![2, 256, 200, 272]⟩
abbrev S256x5 : Shape := ⟨2, ![256, 5]⟩
abbrev S256x1 : Shape := ⟨2, ![256, 1]⟩
abbrev S256 : Shape := ⟨1, ![256]⟩
abbrev S_ : Shape := ⟨0, ![]⟩
abbrev S30 : Shape := ⟨1, ![30]⟩
abbrev S1x30 : Shape := ⟨2, ![1, 30]⟩
abbrev S256x30 : Shape := ⟨2, ![256, 30]⟩
abbrev S2x200x272x256 : Shape := ⟨4, ![2, 200, 272, 256]⟩
abbrev S256x1x1 : Shape := ⟨3, ![256, 1, 1]⟩
abbrev S256x30x1 : Shape := ⟨3, ![256, 30, 1]⟩
abbrev S256x1x30 : Shape := ⟨3, ![256, 1, 30]⟩
abbrev S256x30x30 : Shape := ⟨3, ![256, 30, 30]⟩
abbrev S256x30x30x1 : Shape := ⟨4, ![256, 30, 30, 1]⟩
abbrev S256x30x30x3 : Shape := ⟨4, ![256, 30, 30, 3]⟩
abbrev S256x30x30x256 : Shape := ⟨4, ![256, 30, 30, 256]⟩
abbrev S256x15x2x15x2x256 : Shape := ⟨6, ![256, 15, 2, 15, 2, 256]⟩
abbrev S256x15x15x256 : Shape := ⟨4, ![256, 15, 15, 256]⟩
abbrev S256x256x15x15 : Shape := ⟨4, ![256, 256, 15, 15]⟩
abbrev S256x256x14x14 : Shape := ⟨4, ![256, 256, 14, 14]⟩

abbrev nBuf : Space → Nat
  | .hbm => 351
  | .vmem => 0
  | .smem => 0
  | _ => 0

abbrev hbmTy0_0 (i : Nat) : BufTy := match i % 128 with
  | 0 => ⟨S2x256x200x272, .f32⟩
  | 1 => ⟨S256x5, .f32⟩
  | 2 => ⟨S256x1, .f32⟩
  | 3 => ⟨S256, .f32⟩
  | 4 => ⟨S256, .i32⟩
  | 5 => ⟨S256x1, .f32⟩
  | 6 => ⟨S256, .f32⟩
  | 7 => ⟨S_, .f32⟩
  | 8 => ⟨S256, .f32⟩
  | 9 => ⟨S256, .f32⟩
  | 10 => ⟨S256x1, .f32⟩
  | 11 => ⟨S256, .f32⟩
  | 12 => ⟨S_, .f32⟩
  | 13 => ⟨S256, .f32⟩
  | 14 => ⟨S256, .f32⟩
  | 15 => ⟨S256x1, .f32⟩
  | 16 => ⟨S256, .f32⟩
  | 17 => ⟨S_, .f32⟩
  | 18 => ⟨S256, .f32⟩
  | 19 => ⟨S256, .f32⟩
  | 20 => ⟨S256x1, .f32⟩
  | 21 => ⟨S256, .f32⟩
  | 22 => ⟨S_, .f32⟩
  | 23 => ⟨S256, .f32⟩
  | 24 => ⟨S256, .f32⟩
  | 25 => ⟨S256, .f32⟩
  | 26 => ⟨S_, .f32⟩
  | 27 => ⟨S256, .f32⟩
  | 28 => ⟨S256, .f32⟩
  | 29 => ⟨S256, .f32⟩
  | 30 => ⟨S_, .f32⟩
  | 31 => ⟨S256, .f32⟩
  | 32 => ⟨S256, .f32⟩
  | 33 => ⟨S256, .f32⟩
  | 34 => ⟨S_, .f32⟩
  | 35 => ⟨S256, .f32⟩
  | 36 => ⟨S256, .f32⟩
  | 37 => ⟨S_, .f32⟩
  | 38 => ⟨S256, .f32⟩
  | 39 => ⟨S256, .f32⟩
  | 40 => ⟨S256, .f32⟩
  | 41 => ⟨S_, .f32⟩
  | 42 => ⟨S256, .f32⟩
  | 43 => ⟨S256, .f32⟩
  | 44 => ⟨S_, .f32⟩
  | 45 => ⟨S256, .f32⟩
  | 46 => ⟨S256, .f32⟩
  | 47 => ⟨S256, .f32⟩
  | 48 => ⟨S_, .f32⟩
  | 49 => ⟨S256, .f32⟩
  | 50 => ⟨S256, .f32⟩
  | 51 => ⟨S256, .f32⟩
  | 52 => ⟨S_, .f32⟩
  | 53 => ⟨S256, .f32⟩
  | 54 => ⟨S256, .f32⟩
  | 55 => ⟨S256, .f32⟩
  | 56 => ⟨S_, .f32⟩
  | 57 => ⟨S256, .f32⟩
  | 58 => ⟨S256, .f32⟩
  | 59 => ⟨S256, .f32⟩
  | 60 => ⟨S_, .f32⟩
  | 61 => ⟨S256, .f32⟩
  | 62 => ⟨S256, .f32⟩
  | 63 => ⟨S256, .f32⟩
  | 64 => ⟨S_, .f32⟩
  | 65 => ⟨S256, .f32⟩
  | 66 => ⟨S256, .f32⟩
  | 67 => ⟨S256, .f32⟩
  | 68 => ⟨S_, .f32⟩
  | 69 => ⟨S256, .f32⟩
  | 70 => ⟨S256, .f32⟩
  | 71 => ⟨S_, .f32⟩
  | 72 => ⟨S256, .f32⟩
  | 73 => ⟨S256, .f32⟩
  | 74 => ⟨S_, .f32⟩
  | 75 => ⟨S256, .f32⟩
  | 76 => ⟨S256, .f32⟩
  | 77 => ⟨S30, .f32⟩
  | 78 => ⟨S30, .f32⟩
  | 79 => ⟨S256x1, .f32⟩
  | 80 => ⟨S1x30, .f32⟩
  | 81 => ⟨S_, .f32⟩
  | 82 => ⟨S1x30, .f32⟩
  | 83 => ⟨S1x30, .f32⟩
  | 84 => ⟨S256x1, .f32⟩
  | 85 => ⟨S_, .f32⟩
  | 86 => ⟨S256x1, .f32⟩
  | 87 => ⟨S256x1, .f32⟩
  | 88 => ⟨S256x30, .f32⟩
  | 89 => ⟨S256x30, .f32⟩
  | 90 => ⟨S256x30, .f32⟩
  | 91 => ⟨S256x30, .f32⟩
  | 92 => ⟨S256x30, .f32⟩
  | 93 => ⟨S256x1, .f32⟩
  | 94 => ⟨S1x30, .f32⟩
  | 95 => ⟨S_, .f32⟩
  | 96 => ⟨S1x30, .f32⟩
  | 97 => ⟨S1x30, .f32⟩
  | 98 => ⟨S256x1, .f32⟩
  | 99 => ⟨S_, .f32⟩
  | 100 => ⟨S256x1, .f32⟩
  | 101 => ⟨S256x1, .f32⟩
  | 102 => ⟨S256x30, .f32⟩
  | 103 => ⟨S256x30, .f32⟩
  | 104 => ⟨S256x30, .f32⟩
  | 105 => ⟨S256x30, .f32⟩
  | 106 => ⟨S256x30, .f32⟩
  | 107 => ⟨S_, .f32⟩
  | 108 => ⟨S256x30, .f32⟩
  | 109 => ⟨S256x30, .i1⟩
  | 110 => ⟨S_, .f32⟩
  | 111 => ⟨S256x30, .f32⟩
  | 112 => ⟨S256x30, .i1⟩
  | 113 => ⟨S256x30, .i1⟩
  | 114 => ⟨S_, .f32⟩
  | 115 => ⟨S_, .f32⟩
  | 116 => ⟨S_, .f32⟩
  | 117 => ⟨S256x30, .f32⟩
  | 118 => ⟨S256x30, .f32⟩
  | 119 => ⟨S_, .f32⟩
  | 120 => ⟨S256x30, .f32⟩
  | 121 => ⟨S256x30, .f32⟩
  | 122 => ⟨S256x30, .f32⟩
  | 123 => ⟨S_, .f32⟩
  | 124 => ⟨S256x30, .f32⟩
  | 125 => ⟨S256x30, .f32⟩
  | 126 => ⟨S_, .f32⟩
  | 127 => ⟨S256x30, .f32⟩
  | _ => ⟨S2x256x200x272, .f32⟩

abbrev hbmTy0_1 (i : Nat) : BufTy := match i % 128 with
  | 0 => ⟨S256x30, .f32⟩
  | 1 => ⟨S256x30, .f32⟩
  | 2 => ⟨S256x30, .i32⟩
  | 3 => ⟨S256x30, .i32⟩
  | 4 => ⟨S256x30, .f32⟩
  | 5 => ⟨S_, .f32⟩
  | 6 => ⟨S256x30, .f32⟩
  | 7 => ⟨S256x30, .i1⟩
  | 8 => ⟨S_, .f32⟩
  | 9 => ⟨S256x30, .f32⟩
  | 10 => ⟨S256x30, .i1⟩
  | 11 => ⟨S256x30, .i1⟩
  | 12 => ⟨S_, .f32⟩
  | 13 => ⟨S_, .f32⟩
  | 14 => ⟨S_, .f32⟩
  | 15 => ⟨S256x30, .f32⟩
  | 16 => ⟨S256x30, .f32⟩
  | 17 => ⟨S_, .f32⟩
  | 18 => ⟨S256x30, .f32⟩
  | 19 => ⟨S256x30, .f32⟩
  | 20 => ⟨S256x30, .f32⟩
  | 21 => ⟨S_, .f32⟩
  | 22 => ⟨S256x30, .f32⟩
  | 23 => ⟨S256x30, .f32⟩
  | 24 => ⟨S_, .f32⟩
  | 25 => ⟨S256x30, .f32⟩
  | 26 => ⟨S256x30, .f32⟩
  | 27 => ⟨S256x30, .f32⟩
  | 28 => ⟨S256x30, .i32⟩
  | 29 => ⟨S256x30, .i32⟩
  | 30 => ⟨S256x30, .f32⟩
  | 31 => ⟨S2x200x272x256, .f32⟩
  | 32 => ⟨S256x1x1, .i32⟩
  | 33 => ⟨S_, .f32⟩
  | 34 => ⟨S256x30, .f32⟩
  | 35 => ⟨S256x30, .f32⟩
  | 36 => ⟨S_, .f32⟩
  | 37 => ⟨S256x30, .f32⟩
  | 38 => ⟨S256x30, .f32⟩
  | 39 => ⟨S256x30x1, .i32⟩
  | 40 => ⟨S256x1x30, .i32⟩
  | 41 => ⟨S_, .i32⟩
  | 42 => ⟨S256x1x1, .i32⟩
  | 43 => ⟨S256x1x1, .i1⟩
  | 44 => ⟨S_, .i32⟩
  | 45 => ⟨S256x1x1, .i32⟩
  | 46 => ⟨S256x1x1, .i32⟩
  | 47 => ⟨S256x1x1, .i32⟩
  | 48 => ⟨S_, .i32⟩
  | 49 => ⟨S256x30x1, .i32⟩
  | 50 => ⟨S256x30x1, .i1⟩
  | 51 => ⟨S_, .i32⟩
  | 52 => ⟨S256x30x1, .i32⟩
  | 53 => ⟨S256x30x1, .i32⟩
  | 54 => ⟨S256x30x1, .i32⟩
  | 55 => ⟨S_, .i32⟩
  | 56 => ⟨S256x1x30, .i32⟩
  | 57 => ⟨S256x1x30, .i1⟩
  | 58 => ⟨S_, .i32⟩
  | 59 => ⟨S256x1x30, .i32⟩
  | 60 => ⟨S256x1x30, .i32⟩
  | 61 => ⟨S256x1x30, .i32⟩
  | 62 => ⟨S256x30x30, .i32⟩
  | 63 => ⟨S256x30x30, .i32⟩
  | 64 => ⟨S256x30x30, .i32⟩
  | 65 => ⟨S256x30x30x1, .i32⟩
  | 66 => ⟨S256x30x30x1, .i32⟩
  | 67 => ⟨S256x30x30x1, .i32⟩
  | 68 => ⟨S256x30x30x3, .i32⟩
  | 69 => ⟨S256x30x30x256, .f32⟩
  | 70 => ⟨S256x30x1, .f32⟩
  | 71 => ⟨S256x1x30, .f32⟩
  | 72 => ⟨S256x30x30, .f32⟩
  | 73 => ⟨S256x30x30, .f32⟩
  | 74 => ⟨S256x30x30, .f32⟩
  | 75 => ⟨S256x30x30x1, .f32⟩
  | 76 => ⟨S256x30x30x256, .f32⟩
  | 77 => ⟨S256x30x30x256, .f32⟩
  | 78 => ⟨S256x30x1, .i32⟩
  | 79 => ⟨S256x1x30, .i32⟩
  | 80 => ⟨S_, .i32⟩
  | 81 => ⟨S256x1x1, .i32⟩
  | 82 => ⟨S256x1x1, .i1⟩
  | 83 => ⟨S_, .i32⟩
  | 84 => ⟨S256x1x1, .i32⟩
  | 85 => ⟨S256x1x1, .i32⟩
  | 86 => ⟨S256x1x1, .i32⟩
  | 87 => ⟨S_, .i32⟩
  | 88 => ⟨S256x30x1, .i32⟩
  | 89 => ⟨S256x30x1, .i1⟩
  | 90 => ⟨S_, .i32⟩
  | 91 => ⟨S256x30x1, .i32⟩
  | 92 => ⟨S256x30x1, .i32⟩
  | 93 => ⟨S256x30x1, .i32⟩
  | 94 => ⟨S_, .i32⟩
  | 95 => ⟨S256x1x30, .i32⟩
  | 96 => ⟨S256x1x30, .i1⟩
  | 97 => ⟨S_, .i32⟩
  | 98 => ⟨S256x1x30, .i32⟩
  | 99 => ⟨S256x1x30, .i32⟩
  | 100 => ⟨S256x1x30, .i32⟩
  | 101 => ⟨S256x30x30, .i32⟩
  | 102 => ⟨S256x30x30, .i32⟩
  | 103 => ⟨S256x30x30, .i32⟩
  | 104 => ⟨S256x30x30x1, .i32⟩
  | 105 => ⟨S256x30x30x1, .i32⟩
  | 106 => ⟨S256x30x30x1, .i32⟩
  | 107 => ⟨S256x30x30x3, .i32⟩
  | 108 => ⟨S256x30x30x256, .f32⟩
  | 109 => ⟨S256x30x1, .f32⟩
  | 110 => ⟨S256x1x30, .f32⟩
  | 111 => ⟨S256x30x30, .f32⟩
  | 112 => ⟨S256x30x30, .f32⟩
  | 113 => ⟨S256x30x30, .f32⟩
  | 114 => ⟨S256x30x30x1, .f32⟩
  | 115 => ⟨S256x30x30x256, .f32⟩
  | 116 => ⟨S256x30x30x256, .f32⟩
  | 117 => ⟨S256x30x30x256, .f32⟩
  | 118 => ⟨S256x30x1, .i32⟩
  | 119 => ⟨S256x1x30, .i32⟩
  | 120 => ⟨S_, .i32⟩
  | 121 => ⟨S256x1x1, .i32⟩
  | 122 => ⟨S256x1x1, .i1⟩
  | 123 => ⟨S_, .i32⟩
  | 124 => ⟨S256x1x1, .i32⟩
  | 125 => ⟨S256x1x1, .i32⟩
  | 126 => ⟨S256x1x1, .i32⟩
  | 127 => ⟨S_, .i32⟩
  | _ => ⟨S2x256x200x272, .f32⟩

abbrev hbmTy0_2 (i : Nat) : BufTy := match i % 128 with
  | 0 => ⟨S256x30x1, .i32⟩
  | 1 => ⟨S256x30x1, .i1⟩
  | 2 => ⟨S_, .i32⟩
  | 3 => ⟨S256x30x1, .i32⟩
  | 4 => ⟨S256x30x1, .i32⟩
  | 5 => ⟨S256x30x1, .i32⟩
  | 6 => ⟨S_, .i32⟩
  | 7 => ⟨S256x1x30, .i32⟩
  | 8 => ⟨S256x1x30, .i1⟩
  | 9 => ⟨S_, .i32⟩
  | 10 => ⟨S256x1x30, .i32⟩
  | 11 => ⟨S256x1x30, .i32⟩
  | 12 => ⟨S256x1x30, .i32⟩
  | 13 => ⟨S256x30x30, .i32⟩
  | 14 => ⟨S256x30x30, .i32⟩
  | 15 => ⟨S256x30x30, .i32⟩
  | 16 => ⟨S256x30x30x1, .i32⟩
  | 17 => ⟨S256x30x30x1, .i32⟩
  | 18 => ⟨S256x30x30x1, .i32⟩
  | 19 => ⟨S256x30x30x3, .i32⟩
  | 20 => ⟨S256x30x30x256, .f32⟩
  | 21 => ⟨S256x30x1, .f32⟩
  | 22 => ⟨S256x1x30, .f32⟩
  | 23 => ⟨S256x30x30, .f32⟩
  | 24 => ⟨S256x30x30, .f32⟩
  | 25 => ⟨S256x30x30, .f32⟩
  | 26 => ⟨S256x30x30x1, .f32⟩
  | 27 => ⟨S256x30x30x256, .f32⟩
  | 28 => ⟨S256x30x30x256, .f32⟩
  | 29 => ⟨S256x30x30x256, .f32⟩
  | 30 => ⟨S256x30x1, .i32⟩
  | 31 => ⟨S256x1x30, .i32⟩
  | 32 => ⟨S_, .i32⟩
  | 33 => ⟨S256x1x1, .i32⟩
  | 34 => ⟨S256x1x1, .i1⟩
  | 35 => ⟨S_, .i32⟩
  | 36 => ⟨S256x1x1, .i32⟩
  | 37 => ⟨S256x1x1, .i32⟩
  | 38 => ⟨S256x1x1, .i32⟩
  | 39 => ⟨S_, .i32⟩
  | 40 => ⟨S256x30x1, .i32⟩
  | 41 => ⟨S256x30x1, .i1⟩
  | 42 => ⟨S_, .i32⟩
  | 43 => ⟨S256x30x1, .i32⟩
  | 44 => ⟨S256x30x1, .i32⟩
  | 45 => ⟨S256x30x1, .i32⟩
  | 46 => ⟨S_, .i32⟩
  | 47 => ⟨S256x1x30, .i32⟩
  | 48 => ⟨S256x1x30, .i1⟩
  | 49 => ⟨S_, .i32⟩
  | 50 => ⟨S256x1x30, .i32⟩
  | 51 => ⟨S256x1x30, .i32⟩
  | 52 => ⟨S256x1x30, .i32⟩
  | 53 => ⟨S256x30x30, .i32⟩
  | 54 => ⟨S256x30x30, .i32⟩
  | 55 => ⟨S256x30x30, .i32⟩
  | 56 => ⟨S256x30x30x1, .i32⟩
  | 57 => ⟨S256x30x30x1, .i32⟩
  | 58 => ⟨S256x30x30x1, .i32⟩
  | 59 => ⟨S256x30x30x3, .i32⟩
  | 60 => ⟨S256x30x30x256, .f32⟩
  | 61 => ⟨S256x30x1, .f32⟩
  | 62 => ⟨S256x1x30, .f32⟩
  | 63 => ⟨S256x30x30, .f32⟩
  | 64 => ⟨S256x30x30, .f32⟩
  | 65 => ⟨S256x30x30, .f32⟩
  | 66 => ⟨S256x30x30x1, .f32⟩
  | 67 => ⟨S256x30x30x256, .f32⟩
  | 68 => ⟨S256x30x30x256, .f32⟩
  | 69 => ⟨S256x30x30x256, .f32⟩
  | 70 => ⟨S256x30x1, .f32⟩
  | 71 => ⟨S256x1x30, .f32⟩
  | 72 => ⟨S256x30x30, .f32⟩
  | 73 => ⟨S256x30x30, .f32⟩
  | 74 => ⟨S256x30x30, .f32⟩
  | 75 => ⟨S256x30x30x1, .f32⟩
  | 76 => ⟨S256x30x30x256, .f32⟩
  | 77 => ⟨S256x30x30x256, .f32⟩
  | 78 => ⟨S256x15x2x15x2x256, .f32⟩
  | 79 => ⟨S_, .f32⟩
  | 80 => ⟨S256x15x15x256, .f32⟩
  | 81 => ⟨S_, .f32⟩
  | 82 => ⟨S256x15x15x256, .f32⟩
  | 83 => ⟨S256x15x15x256, .f32⟩
  | 84 => ⟨S256x256x15x15, .f32⟩
  | 85 => ⟨S256x256x14x14, .f32⟩
  | 86 => ⟨S256x256x14x14, .f32⟩
  | 87 => ⟨S256x256x14x14, .f32⟩
  | 88 => ⟨S256x256x14x14, .f32⟩
  | 89 => ⟨S256x256x14x14, .f32⟩
  | 90 => ⟨S256x256x14x14, .f32⟩
  | 91 => ⟨S256x256x14x14, .f32⟩
  | 92 => ⟨S_, .f32⟩
  | 93 => ⟨S256x256x14x14, .f32⟩
  | 94 => ⟨S256x256x14x14, .f32⟩
  | _ => ⟨S2x256x200x272, .f32⟩

abbrev hbmTy (i : Nat) : BufTy := match i / 128 with
  | 0 => hbmTy0_0 i
  | 1 => hbmTy0_1 i
  | 2 => hbmTy0_2 i
  | _ => ⟨S2x256x200x272, .f32⟩

abbrev bufTy : (tb : Table) → Fin (tcTables nBuf tb) → BufTy
  | .hbm, ⟨i, _⟩ => hbmTy i
  | _, _ => ⟨S2x256x200x272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_14 : Ref sig .tc := ⟨.hbm, 68, rfl⟩
abbrev main_v51 : Ref sig .tc := ⟨.hbm, 69, rfl⟩
abbrev main_v52 : Ref sig .tc := ⟨.hbm, 70, rfl⟩
abbrev main_cst_15 : Ref sig .tc := ⟨.hbm, 71, rfl⟩
abbrev main_v53 : Ref sig .tc := ⟨.hbm, 72, rfl⟩
abbrev main_v54 : Ref sig .tc := ⟨.hbm, 73, rfl⟩
abbrev main_cst_16 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_18 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_19 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_20 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_21 : Ref sig .tc := ⟨.hbm, 107, rfl⟩
abbrev main_v83 : Ref sig .tc := ⟨.hbm, 108, rfl⟩
abbrev main_v84 : Ref sig .tc := ⟨.hbm, 109, rfl⟩
abbrev main_cst_22 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_23 : Ref sig .tc := ⟨.hbm, 114, rfl⟩
abbrev main_cst_24 : Ref sig .tc := ⟨.hbm, 115, rfl⟩
abbrev main_call0_v0 : Ref sig .tc := ⟨.hbm, 116, rfl⟩
abbrev main_call0_v1 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_v88 : Ref sig .tc := ⟨.hbm, 121, rfl⟩
abbrev main_v89 : Ref sig .tc := ⟨.hbm, 122, rfl⟩
abbrev main_cst_25 : Ref sig .tc := ⟨.hbm, 123, rfl⟩
abbrev main_v90 : Ref sig .tc := ⟨.hbm, 124, rfl⟩
abbrev main_v91 : Ref sig .tc := ⟨.hbm, 125, rfl⟩
abbrev main_cst_26 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_27 : Ref sig .tc := ⟨.hbm, 133, rfl⟩
abbrev main_v98 : Ref sig .tc := ⟨.hbm, 134, rfl⟩
abbrev main_v99 : Ref sig .tc := ⟨.hbm, 135, rfl⟩
abbrev main_cst_28 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_29 : Ref sig .tc := ⟨.hbm, 140, rfl⟩
abbrev main_cst_30 : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_v103 : Ref sig .tc := ⟨.hbm, 147, rfl⟩
abbrev main_v104 : Ref sig .tc := ⟨.hbm, 148, rfl⟩
abbrev main_cst_31 : Ref sig .tc := ⟨.hbm, 149, rfl⟩
abbrev main_v105 : Ref sig .tc := ⟨.hbm, 150, rfl⟩
abbrev main_v106 : Ref sig .tc := ⟨.hbm, 151, rfl⟩
abbrev main_cst_32 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_33 : Ref sig .tc := ⟨.hbm, 161, rfl⟩
abbrev main_v115 : Ref sig .tc := ⟨.hbm, 162, rfl⟩
abbrev main_v116 : Ref sig .tc := ⟨.hbm, 163, rfl⟩
abbrev main_cst_34 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c : Ref sig .tc := ⟨.hbm, 169, rfl⟩
abbrev main_v121 : Ref sig .tc := ⟨.hbm, 170, rfl⟩
abbrev main_v122 : Ref sig .tc := ⟨.hbm, 171, rfl⟩
abbrev main_c_35 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_36 : Ref sig .tc := ⟨.hbm, 176, rfl⟩
abbrev main_v126 : Ref sig .tc := ⟨.hbm, 177, rfl⟩
abbrev main_v127 : Ref sig .tc := ⟨.hbm, 178, rfl⟩
abbrev main_c_37 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_c_38 : Ref sig .tc := ⟨.hbm, 183, rfl⟩
abbrev main_v131 : Ref sig .tc := ⟨.hbm, 184, rfl⟩
abbrev main_v132 : Ref sig .tc := ⟨.hbm, 185, rfl⟩
abbrev main_c_39 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_40 : Ref sig .tc := ⟨.hbm, 208, rfl⟩
abbrev main_v154 : Ref sig .tc := ⟨.hbm, 209, rfl⟩
abbrev main_v155 : Ref sig .tc := ⟨.hbm, 210, rfl⟩
abbrev main_c_41 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_c_42 : Ref sig .tc := ⟨.hbm, 215, rfl⟩
abbrev main_v159 : Ref sig .tc := ⟨.hbm, 216, rfl⟩
abbrev main_v160 : Ref sig .tc := ⟨.hbm, 217, rfl⟩
abbrev main_c_43 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_44 : Ref sig .tc := ⟨.hbm, 222, rfl⟩
abbrev main_v164 : Ref sig .tc := ⟨.hbm, 223, rfl⟩
abbrev main_v165 : Ref sig .tc := ⟨.hbm, 224, rfl⟩
abbrev main_c_45 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_c_46 : Ref sig .tc := ⟨.hbm, 248, rfl⟩
abbrev main_v188 : Ref sig .tc := ⟨.hbm, 249, rfl⟩
abbrev main_v189 : Ref sig .tc := ⟨.hbm, 250, rfl⟩
abbrev main_c_47 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_c_48 : Ref sig .tc := ⟨.hbm, 255, rfl⟩
abbrev main_v193 : Ref sig .tc := ⟨.hbm, 256, rfl⟩
abbrev main_v194 : Ref sig .tc := ⟨.hbm, 257, rfl⟩
abbrev main_c_49 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_c_50 : Ref sig .tc := ⟨.hbm, 262, rfl⟩
abbrev main_v198 : Ref sig .tc := ⟨.hbm, 263, rfl⟩
abbrev main_v199 : Ref sig .tc := ⟨.hbm, 264, rfl⟩
abbrev main_c_51 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_c_52 : Ref sig .tc := ⟨.hbm, 288, rfl⟩
abbrev main_v222 : Ref sig .tc := ⟨.hbm, 289, rfl⟩
abbrev main_v223 : Ref sig .tc := ⟨.hbm, 290, rfl⟩
abbrev main_c_53 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_c_54 : Ref sig .tc := ⟨.hbm, 295, rfl⟩
abbrev main_v227 : Ref sig .tc := ⟨.hbm, 296, rfl⟩
abbrev main_v228 : Ref sig .tc := ⟨.hbm, 297, rfl⟩
abbrev main_c_55 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_c_56 : Ref sig .tc := ⟨.hbm, 302, rfl⟩
abbrev main_v232 : Ref sig .tc := ⟨.hbm, 303, rfl⟩
abbrev main_v233 : Ref sig .tc := ⟨.hbm, 304, rfl⟩
abbrev main_c_57 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_cst_58 : Ref sig .tc := ⟨.hbm, 335, rfl⟩
abbrev main_v263 : Ref sig .tc := ⟨.hbm, 336, rfl⟩
abbrev main_cst_59 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_cst_60 : Ref sig .tc := ⟨.hbm, 348, rfl⟩
abbrev main_v274 : Ref sig .tc := ⟨.hbm, 349, rfl⟩
abbrev main_v275 : Ref sig .tc := ⟨.hbm, 350, rfl⟩

abbrev nD : Nat := 1
abbrev τ : Topo := Topo.v7x

variable {F : FTy → Type} [FloatOps F]
-- ==== Proof.Spread.lean ====
module

public import proofs.«01_k».proof.Proof.Gen.KernelIdeal.Skeleton
public import Idealize.ShloMosaic.Lib.Pipeline.FrameBody
public import Idealize.ShloMosaic.Lib.Pipeline.Value
public import Idealize.ShloMosaic.Lib.Tactic

/-! # Spreading the row product over the two tables

The kernel's first product is stored in one buffer, a row for each sampled row, the columns of the window one after another
with 256 channels each. Its columns are then copied, one at a time, into two tables: channels 0–127 into the first, channels
128–255 into the second, the sampled rows 107 apart. Here are the one-step facts: a read of a column, a copy of a column. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The lanes from `off` up to `W` of the fourteen rows hold the row product's. -/
def RowsAt (zf : ℕ → ℕ → F .f32) (off W : ℕ) (Z : S16x27136.Idx → Elt F .f32) : Prop :=
  ∀ j : S16x27136.Idx, (j 0).val < 14 → off ≤ (j 1).val → (j 1).val < W → Z j = zf (j 0).val (j 1).val

/-- A table holds the columns before `X` of the row product, at the channels from `h` on. -/
def Filled (zf : ℕ → ℕ → F .f32) (h X : ℕ) (T : S1498x128.Idx → Elt F .f32) : Prop :=
  ∀ (j : S1498x128.Idx) (x p : ℕ), x < X → p < 14 → (j 0).val = x + 107 * p → T j = zf p (256 * x + h + (j 1).val)

/-- A vector read is column `x` of the row product, at the channels from `h` on. -/
def Col (zf : ℕ → ℕ → F .f32) (h x : ℕ) (v : S14x128.Idx → Elt F .f32) : Prop :=
  ∀ i : S14x128.Idx, v i = zf (i 0).val (256 * x + h + (i 1).val)

theorem filled_step {zf : ℕ → ℕ → F .f32} {h x : ℕ} {T : S1498x128.Idx → Elt F .f32} {v : S14x128.Idx → Elt F .f32}
    (r : Rect S1498x128) (hs : r.size = S14x128.size) (ho : r.off = ![x, 0]) (hst : r.stride = ![107, 1]) (hx : x < 107)
    (T' : S1498x128.Idx → Elt F .f32) (hT : Filled zf h x T) (hv : Col zf h x v)
    (hin : ∀ (y : r.shape.Idx) (y' : S14x128.Idx), (y' 0).val = (y (0 : Fin 2)).val → (y' 1).val = (y (1 : Fin 2)).val → T' (r.emb y) = v y') (hout : ∀ j, (∀ y, r.emb y ≠ j) → T' j = T j) : Filled zf h (x + 1) T' := by
  obtain ⟨⟨off, size, stride, inb⟩, pos⟩ := r
  simp only at hs ho hst
  subst hs ho hst
  intro j x' p hx' hp hj
  by_cases hxx : x' = x
  · subst hxx
    let y : S14x128.Idx := fun a => match a with | 0 => (⟨p, hp⟩ : Fin 14) | 1 => (⟨(j 1).val, (j 1).isLt⟩ : Fin 128)
    have hy : (⟨⟨![x', 0], S14x128.size, ![107, 1], inb⟩, pos⟩ : Rect S1498x128).emb y = j := by
      funext a; apply Fin.ext; rw [Rect.emb_apply]
      match a with
      | 0 => show x' + 107 * p = _; omega
      | 1 => show 0 + 1 * (j 1).val = _; omega
    rw [← hy, hin y y rfl rfl]
    refine (hv y).trans ?_
    rw [hy]
  · rw [hout j ?_]
    · exact hT j x' p (by omega) hp hj
    · rintro y rfl
      have h0 : ((⟨⟨![x, 0], S14x128.size, ![107, 1], inb⟩, pos⟩ : Rect S1498x128).emb y 0).val = x + 107 * (y 0).val := Rect.emb_apply _ y 0
      rw [h0] at hj; omega

/-- A load from a buffer held whole, at the head of a program. -/
theorem loadM (c : Dev nD) {s : Shape} {m : Memref sig .tc .vmem s .f32} {r : LoadRect s} {hl : m.view.LoadsAt r} {T : Buf (Elt F) (m.view.loc (c : Thread nD τ))}
    {P : sProp 𝕄} {Q : (r.shape.Idx → Elt F .f32) → sProp 𝕄}
    (h : iprop((m.view.loc (c : Thread nD τ) ↦{fullShare} T) ∗ P) ⊢ Q (m.view.readAt (Elt F) r T)) :
    iprop((m.view.loc (c : Thread nD τ) ↦{fullShare} T) ∗ P)
      ⊢ wp frame (wpE (defs₀ (F := F)) Variants.none (c : Thread nD τ) none) Set.univ (Prog.lift (.load m r hl)) Q := by
  have hw := wp_load (m := m) (r := r) (hl := hl) (k := Prog.ret) (defs := defs₀ (F := F)) (Q := Q) (f := T) (S := Finset.univ) (q := fullShare) (Γ := [])
    Variants.none (c : Thread nD τ) none Set.univ (Finset.subset_univ _)
  iintro ⟨HT, HP⟩
  iapply hw $$ HT
  iintro HT
  rw [wp_ret]; imodintro
  iapply h
  isplitl [HT]
  · iexact HT
  · iexact HP

/-- A store to a buffer held whole: afterwards the buffer reads the stored vector on the rectangle and what it read elsewhere. -/
theorem storeM (c : Dev nD) {s : Shape} {m : Memref sig .tc .vmem s .f32} {r : Rect s} {v : r.shape.Idx → Elt F .f32} {hx} {hm}
    {T : Buf (Elt F) (m.view.loc (c : Thread nD τ))} {P : sProp 𝕄} {Q : PUnit → sProp 𝕄}
    (h : ∀ T' : Buf (Elt F) (m.view.loc (c : Thread nD τ)), (∀ y, m.view.read (Elt F) T' (r.emb y) = v y) →
      (∀ j, (∀ y, r.emb y ≠ j) → m.view.read (Elt F) T' j = m.view.read (Elt F) T j) →
      (iprop((m.view.loc (c : Thread nD τ) ↦{fullShare} T') ∗ P) ⊢ Q ⟨⟩)) :
    iprop((m.view.loc (c : Thread nD τ) ↦{fullShare} T) ∗ P)
      ⊢ wp frame (wpE (defs₀ (F := F)) Variants.none (c : Thread nD τ) none) Set.univ (Prog.lift (.store m r v Finset.univ hx hm)) Q := by
  have hw := wp_store (m := m) (r := r) (w := v) (Mk := Finset.univ) (hx := hx) (hm := hm) (f := T) (k := Prog.ret) (S := Finset.univ)
    (defs := defs₀ (F := F)) (Q := Q) (Γ := []) Variants.none (c : Thread nD τ) none Set.univ (Finset.subset_univ _)
  have h1 : ∀ y, m.view.read (Elt F) ((m.access r).write (Elt F) T v Finset.univ) (r.emb y) = v y := fun y =>
    View.read_slice_write_emb (v := m.view) r T v (Finset.mem_univ y)
  have h2 : ∀ j, (∀ y, r.emb y ≠ j) → m.view.read (Elt F) ((m.access r).write (Elt F) T v Finset.univ) j = m.view.read (Elt F) T j := fun j hj =>
    View.read_slice_write_of_not_mem (v := m.view) r T v Finset.univ fun hm => by
      obtain ⟨y, -, hy⟩ := Finset.mem_map.mp hm
      exact hj y hy
  have h' := h _ h1 h2
  iintro ⟨HT, HP⟩
  iapply hw $$ HT
  iintro HT
  rw [wp_ret]; imodintro
  iapply h'
  isplitl [HT]
  · iexact HT
  · iexact HP

/-- The three buffers, the row product's lanes from `off` up to `W` in place, the tables filled up to columns `a` and `b`. -/
def St (c : Dev nD) (mz : Memref sig .tc .vmem S16x27136 .f32) (ma mb : Memref sig .tc .vmem S1498x128 .f32)
    (zf : ℕ → ℕ → F .f32) (off W a b : ℕ) : sProp 𝕄 :=
  iprop((∃ Z, ⌜RowsAt zf off W (mz.view.read (Elt F) Z)⌝ ∗ mz.view.loc (c : Thread nD τ) ↦{fullShare} Z)
    ∗ (∃ T, ⌜Filled zf 0 a (ma.view.read (Elt F) T)⌝ ∗ ma.view.loc (c : Thread nD τ) ↦{fullShare} T)
    ∗ (∃ T, ⌜Filled zf 128 b (mb.view.read (Elt F) T)⌝ ∗ mb.view.loc (c : Thread nD τ) ↦{fullShare} T))

variable {c : Dev nD} {mz : Memref sig .tc .vmem S16x27136 .f32} {ma mb : Memref sig .tc .vmem S1498x128 .f32}
  {zf : ℕ → ℕ → F .f32} {off W a b : ℕ}

theorem ld_a {R : sProp 𝕄} {r : LoadRect S1498x128} {Q : (r.shape.Idx → Elt F .f32) → sProp 𝕄} {hl} (hQ : ∀ v, iprop(St c mz ma mb zf off W a b ∗ R) ⊢ Q v) :
    iprop(St c mz ma mb zf off W a b ∗ R)
      ⊢ wp frame (wpE (defs₀ (F := F)) Variants.none (c : Thread nD τ) none) Set.univ (Prog.lift (.load ma r hl)) Q := by
  have hl := fun T => loadM c (T := T) (P := iprop((∃ Z, ⌜RowsAt zf off W (mz.view.read (Elt F) Z)⌝ ∗ mz.view.loc (c : Thread nD τ) ↦{fullShare} Z)
    ∗ ⌜Filled zf 0 a (ma.view.read (Elt F) T)⌝
    ∗ (∃ T, ⌜Filled zf 128 b (mb.view.read (Elt F) T)⌝ ∗ mb.view.loc (c : Thread nD τ) ↦{fullShare} T) ∗ R)) (hl := hl) (Q := Q) (by
      refine BIBase.Entails.trans ?_ (hQ _)
      unfold St
      iintro ⟨HT, HZ, %hT, HB, HR⟩
      isplitr [HR]
      · isplitl [HZ]
        · iexact HZ
        isplitl [HT]
        · iexists T; isplitr
          · ipureintro; exact hT
          · iexact HT
        · iexact HB
      · iexact HR)
  unfold St
  iintro ⟨⟨HZ, ⟨%T, %hT, HT⟩, HB⟩, HR⟩
  iapply hl
  isplitl [HT]
  · iexact HT
  isplitl [HZ]
  · iexact HZ
  isplitr
  · ipureintro; exact hT
  isplitl [HB]
  · iexact HB
  · iexact HR

theorem ld_b {R : sProp 𝕄} {r : LoadRect S1498x128} {Q : (r.shape.Idx → Elt F .f32) → sProp 𝕄} {hl} (hQ : ∀ v, iprop(St c mz ma mb zf off W a b ∗ R) ⊢ Q v) :
    iprop(St c mz ma mb zf off W a b ∗ R)
      ⊢ wp frame (wpE (defs₀ (F := F)) Variants.none (c : Thread nD τ) none) Set.univ (Prog.lift (.load mb r hl)) Q := by
  have hl := fun T => loadM c (T := T) (P := iprop((∃ Z, ⌜RowsAt zf off W (mz.view.read (Elt F) Z)⌝ ∗ mz.view.loc (c : Thread nD τ) ↦{fullShare} Z)
    ∗ (∃ T, ⌜Filled zf 0 a (ma.view.read (Elt F) T)⌝ ∗ ma.view.loc (c : Thread nD τ) ↦{fullShare} T)
    ∗ ⌜Filled zf 128 b (mb.view.read (Elt F) T)⌝ ∗ R)) (hl := hl) (Q := Q) (by
      refine BIBase.Entails.trans ?_ (hQ _)
      unfold St
      iintro ⟨HT, HZ, HA, %hT, HR⟩
      isplitr [HR]
      · isplitl [HZ]
        · iexact HZ
        isplitl [HA]
        · iexact HA
        · iexists T; isplitr
          · ipureintro; exact hT
          · iexact HT
      · iexact HR)
  unfold St
  iintro ⟨⟨HZ, HA, ⟨%T, %hT, HT⟩⟩, HR⟩
  iapply hl
  isplitl [HT]
  · iexact HT
  isplitl [HZ]
  · iexact HZ
  isplitl [HA]
  · iexact HA
  isplitr
  · ipureintro; exact hT
  · iexact HR

/-- A read of a column of the row product. -/
theorem ld_z {R : sProp 𝕄} {Q : (S14x128.Idx → Elt F .f32) → sProp 𝕄} {l : ℕ} {inb} {hl} (h x : ℕ) (hlx : l = 256 * x + h) (hl0 : off ≤ l) (hW : l + 128 ≤ W)
    (hQ : ∀ v, Col zf h x v → (iprop(St c mz ma mb zf off W a b ∗ R) ⊢ Q v)) :
    iprop(St c mz ma mb zf off W a b ∗ R)
      ⊢ wp frame (wpE (defs₀ (F := F)) Variants.none (c : Thread nD τ) none) Set.univ
        (Prog.lift (.load mz (Rect.unit (s := S16x27136) ![0, l] S14x128.size inb).toLoadRect hl)) Q := by
  have hl := fun Z (hZ : RowsAt zf off W (mz.view.read (Elt F) Z)) => loadM c (T := Z) (P := iprop(
    (∃ T, ⌜Filled zf 0 a (ma.view.read (Elt F) T)⌝ ∗ ma.view.loc (c : Thread nD τ) ↦{fullShare} T)
    ∗ (∃ T, ⌜Filled zf 128 b (mb.view.read (Elt F) T)⌝ ∗ mb.view.loc (c : Thread nD τ) ↦{fullShare} T) ∗ R)) (hl := hl) (Q := Q) (by
      refine BIBase.Entails.trans ?_ (hQ _ ?_)
      · unfold St
        iintro ⟨HZ, HA, HB, HR⟩
        isplitr [HR]
        · isplitl [HZ]
          · iexists Z; isplitr
            · ipureintro; exact hZ
            · iexact HZ
          isplitl [HA]
          · iexact HA
          · iexact HB
        · iexact HR
      · intro i
        have e0 : ((Rect.unit (s := S16x27136) ![0, l] S14x128.size inb).toLoadRect.idx i 0).val = (i 0).val := by
          show 0 + 1 * (i 0).val = _; omega
        have e1 : ((Rect.unit (s := S16x27136) ![0, l] S14x128.size inb).toLoadRect.idx i 1).val = l + (i 1).val := by
          show l + 1 * (i 1).val = _; omega
        have b0 : (i 0).val < 14 := (i 0).isLt
        have b1 : (i 1).val < 128 := (i 1).isLt
        refine (hZ _ (by rw [e0]; exact b0) (by rw [e1]; omega) (by rw [e1]; omega)).trans ?_
        rw [e0, e1, ← hlx])
  unfold St
  iintro ⟨⟨⟨%Z, %hZ, HZ⟩, HA, HB⟩, HR⟩
  iapply (hl Z hZ)
  isplitl [HZ]
  · iexact HZ
  isplitl [HA]
  · iexact HA
  isplitl [HB]
  · iexact HB
  · iexact HR

theorem filled_store {h x : ℕ} {T T' : S1498x128.Idx → Elt F .f32} {v : S14x128.Idx → Elt F .f32} {inb} {pos} (hx : x < 107)
    (hT : Filled zf h x T) (hv : Col zf h x v)
    (h1 : ∀ y, T' ((⟨⟨![x, 0], S14x128.size, ![107, 1], inb⟩, pos⟩ : Rect S1498x128).emb y) = v y)
    (h2 : ∀ j, (∀ y, (⟨⟨![x, 0], S14x128.size, ![107, 1], inb⟩, pos⟩ : Rect S1498x128).emb y ≠ j) → T' j = T j) : Filled zf h (x + 1) T' :=
  filled_step (⟨⟨![x, 0], S14x128.size, ![107, 1], inb⟩, pos⟩ : Rect S1498x128) rfl rfl rfl hx _ hT hv
    (fun y y' e0 e1 => by
      have hyy : y' = y := by
        funext k; apply Fin.ext
        match k with
        | 0 => exact e0
        | 1 => exact e1
      rw [hyy]; exact h1 y) h2

/-- A copy of the next column into the first table. -/
theorem st_a {R : sProp 𝕄} {Q : PUnit → sProp 𝕄} {inb} {pos} {v v' : S14x128.Idx → Elt F .f32} {hx} {hm}
    (hv : Col zf 0 a v) (hv' : v' = v) (ha : a < 107) (hQ : iprop(St c mz ma mb zf off W (a + 1) b ∗ R) ⊢ Q ⟨⟩) :
    iprop(St c mz ma mb zf off W a b ∗ R) ⊢ wp frame (wpE (defs₀ (F := F)) Variants.none (c : Thread nD τ) none) Set.univ
      (Prog.lift (.store ma (⟨⟨![a, 0], S14x128.size, ![107, 1], inb⟩, pos⟩ : Rect S1498x128) v' Finset.univ hx hm)) Q := by
  subst hv'
  have hs := fun T (hT : Filled zf 0 a (ma.view.read (Elt F) T)) => storeM c (T := T) (m := ma) (r := (⟨⟨![a, 0], S14x128.size, ![107, 1], inb⟩, pos⟩ : Rect S1498x128))
    (v := v') (hx := hx) (hm := hm) (Q := Q) (P := iprop((∃ Z, ⌜RowsAt zf off W (mz.view.read (Elt F) Z)⌝ ∗ mz.view.loc (c : Thread nD τ) ↦{fullShare} Z)
    ∗ (∃ T, ⌜Filled zf 128 b (mb.view.read (Elt F) T)⌝ ∗ mb.view.loc (c : Thread nD τ) ↦{fullShare} T) ∗ R)) (by
      intro T' h1 h2
      have hT' := filled_store ha hT hv h1 h2
      refine BIBase.Entails.trans ?_ hQ
      unfold St
      iintro ⟨HT, HZ, HO, HR⟩
      isplitr [HR]
      · isplitl [HZ]
        · iexact HZ
        isplitl [HT]
        · iexists T'; isplitr
          · ipureintro; exact hT'
          · iexact HT
        · iexact HO
      · iexact HR)
  unfold St
  iintro ⟨⟨HZ, ⟨%T, %hT, HT⟩, HO⟩, HR⟩
  iapply (hs T hT)
  isplitl [HT]
  · iexact HT
  isplitl [HZ]
  · iexact HZ
  isplitl [HO]
  · iexact HO
  · iexact HR

/-- A copy of the next column into the second table. -/
theorem st_b {R : sProp 𝕄} {Q : PUnit → sProp 𝕄} {inb} {pos} {v v' : S14x128.Idx → Elt F .f32} {hx} {hm}
    (hv : Col zf 128 b v) (hv' : v' = v) (ha : b < 107) (hQ : iprop(St c mz ma mb zf off W a (b + 1) ∗ R) ⊢ Q ⟨⟩) :
    iprop(St c mz ma mb zf off W a b ∗ R) ⊢ wp frame (wpE (defs₀ (F := F)) Variants.none (c : Thread nD τ) none) Set.univ
      (Prog.lift (.store mb (⟨⟨![b, 0], S14x128.size, ![107, 1], inb⟩, pos⟩ : Rect S1498x128) v' Finset.univ hx hm)) Q := by
  subst hv'
  have hs := fun T (hT : Filled zf 128 b (mb.view.read (Elt F) T)) => storeM c (T := T) (m := mb) (r := (⟨⟨![b, 0], S14x128.size, ![107, 1], inb⟩, pos⟩ : Rect S1498x128))
    (v := v') (hx := hx) (hm := hm) (Q := Q) (P := iprop((∃ Z, ⌜RowsAt zf off W (mz.view.read (Elt F) Z)⌝ ∗ mz.view.loc (c : Thread nD τ) ↦{fullShare} Z)
    ∗ (∃ T, ⌜Filled zf 0 a (ma.view.read (Elt F) T)⌝ ∗ ma.view.loc (c : Thread nD τ) ↦{fullShare} T) ∗ R)) (by
      intro T' h1 h2
      have hT' := filled_store ha hT hv h1 h2
      refine BIBase.Entails.trans ?_ hQ
      unfold St
      iintro ⟨HT, HZ, HO, HR⟩
      isplitr [HR]
      · isplitl [HZ]
        · iexact HZ
        isplitl [HO]
        · iexact HO
        · iexists T'; isplitr
          · ipureintro; exact hT'
          · iexact HT
      · iexact HR)
  unfold St
  iintro ⟨⟨HZ, HO, ⟨%T, %hT, HT⟩⟩, HR⟩
  iapply (hs T hT)
  isplitl [HT]
  · iexact HT
  isplitl [HZ]
  · iexact HZ
  isplitl [HO]
  · iexact HO
  · iexact HR

theorem col_congr {h x : ℕ} {v v' : S14x128.Idx → Elt F .f32} (e : v' = v) (hv : Col zf h x v) : Col zf h x v' := e ▸ hv

/-- A program that only returns. -/
theorem ret_intro {α : Type} {x : α} {P : sProp 𝕄} {Q : α → sProp 𝕄} (h : P ⊢ Q x) :
    P ⊢ wp frame (wpE (defs₀ (F := F)) Variants.none (c : Thread nD τ) none) Set.univ (pure x) Q := by
  refine BIBase.Entails.trans h ?_
  show Q x ⊢ wp frame (wpE (defs₀ (F := F)) Variants.none (c : Thread nD τ) none) Set.univ (Prog.ret x) Q
  rw [wp_ret]
  iintro H; imodintro; iexact H

end Cert.KernelIdeal.Hand
-- ==== Proof.Blocks.lean ====
module

public import proofs.«01_k».proof.Proof.Spread

/-! # Blocks of results

The last products of a step are stored into the window of results one block at a time. Here are the one-step facts of these blocks, of
the store of the row product, and of the reads of the ring and of the tables of words. -/

@[expose] public section

set_option maxRecDepth 65536
set_option pp.maxSteps 120

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A vector read off a table holds the row product's columns before `a`, for sampled row `p` at the channels from `h` on. -/
def Rows (zf : ℕ → ℕ → F .f32) (h p a : ℕ) (v : S106x128.Idx → Elt F .f32) : Prop :=
  ∀ i : S106x128.Idx, (i 0).val < a → v i = zf p (256 * (i 0).val + h + (i 1).val)

/-- A block of results: the column weights' product with columns of the row product. -/
def IsBlk (mx : FVec F S14x106 .f32) (zf : ℕ → ℕ → F .f32) (a k : ℕ) (w : S1x1x14x128.Idx → Elt F .f32) : Prop :=
  ∃ v : Vec F S106x128 .f32, Rows zf (128 * (k % 2)) (k / 2) a v ∧ w = k0_pay231 mx v

/-- The first `k` blocks of results are in place. -/
def Done (mx : FVec F S14x106 .f32) (zf : ℕ → ℕ → F .f32) (a k : ℕ) (O : S1x14x16x256.Idx → Elt F .f32) : Prop :=
  ∀ (j : S1x14x16x256.Idx) (t : ℕ), t < k → (j 1).val = t / 2 → (j 2).val < 14 → (j 3).val / 128 = t % 2 →
    ∃ w, IsBlk mx zf a t w ∧ ∀ y : S1x1x14x128.Idx, (y 2).val = (j 2).val → (y 3).val = (j 3).val % 128 → O j = w y

/-- The window of results, its first `k` blocks in place. -/
def Out (c : Dev nD) (mo : Memref sig .tc .vmem S1x14x16x256 .f32) (mx : FVec F S14x106 .f32) (zf : ℕ → ℕ → F .f32) (a k : ℕ) : sProp 𝕄 :=
  iprop(∃ O, ⌜Done mx zf a k (mo.view.read (Elt F) O)⌝ ∗ mo.view.loc (c : Thread nD τ) ↦{fullShare} O)

variable {c : Dev nD} {mz : Memref sig .tc .vmem S16x27136 .f32} {ma mb : Memref sig .tc .vmem S1498x128 .f32}
  {mo : Memref sig .tc .vmem S1x14x16x256 .f32} {mp : Memref sig .tc .vmem S4x88x27136 .f32} {mx : FVec F S14x106 .f32}
  {zf : ℕ → ℕ → F .f32} {off W a b k : ℕ}

theorem rows_of_filled {h x p l : ℕ} {T : S1498x128.Idx → Elt F .f32} {inb} (hT : Filled zf h a T) (hp : p < 14) (hl : l = 107 * p) :
    Rows zf h p a (fun i => T ((Rect.unit (s := S1498x128) ![l, 0] S106x128.size inb).toLoadRect.idx i)) := by
  intro i hi
  have e0 : ((Rect.unit (s := S1498x128) ![l, 0] S106x128.size inb).toLoadRect.idx i 0).val = l + (i 0).val := by
    show l + 1 * (i 0).val = _; omega
  have e1 : ((Rect.unit (s := S1498x128) ![l, 0] S106x128.size inb).toLoadRect.idx i 1).val = (i 1).val := by
    show 0 + 1 * (i 1).val = _; omega
  refine (hT _ (i 0).val p hi hp (by rw [e0]; omega)).trans ?_
  rw [e1]

/-- A read of one sampled row's columns off a table. -/
theorem ld_ra {R : sProp 𝕄} {Q : (S106x128.Idx → Elt F .f32) → sProp 𝕄} {l : ℕ} {inb} {hl} (p : ℕ) (hp : p < 14) (hlp : l = 107 * p)
    (hQ : ∀ v, Rows zf 0 p a v → (iprop(St c mz ma mb zf off W a b ∗ R) ⊢ Q v)) :
    iprop(St c mz ma mb zf off W a b ∗ R)
      ⊢ wp frame (wpE (defs₀ (F := F)) Variants.none (c : Thread nD τ) none) Set.univ
        (Prog.lift (.load ma (Rect.unit (s := S1498x128) ![l, 0] S106x128.size inb).toLoadRect hl)) Q := by
  have hl := fun T (hT : Filled zf 0 a (ma.view.read (Elt F) T)) => loadM c (T := T) (P := iprop(
    (∃ Z, ⌜RowsAt zf off W (mz.view.read (Elt F) Z)⌝ ∗ mz.view.loc (c : Thread nD τ) ↦{fullShare} Z) ∗ (∃ T, ⌜Filled zf 128 b (mb.view.read (Elt F) T)⌝ ∗ mb.view.loc (c : Thread nD τ) ↦{fullShare} T) ∗ R)) (hl := hl) (Q := Q) (by
      refine BIBase.Entails.trans ?_ (hQ _ (rows_of_filled (x := 0) hT hp hlp))
      unfold St
      iintro ⟨HT, HZ, HO, HR⟩
      isplitr [HR]
      · isplitl [HZ]
        · iexact HZ
        isplitl [HT]
        · iexists T; isplitr
          · ipureintro; exact hT
          · iexact HT
        · iexact HO
      · iexact HR)
  unfold St
  iintro ⟨⟨HZ, ⟨%T, %hT, HT⟩, HO⟩, HR⟩
  iapply (hl T hT)
  isplitl [HT]
  · iexact HT
  isplitl [HZ]
  · iexact HZ
  isplitl [HO]
  · iexact HO
  · iexact HR

/-- A read of one sampled row's columns off a table. -/
theorem ld_rb {R : sProp 𝕄} {Q : (S106x128.Idx → Elt F .f32) → sProp 𝕄} {l : ℕ} {inb} {hl} (p : ℕ) (hp : p < 14) (hlp : l = 107 * p)
    (hQ : ∀ v, Rows zf 128 p b v → (iprop(St c mz ma mb zf off W a b ∗ R) ⊢ Q v)) :
    iprop(St c mz ma mb zf off W a b ∗ R)
      ⊢ wp frame (wpE (defs₀ (F := F)) Variants.none (c : Thread nD τ) none) Set.univ
        (Prog.lift (.load mb (Rect.unit (s := S1498x128) ![l, 0] S106x128.size inb).toLoadRect hl)) Q := by
  have hl := fun T (hT : Filled zf 128 b (mb.view.read (Elt F) T)) => loadM c (T := T) (P := iprop(
    (∃ Z, ⌜RowsAt zf off W (mz.view.read (Elt F) Z)⌝ ∗ mz.view.loc (c : Thread nD τ) ↦{fullShare} Z) ∗ (∃ T, ⌜Filled zf 0 a (ma.view.read (Elt F) T)⌝ ∗ ma.view.loc (c : Thread nD τ) ↦{fullShare} T) ∗ R)) (hl := hl) (Q := Q) (by
      refine BIBase.Entails.trans ?_ (hQ _ (rows_of_filled (x := 0) hT hp hlp))
      unfold St
      iintro ⟨HT, HZ, HO, HR⟩
      isplitr [HR]
      · isplitl [HZ]
        · iexact HZ
        isplitl [HO]
        · iexact HO
        · iexists T; isplitr
          · ipureintro; exact hT
          · iexact HT
      · iexact HR)
  unfold St
  iintro ⟨⟨HZ, HO, ⟨%T, %hT, HT⟩⟩, HR⟩
  iapply (hl T hT)
  isplitl [HT]
  · iexact HT
  isplitl [HZ]
  · iexact HZ
  isplitl [HO]
  · iexact HO
  · iexact HR

/-- A read of the window of results, of which nothing is asked. -/
theorem ld_o {A R : sProp 𝕄} {r : LoadRect S1x14x16x256} {Q : (r.shape.Idx → Elt F .f32) → sProp 𝕄} {hl}
    (hQ : ∀ v, iprop(A ∗ Out c mo mx zf a k ∗ R) ⊢ Q v) :
    iprop(A ∗ Out c mo mx zf a k ∗ R)
      ⊢ wp frame (wpE (defs₀ (F := F)) Variants.none (c : Thread nD τ) none) Set.univ (Prog.lift (.load mo r hl)) Q := by
  have hl := fun T => loadM c (T := T) (P := iprop(⌜Done mx zf a k (mo.view.read (Elt F) T)⌝ ∗ A ∗ R)) (hl := hl) (Q := Q) (by
      refine BIBase.Entails.trans ?_ (hQ _)
      unfold Out
      iintro ⟨HT, %hT, HA, HR⟩
      isplitl [HA]
      · iexact HA
      isplitl [HT]
      · iexists T; isplitr
        · ipureintro; exact hT
        · iexact HT
      · iexact HR)
  unfold Out
  iintro ⟨HA, ⟨%T, %hT, HT⟩, HR⟩
  iapply hl
  isplitl [HT]
  · iexact HT
  isplitr
  · ipureintro; exact hT
  isplitl [HA]
  · iexact HA
  · iexact HR

theorem done_store {p h : ℕ} {O O' : S1x14x16x256.Idx → Elt F .f32} {w : S1x1x14x128.Idx → Elt F .f32} {inb}
    (hO : Done mx zf a k O) (hw : IsBlk mx zf a k w) (hp : p = k / 2) (hh : h = 128 * (k % 2))
    (h1 : ∀ y, O' ((Rect.unit (s := S1x14x16x256) ![0, p, 0, h] S1x1x14x128.size inb).emb y) = w y)
    (h2 : ∀ j, (∀ y, (Rect.unit (s := S1x14x16x256) ![0, p, 0, h] S1x1x14x128.size inb).emb y ≠ j) → O' j = O j) : Done mx zf a (k + 1) O' := by
  have ev : ∀ (y : S1x1x14x128.Idx) (q : Fin 4), ((Rect.unit (s := S1x14x16x256) ![0, p, 0, h] S1x1x14x128.size inb).emb y q).val
      = (![0, p, 0, h] : Fin 4 → ℕ) q + 1 * (y q).val := fun y q => rfl
  intro j t ht hj1 hj2 hj3
  by_cases hk : t = k
  · subst hk
    refine ⟨w, hw, fun y hy2 hy3 => ?_⟩
    have hy : (Rect.unit (s := S1x14x16x256) ![0, p, 0, h] S1x1x14x128.size inb).emb y = j := by
      have b0 : (j 0).val < 1 := (j 0).isLt
      have c0 : (y 0).val < 1 := (y 0).isLt
      have c1 : (y 1).val < 1 := (y 1).isLt
      have b3 : (j 3).val < 256 := (j 3).isLt
      funext q; apply Fin.ext; rw [ev]
      match q with
      | 0 => show 0 + 1 * (y 0).val = _; omega
      | 1 => show p + 1 * (y 1).val = _; omega
      | 2 => show 0 + 1 * (y 2).val = _; omega
      | 3 => show h + 1 * (y 3).val = _; omega
    rw [← hy]; exact h1 y
  · obtain ⟨w', hw', hv⟩ := hO j t (by omega) hj1 hj2 hj3
    refine ⟨w', hw', fun y hy2 hy3 => ?_⟩
    rw [h2 j ?_]
    · exact hv y hy2 hy3
    · rintro y' rfl
      have e1 := ev y' 1
      have e3 := ev y' 3
      have c1 : (y' 1).val < 1 := (y' 1).isLt
      have c3 : (y' 3).val < 128 := (y' 3).isLt
      have e1' : ((Rect.unit (s := S1x14x16x256) ![0, p, 0, h] S1x1x14x128.size inb).emb y' 1).val = p + 1 * (y' 1).val := e1
      have e3' : ((Rect.unit (s := S1x14x16x256) ![0, p, 0, h] S1x1x14x128.size inb).emb y' 3).val = h + 1 * (y' 3).val := e3
      rw [e1'] at hj1; rw [e3'] at hj3
      omega

/-- The next block of results put in place. -/
theorem st_o {A R : sProp 𝕄} {Q : PUnit → sProp 𝕄} {p h : ℕ} {inb} {w : S1x1x14x128.Idx → Elt F .f32} {hx} {hm}
    (hw : IsBlk mx zf a k w) (hp : p = k / 2) (hh : h = 128 * (k % 2)) (hQ : iprop(A ∗ Out c mo mx zf a (k + 1) ∗ R) ⊢ Q ⟨⟩) :
    iprop(A ∗ Out c mo mx zf a k ∗ R) ⊢ wp frame (wpE (defs₀ (F := F)) Variants.none (c : Thread nD τ) none) Set.univ
      (Prog.lift (.store mo (Rect.unit (s := S1x14x16x256) ![0, p, 0, h] S1x1x14x128.size inb) w Finset.univ hx hm)) Q := by
  have hs := fun T (hT : Done mx zf a k (mo.view.read (Elt F) T)) => storeM c (T := T) (m := mo) (r := Rect.unit (s := S1x14x16x256) ![0, p, 0, h] S1x1x14x128.size inb)
    (v := w) (hx := hx) (hm := hm) (Q := Q) (P := iprop(A ∗ R)) (by
      intro T' h1 h2
      have hT' := done_store hT hw hp hh h1 h2
      refine BIBase.Entails.trans ?_ hQ
      unfold Out
      iintro ⟨HT, HA, HR⟩
      isplitl [HA]
      · iexact HA
      isplitl [HT]
      · iexists T'; isplitr
        · ipureintro; exact hT'
        · iexact HT
      · iexact HR)
  unfold Out
  iintro ⟨HA, ⟨%T, %hT, HT⟩, HR⟩
  iapply (hs T hT)
  isplitl [HT]
  · iexact HT
  isplitl [HA]
  · iexact HA
  · iexact HR

/-- Storing a half of the row product: its lanes are in place afterwards. -/
theorem st_z {R : sProp 𝕄} {Q : PUnit → sProp 𝕄} {r : Rect S16x27136} {w : r.shape.Idx → Elt F .f32} {hx} {hm} (off' W' : ℕ)
    (hw : ∀ j : S16x27136.Idx, (j 0).val < 14 → off' ≤ (j 1).val → (j 1).val < W' → ∃ y, r.emb y = j ∧ w y = zf (j 0).val (j 1).val)
    (hQ : iprop(St c mz ma mb zf off' W' a b ∗ R) ⊢ Q ⟨⟩) :
    iprop(St c mz ma mb zf off W a b ∗ R) ⊢ wp frame (wpE (defs₀ (F := F)) Variants.none (c : Thread nD τ) none) Set.univ
      (Prog.lift (.store mz r w Finset.univ hx hm)) Q := by
  have hs := fun Z => storeM c (T := Z) (m := mz) (r := r) (v := w) (hx := hx) (hm := hm) (Q := Q) (P := iprop(
    (∃ T, ⌜Filled zf 0 a (ma.view.read (Elt F) T)⌝ ∗ ma.view.loc (c : Thread nD τ) ↦{fullShare} T)
    ∗ (∃ T, ⌜Filled zf 128 b (mb.view.read (Elt F) T)⌝ ∗ mb.view.loc (c : Thread nD τ) ↦{fullShare} T) ∗ R)) (by
      intro T' h1 h2
      have hT' : RowsAt zf off' W' (mz.view.read (Elt F) T') := fun j h0 hl hu => by
        obtain ⟨y, rfl, hy⟩ := hw j h0 hl hu
        rw [h1 y]; exact hy
      refine BIBase.Entails.trans ?_ hQ
      unfold St
      iintro ⟨HT, HA, HB, HR⟩
      isplitr [HR]
      · isplitl [HT]
        · iexists T'; isplitr
          · ipureintro; exact hT'
          · iexact HT
        isplitl [HA]
        · iexact HA
        · iexact HB
      · iexact HR)
  unfold St
  iintro ⟨⟨⟨%Z, %hZ, HZ⟩, HA, HB⟩, HR⟩
  iapply (hs Z)
  isplitl [HZ]
  · iexact HZ
  isplitl [HA]
  · iexact HA
  isplitl [HB]
  · iexact HB
  · iexact HR

/-- A read of the row product's buffer, of which nothing is asked. -/
theorem ld_zz {R : sProp 𝕄} {r : LoadRect S16x27136} {Q : (r.shape.Idx → Elt F .f32) → sProp 𝕄} {hl} (hQ : ∀ v, iprop(St c mz ma mb zf off W a b ∗ R) ⊢ Q v) :
    iprop(St c mz ma mb zf off W a b ∗ R)
      ⊢ wp frame (wpE (defs₀ (F := F)) Variants.none (c : Thread nD τ) none) Set.univ (Prog.lift (.load mz r hl)) Q := by
  have hl := fun Z => loadM c (T := Z) (P := iprop(⌜RowsAt zf off W (mz.view.read (Elt F) Z)⌝
    ∗ (∃ T, ⌜Filled zf 0 a (ma.view.read (Elt F) T)⌝ ∗ ma.view.loc (c : Thread nD τ) ↦{fullShare} T)
    ∗ (∃ T, ⌜Filled zf 128 b (mb.view.read (Elt F) T)⌝ ∗ mb.view.loc (c : Thread nD τ) ↦{fullShare} T) ∗ R)) (hl := hl) (Q := Q) (by
      refine BIBase.Entails.trans ?_ (hQ _)
      unfold St
      iintro ⟨HT, %hZ, HA, HB, HR⟩
      isplitr [HR]
      · isplitl [HT]
        · iexists Z; isplitr
          · ipureintro; exact hZ
          · iexact HT
        isplitl [HA]
        · iexact HA
        · iexact HB
      · iexact HR)
  unfold St
  iintro ⟨⟨⟨%Z, %hZ, HZ⟩, HA, HB⟩, HR⟩
  iapply (hl Z)
  isplitl [HZ]
  · iexact HZ
  isplitr
  · ipureintro; exact hZ
  isplitl [HA]
  · iexact HA
  isplitl [HB]
  · iexact HB
  · iexact HR

/-- What can be taken out of a part of a state and put back can be taken out of the state. -/
theorem acc_r {A R X : sProp 𝕄} (h : R ⊢ iprop(X ∗ (X -∗ R))) : iprop(A ∗ R) ⊢ iprop(X ∗ (X -∗ (A ∗ R))) := by
  iintro ⟨HA, HR⟩
  ihave H := h $$ HR
  icases H with ⟨HX, HW⟩
  isplitl [HX]
  · iexact HX
  iintro HX
  isplitl [HA]
  · iexact HA
  · iapply HW $$ HX

theorem acc_l {A R X : sProp 𝕄} (h : R ⊢ iprop(X ∗ (X -∗ R))) : iprop(R ∗ A) ⊢ iprop(X ∗ (X -∗ (R ∗ A))) := by
  iintro ⟨HR, HA⟩
  ihave H := h $$ HR
  icases H with ⟨HX, HW⟩
  isplitl [HX]
  · iexact HX
  iintro HX
  isplitl [HW HX]
  · iapply HW $$ HX
  · iexact HA

/-- A read of a buffer of which the state holds the elements read. -/
theorem ld_p {R : sProp 𝕄} {r : LoadRect S4x88x27136} {hl} {S : Finset (Idx (mp.view.loc (c : Thread nD τ)))} {f : Buf (Elt F) (mp.view.loc (c : Thread nD τ))}
    {Q : (r.shape.Idx → Elt F .f32) → sProp 𝕄} (hS : mp.view.setOn r.set ⊆ S)
    (hacc : R ⊢ iprop((mp.view.loc (c : Thread nD τ) ↦[S]{fullShare} f) ∗ ((mp.view.loc (c : Thread nD τ) ↦[S]{fullShare} f) -∗ R)))
    (hQ : R ⊢ Q (mp.view.readAt (Elt F) r f)) :
    R ⊢ wp frame (wpE (defs₀ (F := F)) Variants.none (c : Thread nD τ) none) Set.univ (Prog.lift (.load mp r hl)) Q := by
  have hw := wp_load (m := mp) (r := r) (hl := hl) (k := Prog.ret) (defs := defs₀ (F := F)) (Q := Q) (f := f) (S := S) (q := fullShare) (Γ := [])
    Variants.none (c : Thread nD τ) none Set.univ hS
  iintro HR
  ihave H := hacc $$ HR
  icases H with ⟨HT, HW⟩
  iapply hw $$ HT
  iintro HT
  rw [wp_ret]; imodintro
  iapply hQ
  iapply HW $$ HT

/-- A read of a word of a table in scalar memory of which the state holds a share. -/
theorem ld_w {R : sProp 𝕄} {e : EltTy} {ms : Memref sig .tc .smem S256 e} {r : Rect S256} {h1 : r.shape.numel = 1} {he} (q : PosShare TreeShare)
    (f : Buf (Elt F) (ms.view.loc (c : Thread nD τ))) {Q : Elt F e → sProp 𝕄}
    (hacc : R ⊢ iprop((ms.view.loc (c : Thread nD τ) ↦{q} f) ∗ ((ms.view.loc (c : Thread nD τ) ↦{q} f) -∗ R)))
    (hQ : R ⊢ Q ((ms.access r).read (Elt F) f (Shape.Idx.first (h1.symm ▸ Nat.one_pos)))) :
    R ⊢ wp frame (wpE (defs₀ (F := F)) Variants.none (c : Thread nD τ) none) Set.univ (smemLoad ms r h1 he) Q := by
  have hw := wp_smemLoadElt (m := ms) (r := r) (hw := View.loads_smem_one he h1) (x := Shape.Idx.first (h1.symm ▸ Nat.one_pos)) (k := Prog.ret) (defs := defs₀ (F := F)) (Q := Q) (f := f) (S := Finset.univ) (q := q) (Γ := [])
    Variants.none (c : Thread nD τ) none Set.univ (Finset.subset_univ _)
  unfold smemLoad
  iintro HR
  ihave H := hacc $$ HR
  icases H with ⟨HT, HW⟩
  iapply hw $$ HT
  iintro HT
  rw [wp_ret]; imodintro
  iapply hQ
  iapply HW $$ HT

/-- A step assumed to hold of the words read is passed when it does. -/
theorem as_i {R : sProp 𝕄} {φ : Prop} {hd : Decidable φ} {Q : PLift φ → sProp 𝕄} (h : φ) (hQ : R ⊢ Q ⟨h⟩) :
    R ⊢ wp frame (wpE (defs₀ (F := F)) Variants.none (c : Thread nD τ) none) Set.univ (Prog.lift (TpuEff.assume φ hd)) Q := by
  have hw := wp_assume (P := φ) (d := hd) (k := Prog.ret) (defs := defs₀ (F := F)) (Q := Q) (Γ := []) Variants.none (c : Thread nD τ) none Set.univ h
  iintro HR
  iapply hw
  rw [wp_ret]; imodintro
  iapply hQ $$ HR

theorem out_zero {a' : ℕ} {zf' : ℕ → ℕ → F .f32} {mx'} : Out c mo mx' zf' a' 0 ⊢ Out c mo mx zf a 0 := by
  unfold Out
  iintro ⟨%T, _, HT⟩
  iexists T
  isplitr
  · ipureintro; intro j t ht; exact absurd ht (Nat.not_lt_zero _)
  · iexact HT

end Cert.KernelIdeal.Hand
-- ==== Proof.Flow.lean ====
module

public import proofs.«01_k».proof.Proof.Blocks
public import Idealize.ShloMosaic.Lib.Transfers
public import Idealize.ShloMosaic.Lib.Writes

/-! # The ring of windows

The windows of features are copied ahead of their use into four slots. Here are the slots at rest, awaiting a window and holding one,
and what starting a copy and waiting for one do to them. -/

@[expose] public section

set_option maxRecDepth 65536
set_option pp.maxSteps 120

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The words of one item: its image, the window's first row and first lane, its rows and its lanes. -/
structure Item where
  b : BitVec 32
  y : BitVec 32
  x : BitVec 32
  r : BitVec 32
  l : BitVec 32

/-- The words name a window inside the features, of whole tiles and not empty. -/
structure Item.Good (w : Item) : Prop where
  b : w.b.toNat < 2
  y : 8 ∣ w.y.toNat
  x : 128 ∣ w.x.toNat
  r : 8 ∣ w.r.toNat
  l : 128 ∣ w.l.toNat
  yr : w.y.toNat + w.r.toNat ≤ 200
  xl : w.x.toNat + w.l.toNat ≤ 69632
  r0 : 0 < w.r.toNat
  r1 : w.r.toNat ≤ 88
  l0 : 0 < w.l.toNat
  l1 : w.l.toNat ≤ 27136

theorem squeezes_win (r l : ℕ) : (⟨3, ![1, r, l]⟩ : Shape).Squeezes ⟨2, ![r, l]⟩ := by
  show Shape.dropsOnes [l, r, 1] [l, r] = true
  simp [Shape.dropsOnes]

theorem Item.Good.src {w : Item} (h : w.Good) : ∀ a, (![1, w.r.toNat, w.l.toNat] : Fin 3 → ℕ) a = 0 ∨ (![w.b.toNat, w.y.toNat, w.x.toNat] : Fin 3 → ℕ) a + (![1, w.r.toNat, w.l.toNat] : Fin 3 → ℕ) a ≤ S2x200x69632.size a := by
  obtain ⟨h1, _, _, _, _, h2, h3, _, _, _, _⟩ := h
  intro a; right
  match a with
  | 0 => show w.b.toNat + 1 ≤ 2; omega
  | 1 => exact h2
  | 2 => exact h3

theorem Item.Good.dst {w : Item} (h : w.Good) (s : ℕ) (hs : s < 4) : ∀ a, (![1, w.r.toNat, w.l.toNat] : Fin 3 → ℕ) a = 0 ∨ (![s, 0, 0] : Fin 3 → ℕ) a + (![1, w.r.toNat, w.l.toNat] : Fin 3 → ℕ) a ≤ S4x88x27136.size a := by
  obtain ⟨_, _, _, _, _, _, _, _, h2, _, h3⟩ := h
  intro a; right
  match a with
  | 0 => show s + 1 ≤ 4; omega
  | 1 => show 0 + w.r.toNat ≤ 88; omega
  | 2 => show 0 + w.l.toNat ≤ 27136; omega

variable (c : Dev nD) (mp : Memref sig .tc .vmem S4x88x27136 .f32) (mf : Memref sig .tc .hbm S2x200x69632 .f32) (md : DmaSems sig S4)
  (fd : Buf (Elt F) (mf.view.loc (c : Thread nD τ))) (q : Fin 4 → PosShare TreeShare)

/-- The elements of one slot. -/
def slotSet (s : Fin 4) : Finset (Idx (mp.view.loc (c : Thread nD τ))) := mp.view.setOn (Finset.univ.filter fun j => (j 0).val = s.val)

theorem inb_slot (s : Fin 4) : ∀ a, (![s.val] : Fin 1 → ℕ) a + S1.size a ≤ S4.size a := by
  intro a
  match a with
  | 0 => show s.val + 1 ≤ 4; omega

/-- The semaphore of one slot. -/
abbrev semAt (s : Fin 4) : DmaSem sig := ((md.slice (Rect.unit (s := S4) ![s.val] S1.size (inb_slot s))).squeeze S_ squeezes_S1_S_).sem

/-- The slot holds the item's window of the features. -/
def Landed (w : Item) (s : Fin 4) (f : Buf (Elt F) (mp.view.loc (c : Thread nD τ))) : Prop :=
  ∀ (j : S4x88x27136.Idx) (k : S2x200x69632.Idx), (j 0).val = s.val → (k 0).val = w.b.toNat → (k 1).val = w.y.toNat + (j 1).val → (k 2).val = w.x.toNat + (j 2).val →
    (j 1).val < w.r.toNat → (j 2).val < w.l.toNat → mp.view.read (Elt F) f j = mf.view.read (Elt F) fd k

/-- A slot at rest: its elements, its semaphore at zero and its share of the features. -/
def Idle (s : Fin 4) : sProp 𝕄 :=
  iprop((∃ f, mp.view.loc (c : Thread nD τ) ↦[slotSet c mp s]{fullShare} f) ∗ semVal ((c : Thread nD τ), SemLoc.dma (semAt md s)) 0
    ∗ (mf.view.loc (c : Thread nD τ) ↦{q s} fd))

/-- A slot an item's window is on its way to. -/
def Busy (w : Item) (s : Fin 4) : sProp 𝕄 :=
  iprop(∃ T : Finset (Idx (mf.view.loc (c : Thread nD τ))), (mf.view.loc (c : Thread nD τ) ↦[Finset.univ \ T]{q s} fd)
    ∗ Transfers.Flight countersEmb (c : Thread nD τ) (.dma (semAt md s)) () (mp.view.ref.dmaCredit ⟨2, ![w.r.toNat, w.l.toNat]⟩ .f32)
      iprop((∃ f, ⌜Landed c mp mf fd w s f⌝ ∗ mp.view.loc (c : Thread nD τ) ↦[slotSet c mp s]{fullShare} f) ∗ (mf.view.loc (c : Thread nD τ) ↦[T]{q s} fd)))

/-- A slot, at rest or awaiting an item. -/
def Slot (v : Option Item) (s : Fin 4) : sProp 𝕄 :=
  match v with
  | none => Idle c mp mf md fd q s
  | some w => Busy c mp mf md fd q w s

/-- The four slots. -/
def RingSt (st : Fin 4 → Option Item) : sProp 𝕄 := bigSep Finset.univ fun s => Slot c mp mf md fd q (st s) s

/-- The slots other than one. -/
def Others (st : Fin 4 → Option Item) (s : Fin 4) : sProp 𝕄 := bigSep (Finset.univ.erase s) fun t => Slot c mp mf md fd q (st t) t

variable {c mp mf md fd q}

theorem ring_out (st : Fin 4 → Option Item) (s : Fin 4) : RingSt c mp mf md fd q st = iprop(Slot c mp mf md fd q (st s) s ∗ Others c mp mf md fd q st s) :=
  bigSep_univ_split s

theorem ring_in (st : Fin 4 → Option Item) (s : Fin 4) (v : Option Item) :
    iprop(Slot c mp mf md fd q v s ∗ Others c mp mf md fd q st s) = RingSt c mp mf md fd q (Function.update st s v) := by
  rw [ring_out _ s]
  congr 1
  · rw [Function.update_self]
  · exact bigSep_congr fun t ht => by rw [Function.update_of_ne (Finset.ne_of_mem_erase ht)]

theorem landed_write {w : Item} (s : Fin 4) {o o' sz : _} {inb inb' hq hq' h h'} (ho : o = ![s.val, 0, 0]) (hsz : sz = ![1, w.r.toNat, w.l.toNat]) (ho' : o' = ![w.b.toNat, w.y.toNat, w.x.toNat])
    {fp : Buf (Elt F) (mp.view.loc (c : Thread nD τ))} :
    Landed c mp mf fd w s ((((mp.slice (Rect.unitDyn (s := S4x88x27136) o sz inb) h).squeeze ⟨2, ![w.r.toNat, w.l.toNat]⟩ hq).view).write (Elt F) fp
      (ReadAs.same.apply ((((mf.slice (Rect.unitDyn (s := S2x200x69632) o' sz inb') h').squeeze ⟨2, ![w.r.toNat, w.l.toNat]⟩ hq').view).read (Elt F) fd)) Finset.univ) := by
  subst ho hsz ho'
  intro j k hj0 hk0 hk1 hk2 hj1 hj2
  let z : (Rect.unitDyn (s := S4x88x27136) ![s.val, 0, 0] ![1, w.r.toNat, w.l.toNat] inb).shape.Idx :=
    fun a => match a with | 0 => (⟨0, Nat.one_pos⟩ : Fin 1) | 1 => (⟨(j 1).val, hj1⟩ : Fin w.r.toNat) | 2 => (⟨(j 2).val, hj2⟩ : Fin w.l.toNat)
  have hz : (Rect.unitDyn (s := S4x88x27136) ![s.val, 0, 0] ![1, w.r.toNat, w.l.toNat] inb).emb z = j := by
    funext a; apply Fin.ext
    match a with
    | 0 => show s.val + 1 * 0 = _; rw [hj0]; rfl
    | 1 => show 0 + 1 * (j 1).val = _; omega
    | 2 => show 0 + 1 * (j 2).val = _; omega
  have hz' : (Rect.unitDyn (s := S2x200x69632) ![w.b.toNat, w.y.toNat, w.x.toNat] ![1, w.r.toNat, w.l.toNat] inb').emb z = k := by
    funext a; apply Fin.ext
    match a with
    | 0 => show w.b.toNat + 1 * 0 = _; omega
    | 1 => show w.y.toNat + 1 * (j 1).val = _; omega
    | 2 => show w.x.toNat + 1 * (j 2).val = _; omega
  rw [← hz, ← hz']
  have hw := View.write_reshape_univ (mp.slice (Rect.unitDyn (s := S4x88x27136) ![s.val, 0, 0] ![1, w.r.toNat, w.l.toNat] inb) h).view hq.numel_eq fp
    (ReadAs.same.apply ((((mf.slice (Rect.unitDyn (s := S2x200x69632) ![w.b.toNat, w.y.toNat, w.x.toNat] ![1, w.r.toNat, w.l.toNat] inb') h').squeeze ⟨2, ![w.r.toNat, w.l.toNat]⟩ hq').view).read (Elt F) fd))
  refine (congrFun (congrArg (fun g => (mp.slice (Rect.unitDyn (s := S4x88x27136) ![s.val, 0, 0] ![1, w.r.toNat, w.l.toNat] inb) h).view.read (Elt F) g) hw) z).trans ?_
  refine (View.read_write_of_mem (v := (mp.slice (Rect.unitDyn (s := S4x88x27136) ![s.val, 0, 0] ![1, w.r.toNat, w.l.toNat] inb) h).view) fp _ (Finset.mem_univ z)).trans ?_
  show mf.view.read (Elt F) fd ((Rect.unitDyn (s := S2x200x69632) ![w.b.toNat, w.y.toNat, w.x.toNat] ![1, w.r.toNat, w.l.toNat] inb').emb
    ((Shape.reshapeEquiv hq'.numel_eq) ((Shape.reshapeEquiv hq.numel_eq).symm z))) = _
  rw [show (Shape.reshapeEquiv hq'.numel_eq) ((Shape.reshapeEquiv hq.numel_eq).symm z) = z from Equiv.apply_symm_apply (Shape.reshapeEquiv hq.numel_eq) z]

theorem credit_pos {w : Item} (h : w.Good) : 0 < mp.view.ref.dmaCredit ⟨2, ![w.r.toNat, w.l.toNat]⟩ .f32 := by
  refine sig.dmaCredit_pos _ _ _ _ _ ?_
  show 0 < w.r.toNat * (w.l.toNat * 1)
  exact Nat.mul_pos h.r0 (Nat.mul_pos h.l0 Nat.one_pos)

/-- Starting the copy of an item's window into a slot at rest. -/
theorem issue {st : Fin 4 → Option Item} (w : Item) (hg : w.Good) (s : Fin 4) (hst : st s = none) {R : sProp 𝕄}
    {o o' sz sz' os inb inb' h h' hq hq' i1 p1 p2 p3} {Q : PUnit → sProp 𝕄}
    (ho : o = ![s.val, 0, 0]) (hsz : sz = ![1, w.r.toNat, w.l.toNat]) (hsz' : sz' = ![1, w.r.toNat, w.l.toNat]) (ho' : o' = ![w.b.toNat, w.y.toNat, w.x.toNat]) (hos : os = ![s.val])
    (hQ : iprop(RingSt c mp mf md fd q (Function.update st s (some w)) ∗ R) ⊢ Q ⟨⟩) :
    iprop(RingSt c mp mf md fd q st ∗ R) ⊢ wp frame (wpE (defs₀ (F := F)) Variants.none (c : Thread nD τ) none) Set.univ
      (Prog.lift (.enqueueDma ((mf.slice (Rect.unitDyn (s := S2x200x69632) o' sz' inb') h').squeeze ⟨2, ![w.r.toNat, w.l.toNat]⟩ hq')
        (.here ((mp.slice (Rect.unitDyn (s := S4x88x27136) o sz inb) h).squeeze ⟨2, ![w.r.toNat, w.l.toNat]⟩ hq))
        (.dma ((md.slice (Rect.unit (s := S4) os S1.size i1)).squeeze S_ squeezes_S1_S_).sem) p1 p2 p3)) Q := by
  subst ho hsz hsz' ho' hos
  have hN : (((mp.slice (Rect.unitDyn (s := S4x88x27136) ![s.val, 0, 0] ![1, w.r.toNat, w.l.toNat] inb) h).squeeze ⟨2, ![w.r.toNat, w.l.toNat]⟩ hq).view.amount (SemLoc.dma (semAt md s)))
      = mp.view.ref.dmaCredit ⟨2, ![w.r.toNat, w.l.toNat]⟩ .f32 := rfl
  have hS : ((mp.slice (Rect.unitDyn (s := S4x88x27136) ![s.val, 0, 0] ![1, w.r.toNat, w.l.toNat] inb) h).squeeze ⟨2, ![w.r.toNat, w.l.toNat]⟩ hq).view.set ⊆ slotSet c mp s := by
    intro i hi
    have hi := (View.set_reshape (v := (mp.slice (Rect.unitDyn (s := S4x88x27136) ![s.val, 0, 0] ![1, w.r.toNat, w.l.toNat] inb) h).view) hq.numel_eq) ▸ hi
    obtain ⟨z, -, rfl⟩ := Finset.mem_map.mp hi
    refine Finset.mem_map.mpr ⟨(Rect.unitDyn (s := S4x88x27136) ![s.val, 0, 0] ![1, w.r.toNat, w.l.toNat] inb).emb z, Finset.mem_filter.mpr ⟨Finset.mem_univ _, ?_⟩, rfl⟩
    have : (z 0).val < 1 := (z 0).isLt
    show s.val + 1 * (z 0).val = s.val
    omega
  rw [ring_out st s, hst]
  unfold Slot Idle
  iintro ⟨⟨⟨⟨%f, Hp⟩, Hv, Hf⟩, HO⟩, HR⟩
  ihave Hs := (pointsTo_split_subset (Finset.subset_univ ((mf.slice (Rect.unitDyn (s := S2x200x69632) ![w.b.toNat, w.y.toNat, w.x.toNat] ![1, w.r.toNat, w.l.toNat] inb') h').squeeze ⟨2, ![w.r.toNat, w.l.toNat]⟩ hq').view.set)).1 $$ Hf
  icases Hs with ⟨Hf, Hg⟩
  have hd := Transfers.wp_dmaLocal (countersEmb (U := Pipeline.UD sig nD τ)) (defs := defs₀ (F := F)) Variants.none (c : Thread nD τ) none
    (src := (mf.slice (Rect.unitDyn (s := S2x200x69632) ![w.b.toNat, w.y.toNat, w.x.toNat] ![1, w.r.toNat, w.l.toNat] inb') h').squeeze ⟨2, ![w.r.toNat, w.l.toNat]⟩ hq')
    (via := .same)
    (dst := (mp.slice (Rect.unitDyn (s := S4x88x27136) ![s.val, 0, 0] ![1, w.r.toNat, w.l.toNat] inb) h).squeeze ⟨2, ![w.r.toNat, w.l.toNat]⟩ hq)
    (sm := SemLoc.dma (semAt md s)) (hsrc := p1) (hdst := p2) (hsem := p3) (k := Prog.ret) (Q := Q) (q := q s) (fs := fd) (fd := f) ()
    (mp.view.ref.dmaCredit ⟨2, ![w.r.toNat, w.l.toNat]⟩ .f32) hN (credit_pos hg) hS
  iapply hd $$ [Hf Hp Hv]
  · isplitl [Hf]; · iexact Hf
    isplitl [Hp]; · iexact Hp
    iexact Hv
  iintro HF
  iapply (ret_intro hQ)
  rw [← ring_in st s (some w)]
  isplitr [HR]
  swap; · iexact HR
  isplitr [HO]
  swap; · iexact HO
  unfold Slot Busy
  iexists _
  isplitl [Hg]; · iexact Hg
  iapply (Transfers.Flight_mono (countersEmb (U := Pipeline.UD sig nD τ)) (c : Thread nD τ) ?_) $$ HF
  iintro ⟨Hp, Hf⟩
  isplitl [Hp]
  · iexists _
    isplitr
    swap; · iexact Hp
    ipureintro
    exact landed_write s rfl rfl rfl
  iexact Hf

/-- Waiting for the window on its way to a slot. -/
theorem await {st : Fin 4 → Option Item} (w : Item) (s : Fin 4) (hst : st s = some w) {R : sProp 𝕄}
    {os i1 p1} {Q : PUnit → sProp 𝕄} (hos : os = ![s.val])
    (hQ : ∀ f, Landed c mp mf fd w s f → iprop((mp.view.loc (c : Thread nD τ) ↦[slotSet c mp s]{fullShare} f)
      ∗ (semVal ((c : Thread nD τ), SemLoc.dma (semAt md s)) 0 ∗ (mf.view.loc (c : Thread nD τ) ↦{q s} fd) ∗ Others c mp mf md fd q st s)
      ∗ (∃ W, owes (c : Thread nD τ) 0 W) ∗ R) ⊢ Q ⟨⟩) :
    iprop(RingSt c mp mf md fd q st ∗ (∃ W, owes (c : Thread nD τ) 0 W) ∗ R) ⊢ wp frame (wpE (defs₀ (F := F)) Variants.none (c : Thread nD τ) none) Set.univ
      (Prog.lift (.waitDma ((md.slice (Rect.unit (s := S4) os S1.size i1)).squeeze S_ squeezes_S1_S_).sem mp.view.ref ⟨2, ![w.r.toNat, w.l.toNat]⟩ .f32 p1)) Q := by
  subst hos
  rw [ring_out st s, hst]
  unfold Slot Busy
  iintro ⟨⟨⟨%T, Hg, HF⟩, HO⟩, ⟨%W, HW⟩, HR⟩
  have hd := Transfers.wp_waitLocalSized (countersEmb (U := Pipeline.UD sig nD τ)) (defs := defs₀ (F := F)) Variants.none (c : Thread nD τ) none
    (sem := semAt md s) (b := mp.view.ref) (hk := p1) (s := ⟨2, ![w.r.toNat, w.l.toNat]⟩) (e := .f32) (k := Prog.ret) (Q := Q) ()
    (N := mp.view.ref.dmaCredit ⟨2, ![w.r.toNat, w.l.toNat]⟩ .f32) rfl
    (D := iprop((∃ f, ⌜Landed c mp mf fd w s f⌝ ∗ mp.view.loc (c : Thread nD τ) ↦[slotSet c mp s]{fullShare} f) ∗ (mf.view.loc (c : Thread nD τ) ↦[T]{q s} fd))) (W := W)
  iapply hd $$ [HF HW]
  · isplitl [HF]; · iexact HF
    iexact HW
  iintro ⟨⟨⟨%f, %hf, Hp⟩, Hf⟩, Hv, HW⟩
  iapply (ret_intro (hQ f hf))
  isplitl [Hp]; · iexact Hp
  isplitl [Hv Hf Hg HO]
  · isplitl [Hv]; · iexact Hv
    isplitl [Hf Hg]
    · iapply (pointsTo_split_subset (Finset.subset_univ T)).2
      isplitl [Hf]; · iexact Hf
      iexact Hg
    iexact HO
  isplitl [HW]
  · iexists _; iexact HW
  iexact HR

/-- A slot taken out of the ring comes back at rest. -/
theorem slot_back {st : Fin 4 → Option Item} {s : Fin 4} {f} :
    iprop((mp.view.loc (c : Thread nD τ) ↦[slotSet c mp s]{fullShare} f)
      ∗ (semVal ((c : Thread nD τ), SemLoc.dma (semAt md s)) 0 ∗ (mf.view.loc (c : Thread nD τ) ↦{q s} fd) ∗ Others c mp mf md fd q st s))
      ⊢ RingSt c mp mf md fd q (Function.update st s none) := by
  rw [← ring_in st s none]
  unfold Slot Idle
  iintro ⟨Hp, Hv, Hf, HO⟩
  isplitr [HO]
  swap; · iexact HO
  isplitl [Hp]; · iexists _; iexact Hp
  isplitl [Hv]; · iexact Hv
  iexact Hf

/-- A slot at rest lends its elements. -/
theorem slot_acc {st : Fin 4 → Option Item} (s : Fin 4) (hst : st s = none) :
    RingSt c mp mf md fd q st ⊢ iprop((∃ f, mp.view.loc (c : Thread nD τ) ↦[slotSet c mp s]{fullShare} f)
      ∗ ((∃ f, mp.view.loc (c : Thread nD τ) ↦[slotSet c mp s]{fullShare} f) -∗ RingSt c mp mf md fd q st)) := by
  have hr := ring_in (c := c) (mp := mp) (mf := mf) (md := md) (fd := fd) (q := q) st s none
  rw [show Function.update st s none = st by rw [← hst]; exact Function.update_eq_self s st] at hr
  rw [← hr]
  unfold Slot Idle
  iintro ⟨⟨Hp, Hv, Hf⟩, HO⟩
  isplitl [Hp]; · iexact Hp
  iintro Hp
  isplitr [HO]
  swap; · iexact HO
  isplitl [Hp]; · iexact Hp
  isplitl [Hv]; · iexact Hv
  iexact Hf

end Cert.KernelIdeal.Hand
-- ==== Proof.Tables.lean ====
module

public import proofs.«01_k».proof.Proof.Flow

/-! # The words and the slots of a step

The tables a step reads its words from, the items they name, and which slots await which item as the steps go by. -/

@[expose] public section

set_option maxRecDepth 65536
set_option pp.maxSteps 120

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The coordinates at two numbers. -/
def crd (a : Fin 2) (b : Fin 128) : grid0.Coords := fun x => match x with
  | ⟨0, _⟩ => a
  | ⟨1, _⟩ => b

theorem at_crd {P : grid0.Coords → Prop} (h : ∀ a b, P (crd a b)) (i : grid0.Coords) : P i := by
  have : i = crd (i 0) (i 1) := by
    funext x
    match x with
    | ⟨0, _⟩ => rfl
    | ⟨1, _⟩ => rfl
  rw [this]; exact h _ _

theorem off1_eq (i : grid0.Coords) : k0_off1 i 0 = 128 * (i 0).val + (i 1).val + 0 :=
  at_crd (P := fun i => k0_off1 i 0 = 128 * (i 0).val + (i 1).val + 0) (by decide +kernel) i
theorem off2_eq (i : grid0.Coords) : k0_off2 i 0 = 128 * (i 0).val + (i 1).val + 0 :=
  at_crd (P := fun i => k0_off2 i 0 = 128 * (i 0).val + (i 1).val + 0) (by decide +kernel) i
theorem off3_eq (i : grid0.Coords) : k0_off3 i 0 = 128 * (i 0).val + (i 1).val + 0 :=
  at_crd (P := fun i => k0_off3 i 0 = 128 * (i 0).val + (i 1).val + 0) (by decide +kernel) i
theorem off4_eq (i : grid0.Coords) : k0_off4 i 0 = 128 * (i 0).val + (i 1).val + 0 :=
  at_crd (P := fun i => k0_off4 i 0 = 128 * (i 0).val + (i 1).val + 0) (by decide +kernel) i
theorem off5_eq (i : grid0.Coords) : k0_off5 i 0 = 128 * (i 0).val + (i 1).val + 0 :=
  at_crd (P := fun i => k0_off5 i 0 = 128 * (i 0).val + (i 1).val + 0) (by decide +kernel) i
theorem off8_eq (i : grid0.Coords) : k0_off8 i 0 = 128 * (i 0).val + (i 1).val + 1 :=
  at_crd (P := fun i => k0_off8 i 0 = 128 * (i 0).val + (i 1).val + 1) (by decide +kernel) i
theorem off9_eq (i : grid0.Coords) : k0_off9 i 0 = 128 * (i 0).val + (i 1).val + 1 :=
  at_crd (P := fun i => k0_off9 i 0 = 128 * (i 0).val + (i 1).val + 1) (by decide +kernel) i
theorem off10_eq (i : grid0.Coords) : k0_off10 i 0 = 128 * (i 0).val + (i 1).val + 1 :=
  at_crd (P := fun i => k0_off10 i 0 = 128 * (i 0).val + (i 1).val + 1) (by decide +kernel) i
theorem off11_eq (i : grid0.Coords) : k0_off11 i 0 = 128 * (i 0).val + (i 1).val + 1 :=
  at_crd (P := fun i => k0_off11 i 0 = 128 * (i 0).val + (i 1).val + 1) (by decide +kernel) i
theorem off12_eq (i : grid0.Coords) : k0_off12 i 0 = 128 * (i 0).val + (i 1).val + 1 :=
  at_crd (P := fun i => k0_off12 i 0 = 128 * (i 0).val + (i 1).val + 1) (by decide +kernel) i
theorem off15_eq (i : grid0.Coords) : k0_off15 i 0 = 128 * (i 0).val + (i 1).val + 2 :=
  at_crd (P := fun i => k0_off15 i 0 = 128 * (i 0).val + (i 1).val + 2) (by decide +kernel) i
theorem off16_eq (i : grid0.Coords) : k0_off16 i 0 = 128 * (i 0).val + (i 1).val + 2 :=
  at_crd (P := fun i => k0_off16 i 0 = 128 * (i 0).val + (i 1).val + 2) (by decide +kernel) i
theorem off17_eq (i : grid0.Coords) : k0_off17 i 0 = 128 * (i 0).val + (i 1).val + 2 :=
  at_crd (P := fun i => k0_off17 i 0 = 128 * (i 0).val + (i 1).val + 2) (by decide +kernel) i
theorem off18_eq (i : grid0.Coords) : k0_off18 i 0 = 128 * (i 0).val + (i 1).val + 2 :=
  at_crd (P := fun i => k0_off18 i 0 = 128 * (i 0).val + (i 1).val + 2) (by decide +kernel) i
theorem off19_eq (i : grid0.Coords) : k0_off19 i 0 = 128 * (i 0).val + (i 1).val + 2 :=
  at_crd (P := fun i => k0_off19 i 0 = 128 * (i 0).val + (i 1).val + 2) (by decide +kernel) i
theorem off22_eq (i : grid0.Coords) : k0_off22 i 0 = 128 * (i 0).val + (i 1).val + 3 :=
  at_crd (P := fun i => k0_off22 i 0 = 128 * (i 0).val + (i 1).val + 3) (by decide +kernel) i
theorem off23_eq (i : grid0.Coords) : k0_off23 i 0 = 128 * (i 0).val + (i 1).val + 3 :=
  at_crd (P := fun i => k0_off23 i 0 = 128 * (i 0).val + (i 1).val + 3) (by decide +kernel) i
theorem off24_eq (i : grid0.Coords) : k0_off24 i 0 = 128 * (i 0).val + (i 1).val + 3 :=
  at_crd (P := fun i => k0_off24 i 0 = 128 * (i 0).val + (i 1).val + 3) (by decide +kernel) i
theorem off25_eq (i : grid0.Coords) : k0_off25 i 0 = 128 * (i 0).val + (i 1).val + 3 :=
  at_crd (P := fun i => k0_off25 i 0 = 128 * (i 0).val + (i 1).val + 3) (by decide +kernel) i
theorem off26_eq (i : grid0.Coords) : k0_off26 i 0 = 128 * (i 0).val + (i 1).val + 3 :=
  at_crd (P := fun i => k0_off26 i 0 = 128 * (i 0).val + (i 1).val + 3) (by decide +kernel) i
theorem off30_eq (i : grid0.Coords) : k0_off30 i 0 = 128 * (i 0).val + (i 1).val + 0 :=
  at_crd (P := fun i => k0_off30 i 0 = 128 * (i 0).val + (i 1).val + 0) (by decide +kernel) i
theorem off31_eq (i : grid0.Coords) : k0_off31 i 0 = 128 * (i 0).val + (i 1).val + 0 :=
  at_crd (P := fun i => k0_off31 i 0 = 128 * (i 0).val + (i 1).val + 0) (by decide +kernel) i
theorem off32_eq (i : grid0.Coords) : k0_off32 i 0 = 128 * (i 0).val + (i 1).val + 0 :=
  at_crd (P := fun i => k0_off32 i 0 = 128 * (i 0).val + (i 1).val + 0) (by decide +kernel) i
theorem off33_eq (i : grid0.Coords) : k0_off33 i 0 = 128 * (i 0).val + (i 1).val + 0 :=
  at_crd (P := fun i => k0_off33 i 0 = 128 * (i 0).val + (i 1).val + 0) (by decide +kernel) i
theorem off34_eq (i : grid0.Coords) : k0_off34 i 0 = 128 * (i 0).val + (i 1).val + 0 :=
  at_crd (P := fun i => k0_off34 i 0 = 128 * (i 0).val + (i 1).val + 0) (by decide +kernel) i
theorem off38_eq (i : grid0.Coords) : k0_off38 i 0 = 128 * (i 0).val + (i 1).val + 0 :=
  at_crd (P := fun i => k0_off38 i 0 = 128 * (i 0).val + (i 1).val + 0) (by decide +kernel) i
theorem off27_eq (i : grid0.Coords) : k0_off27 i 0 = ((i 1).val + 3) % 4 :=
  at_crd (P := fun i => k0_off27 i 0 = ((i 1).val + 3) % 4) (by decide +kernel) i
theorem off35_eq (i : grid0.Coords) : k0_off35 i 0 = (i 1).val % 4 :=
  at_crd (P := fun i => k0_off35 i 0 = (i 1).val % 4) (by decide +kernel) i
theorem off39_eq (i : grid0.Coords) : k0_off39 i 0 = (i 1).val % 4 :=
  at_crd (P := fun i => k0_off39 i 0 = (i 1).val % 4) (by decide +kernel) i
theorem off40_eq (i : grid0.Coords) : k0_off40 i 0 = (i 1).val % 4 :=
  at_crd (P := fun i => k0_off40 i 0 = (i 1).val % 4) (by decide +kernel) i
theorem cond1_iff (i : grid0.Coords) : k0_cond1 i = 1#1 ↔ (i 1).val = 0 :=
  at_crd (P := fun i => k0_cond1 i = 1#1 ↔ (i 1).val = 0) (by decide +kernel) i
theorem cond2_iff (i : grid0.Coords) : k0_cond2 i = 1#1 ↔ (i 1).val + 3 < 128 :=
  at_crd (P := fun i => k0_cond2 i = 1#1 ↔ (i 1).val + 3 < 128) (by decide +kernel) i

/-- The word of a table in scalar memory at a number. -/
def wd {c : Dev nD} {e : EltTy} (m : Memref sig .tc .smem S256 e) (f : Buf (Elt F) (m.view.loc (c : Thread nD τ))) (g : ℕ) : Elt F e :=
  m.view.read (Elt F) f (fun a => match a with | 0 => (⟨g % 256, Nat.mod_lt _ (by decide)⟩ : Fin 256))

theorem wd_eq {c : Dev nD} {e : EltTy} {ms : Memref sig .tc .smem S256 e} {off : Fin 1 → ℕ} {inb} {h1 : (Rect.unit (s := S256) off S1.size inb).shape.numel = 1} {g : ℕ}
    {f : Buf (Elt F) (ms.view.loc (c : Thread nD τ))} (hoff : off 0 = g) :
    (ms.access (Rect.unit (s := S256) off S1.size inb)).read (Elt F) f (Shape.Idx.first (h1.symm ▸ Nat.one_pos)) = wd ms f g := by
  have hg : g < 256 := by have := inb 0; have h2 : off 0 + 1 ≤ 256 := this; omega
  show ms.view.read (Elt F) f ((Rect.unit (s := S256) off S1.size inb).emb _) = ms.view.read (Elt F) f _
  congr 1
  funext a
  match a with
  | 0 =>
    apply Fin.ext
    generalize hz : (Shape.Idx.first (h1.symm ▸ Nat.one_pos) : (Rect.unit (s := S256) off S1.size inb).shape.Idx) = z
    have h0 : (z 0).val < 1 := (z 0).isLt
    show off 0 + 1 * (z 0).val = g % 256
    rw [Nat.mod_eq_of_lt hg]; omega

/-- A read of a word of a table in scalar memory. -/
theorem ld_t {c : Dev nD} {R : sProp 𝕄} {e : EltTy} {ms : Memref sig .tc .smem S256 e} {off : Fin 1 → ℕ} {inb h1 he} (g : ℕ) (q : PosShare TreeShare)
    (f : Buf (Elt F) (ms.view.loc (c : Thread nD τ))) {Q : Elt F e → sProp 𝕄} (hoff : off 0 = g)
    (hacc : R ⊢ iprop((ms.view.loc (c : Thread nD τ) ↦{q} f) ∗ ((ms.view.loc (c : Thread nD τ) ↦{q} f) -∗ R)))
    (hQ : R ⊢ Q (wd ms f g)) :
    R ⊢ wp frame (wpE (defs₀ (F := F)) Variants.none (c : Thread nD τ) none) Set.univ (smemLoad ms (Rect.unit (s := S256) off S1.size inb) h1 he) Q := by
  have e := wd_eq (h1 := h1) (f := f) (inb := inb) hoff
  exact ld_w q f hacc (e.symm ▸ hQ)

/-- A load from elements the state holds at some contents. -/
theorem ld_s {c : Dev nD} {R : sProp 𝕄} {s : Shape} {m : Memref sig .tc .vmem s .f32} {r : LoadRect s} {hl} {S : Finset (Idx (m.view.loc (c : Thread nD τ)))}
    {Q : (r.shape.Idx → Elt F .f32) → sProp 𝕄} (hS : m.view.setOn r.set ⊆ S)
    (hacc : R ⊢ iprop((∃ f, m.view.loc (c : Thread nD τ) ↦[S]{fullShare} f) ∗ ((∃ f, m.view.loc (c : Thread nD τ) ↦[S]{fullShare} f) -∗ R)))
    (hQ : ∀ v, R ⊢ Q v) :
    R ⊢ wp frame (wpE (defs₀ (F := F)) Variants.none (c : Thread nD τ) none) Set.univ (Prog.lift (.load m r hl)) Q := by
  have hw := fun f => wp_load (m := m) (r := r) (hl := hl) (k := Prog.ret) (defs := defs₀ (F := F)) (Q := Q) (f := f) (S := S) (q := fullShare) (Γ := [])
    Variants.none (c : Thread nD τ) none Set.univ hS
  iintro HR
  ihave H := hacc $$ HR
  icases H with ⟨⟨%f, HT⟩, HW⟩
  iapply (hw f) $$ HT
  iintro HT
  rw [wp_ret]; imodintro
  iapply hQ
  iapply HW
  iexists _; iexact HT

/-- A store to elements the state holds at some contents. -/
theorem st_s {c : Dev nD} {R : sProp 𝕄} {s : Shape} {m : Memref sig .tc .vmem s .f32} {r : Rect s} {v : r.shape.Idx → Elt F .f32} {hx} {hm} {S : Finset (Idx (m.view.loc (c : Thread nD τ)))}
    {Q : PUnit → sProp 𝕄} (hS : (m.access r).setOn Finset.univ ⊆ S)
    (hacc : R ⊢ iprop((∃ f, m.view.loc (c : Thread nD τ) ↦[S]{fullShare} f) ∗ ((∃ f, m.view.loc (c : Thread nD τ) ↦[S]{fullShare} f) -∗ R)))
    (hQ : R ⊢ Q ⟨⟩) :
    R ⊢ wp frame (wpE (defs₀ (F := F)) Variants.none (c : Thread nD τ) none) Set.univ (Prog.lift (.store m r v Finset.univ hx hm)) Q := by
  have hw := fun f => wp_store (m := m) (r := r) (w := v) (Mk := Finset.univ) (hx := hx) (hm := hm) (f := f) (k := Prog.ret) (S := S)
    (defs := defs₀ (F := F)) (Q := Q) (Γ := []) Variants.none (c : Thread nD τ) none Set.univ hS
  iintro HR
  ihave H := hacc $$ HR
  icases H with ⟨⟨%f, HT⟩, HW⟩
  iapply (hw f) $$ HT
  iintro HT
  rw [wp_ret]; imodintro
  iapply hQ
  iapply HW
  iexists _; iexact HT

theorem slot_ld {c : Dev nD} {mp : Memref sig .tc .vmem S4x88x27136 .f32} (s : Fin 4) {off size : Fin 3 → ℕ} {inb} (ho : off 0 = s.val) (hs : size 0 = 1) :
    mp.view.setOn (Rect.unit (s := S4x88x27136) off size inb).toLoadRect.set ⊆ slotSet c mp s := by
  intro x hx
  obtain ⟨j, hj, rfl⟩ := Finset.mem_map.mp hx
  refine Finset.mem_map.mpr ⟨_, Finset.mem_filter.mpr ⟨Finset.mem_univ _, ?_⟩, rfl⟩
  obtain ⟨k, hk, he⟩ := (LoadRect.mem_set _).mp hj 0
  have hk : k < size 0 := hk
  have he : (j 0).val = off 0 + 1 * k := he
  omega

theorem slot_st {c : Dev nD} {mp : Memref sig .tc .vmem S4x88x27136 .f32} (s : Fin 4) {off size : Fin 3 → ℕ} {inb} (ho : off 0 = s.val) (hs : size 0 = 1) :
    (mp.access (Rect.unit (s := S4x88x27136) off size inb)).setOn Finset.univ ⊆ slotSet c mp s := by
  intro x hx
  obtain ⟨z, -, rfl⟩ := Finset.mem_map.mp hx
  refine Finset.mem_map.mpr ⟨(Rect.unit (s := S4x88x27136) off size inb).emb z, Finset.mem_filter.mpr ⟨Finset.mem_univ _, ?_⟩, rfl⟩
  have : (z 0).val < size 0 := (z 0).isLt
  show off 0 + 1 * (z 0).val = s.val
  omega

/-- The nine tables the body reads its words from. -/
def Tab (c : Dev nD) (m2 : Memref sig .tc .smem S256 .i32) (m3 : Memref sig .tc .smem S256 .i32) (m4 : Memref sig .tc .smem S256 .i32) (m5 : Memref sig .tc .smem S256 .i32) (m6 : Memref sig .tc .smem S256 .i32) (m7 : Memref sig .tc .smem S256 .f32) (m8 : Memref sig .tc .smem S256 .f32) (m9 : Memref sig .tc .smem S256 .f32) (m10 : Memref sig .tc .smem S256 .f32) (p : PosShare TreeShare)
    (t2 : Buf (Elt F) (m2.view.loc (c : Thread nD τ))) (t3 : Buf (Elt F) (m3.view.loc (c : Thread nD τ))) (t4 : Buf (Elt F) (m4.view.loc (c : Thread nD τ))) (t5 : Buf (Elt F) (m5.view.loc (c : Thread nD τ))) (t6 : Buf (Elt F) (m6.view.loc (c : Thread nD τ))) (t7 : Buf (Elt F) (m7.view.loc (c : Thread nD τ))) (t8 : Buf (Elt F) (m8.view.loc (c : Thread nD τ))) (t9 : Buf (Elt F) (m9.view.loc (c : Thread nD τ))) (t10 : Buf (Elt F) (m10.view.loc (c : Thread nD τ))) : sProp 𝕄 :=
  iprop((m2.view.loc (c : Thread nD τ) ↦{p} t2) ∗ (m3.view.loc (c : Thread nD τ) ↦{p} t3) ∗ (m4.view.loc (c : Thread nD τ) ↦{p} t4) ∗ (m5.view.loc (c : Thread nD τ) ↦{p} t5) ∗ (m6.view.loc (c : Thread nD τ) ↦{p} t6) ∗ (m7.view.loc (c : Thread nD τ) ↦{fullShare} t7) ∗ (m8.view.loc (c : Thread nD τ) ↦{fullShare} t8) ∗ (m9.view.loc (c : Thread nD τ) ↦{fullShare} t9) ∗ (m10.view.loc (c : Thread nD τ) ↦{fullShare} t10))

/-- The item the tables name at a number. -/
def item {c : Dev nD} (m2 : Memref sig .tc .smem S256 .i32) (m3 : Memref sig .tc .smem S256 .i32) (m4 : Memref sig .tc .smem S256 .i32) (m5 : Memref sig .tc .smem S256 .i32) (m6 : Memref sig .tc .smem S256 .i32)
    (t2 : Buf (Elt F) (m2.view.loc (c : Thread nD τ))) (t3 : Buf (Elt F) (m3.view.loc (c : Thread nD τ))) (t4 : Buf (Elt F) (m4.view.loc (c : Thread nD τ))) (t5 : Buf (Elt F) (m5.view.loc (c : Thread nD τ))) (t6 : Buf (Elt F) (m6.view.loc (c : Thread nD τ))) (g : ℕ) : Item :=
  ⟨wd m2 t2 g, wd m3 t3 g, wd m4 t4 g, wd m5 t5 g, wd m6 t6 g⟩

/-- The three scratch buffers at some contents. -/
def Scr (c : Dev nD) (mz : Memref sig .tc .vmem S16x27136 .f32) (ma mb : Memref sig .tc .vmem S1498x128 .f32) : sProp 𝕄 :=
  iprop((∃ Z, mz.view.loc (c : Thread nD τ) ↦[Finset.univ]{fullShare} Z) ∗ (∃ T, ma.view.loc (c : Thread nD τ) ↦[Finset.univ]{fullShare} T) ∗ (∃ T, mb.view.loc (c : Thread nD τ) ↦[Finset.univ]{fullShare} T))

theorem scr_st {c : Dev nD} {mz : Memref sig .tc .vmem S16x27136 .f32} {ma mb : Memref sig .tc .vmem S1498x128 .f32} {zf : ℕ → ℕ → F .f32} :
    Scr c mz ma mb ⊢ St c mz ma mb zf 0 0 0 0 := by
  unfold Scr St
  iintro ⟨⟨%Z, HZ⟩, ⟨%A, HA⟩, ⟨%B, HB⟩⟩
  isplitl [HZ]
  · iexists Z; isplitr
    · ipureintro; intro j _ _ h; exact absurd h (Nat.not_lt_zero _)
    · iexact HZ
  isplitl [HA]
  · iexists A; isplitr
    · ipureintro; intro j x _ h; exact absurd h (Nat.not_lt_zero _)
    · iexact HA
  · iexists B; isplitr
    · ipureintro; intro j x _ h; exact absurd h (Nat.not_lt_zero _)
    · iexact HB

theorem st_scr {c : Dev nD} {mz : Memref sig .tc .vmem S16x27136 .f32} {ma mb : Memref sig .tc .vmem S1498x128 .f32} {zf : ℕ → ℕ → F .f32} {lo hi a b : ℕ} :
    St c mz ma mb zf lo hi a b ⊢ Scr c mz ma mb := by
  unfold Scr St
  iintro ⟨⟨%Z, _, HZ⟩, ⟨%A, _, HA⟩, ⟨%B, _, HB⟩⟩
  isplitl [HZ]
  · iexists Z; iexact HZ
  isplitl [HA]
  · iexists A; iexact HA
  · iexists B; iexact HB

theorem acc_z {X : sProp 𝕄} {Y : sProp 𝕄} : iprop(X ∗ Y) ⊢ iprop(X ∗ (X -∗ (X ∗ Y))) := by
  iintro ⟨HX, HY⟩
  isplitl [HX]; · iexact HX
  iintro HX
  isplitl [HX]; · iexact HX
  iexact HY

theorem acc_e {X : sProp 𝕄} {Y : sProp 𝕄} : iprop(Y ∗ X) ⊢ iprop(X ∗ (X -∗ (Y ∗ X))) := by
  iintro ⟨HY, HX⟩
  isplitl [HX]; · iexact HX
  iintro HX
  isplitl [HY]; · iexact HY
  iexact HX

variable {c : Dev nD} {i : grid0.Coords} {arg2 : Memref sig .tc .smem S256 .i32} {harg2 : arg2.IsWhole} {arg3 : Memref sig .tc .smem S256 .i32} {harg3 : arg3.IsWhole} {arg4 : Memref sig .tc .smem S256 .i32} {harg4 : arg4.IsWhole} {arg5 : Memref sig .tc .smem S256 .i32} {harg5 : arg5.IsWhole} {arg6 : Memref sig .tc .smem S256 .i32} {harg6 : arg6.IsWhole} {arg7 : Memref sig .tc .smem S256 .f32} {harg7 : arg7.IsWhole} {arg8 : Memref sig .tc .smem S256 .f32} {harg8 : arg8.IsWhole} {arg9 : Memref sig .tc .smem S256 .f32} {harg9 : arg9.IsWhole} {arg10 : Memref sig .tc .smem S256 .f32} {harg10 : arg10.IsWhole} {arg11 : Memref sig .tc .hbm S2x200x69632 .f32} {harg11 : arg11.IsWhole} {arg12 : Memref sig .tc .vmem S1x14x16x256 .f32} {harg12 : arg12.IsWhole} {arg13 : Memref sig .tc .vmem S4x88x27136 .f32} {harg13 : arg13.IsWhole} {arg14 : Memref sig .tc .vmem S16x27136 .f32} {harg14 : arg14.IsWhole} {arg15 : Memref sig .tc .vmem S1498x128 .f32} {harg15 : arg15.IsWhole} {arg16 : Memref sig .tc .vmem S1498x128 .f32} {harg16 : arg16.IsWhole} {arg17 : DmaSems sig S4}
  {fd : Buf (Elt F) (arg11.view.loc (c : Thread nD τ))} {q : Fin 4 → PosShare TreeShare} {p : PosShare TreeShare}
  {t2 : Buf (Elt F) (arg2.view.loc (c : Thread nD τ))} {t3 : Buf (Elt F) (arg3.view.loc (c : Thread nD τ))} {t4 : Buf (Elt F) (arg4.view.loc (c : Thread nD τ))}
  {t5 : Buf (Elt F) (arg5.view.loc (c : Thread nD τ))} {t6 : Buf (Elt F) (arg6.view.loc (c : Thread nD τ))} {t7 : Buf (Elt F) (arg7.view.loc (c : Thread nD τ))}
  {t8 : Buf (Elt F) (arg8.view.loc (c : Thread nD τ))} {t9 : Buf (Elt F) (arg9.view.loc (c : Thread nD τ))} {t10 : Buf (Elt F) (arg10.view.loc (c : Thread nD τ))}

theorem tab2 : Tab c arg2 arg3 arg4 arg5 arg6 arg7 arg8 arg9 arg10 p t2 t3 t4 t5 t6 t7 t8 t9 t10 ⊢ iprop((arg2.view.loc (c : Thread nD τ) ↦{p} t2) ∗ ((arg2.view.loc (c : Thread nD τ) ↦{p} t2) -∗ Tab c arg2 arg3 arg4 arg5 arg6 arg7 arg8 arg9 arg10 p t2 t3 t4 t5 t6 t7 t8 t9 t10)) := by
  unfold Tab; exact acc_z
theorem tab3 : Tab c arg2 arg3 arg4 arg5 arg6 arg7 arg8 arg9 arg10 p t2 t3 t4 t5 t6 t7 t8 t9 t10 ⊢ iprop((arg3.view.loc (c : Thread nD τ) ↦{p} t3) ∗ ((arg3.view.loc (c : Thread nD τ) ↦{p} t3) -∗ Tab c arg2 arg3 arg4 arg5 arg6 arg7 arg8 arg9 arg10 p t2 t3 t4 t5 t6 t7 t8 t9 t10)) := by
  unfold Tab; exact (acc_r acc_z)
theorem tab4 : Tab c arg2 arg3 arg4 arg5 arg6 arg7 arg8 arg9 arg10 p t2 t3 t4 t5 t6 t7 t8 t9 t10 ⊢ iprop((arg4.view.loc (c : Thread nD τ) ↦{p} t4) ∗ ((arg4.view.loc (c : Thread nD τ) ↦{p} t4) -∗ Tab c arg2 arg3 arg4 arg5 arg6 arg7 arg8 arg9 arg10 p t2 t3 t4 t5 t6 t7 t8 t9 t10)) := by
  unfold Tab; exact (acc_r (acc_r acc_z))
theorem tab5 : Tab c arg2 arg3 arg4 arg5 arg6 arg7 arg8 arg9 arg10 p t2 t3 t4 t5 t6 t7 t8 t9 t10 ⊢ iprop((arg5.view.loc (c : Thread nD τ) ↦{p} t5) ∗ ((arg5.view.loc (c : Thread nD τ) ↦{p} t5) -∗ Tab c arg2 arg3 arg4 arg5 arg6 arg7 arg8 arg9 arg10 p t2 t3 t4 t5 t6 t7 t8 t9 t10)) := by
  unfold Tab; exact (acc_r (acc_r (acc_r acc_z)))
theorem tab6 : Tab c arg2 arg3 arg4 arg5 arg6 arg7 arg8 arg9 arg10 p t2 t3 t4 t5 t6 t7 t8 t9 t10 ⊢ iprop((arg6.view.loc (c : Thread nD τ) ↦{p} t6) ∗ ((arg6.view.loc (c : Thread nD τ) ↦{p} t6) -∗ Tab c arg2 arg3 arg4 arg5 arg6 arg7 arg8 arg9 arg10 p t2 t3 t4 t5 t6 t7 t8 t9 t10)) := by
  unfold Tab; exact (acc_r (acc_r (acc_r (acc_r acc_z))))
theorem tab7 : Tab c arg2 arg3 arg4 arg5 arg6 arg7 arg8 arg9 arg10 p t2 t3 t4 t5 t6 t7 t8 t9 t10 ⊢ iprop((arg7.view.loc (c : Thread nD τ) ↦{fullShare} t7) ∗ ((arg7.view.loc (c : Thread nD τ) ↦{fullShare} t7) -∗ Tab c arg2 arg3 arg4 arg5 arg6 arg7 arg8 arg9 arg10 p t2 t3 t4 t5 t6 t7 t8 t9 t10)) := by
  unfold Tab; exact (acc_r (acc_r (acc_r (acc_r (acc_r acc_z)))))
theorem tab8 : Tab c arg2 arg3 arg4 arg5 arg6 arg7 arg8 arg9 arg10 p t2 t3 t4 t5 t6 t7 t8 t9 t10 ⊢ iprop((arg8.view.loc (c : Thread nD τ) ↦{fullShare} t8) ∗ ((arg8.view.loc (c : Thread nD τ) ↦{fullShare} t8) -∗ Tab c arg2 arg3 arg4 arg5 arg6 arg7 arg8 arg9 arg10 p t2 t3 t4 t5 t6 t7 t8 t9 t10)) := by
  unfold Tab; exact (acc_r (acc_r (acc_r (acc_r (acc_r (acc_r acc_z))))))
theorem tab9 : Tab c arg2 arg3 arg4 arg5 arg6 arg7 arg8 arg9 arg10 p t2 t3 t4 t5 t6 t7 t8 t9 t10 ⊢ iprop((arg9.view.loc (c : Thread nD τ) ↦{fullShare} t9) ∗ ((arg9.view.loc (c : Thread nD τ) ↦{fullShare} t9) -∗ Tab c arg2 arg3 arg4 arg5 arg6 arg7 arg8 arg9 arg10 p t2 t3 t4 t5 t6 t7 t8 t9 t10)) := by
  unfold Tab; exact (acc_r (acc_r (acc_r (acc_r (acc_r (acc_r (acc_r acc_z)))))))
theorem tab10 : Tab c arg2 arg3 arg4 arg5 arg6 arg7 arg8 arg9 arg10 p t2 t3 t4 t5 t6 t7 t8 t9 t10 ⊢ iprop((arg10.view.loc (c : Thread nD τ) ↦{fullShare} t10) ∗ ((arg10.view.loc (c : Thread nD τ) ↦{fullShare} t10) -∗ Tab c arg2 arg3 arg4 arg5 arg6 arg7 arg8 arg9 arg10 p t2 t3 t4 t5 t6 t7 t8 t9 t10)) := by
  unfold Tab; exact (acc_r (acc_r (acc_r (acc_r (acc_r (acc_r (acc_r acc_e)))))))
theorem scr_a {c : Dev nD} {mz : Memref sig .tc .vmem S16x27136 .f32} {ma mb : Memref sig .tc .vmem S1498x128 .f32} :
    Scr (F := F) c mz ma mb ⊢ iprop((∃ T, ma.view.loc (c : Thread nD τ) ↦[Finset.univ]{fullShare} T) ∗ ((∃ T, ma.view.loc (c : Thread nD τ) ↦[Finset.univ]{fullShare} T) -∗ Scr (F := F) c mz ma mb)) := by
  unfold Scr; exact acc_r acc_z
theorem scr_b {c : Dev nD} {mz : Memref sig .tc .vmem S16x27136 .f32} {ma mb : Memref sig .tc .vmem S1498x128 .f32} :
    Scr (F := F) c mz ma mb ⊢ iprop((∃ T, mb.view.loc (c : Thread nD τ) ↦[Finset.univ]{fullShare} T) ∗ ((∃ T, mb.view.loc (c : Thread nD τ) ↦[Finset.univ]{fullShare} T) -∗ Scr (F := F) c mz ma mb)) := by
  unfold Scr; exact acc_r acc_e

/-- The slots `k` items ahead of step `n`, the step's own first, each awaiting its item while it is among the image's. -/
def stAt (W : ℕ → Item) (base n k : ℕ) : Fin 4 → Option Item := fun s =>
  if (s.val + 4 - n % 4) % 4 < k ∧ n + (s.val + 4 - n % 4) % 4 < 128 then some (W (base + (s.val + 4 - n % 4) % 4)) else none

theorem stAt_zero (W : ℕ → Item) (base n : ℕ) : stAt W base n 0 = fun _ => none := by
  funext s; unfold stAt; rw [if_neg (by omega)]

theorem stAt_first (W : ℕ → Item) (base : ℕ) :
    Function.update (Function.update (Function.update (fun _ => none) (0 : Fin 4) (some (W (base + 0)))) (1 : Fin 4) (some (W (base + 1)))) (2 : Fin 4) (some (W (base + 2))) = stAt W base 0 3 := by
  funext s
  match s with
  | 0 => rfl
  | 1 => rfl
  | 2 => rfl
  | 3 => rfl

theorem stAt_next (W : ℕ → Item) (base n : ℕ) (hn : n + 3 < 128) (s : Fin 4) (hs : s.val = (n + 3) % 4) :
    Function.update (stAt W base n 3) s (some (W (base + 3))) = stAt W base n 4 := by
  funext t
  by_cases h : t = s
  · subst h
    rw [Function.update_self]; unfold stAt
    rw [if_pos (by omega), show (t.val + 4 - n % 4) % 4 = 3 by omega]
  · rw [Function.update_of_ne h]; unfold stAt
    have h : t.val ≠ s.val := fun e => h (Fin.ext e)
    have := t.isLt
    have h3 : (t.val + 4 - n % 4) % 4 ≠ 3 := by omega
    by_cases hc : n + (t.val + 4 - n % 4) % 4 < 128
    · rw [if_pos (by omega), if_pos (by omega)]
    · rw [if_neg (by omega), if_neg (by omega)]

theorem stAt_end (W : ℕ → Item) (base n : ℕ) (hn : ¬ n + 3 < 128) : stAt W base n 3 = stAt W base n 4 := by
  funext t; unfold stAt
  by_cases hc : n + (t.val + 4 - n % 4) % 4 < 128
  · rw [if_pos (by omega), if_pos (by omega)]
  · rw [if_neg (by omega), if_neg (by omega)]

theorem stAt_idle (W : ℕ → Item) (base n : ℕ) (s : Fin 4) (hs : s.val = (n + 3) % 4) : stAt W base n 3 s = none := by
  unfold stAt; rw [if_neg (by omega)]

theorem stAt_own (W : ℕ → Item) (base n : ℕ) (hn : n < 128) (s : Fin 4) (hs : s.val = n % 4) : stAt W base n 4 s = some (W (base + 0)) := by
  unfold stAt; rw [if_pos (by omega), show (s.val + 4 - n % 4) % 4 = 0 by omega]

theorem stAt_succ (W : ℕ → Item) (base n : ℕ) (s : Fin 4) (hs : s.val = n % 4) :
    Function.update (stAt W base n 4) s none = stAt W (base + 1) (n + 1) 3 := by
  funext t
  have := t.isLt
  by_cases h : t = s
  · subst h
    rw [Function.update_self]; unfold stAt
    rw [if_neg (by omega)]
  · rw [Function.update_of_ne h]; unfold stAt
    have h : t.val ≠ s.val := fun e => h (Fin.ext e)
    by_cases hc : n + (t.val + 4 - n % 4) % 4 < 128
    · rw [if_pos (by omega), if_pos (by omega), show base + 1 + (t.val + 4 - (n + 1) % 4) % 4 = base + (t.val + 4 - n % 4) % 4 by omega]
    · rw [if_neg (by omega), if_neg (by omega)]

theorem stAt_last (W : ℕ → Item) (base : ℕ) : stAt W base 128 3 = fun _ => none := by
  funext s; unfold stAt; rw [if_neg (by omega)]

end Cert.KernelIdeal.Hand
-- ==== Proof.Begin.lean ====
module

public import proofs.«01_k».proof.Proof.Tables

/-! # The start of a step

At the first item of an image a step clears the buffers and starts the first three windows; every step starts the window three items ahead
while there is one, waits for its own, reads its words and weighs its rows. -/

@[expose] public section

set_option maxRecDepth 65536
set_option pp.maxSteps 120

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {i : grid0.Coords} {arg2 : Memref sig .tc .smem S256 .i32} {harg2 : arg2.IsWhole} {arg3 : Memref sig .tc .smem S256 .i32} {harg3 : arg3.IsWhole} {arg4 : Memref sig .tc .smem S256 .i32} {harg4 : arg4.IsWhole} {arg5 : Memref sig .tc .smem S256 .i32} {harg5 : arg5.IsWhole} {arg6 : Memref sig .tc .smem S256 .i32} {harg6 : arg6.IsWhole} {arg7 : Memref sig .tc .smem S256 .f32} {harg7 : arg7.IsWhole} {arg8 : Memref sig .tc .smem S256 .f32} {harg8 : arg8.IsWhole} {arg9 : Memref sig .tc .smem S256 .f32} {harg9 : arg9.IsWhole} {arg10 : Memref sig .tc .smem S256 .f32} {harg10 : arg10.IsWhole} {arg11 : Memref sig .tc .hbm S2x200x69632 .f32} {harg11 : arg11.IsWhole} {arg12 : Memref sig .tc .vmem S1x14x16x256 .f32} {harg12 : arg12.IsWhole} {arg13 : Memref sig .tc .vmem S4x88x27136 .f32} {harg13 : arg13.IsWhole} {arg14 : Memref sig .tc .vmem S16x27136 .f32} {harg14 : arg14.IsWhole} {arg15 : Memref sig .tc .vmem S1498x128 .f32} {harg15 : arg15.IsWhole} {arg16 : Memref sig .tc .vmem S1498x128 .f32} {harg16 : arg16.IsWhole} {arg17 : DmaSems sig S4}
  {fd : Buf (Elt F) (arg11.view.loc (c : Thread nD τ))} {q : Fin 4 → PosShare TreeShare} {p : PosShare TreeShare}
  {t2 : Buf (Elt F) (arg2.view.loc (c : Thread nD τ))} {t3 : Buf (Elt F) (arg3.view.loc (c : Thread nD τ))} {t4 : Buf (Elt F) (arg4.view.loc (c : Thread nD τ))}
  {t5 : Buf (Elt F) (arg5.view.loc (c : Thread nD τ))} {t6 : Buf (Elt F) (arg6.view.loc (c : Thread nD τ))} {t7 : Buf (Elt F) (arg7.view.loc (c : Thread nD τ))}
  {t8 : Buf (Elt F) (arg8.view.loc (c : Thread nD τ))} {t9 : Buf (Elt F) (arg9.view.loc (c : Thread nD τ))} {t10 : Buf (Elt F) (arg10.view.loc (c : Thread nD τ))}

theorem part1 {R : sProp 𝕄} {v1 : BitVec 32} {h1 : k0_cond1 i = 1#1} (hG : ∀ g < 256, ((item arg2 arg3 arg4 arg5 arg6 t2 t3 t4 t5 t6) g).Good) {Q : (Σ' (v802 : BitVec 32) (v804 : Elt F .i32), Elt F .i32) → sProp 𝕄}
    (hQ : ∀ v, iprop(RingSt c arg13 arg11 arg17 fd q (fun _ => none) ∗ ((∃ W, owes (c : Thread nD τ) 0 W) ∗ (Scr c arg14 arg15 arg16 ∗ (Tab c arg2 arg3 arg4 arg5 arg6 arg7 arg8 arg9 arg10 p t2 t3 t4 t5 t6 t7 t8 t9 t10 ∗ R)))) ⊢ Q ⟨v, wd arg3 t3 ((128 * (i 0).val + (i 1).val) + 0), wd arg4 t4 ((128 * (i 0).val + (i 1).val) + 0)⟩) :
    iprop(RingSt c arg13 arg11 arg17 fd q (fun _ => none) ∗ ((∃ W, owes (c : Thread nD τ) 0 W) ∗ (Scr c arg14 arg15 arg16 ∗ (Tab c arg2 arg3 arg4 arg5 arg6 arg7 arg8 arg9 arg10 p t2 t3 t4 t5 t6 t7 t8 t9 t10 ∗ R)))) ⊢ wp frame (wpE (defs₀ (F := F)) Variants.none (c : Thread nD τ) none) Set.univ (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 h1) Q := by
  have hi : (i 1).val = 0 := (cond1_iff i).mp h1
  have hg0 : ((item arg2 arg3 arg4 arg5 arg6 t2 t3 t4 t5 t6) ((128 * (i 0).val + (i 1).val) + 0)).Good := hG _ (by have := (i 0).isLt; have h0 : (i 0).val < 2 := this; omega)
  rw [k0_part1_eq_skeleton]; unfold k0_part1_skel; simp only [wp_bind]
  refine ld_s (slot_ld 0 rfl rfl) (acc_l (slot_acc 0 rfl)) fun _ => ?_
  refine st_s (slot_st 0 rfl rfl) (acc_l (slot_acc 0 rfl)) ?_
  refine ld_s (slot_ld 1 rfl rfl) (acc_l (slot_acc 1 rfl)) fun _ => ?_
  refine st_s (slot_st 1 rfl rfl) (acc_l (slot_acc 1 rfl)) ?_
  refine ld_s (slot_ld 2 rfl rfl) (acc_l (slot_acc 2 rfl)) fun _ => ?_
  refine st_s (slot_st 2 rfl rfl) (acc_l (slot_acc 2 rfl)) ?_
  refine ld_s (slot_ld 3 rfl rfl) (acc_l (slot_acc 3 rfl)) fun _ => ?_
  refine st_s (slot_st 3 rfl rfl) (acc_l (slot_acc 3 rfl)) ?_
  refine ld_s (S := Finset.univ) (Finset.subset_univ _) (acc_r (acc_r (acc_l scr_a))) fun _ => ?_
  refine st_s (S := Finset.univ) (Finset.subset_univ _) (acc_r (acc_r (acc_l scr_a))) ?_
  refine ld_s (S := Finset.univ) (Finset.subset_univ _) (acc_r (acc_r (acc_l scr_b))) fun _ => ?_
  refine st_s (S := Finset.univ) (Finset.subset_univ _) (acc_r (acc_r (acc_l scr_b))) ?_
  refine ld_t ((128 * (i 0).val + (i 1).val) + 0) p t3 (off1_eq i) (acc_r (acc_r (acc_r (acc_l tab3)))) ?_
  refine as_i (fun _ => hg0.y) ?_
  refine ld_t ((128 * (i 0).val + (i 1).val) + 0) p t4 (off2_eq i) (acc_r (acc_r (acc_r (acc_l tab4)))) ?_
  exact ret_intro (hQ _)

theorem part2 {R : sProp 𝕄} {v1 v802 : BitVec 32} {h1 : k0_cond1 i = 1#1} (hG : ∀ g < 256, ((item arg2 arg3 arg4 arg5 arg6 t2 t3 t4 t5 t6) g).Good) {Q : (Σ' (v844 : BitVec 32), Elt F .i32) → sProp 𝕄}
    (hQ : ∀ v, iprop(RingSt c arg13 arg11 arg17 fd q (Function.update (Function.update (fun _ => none) (0 : Fin 4) (some ((item arg2 arg3 arg4 arg5 arg6 t2 t3 t4 t5 t6) ((128 * (i 0).val + (i 1).val) + 0)))) (1 : Fin 4) (some ((item arg2 arg3 arg4 arg5 arg6 t2 t3 t4 t5 t6) ((128 * (i 0).val + (i 1).val) + 1)))) ∗ ((∃ W, owes (c : Thread nD τ) 0 W) ∗ (Scr c arg14 arg15 arg16 ∗ (Tab c arg2 arg3 arg4 arg5 arg6 arg7 arg8 arg9 arg10 p t2 t3 t4 t5 t6 t7 t8 t9 t10 ∗ R)))) ⊢ Q ⟨v, wd arg3 t3 ((128 * (i 0).val + (i 1).val) + 2)⟩) :
    iprop(RingSt c arg13 arg11 arg17 fd q (fun _ => none) ∗ ((∃ W, owes (c : Thread nD τ) 0 W) ∗ (Scr c arg14 arg15 arg16 ∗ (Tab c arg2 arg3 arg4 arg5 arg6 arg7 arg8 arg9 arg10 p t2 t3 t4 t5 t6 t7 t8 t9 t10 ∗ R)))) ⊢ wp frame (wpE (defs₀ (F := F)) Variants.none (c : Thread nD τ) none) Set.univ (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 h1 v802 (wd arg3 t3 ((128 * (i 0).val + (i 1).val) + 0)) (wd arg4 t4 ((128 * (i 0).val + (i 1).val) + 0))) Q := by
  have hi : (i 1).val = 0 := (cond1_iff i).mp h1
  have hg0 : ((item arg2 arg3 arg4 arg5 arg6 t2 t3 t4 t5 t6) ((128 * (i 0).val + (i 1).val) + 0)).Good := hG _ (by have := (i 0).isLt; have h0 : (i 0).val < 2 := this; omega)
  have hg1 : ((item arg2 arg3 arg4 arg5 arg6 t2 t3 t4 t5 t6) ((128 * (i 0).val + (i 1).val) + 1)).Good := hG _ (by have := (i 0).isLt; have h0 : (i 0).val < 2 := this; omega)
  rw [k0_part2_eq_skeleton]; unfold k0_part2_skel; simp only [wp_bind]
  refine as_i (fun _ => hg0.x) ?_
  refine ld_t ((128 * (i 0).val + (i 1).val) + 0) p t5 (off3_eq i) (acc_r (acc_r (acc_r (acc_l tab5)))) ?_
  refine as_i (fun _ => hg0.r) ?_
  refine ld_t ((128 * (i 0).val + (i 1).val) + 0) p t6 (off4_eq i) (acc_r (acc_r (acc_r (acc_l tab6)))) ?_
  refine as_i ⟨fun _ => hg0.l, fun _ => hg0.dst 0 (by decide), fun _ => squeezes_win _ _⟩ ?_
  refine ld_t ((128 * (i 0).val + (i 1).val) + 0) p t2 (off5_eq i) (acc_r (acc_r (acc_r (acc_l tab2)))) ?_
  refine as_i ⟨fun _ => hg0.src, fun _ => squeezes_win _ _⟩ ?_
  refine issue ((item arg2 arg3 arg4 arg5 arg6 t2 t3 t4 t5 t6) ((128 * (i 0).val + (i 1).val) + 0)) hg0 0 rfl rfl rfl rfl rfl rfl ?_
  refine ld_t ((128 * (i 0).val + (i 1).val) + 1) p t3 (off8_eq i) (acc_r (acc_r (acc_r (acc_l tab3)))) ?_
  refine as_i (fun _ => hg1.y) ?_
  refine ld_t ((128 * (i 0).val + (i 1).val) + 1) p t4 (off9_eq i) (acc_r (acc_r (acc_r (acc_l tab4)))) ?_
  refine as_i (fun _ => hg1.x) ?_
  refine ld_t ((128 * (i 0).val + (i 1).val) + 1) p t5 (off10_eq i) (acc_r (acc_r (acc_r (acc_l tab5)))) ?_
  refine as_i (fun _ => hg1.r) ?_
  refine ld_t ((128 * (i 0).val + (i 1).val) + 1) p t6 (off11_eq i) (acc_r (acc_r (acc_r (acc_l tab6)))) ?_
  refine as_i ⟨fun _ => hg1.l, fun _ => hg1.dst 1 (by decide), fun _ => squeezes_win _ _⟩ ?_
  refine ld_t ((128 * (i 0).val + (i 1).val) + 1) p t2 (off12_eq i) (acc_r (acc_r (acc_r (acc_l tab2)))) ?_
  refine as_i ⟨fun _ => hg1.src, fun _ => squeezes_win _ _⟩ ?_
  refine issue ((item arg2 arg3 arg4 arg5 arg6 t2 t3 t4 t5 t6) ((128 * (i 0).val + (i 1).val) + 1)) hg1 1 rfl rfl rfl rfl rfl rfl ?_
  refine ld_t ((128 * (i 0).val + (i 1).val) + 2) p t3 (off15_eq i) (acc_r (acc_r (acc_r (acc_l tab3)))) ?_
  exact ret_intro (hQ _)

set_option maxHeartbeats 8000000 in
theorem part18 {R : sProp 𝕄} (hG : ∀ g < 256, ((item arg2 arg3 arg4 arg5 arg6 t2 t3 t4 t5 t6) g).Good) {Q : (Σ' (v1 : BitVec 32) (v2 : BitVec 32) (v33 : F .f32) (v35 : Elt F .f32) (v37 : Elt F .f32), FVec F S32x88 .f32) → sProp 𝕄}
    (hQ : ∀ f v1 v2, Landed c arg13 arg11 fd ((item arg2 arg3 arg4 arg5 arg6 t2 t3 t4 t5 t6) ((128 * (i 0).val + (i 1).val) + 0)) (⟨(i 1).val % 4, Nat.mod_lt _ (by decide)⟩ : Fin 4) f → (iprop((arg13.view.loc (c : Thread nD τ) ↦[slotSet c arg13 (⟨(i 1).val % 4, Nat.mod_lt _ (by decide)⟩ : Fin 4)]{fullShare} f) ∗ (semVal ((c : Thread nD τ), SemLoc.dma (semAt arg17 (⟨(i 1).val % 4, Nat.mod_lt _ (by decide)⟩ : Fin 4))) 0 ∗ (arg11.view.loc (c : Thread nD τ) ↦{q (⟨(i 1).val % 4, Nat.mod_lt _ (by decide)⟩ : Fin 4)} fd) ∗ Others c arg13 arg11 arg17 fd q (stAt (item arg2 arg3 arg4 arg5 arg6 t2 t3 t4 t5 t6) (128 * (i 0).val + (i 1).val) (i 1).val 4) (⟨(i 1).val % 4, Nat.mod_lt _ (by decide)⟩ : Fin 4)) ∗ (∃ W, owes (c : Thread nD τ) 0 W) ∗ (Scr c arg14 arg15 arg16 ∗ (Tab c arg2 arg3 arg4 arg5 arg6 arg7 arg8 arg9 arg10 p t2 t3 t4 t5 t6 t7 t8 t9 t10 ∗ R))) ⊢ Q ⟨v1, v2, k0_pay107 (wd arg3 t3 ((128 * (i 0).val + (i 1).val) + 0)), wd arg7 t7 ((128 * (i 0).val + (i 1).val) + 0), wd arg8 t8 ((128 * (i 0).val + (i 1).val) + 0), k0_pay108⟩)) :
    iprop(RingSt c arg13 arg11 arg17 fd q (stAt (item arg2 arg3 arg4 arg5 arg6 t2 t3 t4 t5 t6) (128 * (i 0).val + (i 1).val) (i 1).val (if (i 1).val = 0 then 0 else 3)) ∗ ((∃ W, owes (c : Thread nD τ) 0 W) ∗ (Scr c arg14 arg15 arg16 ∗ (Tab c arg2 arg3 arg4 arg5 arg6 arg7 arg8 arg9 arg10 p t2 t3 t4 t5 t6 t7 t8 t9 t10 ∗ R)))) ⊢ wp frame (wpE (defs₀ (F := F)) Variants.none (c : Thread nD τ) none) Set.univ (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  have hn : (i 1).val < 128 := (i 1).isLt
  have hg0 : ((item arg2 arg3 arg4 arg5 arg6 t2 t3 t4 t5 t6) ((128 * (i 0).val + (i 1).val) + 0)).Good := hG _ (by have := (i 0).isLt; have h0 : (i 0).val < 2 := this; omega)
  rw [k0_part18_eq_skeleton]; unfold k0_part18_skel; simp only [wp_bind]
  by_cases hc1 : k0_cond1 i = 1#1
  · rw [dif_pos hc1]; simp only [wp_bind]
    have hi : (i 1).val = 0 := (cond1_iff i).mp hc1
    rw [if_pos hi, stAt_zero]
    refine part1 hG fun _ => ?_
    refine part2 hG fun _ => ?_
    have hg2 : ((item arg2 arg3 arg4 arg5 arg6 t2 t3 t4 t5 t6) ((128 * (i 0).val + (i 1).val) + 2)).Good := hG _ (by have := (i 0).isLt; have h0 : (i 0).val < 2 := this; omega)
    refine as_i (fun _ => hg2.y) ?_
    refine ld_t ((128 * (i 0).val + (i 1).val) + 2) p t4 (off16_eq i) (acc_r (acc_r (acc_r (acc_l tab4)))) ?_
    refine as_i (fun _ => hg2.x) ?_
    refine ld_t ((128 * (i 0).val + (i 1).val) + 2) p t5 (off17_eq i) (acc_r (acc_r (acc_r (acc_l tab5)))) ?_
    refine as_i (fun _ => hg2.r) ?_
    refine ld_t ((128 * (i 0).val + (i 1).val) + 2) p t6 (off18_eq i) (acc_r (acc_r (acc_r (acc_l tab6)))) ?_
    refine as_i ⟨fun _ => hg2.l, fun _ => hg2.dst 2 (by decide), fun _ => squeezes_win _ _⟩ ?_
    refine ld_t ((128 * (i 0).val + (i 1).val) + 2) p t2 (off19_eq i) (acc_r (acc_r (acc_r (acc_l tab2)))) ?_
    refine as_i ⟨fun _ => hg2.src, fun _ => squeezes_win _ _⟩ ?_
    refine issue ((item arg2 arg3 arg4 arg5 arg6 t2 t3 t4 t5 t6) ((128 * (i 0).val + (i 1).val) + 2)) hg2 2 rfl rfl rfl rfl rfl rfl ?_
    rw [stAt_first (item arg2 arg3 arg4 arg5 arg6 t2 t3 t4 t5 t6) (128 * (i 0).val + (i 1).val), show stAt (item arg2 arg3 arg4 arg5 arg6 t2 t3 t4 t5 t6) (128 * (i 0).val + (i 1).val) 0 3 = (stAt (item arg2 arg3 arg4 arg5 arg6 t2 t3 t4 t5 t6) (128 * (i 0).val + (i 1).val) (i 1).val 3) by rw [hi]]
    by_cases hc2 : k0_cond2 i = 1#1
    · rw [dif_pos hc2]; simp only [wp_bind]
      have hn3 : (i 1).val + 3 < 128 := (cond2_iff i).mp hc2
      have hg3 : ((item arg2 arg3 arg4 arg5 arg6 t2 t3 t4 t5 t6) ((128 * (i 0).val + (i 1).val) + 3)).Good := hG _ (by have := (i 0).isLt; have h0 : (i 0).val < 2 := this; omega)
      refine ld_t ((128 * (i 0).val + (i 1).val) + 3) p t3 (off22_eq i) (acc_r (acc_r (acc_r (acc_l tab3)))) ?_
      refine as_i (fun _ => hg3.y) ?_
      refine ld_t ((128 * (i 0).val + (i 1).val) + 3) p t4 (off23_eq i) (acc_r (acc_r (acc_r (acc_l tab4)))) ?_
      refine as_i (fun _ => hg3.x) ?_
      refine ld_t ((128 * (i 0).val + (i 1).val) + 3) p t5 (off24_eq i) (acc_r (acc_r (acc_r (acc_l tab5)))) ?_
      refine as_i (fun _ => hg3.r) ?_
      refine ld_t ((128 * (i 0).val + (i 1).val) + 3) p t6 (off25_eq i) (acc_r (acc_r (acc_r (acc_l tab6)))) ?_
      refine as_i ⟨fun _ => hg3.l, fun _ => hg3.dst (k0_off27 i 0) (by rw [off27_eq]; exact Nat.mod_lt _ (by decide)), fun _ => squeezes_win _ _⟩ ?_
      refine ld_t ((128 * (i 0).val + (i 1).val) + 3) p t2 (off26_eq i) (acc_r (acc_r (acc_r (acc_l tab2)))) ?_
      refine as_i ⟨fun _ => hg3.src, fun _ => squeezes_win _ _⟩ ?_
      refine issue ((item arg2 arg3 arg4 arg5 arg6 t2 t3 t4 t5 t6) ((128 * (i 0).val + (i 1).val) + 3)) hg3 (⟨((i 1).val + 3) % 4, Nat.mod_lt _ (by decide)⟩ : Fin 4) (stAt_idle _ _ _ _ rfl) (by rw [show (k0_off28 i (wd arg5 t5 ((128 * (i 0).val + (i 1).val) + 3)) (wd arg6 t6 ((128 * (i 0).val + (i 1).val) + 3))).1 = ![k0_off27 i 0, 0, 0] from rfl, off27_eq]) rfl rfl rfl (by funext a; match a with | 0 => exact off27_eq i) ?_
      rw [stAt_next _ _ _ ((cond2_iff i).mp hc2) _ rfl]
      refine ld_t ((128 * (i 0).val + (i 1).val) + 0) p t3 (off30_eq i) (acc_r (acc_r (acc_r (acc_l tab3)))) ?_
      refine as_i hg0.y ?_
      refine ld_t ((128 * (i 0).val + (i 1).val) + 0) p t4 (off31_eq i) (acc_r (acc_r (acc_r (acc_l tab4)))) ?_
      refine as_i hg0.x ?_
      refine ld_t ((128 * (i 0).val + (i 1).val) + 0) p t5 (off32_eq i) (acc_r (acc_r (acc_r (acc_l tab5)))) ?_
      refine as_i hg0.r ?_
      refine ld_t ((128 * (i 0).val + (i 1).val) + 0) p t6 (off33_eq i) (acc_r (acc_r (acc_r (acc_l tab6)))) ?_
      refine as_i ⟨hg0.l, squeezes_win _ _⟩ ?_
      refine ld_t ((128 * (i 0).val + (i 1).val) + 0) p t2 (off34_eq i) (acc_r (acc_r (acc_r (acc_l tab2)))) ?_
      refine as_i (squeezes_win _ _) ?_
      refine await ((item arg2 arg3 arg4 arg5 arg6 t2 t3 t4 t5 t6) ((128 * (i 0).val + (i 1).val) + 0)) (⟨(i 1).val % 4, Nat.mod_lt _ (by decide)⟩ : Fin 4) (stAt_own _ _ _ hn _ rfl) (by funext a; match a with | 0 => exact off35_eq i) fun f hf => ?_
      refine ld_t ((128 * (i 0).val + (i 1).val) + 0) p t3 (off38_eq i) (acc_r (acc_r (acc_r (acc_r (acc_l tab3))))) ?_
      refine ld_t ((128 * (i 0).val + (i 1).val) + 0) fullShare t7 (off38_eq i) (acc_r (acc_r (acc_r (acc_r (acc_l tab7))))) ?_
      refine ld_t ((128 * (i 0).val + (i 1).val) + 0) fullShare t8 (off38_eq i) (acc_r (acc_r (acc_r (acc_r (acc_l tab8))))) ?_
      exact ret_intro (hQ f _ _ hf)
    · rw [dif_neg hc2]; simp only [wp_bind]
      rw [stAt_end _ _ _ (fun h => hc2 ((cond2_iff i).mpr h))]
      refine ld_t ((128 * (i 0).val + (i 1).val) + 0) p t3 (off30_eq i) (acc_r (acc_r (acc_r (acc_l tab3)))) ?_
      refine as_i hg0.y ?_
      refine ld_t ((128 * (i 0).val + (i 1).val) + 0) p t4 (off31_eq i) (acc_r (acc_r (acc_r (acc_l tab4)))) ?_
      refine as_i hg0.x ?_
      refine ld_t ((128 * (i 0).val + (i 1).val) + 0) p t5 (off32_eq i) (acc_r (acc_r (acc_r (acc_l tab5)))) ?_
      refine as_i hg0.r ?_
      refine ld_t ((128 * (i 0).val + (i 1).val) + 0) p t6 (off33_eq i) (acc_r (acc_r (acc_r (acc_l tab6)))) ?_
      refine as_i ⟨hg0.l, squeezes_win _ _⟩ ?_
      refine ld_t ((128 * (i 0).val + (i 1).val) + 0) p t2 (off34_eq i) (acc_r (acc_r (acc_r (acc_l tab2)))) ?_
      refine as_i (squeezes_win _ _) ?_
      refine await ((item arg2 arg3 arg4 arg5 arg6 t2 t3 t4 t5 t6) ((128 * (i 0).val + (i 1).val) + 0)) (⟨(i 1).val % 4, Nat.mod_lt _ (by decide)⟩ : Fin 4) (stAt_own _ _ _ hn _ rfl) (by funext a; match a with | 0 => exact off35_eq i) fun f hf => ?_
      refine ld_t ((128 * (i 0).val + (i 1).val) + 0) p t3 (off38_eq i) (acc_r (acc_r (acc_r (acc_r (acc_l tab3))))) ?_
      refine ld_t ((128 * (i 0).val + (i 1).val) + 0) fullShare t7 (off38_eq i) (acc_r (acc_r (acc_r (acc_r (acc_l tab7))))) ?_
      refine ld_t ((128 * (i 0).val + (i 1).val) + 0) fullShare t8 (off38_eq i) (acc_r (acc_r (acc_r (acc_r (acc_l tab8))))) ?_
      exact ret_intro (hQ f _ _ hf)
  · rw [dif_neg hc1]
    rw [if_neg (fun h => hc1 ((cond1_iff i).mpr h))]
    by_cases hc2 : k0_cond2 i = 1#1
    · rw [dif_pos hc2]; simp only [wp_bind]
      have hn3 : (i 1).val + 3 < 128 := (cond2_iff i).mp hc2
      have hg3 : ((item arg2 arg3 arg4 arg5 arg6 t2 t3 t4 t5 t6) ((128 * (i 0).val + (i 1).val) + 3)).Good := hG _ (by have := (i 0).isLt; have h0 : (i 0).val < 2 := this; omega)
      refine ld_t ((128 * (i 0).val + (i 1).val) + 3) p t3 (off22_eq i) (acc_r (acc_r (acc_r (acc_l tab3)))) ?_
      refine as_i (fun _ => hg3.y) ?_
      refine ld_t ((128 * (i 0).val + (i 1).val) + 3) p t4 (off23_eq i) (acc_r (acc_r (acc_r (acc_l tab4)))) ?_
      refine as_i (fun _ => hg3.x) ?_
      refine ld_t ((128 * (i 0).val + (i 1).val) + 3) p t5 (off24_eq i) (acc_r (acc_r (acc_r (acc_l tab5)))) ?_
      refine as_i (fun _ => hg3.r) ?_
      refine ld_t ((128 * (i 0).val + (i 1).val) + 3) p t6 (off25_eq i) (acc_r (acc_r (acc_r (acc_l tab6)))) ?_
      refine as_i ⟨fun _ => hg3.l, fun _ => hg3.dst (k0_off27 i 0) (by rw [off27_eq]; exact Nat.mod_lt _ (by decide)), fun _ => squeezes_win _ _⟩ ?_
      refine ld_t ((128 * (i 0).val + (i 1).val) + 3) p t2 (off26_eq i) (acc_r (acc_r (acc_r (acc_l tab2)))) ?_
      refine as_i ⟨fun _ => hg3.src, fun _ => squeezes_win _ _⟩ ?_
      refine issue ((item arg2 arg3 arg4 arg5 arg6 t2 t3 t4 t5 t6) ((128 * (i 0).val + (i 1).val) + 3)) hg3 (⟨((i 1).val + 3) % 4, Nat.mod_lt _ (by decide)⟩ : Fin 4) (stAt_idle _ _ _ _ rfl) (by rw [show (k0_off28 i (wd arg5 t5 ((128 * (i 0).val + (i 1).val) + 3)) (wd arg6 t6 ((128 * (i 0).val + (i 1).val) + 3))).1 = ![k0_off27 i 0, 0, 0] from rfl, off27_eq]) rfl rfl rfl (by funext a; match a with | 0 => exact off27_eq i) ?_
      rw [stAt_next _ _ _ ((cond2_iff i).mp hc2) _ rfl]
      refine ld_t ((128 * (i 0).val + (i 1).val) + 0) p t3 (off30_eq i) (acc_r (acc_r (acc_r (acc_l tab3)))) ?_
      refine as_i hg0.y ?_
      refine ld_t ((128 * (i 0).val + (i 1).val) + 0) p t4 (off31_eq i) (acc_r (acc_r (acc_r (acc_l tab4)))) ?_
      refine as_i hg0.x ?_
      refine ld_t ((128 * (i 0).val + (i 1).val) + 0) p t5 (off32_eq i) (acc_r (acc_r (acc_r (acc_l tab5)))) ?_
      refine as_i hg0.r ?_
      refine ld_t ((128 * (i 0).val + (i 1).val) + 0) p t6 (off33_eq i) (acc_r (acc_r (acc_r (acc_l tab6)))) ?_
      refine as_i ⟨hg0.l, squeezes_win _ _⟩ ?_
      refine ld_t ((128 * (i 0).val + (i 1).val) + 0) p t2 (off34_eq i) (acc_r (acc_r (acc_r (acc_l tab2)))) ?_
      refine as_i (squeezes_win _ _) ?_
      refine await ((item arg2 arg3 arg4 arg5 arg6 t2 t3 t4 t5 t6) ((128 * (i 0).val + (i 1).val) + 0)) (⟨(i 1).val % 4, Nat.mod_lt _ (by decide)⟩ : Fin 4) (stAt_own _ _ _ hn _ rfl) (by funext a; match a with | 0 => exact off35_eq i) fun f hf => ?_
      refine ld_t ((128 * (i 0).val + (i 1).val) + 0) p t3 (off38_eq i) (acc_r (acc_r (acc_r (acc_r (acc_l tab3))))) ?_
      refine ld_t ((128 * (i 0).val + (i 1).val) + 0) fullShare t7 (off38_eq i) (acc_r (acc_r (acc_r (acc_r (acc_l tab7))))) ?_
      refine ld_t ((128 * (i 0).val + (i 1).val) + 0) fullShare t8 (off38_eq i) (acc_r (acc_r (acc_r (acc_r (acc_l tab8))))) ?_
      exact ret_intro (hQ f _ _ hf)
    · rw [dif_neg hc2]; simp only [wp_bind]
      rw [stAt_end _ _ _ (fun h => hc2 ((cond2_iff i).mpr h))]
      refine ld_t ((128 * (i 0).val + (i 1).val) + 0) p t3 (off30_eq i) (acc_r (acc_r (acc_r (acc_l tab3)))) ?_
      refine as_i hg0.y ?_
      refine ld_t ((128 * (i 0).val + (i 1).val) + 0) p t4 (off31_eq i) (acc_r (acc_r (acc_r (acc_l tab4)))) ?_
      refine as_i hg0.x ?_
      refine ld_t ((128 * (i 0).val + (i 1).val) + 0) p t5 (off32_eq i) (acc_r (acc_r (acc_r (acc_l tab5)))) ?_
      refine as_i hg0.r ?_
      refine ld_t ((128 * (i 0).val + (i 1).val) + 0) p t6 (off33_eq i) (acc_r (acc_r (acc_r (acc_l tab6)))) ?_
      refine as_i ⟨hg0.l, squeezes_win _ _⟩ ?_
      refine ld_t ((128 * (i 0).val + (i 1).val) + 0) p t2 (off34_eq i) (acc_r (acc_r (acc_r (acc_l tab2)))) ?_
      refine as_i (squeezes_win _ _) ?_
      refine await ((item arg2 arg3 arg4 arg5 arg6 t2 t3 t4 t5 t6) ((128 * (i 0).val + (i 1).val) + 0)) (⟨(i 1).val % 4, Nat.mod_lt _ (by decide)⟩ : Fin 4) (stAt_own _ _ _ hn _ rfl) (by funext a; match a with | 0 => exact off35_eq i) fun f hf => ?_
      refine ld_t ((128 * (i 0).val + (i 1).val) + 0) p t3 (off38_eq i) (acc_r (acc_r (acc_r (acc_r (acc_l tab3))))) ?_
      refine ld_t ((128 * (i 0).val + (i 1).val) + 0) fullShare t7 (off38_eq i) (acc_r (acc_r (acc_r (acc_r (acc_l tab7))))) ?_
      refine ld_t ((128 * (i 0).val + (i 1).val) + 0) fullShare t8 (off38_eq i) (acc_r (acc_r (acc_r (acc_r (acc_l tab8))))) ?_
      exact ret_intro (hQ f _ _ hf)

theorem acc_t {R X Y : sProp 𝕄} (h : R ⊢ iprop(X ∗ (X -∗ R))) (h' : X ⊢ iprop(Y ∗ (Y -∗ X))) : R ⊢ iprop(Y ∗ (Y -∗ R)) := by
  iintro HR
  ihave H := h $$ HR
  icases H with ⟨HX, HW⟩
  ihave H := h' $$ HX
  icases H with ⟨HY, HV⟩
  isplitl [HY]; · iexact HY
  iintro HY
  iapply HW
  iapply HV $$ HY

theorem part19 {R : sProp 𝕄} {v1 v33 v35 v37 v39} (hacc : R ⊢ iprop(Tab c arg2 arg3 arg4 arg5 arg6 arg7 arg8 arg9 arg10 p t2 t3 t4 t5 t6 t7 t8 t9 t10 ∗ (Tab c arg2 arg3 arg4 arg5 arg6 arg7 arg8 arg9 arg10 p t2 t3 t4 t5 t6 t7 t8 t9 t10 -∗ R))) {Q : (Σ' (v82 : FVec F S32x88 .f32) (v86 : F .f32), Elt F .f32) → sProp 𝕄}
    (hQ : R ⊢ Q ⟨k0_pay109 v33 v35 v37 v39, k0_pay110 (wd arg4 t4 ((128 * (i 0).val + (i 1).val) + 0)), wd arg9 t9 ((128 * (i 0).val + (i 1).val) + 0)⟩) :
    R ⊢ wp frame (wpE (defs₀ (F := F)) Variants.none (c : Thread nD τ) none) Set.univ (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v33 v35 v37 v39) Q := by
  rw [k0_part19_eq_skeleton]; unfold k0_part19_skel; simp only [wp_bind]
  refine ld_t ((128 * (i 0).val + (i 1).val) + 0) p t4 (off38_eq i) (acc_t hacc tab4) ?_
  refine ld_t ((128 * (i 0).val + (i 1).val) + 0) fullShare t9 (off38_eq i) (acc_t hacc tab9) ?_
  exact ret_intro hQ

theorem part20 {R : sProp 𝕄} {v1 v86 v88} (hacc : R ⊢ iprop(Tab c arg2 arg3 arg4 arg5 arg6 arg7 arg8 arg9 arg10 p t2 t3 t4 t5 t6 t7 t8 t9 t10 ∗ (Tab c arg2 arg3 arg4 arg5 arg6 arg7 arg8 arg9 arg10 p t2 t3 t4 t5 t6 t7 t8 t9 t10 -∗ R))) {Q : (Σ' (v135 : FVec F S32x106 .f32) (v137 : FVec F S16x32 .f32), IVec S16x32 32) → sProp 𝕄}
    (hQ : R ⊢ Q ⟨k0_pay111 v86 v88 (wd arg10 t10 ((128 * (i 0).val + (i 1).val) + 0)), k0_pay112, iota .tc S16x32 32 [1] iota_S16x32_d1_w32⟩) :
    R ⊢ wp frame (wpE (defs₀ (F := F)) Variants.none (c : Thread nD τ) none) Set.univ (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1 v86 v88) Q := by
  rw [k0_part20_eq_skeleton]; unfold k0_part20_skel; simp only [wp_bind]
  refine ld_t ((128 * (i 0).val + (i 1).val) + 0) fullShare t10 (off38_eq i) (acc_t hacc tab10) ?_
  exact ret_intro hQ

theorem part21 {R : sProp 𝕄} {v2 v82 v135 v137 v138} {S : Finset (Idx (arg13.view.loc (c : Thread nD τ)))} {f : Buf (Elt F) (arg13.view.loc (c : Thread nD τ))} (hS : arg13.view.setOn (Rect.unit (s := S4x88x27136) (k0_off39 i) S1x88x14336.size (k0_off39_inb i)).toLoadRect.set ⊆ S)
    (hacc : R ⊢ iprop((arg13.view.loc (c : Thread nD τ) ↦[S]{fullShare} f) ∗ ((arg13.view.loc (c : Thread nD τ) ↦[S]{fullShare} f) -∗ R))) {Q : (Σ' (v156 : FVec F S14x88 .f32) (v177 : FVec F S14x106 .f32), FVec F S14x14336 .f32) → sProp 𝕄}
    (hQ : R ⊢ Q ⟨k0_pay113 v82 v137 v138, k0_pay114 v135, k0_pay115 v82 v137 v138 (arg13.view.readAt (Elt F) (Rect.unit (s := S4x88x27136) (k0_off39 i) S1x88x14336.size (k0_off39_inb i)).toLoadRect f)⟩) :
    R ⊢ wp frame (wpE (defs₀ (F := F)) Variants.none (c : Thread nD τ) none) Set.univ (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v2 v82 v135 v137 v138) Q := by
  rw [k0_part21_eq_skeleton]; unfold k0_part21_skel; simp only [wp_bind]
  refine ld_p hS hacc ?_
  exact ret_intro hQ

end Cert.KernelIdeal.Hand
-- ==== Proof.FillLow.lean ====
module

public import proofs.«01_k».proof.Proof.Spread

/-! # The columns of the first half

Each part of the kernel that copies columns of the row product's first half, from the columns already copied to those copied after it. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {zf : ℕ → ℕ → F .f32} {i : grid0.Coords} {arg2 : Memref sig .tc .smem S256 .i32} {harg2 : arg2.IsWhole} {arg3 : Memref sig .tc .smem S256 .i32} {harg3 : arg3.IsWhole} {arg4 : Memref sig .tc .smem S256 .i32} {harg4 : arg4.IsWhole} {arg5 : Memref sig .tc .smem S256 .i32} {harg5 : arg5.IsWhole} {arg6 : Memref sig .tc .smem S256 .i32} {harg6 : arg6.IsWhole} {arg7 : Memref sig .tc .smem S256 .f32} {harg7 : arg7.IsWhole} {arg8 : Memref sig .tc .smem S256 .f32} {harg8 : arg8.IsWhole} {arg9 : Memref sig .tc .smem S256 .f32} {harg9 : arg9.IsWhole} {arg10 : Memref sig .tc .smem S256 .f32} {harg10 : arg10.IsWhole} {arg11 : Memref sig .tc .hbm S2x200x69632 .f32} {harg11 : arg11.IsWhole} {arg12 : Memref sig .tc .vmem S1x14x16x256 .f32} {harg12 : arg12.IsWhole} {arg13 : Memref sig .tc .vmem S4x88x27136 .f32} {harg13 : arg13.IsWhole} {arg14 : Memref sig .tc .vmem S16x27136 .f32} {harg14 : arg14.IsWhole} {arg15 : Memref sig .tc .vmem S1498x128 .f32} {harg15 : arg15.IsWhole} {arg16 : Memref sig .tc .vmem S1498x128 .f32} {harg16 : arg16.IsWhole} {arg17 : DmaSems sig S4}

theorem part23 {R : sProp 𝕄} {Q : (Σ' (v233 : Vec F S14x128 .f32), Vec F S14x128 .f32) → sProp 𝕄}
    (hQ : ∀ r, Col zf 0 6 r.1 → (iprop(St c arg14 arg15 arg16 zf 0 14336 6 6 ∗ R) ⊢ Q r)) :
    iprop(St c arg14 arg15 arg16 zf 0 14336 3 3 ∗ R) ⊢ wp frame (wpE (defs₀ (F := F)) Variants.none (c : Thread nD τ) none) Set.univ
      (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part23_eq_skeleton]; unfold k0_part23_skel; simp only [wp_bind]
  refine ld_z 0 3 (by omega) (by omega) (by omega) fun v209 hv209 => ?_
  refine ld_a fun v210 => ?_
  refine st_a hv209 (shapeCast_self _ _) (by omega) ?_
  refine ld_z 128 3 (by omega) (by omega) (by omega) fun v213 hv213 => ?_
  refine ld_b fun v214 => ?_
  refine st_b hv213 (shapeCast_self _ _) (by omega) ?_
  refine ld_z 0 4 (by omega) (by omega) (by omega) fun v217 hv217 => ?_
  refine ld_a fun v218 => ?_
  refine st_a hv217 (shapeCast_self _ _) (by omega) ?_
  refine ld_z 128 4 (by omega) (by omega) (by omega) fun v221 hv221 => ?_
  refine ld_b fun v222 => ?_
  refine st_b hv221 (shapeCast_self _ _) (by omega) ?_
  refine ld_z 0 5 (by omega) (by omega) (by omega) fun v225 hv225 => ?_
  refine ld_a fun v226 => ?_
  refine st_a hv225 (shapeCast_self _ _) (by omega) ?_
  refine ld_z 128 5 (by omega) (by omega) (by omega) fun v229 hv229 => ?_
  refine ld_b fun v230 => ?_
  refine st_b hv229 (shapeCast_self _ _) (by omega) ?_
  refine ld_z 0 6 (by omega) (by omega) (by omega) fun v233 hv233 => ?_
  refine ld_a fun v234 => ?_
  exact ret_intro (hQ ⟨v233, v234⟩ hv233)

theorem part24 {R : sProp 𝕄} (v233 : Vec F S14x128 .f32) (v234 : Vec F S14x128 .f32) (hv233 : Col zf 0 6 v233) {Q : (Vec F S14x128 .f32) → sProp 𝕄}
    (hQ : ∀ r, Col zf 128 9 r → (iprop(St c arg14 arg15 arg16 zf 0 14336 10 9 ∗ R) ⊢ Q r)) :
    iprop(St c arg14 arg15 arg16 zf 0 14336 6 6 ∗ R) ⊢ wp frame (wpE (defs₀ (F := F)) Variants.none (c : Thread nD τ) none) Set.univ
      (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v233 v234) Q := by
  rw [k0_part24_eq_skeleton]; unfold k0_part24_skel; simp only [wp_bind]
  refine st_a hv233 (shapeCast_self _ _) (by omega) ?_
  refine ld_z 128 6 (by omega) (by omega) (by omega) fun v237 hv237 => ?_
  refine ld_b fun v238 => ?_
  refine st_b hv237 (shapeCast_self _ _) (by omega) ?_
  refine ld_z 0 7 (by omega) (by omega) (by omega) fun v241 hv241 => ?_
  refine ld_a fun v242 => ?_
  refine st_a hv241 (shapeCast_self _ _) (by omega) ?_
  refine ld_z 128 7 (by omega) (by omega) (by omega) fun v245 hv245 => ?_
  refine ld_b fun v246 => ?_
  refine st_b hv245 (shapeCast_self _ _) (by omega) ?_
  refine ld_z 0 8 (by omega) (by omega) (by omega) fun v249 hv249 => ?_
  refine ld_a fun v250 => ?_
  refine st_a hv249 (shapeCast_self _ _) (by omega) ?_
  refine ld_z 128 8 (by omega) (by omega) (by omega) fun v253 hv253 => ?_
  refine ld_b fun v254 => ?_
  refine st_b hv253 (shapeCast_self _ _) (by omega) ?_
  refine ld_z 0 9 (by omega) (by omega) (by omega) fun v257 hv257 => ?_
  refine ld_a fun v258 => ?_
  refine st_a hv257 (shapeCast_self _ _) (by omega) ?_
  refine ld_z 128 9 (by omega) (by omega) (by omega) fun v261 hv261 => ?_
  exact hQ _ hv261

theorem part25 {R : sProp 𝕄} (v261 : Vec F S14x128 .f32) (hv261 : Col zf 128 9 v261) {Q : (PUnit) → sProp 𝕄}
    (hQ : ∀ r, (iprop(St c arg14 arg15 arg16 zf 0 14336 13 13 ∗ R) ⊢ Q r)) :
    iprop(St c arg14 arg15 arg16 zf 0 14336 10 9 ∗ R) ⊢ wp frame (wpE (defs₀ (F := F)) Variants.none (c : Thread nD τ) none) Set.univ
      (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v261) Q := by
  rw [k0_part25_eq_skeleton]; unfold k0_part25_skel; simp only [wp_bind]
  refine ld_b fun v262 => ?_
  refine st_b hv261 (shapeCast_self _ _) (by omega) ?_
  refine ld_z 0 10 (by omega) (by omega) (by omega) fun v265 hv265 => ?_
  refine ld_a fun v266 => ?_
  refine st_a hv265 (shapeCast_self _ _) (by omega) ?_
  refine ld_z 128 10 (by omega) (by omega) (by omega) fun v269 hv269 => ?_
  refine ld_b fun v270 => ?_
  refine st_b hv269 (shapeCast_self _ _) (by omega) ?_
  refine ld_z 0 11 (by omega) (by omega) (by omega) fun v273 hv273 => ?_
  refine ld_a fun v274 => ?_
  refine st_a hv273 (shapeCast_self _ _) (by omega) ?_
  refine ld_z 128 11 (by omega) (by omega) (by omega) fun v277 hv277 => ?_
  refine ld_b fun v278 => ?_
  refine st_b hv277 (shapeCast_self _ _) (by omega) ?_
  refine ld_z 0 12 (by omega) (by omega) (by omega) fun v281 hv281 => ?_
  refine ld_a fun v282 => ?_
  refine st_a hv281 (shapeCast_self _ _) (by omega) ?_
  refine ld_z 128 12 (by omega) (by omega) (by omega) fun v285 hv285 => ?_
  refine ld_b fun v286 => ?_
  refine st_b hv285 (shapeCast_self _ _) (by omega) ?_
  exact ret_intro (hQ ⟨⟩)

theorem part26 {R : sProp 𝕄} {Q : (Σ' (v313 : Vec F S14x128 .f32), Vec F S14x128 .f32) → sProp 𝕄}
    (hQ : ∀ r, Col zf 0 16 r.1 → (iprop(St c arg14 arg15 arg16 zf 0 14336 16 16 ∗ R) ⊢ Q r)) :
    iprop(St c arg14 arg15 arg16 zf 0 14336 13 13 ∗ R) ⊢ wp frame (wpE (defs₀ (F := F)) Variants.none (c : Thread nD τ) none) Set.univ
      (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part26_eq_skeleton]; unfold k0_part26_skel; simp only [wp_bind]
  refine ld_z 0 13 (by omega) (by omega) (by omega) fun v289 hv289 => ?_
  refine ld_a fun v290 => ?_
  refine st_a hv289 (shapeCast_self _ _) (by omega) ?_
  refine ld_z 128 13 (by omega) (by omega) (by omega) fun v293 hv293 => ?_
  refine ld_b fun v294 => ?_
  refine st_b hv293 (shapeCast_self _ _) (by omega) ?_
  refine ld_z 0 14 (by omega) (by omega) (by omega) fun v297 hv297 => ?_
  refine ld_a fun v298 => ?_
  refine st_a hv297 (shapeCast_self _ _) (by omega) ?_
  refine ld_z 128 14 (by omega) (by omega) (by omega) fun v301 hv301 => ?_
  refine ld_b fun v302 => ?_
  refine st_b hv301 (shapeCast_self _ _) (by omega) ?_
  refine ld_z 0 15 (by omega) (by omega) (by omega) fun v305 hv305 => ?_
  refine ld_a fun v306 => ?_
  refine st_a hv305 (shapeCast_self _ _) (by omega) ?_
  refine ld_z 128 15 (by omega) (by omega) (by omega) fun v309 hv309 => ?_
  refine ld_b fun v310 => ?_
  refine st_b hv309 (shapeCast_self _ _) (by omega) ?_
  refine ld_z 0 16 (by omega) (by omega) (by omega) fun v313 hv313 => ?_
  refine ld_a fun v314 => ?_
  exact ret_intro (hQ ⟨v313, v314⟩ hv313)

theorem part27 {R : sProp 𝕄} (v313 : Vec F S14x128 .f32) (v314 : Vec F S14x128 .f32) (hv313 : Col zf 0 16 v313) {Q : (Vec F S14x128 .f32) → sProp 𝕄}
    (hQ : ∀ r, Col zf 128 19 r → (iprop(St c arg14 arg15 arg16 zf 0 14336 20 19 ∗ R) ⊢ Q r)) :
    iprop(St c arg14 arg15 arg16 zf 0 14336 16 16 ∗ R) ⊢ wp frame (wpE (defs₀ (F := F)) Variants.none (c : Thread nD τ) none) Set.univ
      (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v313 v314) Q := by
  rw [k0_part27_eq_skeleton]; unfold k0_part27_skel; simp only [wp_bind]
  refine st_a hv313 (shapeCast_self _ _) (by omega) ?_
  refine ld_z 128 16 (by omega) (by omega) (by omega) fun v317 hv317 => ?_
  refine ld_b fun v318 => ?_
  refine st_b hv317 (shapeCast_self _ _) (by omega) ?_
  refine ld_z 0 17 (by omega) (by omega) (by omega) fun v321 hv321 => ?_
  refine ld_a fun v322 => ?_
  refine st_a hv321 (shapeCast_self _ _) (by omega) ?_
  refine ld_z 128 17 (by omega) (by omega) (by omega) fun v325 hv325 => ?_
  refine ld_b fun v326 => ?_
  refine st_b hv325 (shapeCast_self _ _) (by omega) ?_
  refine ld_z 0 18 (by omega) (by omega) (by omega) fun v329 hv329 => ?_
  refine ld_a fun v330 => ?_
  refine st_a hv329 (shapeCast_self _ _) (by omega) ?_
  refine ld_z 128 18 (by omega) (by omega) (by omega) fun v333 hv333 => ?_
  refine ld_b fun v334 => ?_
  refine st_b hv333 (shapeCast_self _ _) (by omega) ?_
  refine ld_z 0 19 (by omega) (by omega) (by omega) fun v337 hv337 => ?_
  refine ld_a fun v338 => ?_
  refine st_a hv337 (shapeCast_self _ _) (by omega) ?_
  refine ld_z 128 19 (by omega) (by omega) (by omega) fun v341 hv341 => ?_
  exact hQ _ hv341

theorem part28 {R : sProp 𝕄} (v341 : Vec F S14x128 .f32) (hv341 : Col zf 128 19 v341) {Q : (PUnit) → sProp 𝕄}
    (hQ : ∀ r, (iprop(St c arg14 arg15 arg16 zf 0 14336 23 23 ∗ R) ⊢ Q r)) :
    iprop(St c arg14 arg15 arg16 zf 0 14336 20 19 ∗ R) ⊢ wp frame (wpE (defs₀ (F := F)) Variants.none (c : Thread nD τ) none) Set.univ
      (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v341) Q := by
  rw [k0_part28_eq_skeleton]; unfold k0_part28_skel; simp only [wp_bind]
  refine ld_b fun v342 => ?_
  refine st_b hv341 (shapeCast_self _ _) (by omega) ?_
  refine ld_z 0 20 (by omega) (by omega) (by omega) fun v345 hv345 => ?_
  refine ld_a fun v346 => ?_
  refine st_a hv345 (shapeCast_self _ _) (by omega) ?_
  refine ld_z 128 20 (by omega) (by omega) (by omega) fun v349 hv349 => ?_
  refine ld_b fun v350 => ?_
  refine st_b hv349 (shapeCast_self _ _) (by omega) ?_
  refine ld_z 0 21 (by omega) (by omega) (by omega) fun v353 hv353 => ?_
  refine ld_a fun v354 => ?_
  refine st_a hv353 (shapeCast_self _ _) (by omega) ?_
  refine ld_z 128 21 (by omega) (by omega) (by omega) fun v357 hv357 => ?_
  refine ld_b fun v358 => ?_
  refine st_b hv357 (shapeCast_self _ _) (by omega) ?_
  refine ld_z 0 22 (by omega) (by omega) (by omega) fun v361 hv361 => ?_
  refine ld_a fun v362 => ?_
  refine st_a hv361 (shapeCast_self _ _) (by omega) ?_
  refine ld_z 128 22 (by omega) (by omega) (by omega) fun v365 hv365 => ?_
  refine ld_b fun v366 => ?_
  refine st_b hv365 (shapeCast_self _ _) (by omega) ?_
  exact ret_intro (hQ ⟨⟩)

theorem part29 {R : sProp 𝕄} {Q : (Σ' (v393 : Vec F S14x128 .f32), Vec F S14x128 .f32) → sProp 𝕄}
    (hQ : ∀ r, Col zf 0 26 r.1 → (iprop(St c arg14 arg15 arg16 zf 0 14336 26 26 ∗ R) ⊢ Q r)) :
    iprop(St c arg14 arg15 arg16 zf 0 14336 23 23 ∗ R) ⊢ wp frame (wpE (defs₀ (F := F)) Variants.none (c : Thread nD τ) none) Set.univ
      (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part29_eq_skeleton]; unfold k0_part29_skel; simp only [wp_bind]
  refine ld_z 0 23 (by omega) (by omega) (by omega) fun v369 hv369 => ?_
  refine ld_a fun v370 => ?_
  refine st_a hv369 (shapeCast_self _ _) (by omega) ?_
  refine ld_z 128 23 (by omega) (by omega) (by omega) fun v373 hv373 => ?_
  refine ld_b fun v374 => ?_
  refine st_b hv373 (shapeCast_self _ _) (by omega) ?_
  refine ld_z 0 24 (by omega) (by omega) (by omega) fun v377 hv377 => ?_
  refine ld_a fun v378 => ?_
  refine st_a hv377 (shapeCast_self _ _) (by omega) ?_
  refine ld_z 128 24 (by omega) (by omega) (by omega) fun v381 hv381 => ?_
  refine ld_b fun v382 => ?_
  refine st_b hv381 (shapeCast_self _ _) (by omega) ?_
  refine ld_z 0 25 (by omega) (by omega) (by omega) fun v385 hv385 => ?_
  refine ld_a fun v386 => ?_
  refine st_a hv385 (shapeCast_self _ _) (by omega) ?_
  refine ld_z 128 25 (by omega) (by omega) (by omega) fun v389 hv389 => ?_
  refine ld_b fun v390 => ?_
  refine st_b hv389 (shapeCast_self _ _) (by omega) ?_
  refine ld_z 0 26 (by omega) (by omega) (by omega) fun v393 hv393 => ?_
  refine ld_a fun v394 => ?_
  exact ret_intro (hQ ⟨v393, v394⟩ hv393)

theorem part30 {R : sProp 𝕄} (v393 : Vec F S14x128 .f32) (v394 : Vec F S14x128 .f32) (hv393 : Col zf 0 26 v393) {Q : (Vec F S14x128 .f32) → sProp 𝕄}
    (hQ : ∀ r, Col zf 128 29 r → (iprop(St c arg14 arg15 arg16 zf 0 14336 30 29 ∗ R) ⊢ Q r)) :
    iprop(St c arg14 arg15 arg16 zf 0 14336 26 26 ∗ R) ⊢ wp frame (wpE (defs₀ (F := F)) Variants.none (c : Thread nD τ) none) Set.univ
      (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v393 v394) Q := by
  rw [k0_part30_eq_skeleton]; unfold k0_part30_skel; simp only [wp_bind]
  refine st_a hv393 (shapeCast_self _ _) (by omega) ?_
  refine ld_z 128 26 (by omega) (by omega) (by omega) fun v397 hv397 => ?_
  refine ld_b fun v398 => ?_
  refine st_b hv397 (shapeCast_self _ _) (by omega) ?_
  refine ld_z 0 27 (by omega) (by omega) (by omega) fun v401 hv401 => ?_
  refine ld_a fun v402 => ?_
  refine st_a hv401 (shapeCast_self _ _) (by omega) ?_
  refine ld_z 128 27 (by omega) (by omega) (by omega) fun v405 hv405 => ?_
  refine ld_b fun v406 => ?_
  refine st_b hv405 (shapeCast_self _ _) (by omega) ?_
  refine ld_z 0 28 (by omega) (by omega) (by omega) fun v409 hv409 => ?_
  refine ld_a fun v410 => ?_
  refine st_a hv409 (shapeCast_self _ _) (by omega) ?_
  refine ld_z 128 28 (by omega) (by omega) (by omega) fun v413 hv413 => ?_
  refine ld_b fun v414 => ?_
  refine st_b hv413 (shapeCast_self _ _) (by omega) ?_
  refine ld_z 0 29 (by omega) (by omega) (by omega) fun v417 hv417 => ?_
  refine ld_a fun v418 => ?_
  refine st_a hv417 (shapeCast_self _ _) (by omega) ?_
  refine ld_z 128 29 (by omega) (by omega) (by omega) fun v421 hv421 => ?_
  exact hQ _ hv421

theorem part31 {R : sProp 𝕄} (v421 : Vec F S14x128 .f32) (hv421 : Col zf 128 29 v421) {Q : (PUnit) → sProp 𝕄}
    (hQ : ∀ r, (iprop(St c arg14 arg15 arg16 zf 0 14336 33 33 ∗ R) ⊢ Q r)) :
    iprop(St c arg14 arg15 arg16 zf 0 14336 30 29 ∗ R) ⊢ wp frame (wpE (defs₀ (F := F)) Variants.none (c : Thread nD τ) none) Set.univ
      (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v421) Q := by
  rw [k0_part31_eq_skeleton]; unfold k0_part31_skel; simp only [wp_bind]
  refine ld_b fun v422 => ?_
  refine st_b hv421 (shapeCast_self _ _) (by omega) ?_
  refine ld_z 0 30 (by omega) (by omega) (by omega) fun v425 hv425 => ?_
  refine ld_a fun v426 => ?_
  refine st_a hv425 (shapeCast_self _ _) (by omega) ?_
  refine ld_z 128 30 (by omega) (by omega) (by omega) fun v429 hv429 => ?_
  refine ld_b fun v430 => ?_
  refine st_b hv429 (shapeCast_self _ _) (by omega) ?_
  refine ld_z 0 31 (by omega) (by omega) (by omega) fun v433 hv433 => ?_
  refine ld_a fun v434 => ?_
  refine st_a hv433 (shapeCast_self _ _) (by omega) ?_
  refine ld_z 128 31 (by omega) (by omega) (by omega) fun v437 hv437 => ?_
  refine ld_b fun v438 => ?_
  refine st_b hv437 (shapeCast_self _ _) (by omega) ?_
  refine ld_z 0 32 (by omega) (by omega) (by omega) fun v441 hv441 => ?_
  refine ld_a fun v442 => ?_
  refine st_a hv441 (shapeCast_self _ _) (by omega) ?_
  refine ld_z 128 32 (by omega) (by omega) (by omega) fun v445 hv445 => ?_
  refine ld_b fun v446 => ?_
  refine st_b hv445 (shapeCast_self _ _) (by omega) ?_
  exact ret_intro (hQ ⟨⟩)

theorem part32 {R : sProp 𝕄} {Q : (Σ' (v473 : Vec F S14x128 .f32), Vec F S14x128 .f32) → sProp 𝕄}
    (hQ : ∀ r, Col zf 0 36 r.1 → (iprop(St c arg14 arg15 arg16 zf 0 14336 36 36 ∗ R) ⊢ Q r)) :
    iprop(St c arg14 arg15 arg16 zf 0 14336 33 33 ∗ R) ⊢ wp frame (wpE (defs₀ (F := F)) Variants.none (c : Thread nD τ) none) Set.univ
      (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part32_eq_skeleton]; unfold k0_part32_skel; simp only [wp_bind]
  refine ld_z 0 33 (by omega) (by omega) (by omega) fun v449 hv449 => ?_
  refine ld_a fun v450 => ?_
  refine st_a hv449 (shapeCast_self _ _) (by omega) ?_
  refine ld_z 128 33 (by omega) (by omega) (by omega) fun v453 hv453 => ?_
  refine ld_b fun v454 => ?_
  refine st_b hv453 (shapeCast_self _ _) (by omega) ?_
  refine ld_z 0 34 (by omega) (by omega) (by omega) fun v457 hv457 => ?_
  refine ld_a fun v458 => ?_
  refine st_a hv457 (shapeCast_self _ _) (by omega) ?_
  refine ld_z 128 34 (by omega) (by omega) (by omega) fun v461 hv461 => ?_
  refine ld_b fun v462 => ?_
  refine st_b hv461 (shapeCast_self _ _) (by omega) ?_
  refine ld_z 0 35 (by omega) (by omega) (by omega) fun v465 hv465 => ?_
  refine ld_a fun v466 => ?_
  refine st_a hv465 (shapeCast_self _ _) (by omega) ?_
  refine ld_z 128 35 (by omega) (by omega) (by omega) fun v469 hv469 => ?_
  refine ld_b fun v470 => ?_
  refine st_b hv469 (shapeCast_self _ _) (by omega) ?_
  refine ld_z 0 36 (by omega) (by omega) (by omega) fun v473 hv473 => ?_
  refine ld_a fun v474 => ?_
  exact ret_intro (hQ ⟨v473, v474⟩ hv473)

theorem part33 {R : sProp 𝕄} (v473 : Vec F S14x128 .f32) (v474 : Vec F S14x128 .f32) (hv473 : Col zf 0 36 v473) {Q : (Vec F S14x128 .f32) → sProp 𝕄}
    (hQ : ∀ r, Col zf 128 39 r → (iprop(St c arg14 arg15 arg16 zf 0 14336 40 39 ∗ R) ⊢ Q r)) :
    iprop(St c arg14 arg15 arg16 zf 0 14336 36 36 ∗ R) ⊢ wp frame (wpE (defs₀ (F := F)) Variants.none (c : Thread nD τ) none) Set.univ
      (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v473 v474) Q := by
  rw [k0_part33_eq_skeleton]; unfold k0_part33_skel; simp only [wp_bind]
  refine st_a hv473 (shapeCast_self _ _) (by omega) ?_
  refine ld_z 128 36 (by omega) (by omega) (by omega) fun v477 hv477 => ?_
  refine ld_b fun v478 => ?_
  refine st_b hv477 (shapeCast_self _ _) (by omega) ?_
  refine ld_z 0 37 (by omega) (by omega) (by omega) fun v481 hv481 => ?_
  refine ld_a fun v482 => ?_
  refine st_a hv481 (shapeCast_self _ _) (by omega) ?_
  refine ld_z 128 37 (by omega) (by omega) (by omega) fun v485 hv485 => ?_
  refine ld_b fun v486 => ?_
  refine st_b hv485 (shapeCast_self _ _) (by omega) ?_
  refine ld_z 0 38 (by omega) (by omega) (by omega) fun v489 hv489 => ?_
  refine ld_a fun v490 => ?_
  refine st_a hv489 (shapeCast_self _ _) (by omega) ?_
  refine ld_z 128 38 (by omega) (by omega) (by omega) fun v493 hv493 => ?_
  refine ld_b fun v494 => ?_
  refine st_b hv493 (shapeCast_self _ _) (by omega) ?_
  refine ld_z 0 39 (by omega) (by omega) (by omega) fun v497 hv497 => ?_
  refine ld_a fun v498 => ?_
  refine st_a hv497 (shapeCast_self _ _) (by omega) ?_
  refine ld_z 128 39 (by omega) (by omega) (by omega) fun v501 hv501 => ?_
  exact hQ _ hv501

theorem part34 {R : sProp 𝕄} (v501 : Vec F S14x128 .f32) (hv501 : Col zf 128 39 v501) {Q : (PUnit) → sProp 𝕄}
    (hQ : ∀ r, (iprop(St c arg14 arg15 arg16 zf 0 14336 43 43 ∗ R) ⊢ Q r)) :
    iprop(St c arg14 arg15 arg16 zf 0 14336 40 39 ∗ R) ⊢ wp frame (wpE (defs₀ (F := F)) Variants.none (c : Thread nD τ) none) Set.univ
      (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v501) Q := by
  rw [k0_part34_eq_skeleton]; unfold k0_part34_skel; simp only [wp_bind]
  refine ld_b fun v502 => ?_
  refine st_b hv501 (shapeCast_self _ _) (by omega) ?_
  refine ld_z 0 40 (by omega) (by omega) (by omega) fun v505 hv505 => ?_
  refine ld_a fun v506 => ?_
  refine st_a hv505 (shapeCast_self _ _) (by omega) ?_
  refine ld_z 128 40 (by omega) (by omega) (by omega) fun v509 hv509 => ?_
  refine ld_b fun v510 => ?_
  refine st_b hv509 (shapeCast_self _ _) (by omega) ?_
  refine ld_z 0 41 (by omega) (by omega) (by omega) fun v513 hv513 => ?_
  refine ld_a fun v514 => ?_
  refine st_a hv513 (shapeCast_self _ _) (by omega) ?_
  refine ld_z 128 41 (by omega) (by omega) (by omega) fun v517 hv517 => ?_
  refine ld_b fun v518 => ?_
  refine st_b hv517 (shapeCast_self _ _) (by omega) ?_
  refine ld_z 0 42 (by omega) (by omega) (by omega) fun v521 hv521 => ?_
  refine ld_a fun v522 => ?_
  refine st_a hv521 (shapeCast_self _ _) (by omega) ?_
  refine ld_z 128 42 (by omega) (by omega) (by omega) fun v525 hv525 => ?_
  refine ld_b fun v526 => ?_
  refine st_b hv525 (shapeCast_self _ _) (by omega) ?_
  exact ret_intro (hQ ⟨⟩)

theorem part35 {R : sProp 𝕄} {Q : (Σ' (v553 : Vec F S14x128 .f32), Vec F S14x128 .f32) → sProp 𝕄}
    (hQ : ∀ r, Col zf 0 46 r.1 → (iprop(St c arg14 arg15 arg16 zf 0 14336 46 46 ∗ R) ⊢ Q r)) :
    iprop(St c arg14 arg15 arg16 zf 0 14336 43 43 ∗ R) ⊢ wp frame (wpE (defs₀ (F := F)) Variants.none (c : Thread nD τ) none) Set.univ
      (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part35_eq_skeleton]; unfold k0_part35_skel; simp only [wp_bind]
  refine ld_z 0 43 (by omega) (by omega) (by omega) fun v529 hv529 => ?_
  refine ld_a fun v530 => ?_
  refine st_a hv529 (shapeCast_self _ _) (by omega) ?_
  refine ld_z 128 43 (by omega) (by omega) (by omega) fun v533 hv533 => ?_
  refine ld_b fun v534 => ?_
  refine st_b hv533 (shapeCast_self _ _) (by omega) ?_
  refine ld_z 0 44 (by omega) (by omega) (by omega) fun v537 hv537 => ?_
  refine ld_a fun v538 => ?_
  refine st_a hv537 (shapeCast_self _ _) (by omega) ?_
  refine ld_z 128 44 (by omega) (by omega) (by omega) fun v541 hv541 => ?_
  refine ld_b fun v542 => ?_
  refine st_b hv541 (shapeCast_self _ _) (by omega) ?_
  refine ld_z 0 45 (by omega) (by omega) (by omega) fun v545 hv545 => ?_
  refine ld_a fun v546 => ?_
  refine st_a hv545 (shapeCast_self _ _) (by omega) ?_
  refine ld_z 128 45 (by omega) (by omega) (by omega) fun v549 hv549 => ?_
  refine ld_b fun v550 => ?_
  refine st_b hv549 (shapeCast_self _ _) (by omega) ?_
  refine ld_z 0 46 (by omega) (by omega) (by omega) fun v553 hv553 => ?_
  refine ld_a fun v554 => ?_
  exact ret_intro (hQ ⟨v553, v554⟩ hv553)

theorem part36 {R : sProp 𝕄} (v553 : Vec F S14x128 .f32) (v554 : Vec F S14x128 .f32) (hv553 : Col zf 0 46 v553) {Q : (Vec F S14x128 .f32) → sProp 𝕄}
    (hQ : ∀ r, Col zf 128 49 r → (iprop(St c arg14 arg15 arg16 zf 0 14336 50 49 ∗ R) ⊢ Q r)) :
    iprop(St c arg14 arg15 arg16 zf 0 14336 46 46 ∗ R) ⊢ wp frame (wpE (defs₀ (F := F)) Variants.none (c : Thread nD τ) none) Set.univ
      (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v553 v554) Q := by
  rw [k0_part36_eq_skeleton]; unfold k0_part36_skel; simp only [wp_bind]
  refine st_a hv553 (shapeCast_self _ _) (by omega) ?_
  refine ld_z 128 46 (by omega) (by omega) (by omega) fun v557 hv557 => ?_
  refine ld_b fun v558 => ?_
  refine st_b hv557 (shapeCast_self _ _) (by omega) ?_
  refine ld_z 0 47 (by omega) (by omega) (by omega) fun v561 hv561 => ?_
  refine ld_a fun v562 => ?_
  refine st_a hv561 (shapeCast_self _ _) (by omega) ?_
  refine ld_z 128 47 (by omega) (by omega) (by omega) fun v565 hv565 => ?_
  refine ld_b fun v566 => ?_
  refine st_b hv565 (shapeCast_self _ _) (by omega) ?_
  refine ld_z 0 48 (by omega) (by omega) (by omega) fun v569 hv569 => ?_
  refine ld_a fun v570 => ?_
  refine st_a hv569 (shapeCast_self _ _) (by omega) ?_
  refine ld_z 128 48 (by omega) (by omega) (by omega) fun v573 hv573 => ?_
  refine ld_b fun v574 => ?_
  refine st_b hv573 (shapeCast_self _ _) (by omega) ?_
  refine ld_z 0 49 (by omega) (by omega) (by omega) fun v577 hv577 => ?_
  refine ld_a fun v578 => ?_
  refine st_a hv577 (shapeCast_self _ _) (by omega) ?_
  refine ld_z 128 49 (by omega) (by omega) (by omega) fun v581 hv581 => ?_
  exact hQ _ hv581

theorem part37 {R : sProp 𝕄} (v581 : Vec F S14x128 .f32) (hv581 : Col zf 128 49 v581) {Q : (PUnit) → sProp 𝕄}
    (hQ : ∀ r, (iprop(St c arg14 arg15 arg16 zf 0 14336 53 53 ∗ R) ⊢ Q r)) :
    iprop(St c arg14 arg15 arg16 zf 0 14336 50 49 ∗ R) ⊢ wp frame (wpE (defs₀ (F := F)) Variants.none (c : Thread nD τ) none) Set.univ
      (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v581) Q := by
  rw [k0_part37_eq_skeleton]; unfold k0_part37_skel; simp only [wp_bind]
  refine ld_b fun v582 => ?_
  refine st_b hv581 (shapeCast_self _ _) (by omega) ?_
  refine ld_z 0 50 (by omega) (by omega) (by omega) fun v585 hv585 => ?_
  refine ld_a fun v586 => ?_
  refine st_a hv585 (shapeCast_self _ _) (by omega) ?_
  refine ld_z 128 50 (by omega) (by omega) (by omega) fun v589 hv589 => ?_
  refine ld_b fun v590 => ?_
  refine st_b hv589 (shapeCast_self _ _) (by omega) ?_
  refine ld_z 0 51 (by omega) (by omega) (by omega) fun v593 hv593 => ?_
  refine ld_a fun v594 => ?_
  refine st_a hv593 (shapeCast_self _ _) (by omega) ?_
  refine ld_z 128 51 (by omega) (by omega) (by omega) fun v597 hv597 => ?_
  refine ld_b fun v598 => ?_
  refine st_b hv597 (shapeCast_self _ _) (by omega) ?_
  refine ld_z 0 52 (by omega) (by omega) (by omega) fun v601 hv601 => ?_
  refine ld_a fun v602 => ?_
  refine st_a hv601 (shapeCast_self _ _) (by omega) ?_
  refine ld_z 128 52 (by omega) (by omega) (by omega) fun v605 hv605 => ?_
  refine ld_b fun v606 => ?_
  refine st_b hv605 (shapeCast_self _ _) (by omega) ?_
  exact ret_intro (hQ ⟨⟩)

end Cert.KernelIdeal.Hand
-- ==== Proof.FillHigh.lean ====
module

public import proofs.«01_k».proof.Proof.Spread

/-! # The columns of the second half

Each part of the kernel that copies columns of the row product's second half, from the columns already copied to those copied after it. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {zf : ℕ → ℕ → F .f32} {i : grid0.Coords} {arg2 : Memref sig .tc .smem S256 .i32} {harg2 : arg2.IsWhole} {arg3 : Memref sig .tc .smem S256 .i32} {harg3 : arg3.IsWhole} {arg4 : Memref sig .tc .smem S256 .i32} {harg4 : arg4.IsWhole} {arg5 : Memref sig .tc .smem S256 .i32} {harg5 : arg5.IsWhole} {arg6 : Memref sig .tc .smem S256 .i32} {harg6 : arg6.IsWhole} {arg7 : Memref sig .tc .smem S256 .f32} {harg7 : arg7.IsWhole} {arg8 : Memref sig .tc .smem S256 .f32} {harg8 : arg8.IsWhole} {arg9 : Memref sig .tc .smem S256 .f32} {harg9 : arg9.IsWhole} {arg10 : Memref sig .tc .smem S256 .f32} {harg10 : arg10.IsWhole} {arg11 : Memref sig .tc .hbm S2x200x69632 .f32} {harg11 : arg11.IsWhole} {arg12 : Memref sig .tc .vmem S1x14x16x256 .f32} {harg12 : arg12.IsWhole} {arg13 : Memref sig .tc .vmem S4x88x27136 .f32} {harg13 : arg13.IsWhole} {arg14 : Memref sig .tc .vmem S16x27136 .f32} {harg14 : arg14.IsWhole} {arg15 : Memref sig .tc .vmem S1498x128 .f32} {harg15 : arg15.IsWhole} {arg16 : Memref sig .tc .vmem S1498x128 .f32} {harg16 : arg16.IsWhole} {arg17 : DmaSems sig S4}

theorem part4 {R : sProp 𝕄} {Q : (FVec F S14x128 .f32) → sProp 𝕄}
    (hQ : ∀ r, Col zf 128 61 r → (iprop(St c arg14 arg15 arg16 zf 14336 27136 62 61 ∗ R) ⊢ Q r)) :
    iprop(St c arg14 arg15 arg16 zf 14336 27136 59 58 ∗ R) ⊢ wp frame (wpE (defs₀ (F := F)) Variants.none (c : Thread nD τ) none) Set.univ
      (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part4_eq_skeleton]; unfold k0_part4_skel; simp only [wp_bind]
  refine ld_z 128 58 (by omega) (by omega) (by omega) fun v805 hv805 => ?_
  refine ld_b fun v806 => ?_
  refine st_b hv805 (shapeCast_self _ _) (by omega) ?_
  refine ld_z 0 59 (by omega) (by omega) (by omega) fun v809 hv809 => ?_
  refine ld_a fun v810 => ?_
  refine st_a hv809 (shapeCast_self _ _) (by omega) ?_
  refine ld_z 128 59 (by omega) (by omega) (by omega) fun v813 hv813 => ?_
  refine ld_b fun v814 => ?_
  refine st_b hv813 (shapeCast_self _ _) (by omega) ?_
  refine ld_z 0 60 (by omega) (by omega) (by omega) fun v817 hv817 => ?_
  refine ld_a fun v818 => ?_
  refine st_a hv817 (shapeCast_self _ _) (by omega) ?_
  refine ld_z 128 60 (by omega) (by omega) (by omega) fun v821 hv821 => ?_
  refine ld_b fun v822 => ?_
  refine st_b hv821 (shapeCast_self _ _) (by omega) ?_
  refine ld_z 0 61 (by omega) (by omega) (by omega) fun v825 hv825 => ?_
  refine ld_a fun v826 => ?_
  refine st_a hv825 (shapeCast_self _ _) (by omega) ?_
  refine ld_z 128 61 (by omega) (by omega) (by omega) fun v829 hv829 => ?_
  refine ld_b fun v830 => ?_
  exact ret_intro (hQ _ (col_congr (shapeCast_self _ _) hv829))

theorem part5 {R : sProp 𝕄} (v832 : FVec F S14x128 .f32) (hv832 : Col zf 128 61 v832) {Q : (Vec F S14x128 .f32) → sProp 𝕄}
    (hQ : ∀ r, Col zf 0 65 r → (iprop(St c arg14 arg15 arg16 zf 14336 27136 65 65 ∗ R) ⊢ Q r)) :
    iprop(St c arg14 arg15 arg16 zf 14336 27136 62 61 ∗ R) ⊢ wp frame (wpE (defs₀ (F := F)) Variants.none (c : Thread nD τ) none) Set.univ
      (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v832) Q := by
  rw [k0_part5_eq_skeleton]; unfold k0_part5_skel; simp only [wp_bind]
  refine st_b hv832 rfl (by omega) ?_
  refine ld_z 0 62 (by omega) (by omega) (by omega) fun v833 hv833 => ?_
  refine ld_a fun v834 => ?_
  refine st_a hv833 (shapeCast_self _ _) (by omega) ?_
  refine ld_z 128 62 (by omega) (by omega) (by omega) fun v837 hv837 => ?_
  refine ld_b fun v838 => ?_
  refine st_b hv837 (shapeCast_self _ _) (by omega) ?_
  refine ld_z 0 63 (by omega) (by omega) (by omega) fun v841 hv841 => ?_
  refine ld_a fun v842 => ?_
  refine st_a hv841 (shapeCast_self _ _) (by omega) ?_
  refine ld_z 128 63 (by omega) (by omega) (by omega) fun v845 hv845 => ?_
  refine ld_b fun v846 => ?_
  refine st_b hv845 (shapeCast_self _ _) (by omega) ?_
  refine ld_z 0 64 (by omega) (by omega) (by omega) fun v849 hv849 => ?_
  refine ld_a fun v850 => ?_
  refine st_a hv849 (shapeCast_self _ _) (by omega) ?_
  refine ld_z 128 64 (by omega) (by omega) (by omega) fun v853 hv853 => ?_
  refine ld_b fun v854 => ?_
  refine st_b hv853 (shapeCast_self _ _) (by omega) ?_
  refine ld_z 0 65 (by omega) (by omega) (by omega) fun v857 hv857 => ?_
  exact ret_intro (hQ _ hv857)

theorem part6 {R : sProp 𝕄} (v857 : Vec F S14x128 .f32) (hv857 : Col zf 0 65 v857) {Q : (PUnit) → sProp 𝕄}
    (hQ : ∀ r, (iprop(St c arg14 arg15 arg16 zf 14336 27136 69 68 ∗ R) ⊢ Q r)) :
    iprop(St c arg14 arg15 arg16 zf 14336 27136 65 65 ∗ R) ⊢ wp frame (wpE (defs₀ (F := F)) Variants.none (c : Thread nD τ) none) Set.univ
      (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v857) Q := by
  rw [k0_part6_eq_skeleton]; unfold k0_part6_skel; simp only [wp_bind]
  refine ld_a fun v858 => ?_
  refine st_a hv857 (shapeCast_self _ _) (by omega) ?_
  refine ld_z 128 65 (by omega) (by omega) (by omega) fun v861 hv861 => ?_
  refine ld_b fun v862 => ?_
  refine st_b hv861 (shapeCast_self _ _) (by omega) ?_
  refine ld_z 0 66 (by omega) (by omega) (by omega) fun v865 hv865 => ?_
  refine ld_a fun v866 => ?_
  refine st_a hv865 (shapeCast_self _ _) (by omega) ?_
  refine ld_z 128 66 (by omega) (by omega) (by omega) fun v869 hv869 => ?_
  refine ld_b fun v870 => ?_
  refine st_b hv869 (shapeCast_self _ _) (by omega) ?_
  refine ld_z 0 67 (by omega) (by omega) (by omega) fun v873 hv873 => ?_
  refine ld_a fun v874 => ?_
  refine st_a hv873 (shapeCast_self _ _) (by omega) ?_
  refine ld_z 128 67 (by omega) (by omega) (by omega) fun v877 hv877 => ?_
  refine ld_b fun v878 => ?_
  refine st_b hv877 (shapeCast_self _ _) (by omega) ?_
  refine ld_z 0 68 (by omega) (by omega) (by omega) fun v881 hv881 => ?_
  refine ld_a fun v882 => ?_
  refine st_a hv881 (shapeCast_self _ _) (by omega) ?_
  exact ret_intro (hQ ⟨⟩)

theorem part7 {R : sProp 𝕄} {Q : (FVec F S14x128 .f32) → sProp 𝕄}
    (hQ : ∀ r, Col zf 128 71 r → (iprop(St c arg14 arg15 arg16 zf 14336 27136 72 71 ∗ R) ⊢ Q r)) :
    iprop(St c arg14 arg15 arg16 zf 14336 27136 69 68 ∗ R) ⊢ wp frame (wpE (defs₀ (F := F)) Variants.none (c : Thread nD τ) none) Set.univ
      (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part7_eq_skeleton]; unfold k0_part7_skel; simp only [wp_bind]
  refine ld_z 128 68 (by omega) (by omega) (by omega) fun v885 hv885 => ?_
  refine ld_b fun v886 => ?_
  refine st_b hv885 (shapeCast_self _ _) (by omega) ?_
  refine ld_z 0 69 (by omega) (by omega) (by omega) fun v889 hv889 => ?_
  refine ld_a fun v890 => ?_
  refine st_a hv889 (shapeCast_self _ _) (by omega) ?_
  refine ld_z 128 69 (by omega) (by omega) (by omega) fun v893 hv893 => ?_
  refine ld_b fun v894 => ?_
  refine st_b hv893 (shapeCast_self _ _) (by omega) ?_
  refine ld_z 0 70 (by omega) (by omega) (by omega) fun v897 hv897 => ?_
  refine ld_a fun v898 => ?_
  refine st_a hv897 (shapeCast_self _ _) (by omega) ?_
  refine ld_z 128 70 (by omega) (by omega) (by omega) fun v901 hv901 => ?_
  refine ld_b fun v902 => ?_
  refine st_b hv901 (shapeCast_self _ _) (by omega) ?_
  refine ld_z 0 71 (by omega) (by omega) (by omega) fun v905 hv905 => ?_
  refine ld_a fun v906 => ?_
  refine st_a hv905 (shapeCast_self _ _) (by omega) ?_
  refine ld_z 128 71 (by omega) (by omega) (by omega) fun v909 hv909 => ?_
  refine ld_b fun v910 => ?_
  exact ret_intro (hQ _ (col_congr (shapeCast_self _ _) hv909))

theorem part8 {R : sProp 𝕄} (v912 : FVec F S14x128 .f32) (hv912 : Col zf 128 71 v912) {Q : (Vec F S14x128 .f32) → sProp 𝕄}
    (hQ : ∀ r, Col zf 0 75 r → (iprop(St c arg14 arg15 arg16 zf 14336 27136 75 75 ∗ R) ⊢ Q r)) :
    iprop(St c arg14 arg15 arg16 zf 14336 27136 72 71 ∗ R) ⊢ wp frame (wpE (defs₀ (F := F)) Variants.none (c : Thread nD τ) none) Set.univ
      (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v912) Q := by
  rw [k0_part8_eq_skeleton]; unfold k0_part8_skel; simp only [wp_bind]
  refine st_b hv912 rfl (by omega) ?_
  refine ld_z 0 72 (by omega) (by omega) (by omega) fun v913 hv913 => ?_
  refine ld_a fun v914 => ?_
  refine st_a hv913 (shapeCast_self _ _) (by omega) ?_
  refine ld_z 128 72 (by omega) (by omega) (by omega) fun v917 hv917 => ?_
  refine ld_b fun v918 => ?_
  refine st_b hv917 (shapeCast_self _ _) (by omega) ?_
  refine ld_z 0 73 (by omega) (by omega) (by omega) fun v921 hv921 => ?_
  refine ld_a fun v922 => ?_
  refine st_a hv921 (shapeCast_self _ _) (by omega) ?_
  refine ld_z 128 73 (by omega) (by omega) (by omega) fun v925 hv925 => ?_
  refine ld_b fun v926 => ?_
  refine st_b hv925 (shapeCast_self _ _) (by omega) ?_
  refine ld_z 0 74 (by omega) (by omega) (by omega) fun v929 hv929 => ?_
  refine ld_a fun v930 => ?_
  refine st_a hv929 (shapeCast_self _ _) (by omega) ?_
  refine ld_z 128 74 (by omega) (by omega) (by omega) fun v933 hv933 => ?_
  refine ld_b fun v934 => ?_
  refine st_b hv933 (shapeCast_self _ _) (by omega) ?_
  refine ld_z 0 75 (by omega) (by omega) (by omega) fun v937 hv937 => ?_
  exact ret_intro (hQ _ hv937)

theorem part9 {R : sProp 𝕄} (v937 : Vec F S14x128 .f32) (hv937 : Col zf 0 75 v937) {Q : (PUnit) → sProp 𝕄}
    (hQ : ∀ r, (iprop(St c arg14 arg15 arg16 zf 14336 27136 79 78 ∗ R) ⊢ Q r)) :
    iprop(St c arg14 arg15 arg16 zf 14336 27136 75 75 ∗ R) ⊢ wp frame (wpE (defs₀ (F := F)) Variants.none (c : Thread nD τ) none) Set.univ
      (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v937) Q := by
  rw [k0_part9_eq_skeleton]; unfold k0_part9_skel; simp only [wp_bind]
  refine ld_a fun v938 => ?_
  refine st_a hv937 (shapeCast_self _ _) (by omega) ?_
  refine ld_z 128 75 (by omega) (by omega) (by omega) fun v941 hv941 => ?_
  refine ld_b fun v942 => ?_
  refine st_b hv941 (shapeCast_self _ _) (by omega) ?_
  refine ld_z 0 76 (by omega) (by omega) (by omega) fun v945 hv945 => ?_
  refine ld_a fun v946 => ?_
  refine st_a hv945 (shapeCast_self _ _) (by omega) ?_
  refine ld_z 128 76 (by omega) (by omega) (by omega) fun v949 hv949 => ?_
  refine ld_b fun v950 => ?_
  refine st_b hv949 (shapeCast_self _ _) (by omega) ?_
  refine ld_z 0 77 (by omega) (by omega) (by omega) fun v953 hv953 => ?_
  refine ld_a fun v954 => ?_
  refine st_a hv953 (shapeCast_self _ _) (by omega) ?_
  refine ld_z 128 77 (by omega) (by omega) (by omega) fun v957 hv957 => ?_
  refine ld_b fun v958 => ?_
  refine st_b hv957 (shapeCast_self _ _) (by omega) ?_
  refine ld_z 0 78 (by omega) (by omega) (by omega) fun v961 hv961 => ?_
  refine ld_a fun v962 => ?_
  refine st_a hv961 (shapeCast_self _ _) (by omega) ?_
  exact ret_intro (hQ ⟨⟩)

theorem part10 {R : sProp 𝕄} {Q : (FVec F S14x128 .f32) → sProp 𝕄}
    (hQ : ∀ r, Col zf 128 81 r → (iprop(St c arg14 arg15 arg16 zf 14336 27136 82 81 ∗ R) ⊢ Q r)) :
    iprop(St c arg14 arg15 arg16 zf 14336 27136 79 78 ∗ R) ⊢ wp frame (wpE (defs₀ (F := F)) Variants.none (c : Thread nD τ) none) Set.univ
      (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part10_eq_skeleton]; unfold k0_part10_skel; simp only [wp_bind]
  refine ld_z 128 78 (by omega) (by omega) (by omega) fun v965 hv965 => ?_
  refine ld_b fun v966 => ?_
  refine st_b hv965 (shapeCast_self _ _) (by omega) ?_
  refine ld_z 0 79 (by omega) (by omega) (by omega) fun v969 hv969 => ?_
  refine ld_a fun v970 => ?_
  refine st_a hv969 (shapeCast_self _ _) (by omega) ?_
  refine ld_z 128 79 (by omega) (by omega) (by omega) fun v973 hv973 => ?_
  refine ld_b fun v974 => ?_
  refine st_b hv973 (shapeCast_self _ _) (by omega) ?_
  refine ld_z 0 80 (by omega) (by omega) (by omega) fun v977 hv977 => ?_
  refine ld_a fun v978 => ?_
  refine st_a hv977 (shapeCast_self _ _) (by omega) ?_
  refine ld_z 128 80 (by omega) (by omega) (by omega) fun v981 hv981 => ?_
  refine ld_b fun v982 => ?_
  refine st_b hv981 (shapeCast_self _ _) (by omega) ?_
  refine ld_z 0 81 (by omega) (by omega) (by omega) fun v985 hv985 => ?_
  refine ld_a fun v986 => ?_
  refine st_a hv985 (shapeCast_self _ _) (by omega) ?_
  refine ld_z 128 81 (by omega) (by omega) (by omega) fun v989 hv989 => ?_
  refine ld_b fun v990 => ?_
  exact ret_intro (hQ _ (col_congr (shapeCast_self _ _) hv989))

theorem part11 {R : sProp 𝕄} (v992 : FVec F S14x128 .f32) (hv992 : Col zf 128 81 v992) {Q : (Vec F S14x128 .f32) → sProp 𝕄}
    (hQ : ∀ r, Col zf 0 85 r → (iprop(St c arg14 arg15 arg16 zf 14336 27136 85 85 ∗ R) ⊢ Q r)) :
    iprop(St c arg14 arg15 arg16 zf 14336 27136 82 81 ∗ R) ⊢ wp frame (wpE (defs₀ (F := F)) Variants.none (c : Thread nD τ) none) Set.univ
      (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v992) Q := by
  rw [k0_part11_eq_skeleton]; unfold k0_part11_skel; simp only [wp_bind]
  refine st_b hv992 rfl (by omega) ?_
  refine ld_z 0 82 (by omega) (by omega) (by omega) fun v993 hv993 => ?_
  refine ld_a fun v994 => ?_
  refine st_a hv993 (shapeCast_self _ _) (by omega) ?_
  refine ld_z 128 82 (by omega) (by omega) (by omega) fun v997 hv997 => ?_
  refine ld_b fun v998 => ?_
  refine st_b hv997 (shapeCast_self _ _) (by omega) ?_
  refine ld_z 0 83 (by omega) (by omega) (by omega) fun v1001 hv1001 => ?_
  refine ld_a fun v1002 => ?_
  refine st_a hv1001 (shapeCast_self _ _) (by omega) ?_
  refine ld_z 128 83 (by omega) (by omega) (by omega) fun v1005 hv1005 => ?_
  refine ld_b fun v1006 => ?_
  refine st_b hv1005 (shapeCast_self _ _) (by omega) ?_
  refine ld_z 0 84 (by omega) (by omega) (by omega) fun v1009 hv1009 => ?_
  refine ld_a fun v1010 => ?_
  refine st_a hv1009 (shapeCast_self _ _) (by omega) ?_
  refine ld_z 128 84 (by omega) (by omega) (by omega) fun v1013 hv1013 => ?_
  refine ld_b fun v1014 => ?_
  refine st_b hv1013 (shapeCast_self _ _) (by omega) ?_
  refine ld_z 0 85 (by omega) (by omega) (by omega) fun v1017 hv1017 => ?_
  exact ret_intro (hQ _ hv1017)

theorem part12 {R : sProp 𝕄} (v1017 : Vec F S14x128 .f32) (hv1017 : Col zf 0 85 v1017) {Q : (PUnit) → sProp 𝕄}
    (hQ : ∀ r, (iprop(St c arg14 arg15 arg16 zf 14336 27136 89 88 ∗ R) ⊢ Q r)) :
    iprop(St c arg14 arg15 arg16 zf 14336 27136 85 85 ∗ R) ⊢ wp frame (wpE (defs₀ (F := F)) Variants.none (c : Thread nD τ) none) Set.univ
      (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1017) Q := by
  rw [k0_part12_eq_skeleton]; unfold k0_part12_skel; simp only [wp_bind]
  refine ld_a fun v1018 => ?_
  refine st_a hv1017 (shapeCast_self _ _) (by omega) ?_
  refine ld_z 128 85 (by omega) (by omega) (by omega) fun v1021 hv1021 => ?_
  refine ld_b fun v1022 => ?_
  refine st_b hv1021 (shapeCast_self _ _) (by omega) ?_
  refine ld_z 0 86 (by omega) (by omega) (by omega) fun v1025 hv1025 => ?_
  refine ld_a fun v1026 => ?_
  refine st_a hv1025 (shapeCast_self _ _) (by omega) ?_
  refine ld_z 128 86 (by omega) (by omega) (by omega) fun v1029 hv1029 => ?_
  refine ld_b fun v1030 => ?_
  refine st_b hv1029 (shapeCast_self _ _) (by omega) ?_
  refine ld_z 0 87 (by omega) (by omega) (by omega) fun v1033 hv1033 => ?_
  refine ld_a fun v1034 => ?_
  refine st_a hv1033 (shapeCast_self _ _) (by omega) ?_
  refine ld_z 128 87 (by omega) (by omega) (by omega) fun v1037 hv1037 => ?_
  refine ld_b fun v1038 => ?_
  refine st_b hv1037 (shapeCast_self _ _) (by omega) ?_
  refine ld_z 0 88 (by omega) (by omega) (by omega) fun v1041 hv1041 => ?_
  refine ld_a fun v1042 => ?_
  refine st_a hv1041 (shapeCast_self _ _) (by omega) ?_
  exact ret_intro (hQ ⟨⟩)

theorem part13 {R : sProp 𝕄} {Q : (FVec F S14x128 .f32) → sProp 𝕄}
    (hQ : ∀ r, Col zf 128 91 r → (iprop(St c arg14 arg15 arg16 zf 14336 27136 92 91 ∗ R) ⊢ Q r)) :
    iprop(St c arg14 arg15 arg16 zf 14336 27136 89 88 ∗ R) ⊢ wp frame (wpE (defs₀ (F := F)) Variants.none (c : Thread nD τ) none) Set.univ
      (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part13_eq_skeleton]; unfold k0_part13_skel; simp only [wp_bind]
  refine ld_z 128 88 (by omega) (by omega) (by omega) fun v1045 hv1045 => ?_
  refine ld_b fun v1046 => ?_
  refine st_b hv1045 (shapeCast_self _ _) (by omega) ?_
  refine ld_z 0 89 (by omega) (by omega) (by omega) fun v1049 hv1049 => ?_
  refine ld_a fun v1050 => ?_
  refine st_a hv1049 (shapeCast_self _ _) (by omega) ?_
  refine ld_z 128 89 (by omega) (by omega) (by omega) fun v1053 hv1053 => ?_
  refine ld_b fun v1054 => ?_
  refine st_b hv1053 (shapeCast_self _ _) (by omega) ?_
  refine ld_z 0 90 (by omega) (by omega) (by omega) fun v1057 hv1057 => ?_
  refine ld_a fun v1058 => ?_
  refine st_a hv1057 (shapeCast_self _ _) (by omega) ?_
  refine ld_z 128 90 (by omega) (by omega) (by omega) fun v1061 hv1061 => ?_
  refine ld_b fun v1062 => ?_
  refine st_b hv1061 (shapeCast_self _ _) (by omega) ?_
  refine ld_z 0 91 (by omega) (by omega) (by omega) fun v1065 hv1065 => ?_
  refine ld_a fun v1066 => ?_
  refine st_a hv1065 (shapeCast_self _ _) (by omega) ?_
  refine ld_z 128 91 (by omega) (by omega) (by omega) fun v1069 hv1069 => ?_
  refine ld_b fun v1070 => ?_
  exact ret_intro (hQ _ (col_congr (shapeCast_self _ _) hv1069))

theorem part14 {R : sProp 𝕄} (v1072 : FVec F S14x128 .f32) (hv1072 : Col zf 128 91 v1072) {Q : (Vec F S14x128 .f32) → sProp 𝕄}
    (hQ : ∀ r, Col zf 0 95 r → (iprop(St c arg14 arg15 arg16 zf 14336 27136 95 95 ∗ R) ⊢ Q r)) :
    iprop(St c arg14 arg15 arg16 zf 14336 27136 92 91 ∗ R) ⊢ wp frame (wpE (defs₀ (F := F)) Variants.none (c : Thread nD τ) none) Set.univ
      (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1072) Q := by
  rw [k0_part14_eq_skeleton]; unfold k0_part14_skel; simp only [wp_bind]
  refine st_b hv1072 rfl (by omega) ?_
  refine ld_z 0 92 (by omega) (by omega) (by omega) fun v1073 hv1073 => ?_
  refine ld_a fun v1074 => ?_
  refine st_a hv1073 (shapeCast_self _ _) (by omega) ?_
  refine ld_z 128 92 (by omega) (by omega) (by omega) fun v1077 hv1077 => ?_
  refine ld_b fun v1078 => ?_
  refine st_b hv1077 (shapeCast_self _ _) (by omega) ?_
  refine ld_z 0 93 (by omega) (by omega) (by omega) fun v1081 hv1081 => ?_
  refine ld_a fun v1082 => ?_
  refine st_a hv1081 (shapeCast_self _ _) (by omega) ?_
  refine ld_z 128 93 (by omega) (by omega) (by omega) fun v1085 hv1085 => ?_
  refine ld_b fun v1086 => ?_
  refine st_b hv1085 (shapeCast_self _ _) (by omega) ?_
  refine ld_z 0 94 (by omega) (by omega) (by omega) fun v1089 hv1089 => ?_
  refine ld_a fun v1090 => ?_
  refine st_a hv1089 (shapeCast_self _ _) (by omega) ?_
  refine ld_z 128 94 (by omega) (by omega) (by omega) fun v1093 hv1093 => ?_
  refine ld_b fun v1094 => ?_
  refine st_b hv1093 (shapeCast_self _ _) (by omega) ?_
  refine ld_z 0 95 (by omega) (by omega) (by omega) fun v1097 hv1097 => ?_
  exact ret_intro (hQ _ hv1097)

theorem part15 {R : sProp 𝕄} (v1097 : Vec F S14x128 .f32) (hv1097 : Col zf 0 95 v1097) {Q : (PUnit) → sProp 𝕄}
    (hQ : ∀ r, (iprop(St c arg14 arg15 arg16 zf 14336 27136 99 98 ∗ R) ⊢ Q r)) :
    iprop(St c arg14 arg15 arg16 zf 14336 27136 95 95 ∗ R) ⊢ wp frame (wpE (defs₀ (F := F)) Variants.none (c : Thread nD τ) none) Set.univ
      (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1097) Q := by
  rw [k0_part15_eq_skeleton]; unfold k0_part15_skel; simp only [wp_bind]
  refine ld_a fun v1098 => ?_
  refine st_a hv1097 (shapeCast_self _ _) (by omega) ?_
  refine ld_z 128 95 (by omega) (by omega) (by omega) fun v1101 hv1101 => ?_
  refine ld_b fun v1102 => ?_
  refine st_b hv1101 (shapeCast_self _ _) (by omega) ?_
  refine ld_z 0 96 (by omega) (by omega) (by omega) fun v1105 hv1105 => ?_
  refine ld_a fun v1106 => ?_
  refine st_a hv1105 (shapeCast_self _ _) (by omega) ?_
  refine ld_z 128 96 (by omega) (by omega) (by omega) fun v1109 hv1109 => ?_
  refine ld_b fun v1110 => ?_
  refine st_b hv1109 (shapeCast_self _ _) (by omega) ?_
  refine ld_z 0 97 (by omega) (by omega) (by omega) fun v1113 hv1113 => ?_
  refine ld_a fun v1114 => ?_
  refine st_a hv1113 (shapeCast_self _ _) (by omega) ?_
  refine ld_z 128 97 (by omega) (by omega) (by omega) fun v1117 hv1117 => ?_
  refine ld_b fun v1118 => ?_
  refine st_b hv1117 (shapeCast_self _ _) (by omega) ?_
  refine ld_z 0 98 (by omega) (by omega) (by omega) fun v1121 hv1121 => ?_
  refine ld_a fun v1122 => ?_
  refine st_a hv1121 (shapeCast_self _ _) (by omega) ?_
  exact ret_intro (hQ ⟨⟩)

theorem part16 {R : sProp 𝕄} {Q : (FVec F S14x128 .f32) → sProp 𝕄}
    (hQ : ∀ r, Col zf 128 101 r → (iprop(St c arg14 arg15 arg16 zf 14336 27136 102 101 ∗ R) ⊢ Q r)) :
    iprop(St c arg14 arg15 arg16 zf 14336 27136 99 98 ∗ R) ⊢ wp frame (wpE (defs₀ (F := F)) Variants.none (c : Thread nD τ) none) Set.univ
      (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [k0_part16_eq_skeleton]; unfold k0_part16_skel; simp only [wp_bind]
  refine ld_z 128 98 (by omega) (by omega) (by omega) fun v1125 hv1125 => ?_
  refine ld_b fun v1126 => ?_
  refine st_b hv1125 (shapeCast_self _ _) (by omega) ?_
  refine ld_z 0 99 (by omega) (by omega) (by omega) fun v1129 hv1129 => ?_
  refine ld_a fun v1130 => ?_
  refine st_a hv1129 (shapeCast_self _ _) (by omega) ?_
  refine ld_z 128 99 (by omega) (by omega) (by omega) fun v1133 hv1133 => ?_
  refine ld_b fun v1134 => ?_
  refine st_b hv1133 (shapeCast_self _ _) (by omega) ?_
  refine ld_z 0 100 (by omega) (by omega) (by omega) fun v1137 hv1137 => ?_
  refine ld_a fun v1138 => ?_
  refine st_a hv1137 (shapeCast_self _ _) (by omega) ?_
  refine ld_z 128 100 (by omega) (by omega) (by omega) fun v1141 hv1141 => ?_
  refine ld_b fun v1142 => ?_
  refine st_b hv1141 (shapeCast_self _ _) (by omega) ?_
  refine ld_z 0 101 (by omega) (by omega) (by omega) fun v1145 hv1145 => ?_
  refine ld_a fun v1146 => ?_
  refine st_a hv1145 (shapeCast_self _ _) (by omega) ?_
  refine ld_z 128 101 (by omega) (by omega) (by omega) fun v1149 hv1149 => ?_
  refine ld_b fun v1150 => ?_
  exact ret_intro (hQ _ (col_congr (shapeCast_self _ _) hv1149))

theorem part17 {R : sProp 𝕄} (v1152 : FVec F S14x128 .f32) (hv1152 : Col zf 128 101 v1152) {Q : (Vec F S14x128 .f32) → sProp 𝕄}
    (hQ : ∀ r, Col zf 0 105 r → (iprop(St c arg14 arg15 arg16 zf 14336 27136 105 105 ∗ R) ⊢ Q r)) :
    iprop(St c arg14 arg15 arg16 zf 14336 27136 102 101 ∗ R) ⊢ wp frame (wpE (defs₀ (F := F)) Variants.none (c : Thread nD τ) none) Set.univ
      (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1152) Q := by
  rw [k0_part17_eq_skeleton]; unfold k0_part17_skel; simp only [wp_bind]
  refine st_b hv1152 rfl (by omega) ?_
  refine ld_z 0 102 (by omega) (by omega) (by omega) fun v1153 hv1153 => ?_
  refine ld_a fun v1154 => ?_
  refine st_a hv1153 (shapeCast_self _ _) (by omega) ?_
  refine ld_z 128 102 (by omega) (by omega) (by omega) fun v1157 hv1157 => ?_
  refine ld_b fun v1158 => ?_
  refine st_b hv1157 (shapeCast_self _ _) (by omega) ?_
  refine ld_z 0 103 (by omega) (by omega) (by omega) fun v1161 hv1161 => ?_
  refine ld_a fun v1162 => ?_
  refine st_a hv1161 (shapeCast_self _ _) (by omega) ?_
  refine ld_z 128 103 (by omega) (by omega) (by omega) fun v1165 hv1165 => ?_
  refine ld_b fun v1166 => ?_
  refine st_b hv1165 (shapeCast_self _ _) (by omega) ?_
  refine ld_z 0 104 (by omega) (by omega) (by omega) fun v1169 hv1169 => ?_
  refine ld_a fun v1170 => ?_
  refine st_a hv1169 (shapeCast_self _ _) (by omega) ?_
  refine ld_z 128 104 (by omega) (by omega) (by omega) fun v1173 hv1173 => ?_
  refine ld_b fun v1174 => ?_
  refine st_b hv1173 (shapeCast_self _ _) (by omega) ?_
  refine ld_z 0 105 (by omega) (by omega) (by omega) fun v1177 hv1177 => ?_
  exact ret_intro (hQ _ hv1177)

end Cert.KernelIdeal.Hand
-- ==== Proof.Emit.lean ====
module

public import proofs.«01_k».proof.Proof.Blocks
public import proofs.«01_k».proof.Proof.FillLow
public import proofs.«01_k».proof.Proof.FillHigh
public import Idealize.ShloMosaic.Lib.Pipeline.Value

/-! # The parts around the copied columns

The parts of the kernel that store the row product, that decide whether its second half is wanted, and that store the results. -/

@[expose] public section

set_option maxRecDepth 65536
set_option pp.maxSteps 120

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {zf : ℕ → ℕ → F .f32} {i : grid0.Coords} {arg2 : Memref sig .tc .smem S256 .i32} {harg2 : arg2.IsWhole} {arg3 : Memref sig .tc .smem S256 .i32} {harg3 : arg3.IsWhole} {arg4 : Memref sig .tc .smem S256 .i32} {harg4 : arg4.IsWhole} {arg5 : Memref sig .tc .smem S256 .i32} {harg5 : arg5.IsWhole} {arg6 : Memref sig .tc .smem S256 .i32} {harg6 : arg6.IsWhole} {arg7 : Memref sig .tc .smem S256 .f32} {harg7 : arg7.IsWhole} {arg8 : Memref sig .tc .smem S256 .f32} {harg8 : arg8.IsWhole} {arg9 : Memref sig .tc .smem S256 .f32} {harg9 : arg9.IsWhole} {arg10 : Memref sig .tc .smem S256 .f32} {harg10 : arg10.IsWhole} {arg11 : Memref sig .tc .hbm S2x200x69632 .f32} {harg11 : arg11.IsWhole} {arg12 : Memref sig .tc .vmem S1x14x16x256 .f32} {harg12 : arg12.IsWhole} {arg13 : Memref sig .tc .vmem S4x88x27136 .f32} {harg13 : arg13.IsWhole} {arg14 : Memref sig .tc .vmem S16x27136 .f32} {harg14 : arg14.IsWhole} {arg15 : Memref sig .tc .vmem S1498x128 .f32} {harg15 : arg15.IsWhole} {arg16 : Memref sig .tc .vmem S1498x128 .f32} {harg16 : arg16.IsWhole} {arg17 : DmaSems sig S4}

theorem part22 {R : sProp 𝕄} {lo hi : ℕ} (v181 : FVec F S14x14336 .f32)  (hz : ∀ y : S14x14336.Idx, k0_pay116 v181 y = zf (y 0).val (y 1).val) {Q : (PUnit) → sProp 𝕄}
    (hQ : ∀ r, (iprop(St c arg14 arg15 arg16 zf 0 14336 3 3 ∗ R) ⊢ Q r)) :
    iprop(St c arg14 arg15 arg16 zf lo hi 0 0 ∗ R) ⊢ wp frame (wpE (defs₀ (F := F)) Variants.none (c : Thread nD τ) none) Set.univ
      (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v181) Q := by
  rw [k0_part22_eq_skeleton]; unfold k0_part22_skel; simp only [wp_bind]
  refine ld_zz fun _ => ?_
  refine st_z (r := Rect.unit (s := S16x27136) ![0, 0] S14x14336.size inb_S16x27136_S14x14336_0_0) 0 14336 (fun j h0 h1 h2 => ?_) ?_
  · refine ⟨((fun q => match q with | 0 => (⟨(j 0).val, h0⟩ : Fin 14) | 1 => (⟨(j 1).val - 0, by omega⟩ : Fin 14336)) : S14x14336.Idx), ?_, ?_⟩
    · funext q; apply Fin.ext
      match q with
      | 0 => show 0 + 1 * (j 0).val = _; omega
      | 1 => show 0 + 1 * ((j 1).val - 0) = _; omega
    · refine (hz _).trans ?_
      show zf (j 0).val ((j 1).val - 0) = _
      rw [Nat.sub_zero]
  refine ld_z 0 0 (by omega) (by omega) (by omega) fun v185 hv185 => ?_
  refine ld_a fun v186 => ?_
  refine st_a hv185 (shapeCast_self _ _) (by omega) ?_
  refine ld_z 128 0 (by omega) (by omega) (by omega) fun v189 hv189 => ?_
  refine ld_b fun v190 => ?_
  refine st_b hv189 (shapeCast_self _ _) (by omega) ?_
  refine ld_z 0 1 (by omega) (by omega) (by omega) fun v193 hv193 => ?_
  refine ld_a fun v194 => ?_
  refine st_a hv193 (shapeCast_self _ _) (by omega) ?_
  refine ld_z 128 1 (by omega) (by omega) (by omega) fun v197 hv197 => ?_
  refine ld_b fun v198 => ?_
  refine st_b hv197 (shapeCast_self _ _) (by omega) ?_
  refine ld_z 0 2 (by omega) (by omega) (by omega) fun v201 hv201 => ?_
  refine ld_a fun v202 => ?_
  refine st_a hv201 (shapeCast_self _ _) (by omega) ?_
  refine ld_z 128 2 (by omega) (by omega) (by omega) fun v205 hv205 => ?_
  refine ld_b fun v206 => ?_
  refine st_b hv205 (shapeCast_self _ _) (by omega) ?_
  exact ret_intro (hQ ⟨⟩)

theorem part38 {R : sProp 𝕄} {v1 : BitVec 32} {Q : (Σ' (v636 : BitVec 32), BitVec 32) → sProp 𝕄} {q f}
    (hacc : R ⊢ iprop((arg6.view.loc (c : Thread nD τ) ↦{q} f) ∗ ((arg6.view.loc (c : Thread nD τ) ↦{q} f) -∗ R)))
    (hQ : iprop(St c arg14 arg15 arg16 zf 0 14336 56 56 ∗ R) ⊢ Q ⟨Scalar.extui (Scalar.cmpi .sgt ((arg6.access (Rect.unit (s := S256) (k0_off38 i) S1.size (k0_off38_inb i))).read (Elt F) f (Shape.Idx.first (numel1_S1.symm ▸ Nat.one_pos))) 14336#32), 0#32⟩) :
    iprop(St c arg14 arg15 arg16 zf 0 14336 53 53 ∗ R) ⊢ wp frame (wpE (defs₀ (F := F)) Variants.none (c : Thread nD τ) none) Set.univ
      (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v1) Q := by
  rw [k0_part38_eq_skeleton]; unfold k0_part38_skel; simp only [wp_bind]
  refine ld_z 0 53 (by omega) (by omega) (by omega) fun v609 hv609 => ?_
  refine ld_a fun v610 => ?_
  refine st_a hv609 (shapeCast_self _ _) (by omega) ?_
  refine ld_z 128 53 (by omega) (by omega) (by omega) fun v613 hv613 => ?_
  refine ld_b fun v614 => ?_
  refine st_b hv613 (shapeCast_self _ _) (by omega) ?_
  refine ld_z 0 54 (by omega) (by omega) (by omega) fun v617 hv617 => ?_
  refine ld_a fun v618 => ?_
  refine st_a hv617 (shapeCast_self _ _) (by omega) ?_
  refine ld_z 128 54 (by omega) (by omega) (by omega) fun v621 hv621 => ?_
  refine ld_b fun v622 => ?_
  refine st_b hv621 (shapeCast_self _ _) (by omega) ?_
  refine ld_z 0 55 (by omega) (by omega) (by omega) fun v625 hv625 => ?_
  refine ld_a fun v626 => ?_
  refine st_a hv625 (shapeCast_self _ _) (by omega) ?_
  refine ld_z 128 55 (by omega) (by omega) (by omega) fun v629 hv629 => ?_
  refine ld_b fun v630 => ?_
  refine st_b hv629 (shapeCast_self _ _) (by omega) ?_
  refine ld_w q f (acc_r hacc) ?_
  exact ret_intro hQ

theorem part3 {R : sProp 𝕄} (v2 : BitVec 32) (v156 : FVec F S14x88 .f32)  {S : Finset (Idx (arg13.view.loc (c : Thread nD τ)))} {f : Buf (Elt F) (arg13.view.loc (c : Thread nD τ))}
    (hS : arg13.view.setOn (Rect.unit (s := S4x88x27136) (k0_off40 i) S1x88x12800.size (k0_off40_inb i)).toLoadRect.set ⊆ S)
    (hacc : R ⊢ iprop((arg13.view.loc (c : Thread nD τ) ↦[S]{fullShare} f) ∗ ((arg13.view.loc (c : Thread nD τ) ↦[S]{fullShare} f) -∗ R)))
    (hz : ∀ y : S14x12800.Idx, k0_pay8 v156 (arg13.view.readAt (Elt F) (Rect.unit (s := S4x88x27136) (k0_off40 i) S1x88x12800.size (k0_off40_inb i)).toLoadRect f) y = zf (y 0).val (14336 + (y 1).val)) {Q : (PUnit) → sProp 𝕄}
    (hQ : ∀ r, (iprop(St c arg14 arg15 arg16 zf 14336 27136 59 58 ∗ R) ⊢ Q r)) :
    iprop(St c arg14 arg15 arg16 zf 0 14336 56 56 ∗ R) ⊢ wp frame (wpE (defs₀ (F := F)) Variants.none (c : Thread nD τ) none) Set.univ
      (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v2 v156) Q := by
  rw [k0_part3_eq_skeleton]; unfold k0_part3_skel; simp only [wp_bind]
  refine ld_p hS (acc_r hacc) ?_
  refine ld_zz fun _ => ?_
  refine st_z (r := Rect.unit (s := S16x27136) ![0, 14336] S14x12800.size inb_S16x27136_S14x12800_0_14336) 14336 27136 (fun j h0 h1 h2 => ?_) ?_
  · refine ⟨((fun q => match q with | 0 => (⟨(j 0).val, h0⟩ : Fin 14) | 1 => (⟨(j 1).val - 14336, by omega⟩ : Fin 12800)) : S14x12800.Idx), ?_, ?_⟩
    · funext q; apply Fin.ext
      match q with
      | 0 => show 0 + 1 * (j 0).val = _; omega
      | 1 => show 14336 + 1 * ((j 1).val - 14336) = _; omega
    · refine (hz _).trans ?_
      show zf (j 0).val (14336 + ((j 1).val - 14336)) = _
      rw [Nat.add_sub_cancel' h1]
  refine ld_z 0 56 (by omega) (by omega) (by omega) fun v785 hv785 => ?_
  refine ld_a fun v786 => ?_
  refine st_a hv785 (shapeCast_self _ _) (by omega) ?_
  refine ld_z 128 56 (by omega) (by omega) (by omega) fun v789 hv789 => ?_
  refine ld_b fun v790 => ?_
  refine st_b hv789 (shapeCast_self _ _) (by omega) ?_
  refine ld_z 0 57 (by omega) (by omega) (by omega) fun v793 hv793 => ?_
  refine ld_a fun v794 => ?_
  refine st_a hv793 (shapeCast_self _ _) (by omega) ?_
  refine ld_z 128 57 (by omega) (by omega) (by omega) fun v797 hv797 => ?_
  refine ld_b fun v798 => ?_
  refine st_b hv797 (shapeCast_self _ _) (by omega) ?_
  refine ld_z 0 58 (by omega) (by omega) (by omega) fun v801 hv801 => ?_
  refine ld_a fun v802 => ?_
  refine st_a hv801 (shapeCast_self _ _) (by omega) ?_
  exact ret_intro (hQ ⟨⟩)

variable {lo hi X : ℕ}

theorem part40 {R : sProp 𝕄} {v177 : FVec F S14x106 .f32} {v659 : FVec F S14x128 .f32} (hw : ∃ v, Rows zf 0 2 X v ∧ v659 = k0_pay235 v177 v) {Q : (PUnit) → sProp 𝕄}
    (hQ : ∀ r, (iprop(St c arg14 arg15 arg16 zf lo hi X X ∗ Out c arg12 v177 zf X 9 ∗ R) ⊢ Q r)) :
    iprop(St c arg14 arg15 arg16 zf lo hi X X ∗ Out c arg12 v177 zf X 4 ∗ R) ⊢ wp frame (wpE (defs₀ (F := F)) Variants.none (c : Thread nD τ) none) Set.univ
      (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v177 v659) Q := by
  rw [k0_part40_eq_skeleton]; unfold k0_part40_skel; simp only [wp_bind]
  obtain ⟨w0, hw0, rfl⟩ := hw
  refine ld_o fun _ => ?_
  refine st_o (⟨w0, hw0, rfl⟩ : IsBlk v177 zf X 4 _) (by omega) (by omega) ?_
  refine ld_rb (l := 214) 2 (by omega) (by omega) fun v663 hv663 => ?_
  refine ld_o fun _ => ?_
  refine st_o (⟨v663, hv663, rfl⟩ : IsBlk v177 zf X 5 _) (by omega) (by omega) ?_
  refine ld_ra (l := 321) 3 (by omega) (by omega) fun v668 hv668 => ?_
  refine ld_o fun _ => ?_
  refine st_o (⟨v668, hv668, rfl⟩ : IsBlk v177 zf X 6 _) (by omega) (by omega) ?_
  refine ld_rb (l := 321) 3 (by omega) (by omega) fun v673 hv673 => ?_
  refine ld_o fun _ => ?_
  refine st_o (⟨v673, hv673, rfl⟩ : IsBlk v177 zf X 7 _) (by omega) (by omega) ?_
  refine ld_ra (l := 428) 4 (by omega) (by omega) fun v678 hv678 => ?_
  refine ld_o fun _ => ?_
  refine st_o (⟨v678, hv678, rfl⟩ : IsBlk v177 zf X 8 _) (by omega) (by omega) ?_
  exact ret_intro (hQ ⟨⟩)

theorem part41 {R : sProp 𝕄} {v177 : FVec F S14x106 .f32} {Q : (FVec F S14x128 .f32) → sProp 𝕄}
    (hQ : ∀ r, (∃ v, Rows zf 128 6 X v ∧ r = k0_pay235 v177 v) → (iprop(St c arg14 arg15 arg16 zf lo hi X X ∗ Out c arg12 v177 zf X 13 ∗ R) ⊢ Q r)) :
    iprop(St c arg14 arg15 arg16 zf lo hi X X ∗ Out c arg12 v177 zf X 9 ∗ R) ⊢ wp frame (wpE (defs₀ (F := F)) Variants.none (c : Thread nD τ) none) Set.univ
      (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v177) Q := by
  rw [k0_part41_eq_skeleton]; unfold k0_part41_skel; simp only [wp_bind]
  refine ld_rb (l := 428) 4 (by omega) (by omega) fun v683 hv683 => ?_
  refine ld_o fun _ => ?_
  refine st_o (⟨v683, hv683, rfl⟩ : IsBlk v177 zf X 9 _) (by omega) (by omega) ?_
  refine ld_ra (l := 535) 5 (by omega) (by omega) fun v688 hv688 => ?_
  refine ld_o fun _ => ?_
  refine st_o (⟨v688, hv688, rfl⟩ : IsBlk v177 zf X 10 _) (by omega) (by omega) ?_
  refine ld_rb (l := 535) 5 (by omega) (by omega) fun v693 hv693 => ?_
  refine ld_o fun _ => ?_
  refine st_o (⟨v693, hv693, rfl⟩ : IsBlk v177 zf X 11 _) (by omega) (by omega) ?_
  refine ld_ra (l := 642) 6 (by omega) (by omega) fun v698 hv698 => ?_
  refine ld_o fun _ => ?_
  refine st_o (⟨v698, hv698, rfl⟩ : IsBlk v177 zf X 12 _) (by omega) (by omega) ?_
  refine ld_rb (l := 642) 6 (by omega) (by omega) fun v703 hv703 => ?_
  exact ret_intro (hQ _ ⟨v703, hv703, rfl⟩)

theorem part42 {R : sProp 𝕄} {v177 : FVec F S14x106 .f32} {v704 : FVec F S14x128 .f32} (hw : ∃ v, Rows zf 128 6 X v ∧ v704 = k0_pay235 v177 v) {Q : (Σ' (v728 : Vec F S106x128 .f32), FVec F S14x128 .f32) → sProp 𝕄}
    (hQ : ∀ r, Rows zf 0 9 X r.1 → r.2 = constant S14x128 .f32 0x00000000#32 → (iprop(St c arg14 arg15 arg16 zf lo hi X X ∗ Out c arg12 v177 zf X 18 ∗ R) ⊢ Q r)) :
    iprop(St c arg14 arg15 arg16 zf lo hi X X ∗ Out c arg12 v177 zf X 13 ∗ R) ⊢ wp frame (wpE (defs₀ (F := F)) Variants.none (c : Thread nD τ) none) Set.univ
      (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v177 v704) Q := by
  rw [k0_part42_eq_skeleton]; unfold k0_part42_skel; simp only [wp_bind]
  obtain ⟨w0, hw0, rfl⟩ := hw
  refine ld_o fun _ => ?_
  refine st_o (⟨w0, hw0, rfl⟩ : IsBlk v177 zf X 13 _) (by omega) (by omega) ?_
  refine ld_ra (l := 749) 7 (by omega) (by omega) fun v708 hv708 => ?_
  refine ld_o fun _ => ?_
  refine st_o (⟨v708, hv708, rfl⟩ : IsBlk v177 zf X 14 _) (by omega) (by omega) ?_
  refine ld_rb (l := 749) 7 (by omega) (by omega) fun v713 hv713 => ?_
  refine ld_o fun _ => ?_
  refine st_o (⟨v713, hv713, rfl⟩ : IsBlk v177 zf X 15 _) (by omega) (by omega) ?_
  refine ld_ra (l := 856) 8 (by omega) (by omega) fun v718 hv718 => ?_
  refine ld_o fun _ => ?_
  refine st_o (⟨v718, hv718, rfl⟩ : IsBlk v177 zf X 16 _) (by omega) (by omega) ?_
  refine ld_rb (l := 856) 8 (by omega) (by omega) fun v723 hv723 => ?_
  refine ld_o fun _ => ?_
  refine st_o (⟨v723, hv723, rfl⟩ : IsBlk v177 zf X 17 _) (by omega) (by omega) ?_
  refine ld_ra (l := 963) 9 (by omega) (by omega) fun v728 hv728 => ?_
  exact ret_intro (hQ ⟨v728, _⟩ hv728 rfl)

theorem part43 {R : sProp 𝕄} {v177 : FVec F S14x106 .f32} {v728 : Vec F S106x128 .f32} {cst_446 : FVec F S14x128 .f32} (hw : Rows zf 0 9 X v728) (hc : cst_446 = constant S14x128 .f32 0x00000000#32) {Q : (FVec F S1x1x14x128 .f32) → sProp 𝕄}
    (hQ : ∀ r, IsBlk v177 zf X 22 r → (iprop(St c arg14 arg15 arg16 zf lo hi X X ∗ Out c arg12 v177 zf X 22 ∗ R) ⊢ Q r)) :
    iprop(St c arg14 arg15 arg16 zf lo hi X X ∗ Out c arg12 v177 zf X 18 ∗ R) ⊢ wp frame (wpE (defs₀ (F := F)) Variants.none (c : Thread nD τ) none) Set.univ
      (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v177 v728 cst_446) Q := by
  rw [k0_part43_eq_skeleton]; unfold k0_part43_skel; simp only [wp_bind]
  subst hc
  refine ld_o fun _ => ?_
  refine st_o (⟨v728, hw, rfl⟩ : IsBlk v177 zf X 18 _) (by omega) (by omega) ?_
  refine ld_rb (l := 963) 9 (by omega) (by omega) fun v733 hv733 => ?_
  refine ld_o fun _ => ?_
  refine st_o (⟨v733, hv733, rfl⟩ : IsBlk v177 zf X 19 _) (by omega) (by omega) ?_
  refine ld_ra (l := 1070) 10 (by omega) (by omega) fun v738 hv738 => ?_
  refine ld_o fun _ => ?_
  refine st_o (⟨v738, hv738, rfl⟩ : IsBlk v177 zf X 20 _) (by omega) (by omega) ?_
  refine ld_rb (l := 1070) 10 (by omega) (by omega) fun v743 hv743 => ?_
  refine ld_o fun _ => ?_
  refine st_o (⟨v743, hv743, rfl⟩ : IsBlk v177 zf X 21 _) (by omega) (by omega) ?_
  refine ld_ra (l := 1177) 11 (by omega) (by omega) fun v748 hv748 => ?_
  refine ld_o fun _ => ?_
  exact ret_intro (hQ _ ⟨v748, hv748, rfl⟩)

theorem part44 {R : sProp 𝕄} {v177 : FVec F S14x106 .f32} {v752 : FVec F S1x1x14x128 .f32} (hw : IsBlk v177 zf X 22 v752) {Q : (FVec F S14x128 .f32) → sProp 𝕄}
    (hQ : ∀ r, (∃ v, Rows zf 128 13 X v ∧ r = k0_pay235 v177 v) → (iprop(St c arg14 arg15 arg16 zf lo hi X X ∗ Out c arg12 v177 zf X 27 ∗ R) ⊢ Q r)) :
    iprop(St c arg14 arg15 arg16 zf lo hi X X ∗ Out c arg12 v177 zf X 22 ∗ R) ⊢ wp frame (wpE (defs₀ (F := F)) Variants.none (c : Thread nD τ) none) Set.univ
      (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v177 v752) Q := by
  rw [k0_part44_eq_skeleton]; unfold k0_part44_skel; simp only [wp_bind]
  refine st_o (hw : IsBlk v177 zf X 22 _) (by omega) (by omega) ?_
  refine ld_rb (l := 1177) 11 (by omega) (by omega) fun v753 hv753 => ?_
  refine ld_o fun _ => ?_
  refine st_o (⟨v753, hv753, rfl⟩ : IsBlk v177 zf X 23 _) (by omega) (by omega) ?_
  refine ld_ra (l := 1284) 12 (by omega) (by omega) fun v758 hv758 => ?_
  refine ld_o fun _ => ?_
  refine st_o (⟨v758, hv758, rfl⟩ : IsBlk v177 zf X 24 _) (by omega) (by omega) ?_
  refine ld_rb (l := 1284) 12 (by omega) (by omega) fun v763 hv763 => ?_
  refine ld_o fun _ => ?_
  refine st_o (⟨v763, hv763, rfl⟩ : IsBlk v177 zf X 25 _) (by omega) (by omega) ?_
  refine ld_ra (l := 1391) 13 (by omega) (by omega) fun v768 hv768 => ?_
  refine ld_o fun _ => ?_
  refine st_o (⟨v768, hv768, rfl⟩ : IsBlk v177 zf X 26 _) (by omega) (by omega) ?_
  refine ld_rb (l := 1391) 13 (by omega) (by omega) fun v773 hv773 => ?_
  exact ret_intro (hQ _ ⟨v773, hv773, rfl⟩)

theorem part39 {R : sProp 𝕄} {v2 : BitVec 32} {v156 : FVec F S14x88 .f32} {v177 : FVec F S14x106 .f32} {v636 : BitVec 32} {c0_i32_326 : BitVec 32} {Q : (FVec F S14x128 .f32) → sProp 𝕄} {mx' zf' a'} {S : Finset (Idx (arg13.view.loc (c : Thread nD τ)))} {f : Buf (Elt F) (arg13.view.loc (c : Thread nD τ))}
    (hS : arg13.view.setOn (Rect.unit (s := S4x88x27136) (k0_off40 i) S1x88x12800.size (k0_off40_inb i)).toLoadRect.set ⊆ S)
    (hacc : R ⊢ iprop((arg13.view.loc (c : Thread nD τ) ↦[S]{fullShare} f) ∗ ((arg13.view.loc (c : Thread nD τ) ↦[S]{fullShare} f) -∗ R)))
    (hz : ∀ y : S14x12800.Idx, k0_pay8 v156 (arg13.view.readAt (Elt F) (Rect.unit (s := S4x88x27136) (k0_off40 i) S1x88x12800.size (k0_off40_inb i)).toLoadRect f) y = zf (y 0).val (14336 + (y 1).val))
    (hQ1 : ¬ Scalar.cmpi .ne v636 c0_i32_326 = 1#1 → ∀ r, (∃ v, Rows zf 0 2 56 v ∧ r = k0_pay235 v177 v) → (iprop(St c arg14 arg15 arg16 zf 0 14336 56 56 ∗ Out c arg12 v177 zf 56 4 ∗ R) ⊢ Q r))
    (hQ2 : Scalar.cmpi .ne v636 c0_i32_326 = 1#1 → ∀ r, (∃ v, Rows zf 0 2 106 v ∧ r = k0_pay235 v177 v) → (iprop(St c arg14 arg15 arg16 zf 14336 27136 106 106 ∗ Out c arg12 v177 zf 106 4 ∗ R) ⊢ Q r)) :
    iprop(St c arg14 arg15 arg16 zf 0 14336 56 56 ∗ Out c arg12 mx' zf' a' 0 ∗ R) ⊢ wp frame (wpE (defs₀ (F := F)) Variants.none (c : Thread nD τ) none) Set.univ
      (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v2 v156 v177 v636 c0_i32_326) Q := by
  rw [k0_part39_eq_skeleton]; unfold k0_part39_skel; simp only [wp_bind]
  by_cases hc : Scalar.cmpi .ne v636 c0_i32_326 = 1#1
  · rw [if_pos hc]; simp only [wp_bind]
    refine part3 _ _ hS (acc_r hacc) hz fun _ => ?_
    refine part4 fun v832 hv832 => ?_
    refine part5 _ hv832 fun v857 hv857 => ?_
    refine part6 _ hv857 fun _ => ?_
    refine part7 fun v912 hv912 => ?_
    refine part8 _ hv912 fun v937 hv937 => ?_
    refine part9 _ hv937 fun _ => ?_
    refine part10 fun v992 hv992 => ?_
    refine part11 _ hv992 fun v1017 hv1017 => ?_
    refine part12 _ hv1017 fun _ => ?_
    refine part13 fun v1072 hv1072 => ?_
    refine part14 _ hv1072 fun v1097 hv1097 => ?_
    refine part15 _ hv1097 fun _ => ?_
    refine part16 fun v1152 hv1152 => ?_
    refine part17 _ hv1152 fun v1177 hv1177 => ?_
    refine ld_a fun _ => ?_
    refine st_a hv1177 (shapeCast_self _ _) (by omega) ?_
    refine ld_z 128 105 (by omega) (by omega) (by omega) fun v1181 hv1181 => ?_
    refine ld_b fun _ => ?_
    refine st_b hv1181 (shapeCast_self _ _) (by omega) ?_
    refine BIBase.Entails.trans (sep_mono .rfl (sep_mono (out_zero (mx := v177) (zf := zf) (a := 106)) .rfl)) ?_
    refine ld_ra (l := 0) 0 (by omega) (by omega) fun v638 hv638 => ?_
    refine ld_o fun _ => ?_
    refine st_o (⟨v638, hv638, rfl⟩ : IsBlk v177 zf 106 0 _) (by omega) (by omega) ?_
    refine ld_rb (l := 0) 0 (by omega) (by omega) fun v643 hv643 => ?_
    refine ld_o fun _ => ?_
    refine st_o (⟨v643, hv643, rfl⟩ : IsBlk v177 zf 106 1 _) (by omega) (by omega) ?_
    refine ld_ra (l := 107) 1 (by omega) (by omega) fun v648 hv648 => ?_
    refine ld_o fun _ => ?_
    refine st_o (⟨v648, hv648, rfl⟩ : IsBlk v177 zf 106 2 _) (by omega) (by omega) ?_
    refine ld_rb (l := 107) 1 (by omega) (by omega) fun v653 hv653 => ?_
    refine ld_o fun _ => ?_
    refine st_o (⟨v653, hv653, rfl⟩ : IsBlk v177 zf 106 3 _) (by omega) (by omega) ?_
    refine ld_ra (l := 214) 2 (by omega) (by omega) fun v658 hv658 => ?_
    exact ret_intro (hQ2 hc _ ⟨v658, hv658, rfl⟩)
  · rw [if_neg hc]; simp only [wp_bind]
    refine BIBase.Entails.trans (sep_mono .rfl (sep_mono (out_zero (mx := v177) (zf := zf) (a := 56)) .rfl)) ?_
    refine ld_ra (l := 0) 0 (by omega) (by omega) fun v638 hv638 => ?_
    refine ld_o fun _ => ?_
    refine st_o (⟨v638, hv638, rfl⟩ : IsBlk v177 zf 56 0 _) (by omega) (by omega) ?_
    refine ld_rb (l := 0) 0 (by omega) (by omega) fun v643 hv643 => ?_
    refine ld_o fun _ => ?_
    refine st_o (⟨v643, hv643, rfl⟩ : IsBlk v177 zf 56 1 _) (by omega) (by omega) ?_
    refine ld_ra (l := 107) 1 (by omega) (by omega) fun v648 hv648 => ?_
    refine ld_o fun _ => ?_
    refine st_o (⟨v648, hv648, rfl⟩ : IsBlk v177 zf 56 2 _) (by omega) (by omega) ?_
    refine ld_rb (l := 107) 1 (by omega) (by omega) fun v653 hv653 => ?_
    refine ld_o fun _ => ?_
    refine st_o (⟨v653, hv653, rfl⟩ : IsBlk v177 zf 56 3 _) (by omega) (by omega) ?_
    refine ld_ra (l := 214) 2 (by omega) (by omega) fun v658 hv658 => ?_
    exact ret_intro (hQ1 hc _ ⟨v658, hv658, rfl⟩)

end Cert.KernelIdeal.Hand
-- ==== Proof.Step.lean ====
module

public import proofs.«01_k».proof.Proof.Begin
public import proofs.«01_k».proof.Proof.FillLow
public import proofs.«01_k».proof.Proof.Emit

/-! # A step of the kernel

The whole body of one step, from its parts, and what it leaves in its window of results. -/

@[expose] public section

set_option maxRecDepth 65536
set_option pp.maxSteps 120

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The row weights summed over the samples of a bin, before the bins are. -/
def rowW (y : BitVec 32) (a b : F .f32) : FVec F S32x88 .f32 := k0_pay109 (k0_pay107 y) a b k0_pay108
/-- The row weights of the bins. -/
def myW (y : BitVec 32) (a b : F .f32) : FVec F S14x88 .f32 := k0_pay113 (rowW y a b) k0_pay112 (iota .tc S16x32 32 [1] iota_S16x32_d1_w32)
/-- The column weights of the bins. -/
def mxW (x : BitVec 32) (a b : F .f32) : FVec F S14x106 .f32 := k0_pay114 (k0_pay111 (k0_pay110 x) a b)
/-- The row product over the low lanes of a slot. -/
def zLo (y : BitVec 32) (a b : F .f32) (lo : Vec F S1x88x14336 .f32) : FVec F S14x14336 .f32 :=
  k0_pay116 (k0_pay115 (rowW y a b) k0_pay112 (iota .tc S16x32 32 [1] iota_S16x32_d1_w32) lo)
/-- The row product over the high lanes of a slot. -/
def zHi (y : BitVec 32) (a b : F .f32) (hi : Vec F S1x88x12800 .f32) : FVec F S14x12800 .f32 := k0_pay8 (myW y a b) hi
/-- The row product over the lanes of a slot. -/
def zAll (y : BitVec 32) (a b : F .f32) (lo : Vec F S1x88x14336 .f32) (hi : Vec F S1x88x12800 .f32) : ℕ → ℕ → F .f32 := fun p L =>
  if h : p < 14 ∧ L < 14336 then zLo y a b lo (fun x => match x with | 0 => (⟨p, h.1⟩ : Fin 14) | 1 => (⟨L, h.2⟩ : Fin 14336))
  else zHi y a b hi (fun x => match x with | 0 => (⟨p % 14, Nat.mod_lt _ (by decide)⟩ : Fin 14) | 1 => (⟨(L - 14336) % 12800, Nat.mod_lt _ (by decide)⟩ : Fin 12800))

theorem zAll_lo {y : BitVec 32} {a b : F .f32} {lo : Vec F S1x88x14336 .f32} {hi : Vec F S1x88x12800 .f32} (z : S14x14336.Idx) : zLo y a b lo z = zAll y a b lo hi (z 0).val (z 1).val := by
  have h0 : (z 0).val < 14 := (z 0).isLt
  have h1 : (z 1).val < 14336 := (z 1).isLt
  unfold zAll; rw [dif_pos ⟨h0, h1⟩]
  congr 1; funext x
  match x with
  | 0 => rfl
  | 1 => rfl

theorem zAll_hi {y : BitVec 32} {a b : F .f32} {lo : Vec F S1x88x14336 .f32} {hi : Vec F S1x88x12800 .f32} (z : S14x12800.Idx) : zHi y a b hi z = zAll y a b lo hi (z 0).val (14336 + (z 1).val) := by
  have h0 : (z 0).val < 14 := (z 0).isLt
  have h1 : (z 1).val < 12800 := (z 1).isLt
  unfold zAll; rw [dif_neg (by omega)]
  congr 1; funext x; apply Fin.ext
  match x with
  | 0 => exact (Nat.mod_eq_of_lt h0).symm
  | 1 => show (z 1).val = (14336 + (z 1).val - 14336) % 12800; rw [Nat.add_sub_cancel_left]; exact (Nat.mod_eq_of_lt h1).symm

/-- How many columns of the row product a step uses: the window's lanes decide. -/
def cols (l : BitVec 32) : ℕ := if Scalar.cmpi .ne ((Scalar.extui (Scalar.cmpi .sgt l 14336#32)) : BitVec 32) 0#32 = 1#1 then 106 else 56

variable {c : Dev nD} {i : grid0.Coords} {arg2 : Memref sig .tc .smem S256 .i32} {harg2 : arg2.IsWhole} {arg3 : Memref sig .tc .smem S256 .i32} {harg3 : arg3.IsWhole} {arg4 : Memref sig .tc .smem S256 .i32} {harg4 : arg4.IsWhole} {arg5 : Memref sig .tc .smem S256 .i32} {harg5 : arg5.IsWhole} {arg6 : Memref sig .tc .smem S256 .i32} {harg6 : arg6.IsWhole} {arg7 : Memref sig .tc .smem S256 .f32} {harg7 : arg7.IsWhole} {arg8 : Memref sig .tc .smem S256 .f32} {harg8 : arg8.IsWhole} {arg9 : Memref sig .tc .smem S256 .f32} {harg9 : arg9.IsWhole} {arg10 : Memref sig .tc .smem S256 .f32} {harg10 : arg10.IsWhole} {arg11 : Memref sig .tc .hbm S2x200x69632 .f32} {harg11 : arg11.IsWhole} {arg12 : Memref sig .tc .vmem S1x14x16x256 .f32} {harg12 : arg12.IsWhole} {arg13 : Memref sig .tc .vmem S4x88x27136 .f32} {harg13 : arg13.IsWhole} {arg14 : Memref sig .tc .vmem S16x27136 .f32} {harg14 : arg14.IsWhole} {arg15 : Memref sig .tc .vmem S1498x128 .f32} {harg15 : arg15.IsWhole} {arg16 : Memref sig .tc .vmem S1498x128 .f32} {harg16 : arg16.IsWhole} {arg17 : DmaSems sig S4}
  {fd : Buf (Elt F) (arg11.view.loc (c : Thread nD τ))} {q : Fin 4 → PosShare TreeShare} {p : PosShare TreeShare}
  {t2 : Buf (Elt F) (arg2.view.loc (c : Thread nD τ))} {t3 : Buf (Elt F) (arg3.view.loc (c : Thread nD τ))} {t4 : Buf (Elt F) (arg4.view.loc (c : Thread nD τ))}
  {t5 : Buf (Elt F) (arg5.view.loc (c : Thread nD τ))} {t6 : Buf (Elt F) (arg6.view.loc (c : Thread nD τ))} {t7 : Buf (Elt F) (arg7.view.loc (c : Thread nD τ))}
  {t8 : Buf (Elt F) (arg8.view.loc (c : Thread nD τ))} {t9 : Buf (Elt F) (arg9.view.loc (c : Thread nD τ))} {t10 : Buf (Elt F) (arg10.view.loc (c : Thread nD τ))}

/-- What a step leaves in its window of results. -/
def Res (c : Dev nD) (i : grid0.Coords) (arg11 : Memref sig .tc .hbm S2x200x69632 .f32) (arg13 : Memref sig .tc .vmem S4x88x27136 .f32)
    (fd : Buf (Elt F) (arg11.view.loc (c : Thread nD τ))) (w : Item) (y1 yp x1 xp : F .f32) (O : S1x14x16x256.Idx → Elt F .f32) : Prop :=
  ∃ f, Landed c arg13 arg11 fd w (⟨(i 1).val % 4, Nat.mod_lt _ (by decide)⟩ : Fin 4) f ∧ Done (mxW w.x x1 xp) (zAll w.y y1 yp (arg13.view.readAt (Elt F) (Rect.unit (s := S4x88x27136) (k0_off39 i) S1x88x14336.size (k0_off39_inb i)).toLoadRect f) (arg13.view.readAt (Elt F) (Rect.unit (s := S4x88x27136) (k0_off40 i) S1x88x12800.size (k0_off40_inb i)).toLoadRect f)) (cols w.l) 28 O

theorem entry {R : sProp 𝕄} {f} {mx : FVec F S14x106 .f32} {zf : ℕ → ℕ → F .f32} :
    iprop((arg13.view.loc (c : Thread nD τ) ↦[slotSet c arg13 (⟨(i 1).val % 4, Nat.mod_lt _ (by decide)⟩ : Fin 4)]{fullShare} f) ∗ (semVal ((c : Thread nD τ), SemLoc.dma (semAt arg17 (⟨(i 1).val % 4, Nat.mod_lt _ (by decide)⟩ : Fin 4))) 0 ∗ (arg11.view.loc (c : Thread nD τ) ↦{q (⟨(i 1).val % 4, Nat.mod_lt _ (by decide)⟩ : Fin 4)} fd) ∗ Others c arg13 arg11 arg17 fd q (stAt (item arg2 arg3 arg4 arg5 arg6 t2 t3 t4 t5 t6) (128 * (i 0).val + (i 1).val) (i 1).val 4) (⟨(i 1).val % 4, Nat.mod_lt _ (by decide)⟩ : Fin 4)) ∗ (∃ W, owes (c : Thread nD τ) 0 W) ∗ (Scr c arg14 arg15 arg16 ∗ (Tab c arg2 arg3 arg4 arg5 arg6 arg7 arg8 arg9 arg10 p t2 t3 t4 t5 t6 t7 t8 t9 t10 ∗ ((∃ O, arg12.view.loc (c : Thread nD τ) ↦{fullShare} O) ∗ R))))
      ⊢ iprop(St c arg14 arg15 arg16 zf 0 0 0 0 ∗ (Out c arg12 mx zf 0 0 ∗ ((arg13.view.loc (c : Thread nD τ) ↦[slotSet c arg13 (⟨(i 1).val % 4, Nat.mod_lt _ (by decide)⟩ : Fin 4)]{fullShare} f) ∗ (Tab c arg2 arg3 arg4 arg5 arg6 arg7 arg8 arg9 arg10 p t2 t3 t4 t5 t6 t7 t8 t9 t10 ∗ ((semVal ((c : Thread nD τ), SemLoc.dma (semAt arg17 (⟨(i 1).val % 4, Nat.mod_lt _ (by decide)⟩ : Fin 4))) 0 ∗ (arg11.view.loc (c : Thread nD τ) ↦{q (⟨(i 1).val % 4, Nat.mod_lt _ (by decide)⟩ : Fin 4)} fd) ∗ Others c arg13 arg11 arg17 fd q (stAt (item arg2 arg3 arg4 arg5 arg6 t2 t3 t4 t5 t6) (128 * (i 0).val + (i 1).val) (i 1).val 4) (⟨(i 1).val % 4, Nat.mod_lt _ (by decide)⟩ : Fin 4)) ∗ ((∃ W, owes (c : Thread nD τ) 0 W) ∗ R)))))) := by
  iintro ⟨Hp, HX, HW, HS, HT, ⟨%O, HO⟩, HR⟩
  isplitl [HS]; · iapply scr_st $$ HS
  isplitl [HO]
  · unfold Out; iexists O
    isplitr
    · ipureintro; intro j t ht; exact absurd ht (Nat.not_lt_zero _)
    · iexact HO
  isplitl [Hp]; · iexact Hp
  isplitl [HT]; · iexact HT
  isplitl [HX]; · iexact HX
  isplitl [HW]; · iexact HW
  iexact HR

theorem leave {R : sProp 𝕄} {f} {lo hi a b : ℕ} (hf : Landed c arg13 arg11 fd ((item arg2 arg3 arg4 arg5 arg6 t2 t3 t4 t5 t6) ((128 * (i 0).val + (i 1).val) + 0)) (⟨(i 1).val % 4, Nat.mod_lt _ (by decide)⟩ : Fin 4) f) :
    iprop(St c arg14 arg15 arg16 (zAll (wd arg3 t3 ((128 * (i 0).val + (i 1).val) + 0)) (wd arg7 t7 ((128 * (i 0).val + (i 1).val) + 0)) (wd arg8 t8 ((128 * (i 0).val + (i 1).val) + 0)) (arg13.view.readAt (Elt F) (Rect.unit (s := S4x88x27136) (k0_off39 i) S1x88x14336.size (k0_off39_inb i)).toLoadRect f) (arg13.view.readAt (Elt F) (Rect.unit (s := S4x88x27136) (k0_off40 i) S1x88x12800.size (k0_off40_inb i)).toLoadRect f)) lo hi a b ∗ (Out c arg12 (mxW (wd arg4 t4 ((128 * (i 0).val + (i 1).val) + 0)) (wd arg9 t9 ((128 * (i 0).val + (i 1).val) + 0)) (wd arg10 t10 ((128 * (i 0).val + (i 1).val) + 0))) (zAll (wd arg3 t3 ((128 * (i 0).val + (i 1).val) + 0)) (wd arg7 t7 ((128 * (i 0).val + (i 1).val) + 0)) (wd arg8 t8 ((128 * (i 0).val + (i 1).val) + 0)) (arg13.view.readAt (Elt F) (Rect.unit (s := S4x88x27136) (k0_off39 i) S1x88x14336.size (k0_off39_inb i)).toLoadRect f) (arg13.view.readAt (Elt F) (Rect.unit (s := S4x88x27136) (k0_off40 i) S1x88x12800.size (k0_off40_inb i)).toLoadRect f)) (cols (wd arg6 t6 ((128 * (i 0).val + (i 1).val) + 0))) 28 ∗ ((arg13.view.loc (c : Thread nD τ) ↦[slotSet c arg13 (⟨(i 1).val % 4, Nat.mod_lt _ (by decide)⟩ : Fin 4)]{fullShare} f) ∗ (Tab c arg2 arg3 arg4 arg5 arg6 arg7 arg8 arg9 arg10 p t2 t3 t4 t5 t6 t7 t8 t9 t10 ∗ ((semVal ((c : Thread nD τ), SemLoc.dma (semAt arg17 (⟨(i 1).val % 4, Nat.mod_lt _ (by decide)⟩ : Fin 4))) 0 ∗ (arg11.view.loc (c : Thread nD τ) ↦{q (⟨(i 1).val % 4, Nat.mod_lt _ (by decide)⟩ : Fin 4)} fd) ∗ Others c arg13 arg11 arg17 fd q (stAt (item arg2 arg3 arg4 arg5 arg6 t2 t3 t4 t5 t6) (128 * (i 0).val + (i 1).val) (i 1).val 4) (⟨(i 1).val % 4, Nat.mod_lt _ (by decide)⟩ : Fin 4)) ∗ ((∃ W, owes (c : Thread nD τ) 0 W) ∗ R))))))
      ⊢ iprop(RingSt c arg13 arg11 arg17 fd q (stAt (item arg2 arg3 arg4 arg5 arg6 t2 t3 t4 t5 t6) ((128 * (i 0).val + (i 1).val) + 1) ((i 1).val + 1) 3) ∗ ((∃ W, owes (c : Thread nD τ) 0 W) ∗ (Scr c arg14 arg15 arg16 ∗ (Tab c arg2 arg3 arg4 arg5 arg6 arg7 arg8 arg9 arg10 p t2 t3 t4 t5 t6 t7 t8 t9 t10 ∗ ((∃ O, ⌜Res c i arg11 arg13 fd ((item arg2 arg3 arg4 arg5 arg6 t2 t3 t4 t5 t6) ((128 * (i 0).val + (i 1).val) + 0)) (wd arg7 t7 ((128 * (i 0).val + (i 1).val) + 0)) (wd arg8 t8 ((128 * (i 0).val + (i 1).val) + 0)) (wd arg9 t9 ((128 * (i 0).val + (i 1).val) + 0)) (wd arg10 t10 ((128 * (i 0).val + (i 1).val) + 0)) (arg12.view.read (Elt F) O)⌝ ∗ arg12.view.loc (c : Thread nD τ) ↦{fullShare} O) ∗ R))))) := by
  unfold Out
  iintro ⟨HS, ⟨%O, %hO, HO⟩, Hp, HT, HX, HW, HR⟩
  isplitl [Hp HX]
  · rw [← stAt_succ _ _ _ (⟨(i 1).val % 4, Nat.mod_lt _ (by decide)⟩ : Fin 4) rfl]
    iapply slot_back
    isplitl [Hp]; · iexact Hp
    iexact HX
  isplitl [HW]; · iexact HW
  isplitl [HS]; · iapply st_scr $$ HS
  isplitl [HT]; · iexact HT
  isplitl [HO]
  · iexists O
    isplitr
    · ipureintro; exact ⟨f, hf, hO⟩
    · iexact HO
  iexact HR

set_option maxHeartbeats 16000000 in
/-- One step: from the ring before it and anything in the window of results to the ring after it and the step's results there. -/
theorem step {R : sProp 𝕄} (hG : ∀ g < 256, ((item arg2 arg3 arg4 arg5 arg6 t2 t3 t4 t5 t6) g).Good) {Q : PUnit → sProp 𝕄}
    (hQ : iprop(RingSt c arg13 arg11 arg17 fd q (stAt (item arg2 arg3 arg4 arg5 arg6 t2 t3 t4 t5 t6) ((128 * (i 0).val + (i 1).val) + 1) ((i 1).val + 1) 3) ∗ ((∃ W, owes (c : Thread nD τ) 0 W) ∗ (Scr c arg14 arg15 arg16 ∗ (Tab c arg2 arg3 arg4 arg5 arg6 arg7 arg8 arg9 arg10 p t2 t3 t4 t5 t6 t7 t8 t9 t10 ∗ ((∃ O, ⌜Res c i arg11 arg13 fd ((item arg2 arg3 arg4 arg5 arg6 t2 t3 t4 t5 t6) ((128 * (i 0).val + (i 1).val) + 0)) (wd arg7 t7 ((128 * (i 0).val + (i 1).val) + 0)) (wd arg8 t8 ((128 * (i 0).val + (i 1).val) + 0)) (wd arg9 t9 ((128 * (i 0).val + (i 1).val) + 0)) (wd arg10 t10 ((128 * (i 0).val + (i 1).val) + 0)) (arg12.view.read (Elt F) O)⌝ ∗ arg12.view.loc (c : Thread nD τ) ↦{fullShare} O) ∗ R))))) ⊢ Q ⟨⟩) :
    iprop(RingSt c arg13 arg11 arg17 fd q (stAt (item arg2 arg3 arg4 arg5 arg6 t2 t3 t4 t5 t6) (128 * (i 0).val + (i 1).val) (i 1).val (if (i 1).val = 0 then 0 else 3)) ∗ ((∃ W, owes (c : Thread nD τ) 0 W) ∗ (Scr c arg14 arg15 arg16 ∗ (Tab c arg2 arg3 arg4 arg5 arg6 arg7 arg8 arg9 arg10 p t2 t3 t4 t5 t6 t7 t8 t9 t10 ∗ ((∃ O, arg12.view.loc (c : Thread nD τ) ↦{fullShare} O) ∗ R)))))
      ⊢ wp frame (wpE (defs₀ (F := F)) Variants.none (c : Thread nD τ) none) Set.univ (cc0__roi_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  rw [cc0__roi_kernel_eq_skeleton]; unfold cc0__roi_kernel_skel; simp only [wp_bind]
  refine part18 hG fun f v1 v2 hf => ?_
  refine (entry (mx := (mxW (wd arg4 t4 ((128 * (i 0).val + (i 1).val) + 0)) (wd arg9 t9 ((128 * (i 0).val + (i 1).val) + 0)) (wd arg10 t10 ((128 * (i 0).val + (i 1).val) + 0)))) (zf := (zAll (wd arg3 t3 ((128 * (i 0).val + (i 1).val) + 0)) (wd arg7 t7 ((128 * (i 0).val + (i 1).val) + 0)) (wd arg8 t8 ((128 * (i 0).val + (i 1).val) + 0)) (arg13.view.readAt (Elt F) (Rect.unit (s := S4x88x27136) (k0_off39 i) S1x88x14336.size (k0_off39_inb i)).toLoadRect f) (arg13.view.readAt (Elt F) (Rect.unit (s := S4x88x27136) (k0_off40 i) S1x88x12800.size (k0_off40_inb i)).toLoadRect f)))).trans ?_
  refine part19 (acc_r (acc_r (acc_r acc_z))) ?_
  refine part20 (acc_r (acc_r (acc_r acc_z))) ?_
  refine part21 (slot_ld (⟨(i 1).val % 4, Nat.mod_lt _ (by decide)⟩ : Fin 4) (off39_eq i) rfl) (acc_r (acc_r acc_z)) ?_
  refine part22 _ (fun y => zAll_lo y) fun _ => ?_
  refine part23 fun ⟨a23, b23⟩ h23 => ?_
  refine part24 a23 b23 h23 fun r24 h24 => ?_
  refine part25 r24 h24 fun _ => ?_
  refine part26 fun ⟨a26, b26⟩ h26 => ?_
  refine part27 a26 b26 h26 fun r27 h27 => ?_
  refine part28 r27 h27 fun _ => ?_
  refine part29 fun ⟨a29, b29⟩ h29 => ?_
  refine part30 a29 b29 h29 fun r30 h30 => ?_
  refine part31 r30 h30 fun _ => ?_
  refine part32 fun ⟨a32, b32⟩ h32 => ?_
  refine part33 a32 b32 h32 fun r33 h33 => ?_
  refine part34 r33 h33 fun _ => ?_
  refine part35 fun ⟨a35, b35⟩ h35 => ?_
  refine part36 a35 b35 h35 fun r36 h36 => ?_
  refine part37 r36 h36 fun _ => ?_
  refine part38 (acc_t (acc_r (acc_r acc_z)) tab6) ?_
  rw [show ((arg6.access (Rect.unit (s := S256) (k0_off38 i) S1.size (k0_off38_inb i))).read (Elt F) t6 (Shape.Idx.first (numel1_S1.symm ▸ Nat.one_pos))) = wd arg6 t6 ((128 * (i 0).val + (i 1).val) + 0) from wd_eq (h1 := numel1_S1) (off38_eq i)]
  refine part39 (slot_ld (⟨(i 1).val % 4, Nat.mod_lt _ (by decide)⟩ : Fin 4) (off40_eq i) rfl) acc_z (fun y => zAll_hi y) (fun hc r39 h39 => ?_) (fun hc r39 h39 => ?_)
  · have hcols : cols (wd arg6 t6 ((128 * (i 0).val + (i 1).val) + 0)) = 56 := if_neg hc
    refine part40 h39 fun _ => ?_
    refine part41 fun r41 h41 => ?_
    refine part42 h41 fun ⟨a42, b42⟩ h42 e42 => ?_
    refine part43 h42 e42 fun r43 h43 => ?_
    refine part44 h43 fun r44 h44 => ?_
    obtain ⟨w44, hw44, rfl⟩ := h44
    refine ld_o fun _ => ?_
    refine st_o (⟨w44, hw44, rfl⟩ : IsBlk (mxW (wd arg4 t4 ((128 * (i 0).val + (i 1).val) + 0)) (wd arg9 t9 ((128 * (i 0).val + (i 1).val) + 0)) (wd arg10 t10 ((128 * (i 0).val + (i 1).val) + 0))) (zAll (wd arg3 t3 ((128 * (i 0).val + (i 1).val) + 0)) (wd arg7 t7 ((128 * (i 0).val + (i 1).val) + 0)) (wd arg8 t8 ((128 * (i 0).val + (i 1).val) + 0)) (arg13.view.readAt (Elt F) (Rect.unit (s := S4x88x27136) (k0_off39 i) S1x88x14336.size (k0_off39_inb i)).toLoadRect f) (arg13.view.readAt (Elt F) (Rect.unit (s := S4x88x27136) (k0_off40 i) S1x88x12800.size (k0_off40_inb i)).toLoadRect f)) 56 27 _) (by omega) (by omega) ?_
    refine ret_intro ?_
    refine BIBase.Entails.trans ?_ hQ
    rw [← hcols]
    exact leave hf
  · have hcols : cols (wd arg6 t6 ((128 * (i 0).val + (i 1).val) + 0)) = 106 := if_pos hc
    refine part40 h39 fun _ => ?_
    refine part41 fun r41 h41 => ?_
    refine part42 h41 fun ⟨a42, b42⟩ h42 e42 => ?_
    refine part43 h42 e42 fun r43 h43 => ?_
    refine part44 h43 fun r44 h44 => ?_
    obtain ⟨w44, hw44, rfl⟩ := h44
    refine ld_o fun _ => ?_
    refine st_o (⟨w44, hw44, rfl⟩ : IsBlk (mxW (wd arg4 t4 ((128 * (i 0).val + (i 1).val) + 0)) (wd arg9 t9 ((128 * (i 0).val + (i 1).val) + 0)) (wd arg10 t10 ((128 * (i 0).val + (i 1).val) + 0))) (zAll (wd arg3 t3 ((128 * (i 0).val + (i 1).val) + 0)) (wd arg7 t7 ((128 * (i 0).val + (i 1).val) + 0)) (wd arg8 t8 ((128 * (i 0).val + (i 1).val) + 0)) (arg13.view.readAt (Elt F) (Rect.unit (s := S4x88x27136) (k0_off39 i) S1x88x14336.size (k0_off39_inb i)).toLoadRect f) (arg13.view.readAt (Elt F) (Rect.unit (s := S4x88x27136) (k0_off40 i) S1x88x12800.size (k0_off40_inb i)).toLoadRect f)) 106 27 _) (by omega) (by omega) ?_
    refine ret_intro ?_
    refine BIBase.Entails.trans ?_ hQ
    rw [← hcols]
    exact leave hf

end Cert.KernelIdeal.Hand
-- ==== Proof.Tail.lean ====
module

public import Idealize.ShloMosaic.Lib.Pipeline.FrameSuffixR

/-!
  # After the call

  The run of a whole program around one pipelined call, read at its end. The call's output arrays may hold any contents
  that the proof data allow; the host operations that follow the call are computed from those contents.
-/

@[expose] public section

noncomputable section

namespace Cert.Tail

open Idealize.ShloMosaic Idealize.ShloMosaic.TcCoe Idealize.ShloMosaic.Pipeline Idealize.ShloMosaic.Rounds
open Idealize.SL Idealize.SL.RA
open Idealize.SL.BI (sProp bigSep bigSep_congr)
open scoped Idealize.SL.BI
open Idealize.SL.BI.BIBase Idealize.SL.BI.Laws Idealize.SL.ProofMode Idealize.SL.Sem

variable {nD : Nat} {τ : Topo} {sig : RefSig} {Val : EltTy → Type} [∀ e, Nonempty (Val e)]
variable {Λ₀ : Labels} {P : Type} [Fintype P] [DecidableEq P] {K : Type} [Fintype K]

local notation "𝕄" => MT nD τ sig Unit Val ℕ (UD sig nD τ) ℕ

variable (pcs : P → PCfg sig Λ₀ Val) (a : (p : P) → (pcs p).Adm) (p : P)
  (kit : PLaunchFacts (nD := nD) (τ := τ) pcs p)
  (osem : K → SemLoc sig) (defs₀ : Defs nD τ sig Val Λ₀) (𝒱₀ : Variants)

/-- What the memory holds of core `c` at the end: some final contents of the arrays that the data allow, and every buffer
    outside the call, apart from those the call's own copies read, as the host operations left it. -/
def Ends (rdat : (c : Dev nD) → RDat τ Val Unit ℕ (UD sig nD τ) ℕ (pin pcs a p) c) (H : Finset (Ref sig .tc))
    (V₀ : Dev nD → Valuation τ sig Val) (opss : List (List (HloOp τ sig Val))) (c : Dev nD) (s : MemSt nD τ sig Val) : Prop :=
  ∃ A, (∀ w, (rdat c).ArrAt w (pin pcs a p).N (A w))
    ∧ ∀ b ∈ restRefsP sig (pcs p).pre (pin pcs a p).spec \ H,
        s.mem ((c.tc : Thread nD τ).loc b) = StableHlo.after opss.flatten (withArrays (pin pcs a p).spec c (V₀ c) A) (Proc.devRef .tc b)

include kit in
/-- A program that runs host operations, one pipelined call and host operations again ends with `Ends` on every core
    and every semaphore at zero. -/
theorem run_ends (rdat : (c : Dev nD) → RDat τ Val Unit ℕ (UD sig nD τ) ℕ (pin pcs a p) c)
    (ho : OwnSemFacts (pin pcs a p).spec osem) (H : Finset (Ref sig .tc)) (hH : H ⊆ restRefsP sig (pcs p).pre (pin pcs a p).spec)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefsBut sig (pcs p).pre (pin pcs a p).spec H)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UD sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, (iprop(((∃ r, prngReg c r) ∗ ownSems0 osem c
          ∗ bigSep H fun b => ((c.tc : Thread nD τ).loc b) ↦{fullShare} V₀ c (Proc.devRef .tc b))
        ∗ prefHeld (pcs p).pre c (fun _ => fullShare.right) (a p).1 ∗ scopedRest (pin pcs a p).spec c) : sProp 𝕄) ⊢ (rdat c).Φ 0)
    (hout : ∀ c, (rdat c).Φ (Fin.last (pin pcs a p).N) ⊢ (iprop(emp ∗ ownSems0 osem c ∗ scopedRest (pin pcs a p).spec c) : sProp 𝕄))
    {Q : PUnit × MemSt nD τ sig Val → Prop}
    (hQ : ∀ s : MemSt nD τ sig Val, (∀ c, Ends pcs a p rdat H V₀ opss c s) → s.sem = (fun _ => 0) → Q (⟨⟩, s)) :
    θ_run (Pipeline.defs pcs defs₀) (onTc main) (s₀ m g) Q := by
  classical
  have hq : ∀ c w, ((pin pcs a p).spec w).isOut = false → (rdat c).q w = shareOf (pin pcs a p).spec w := fun c w hw =>
    (rdat c).q_eq_shareOf_of_share_full kit.win.arr_inj (hshare c) w hw
  have kit₀ := kit.to₀
  refine RDat.θ_run_region_pf_tail'_quiescent pcs a (RDat.familyOf pcs a p rdat) () (kit₀.cellOf_inj a) p kit₀.win ho kit₀.pre embL defs₀ 𝒱₀
    m g main (fun _ => chain (opss.map StableHlo.seq)) (fun c => by rw [RDat.familyOf_self]; exact hbody c)
    kit₀.block_pos kit₀.arr_whole kit₀.stage_whole (fun c t => by rw [RDat.familyOf_self]; exact howed c t)
    (fun _ => iprop(emp)) (initOf (cells (pin pcs a) (kit₀.cellOf_inj a)) (launchToks (pin pcs a) (kit₀.cellOf_inj a)), 1) ?start
    (fun c b => V₀ c (Proc.devRef .tc b)) hmain
    (fun c => by rw [RDat.familyOf_self]; exact (rdat c).arrays_split_shared kit₀.sharedIn kit₀.arr_whole (hq c) _ _ (hA c)) hpf
    (fun c => iprop((∃ r, prngReg c r) ∗ ownSems0 osem c
      ∗ bigSep H fun b => ((c.tc : Thread nD τ).loc b) ↦{fullShare} V₀ c (Proc.devRef .tc b)))
    (fun _ => iprop(emp))
    (fun c => bigSep (restRefsP sig (pcs p).pre (pin pcs a p).spec \ H) fun b => ((c.tc : Thread nD τ).loc b) ↦{fullShare} V₀ c (Proc.devRef .tc b))
    (fun _ => iprop(emp))
    (fun c => iprop(∃ A, ⌜∀ w, (rdat c).ArrAt w (pin pcs a p).N (A w)⌝
      ∗ bigSep (restRefsP sig (pcs p).pre (pin pcs a p).spec \ H) fun b =>
          ((c.tc : Thread nD τ).loc b) ↦{fullShare} StableHlo.after opss.flatten (withArrays (pin pcs a p).spec c (V₀ c) A) (Proc.devRef .tc b)))
    ?hX (fun c => by rw [RDat.familyOf_self]; exact hin c) (fun c => by rw [RDat.familyOf_self]; exact hout c) ?tail
    (fun c s => Ends pcs a p rdat H V₀ opss c s) ?read (fun s h hz => hQ s (fun c => (h c).2.2) hz)
  case start =>
    iintro Hu
    ihave Hs := (ownU_pair _ _) $$ Hu
    icases Hs with ⟨Hp, -⟩
    imodintro
    isplitl [Hp]; · iexact Hp
    iapply (show (BI.emp : sProp 𝕄) ⊢ bigSep Finset.univ (fun _ : Dev nD => (BI.emp : sProp 𝕄)) from by rw [BI.bigSep_emp_const])
    iempintro
  case hX =>
    intro c
    iintro ⟨HU, Ho, -, Hp, -⟩
    ihave HU' := (Entails.of_eq (unscopedRestP_sdiff (pcs p).pre (pin pcs a p).spec H hH c (fun b => V₀ c (Proc.devRef .tc b)))) $$ HU
    icases HU' with ⟨HH, HZ⟩
    imodintro
    isplitr [HZ]
    · isplitl [Hp]; · iexists _; iexact Hp
      isplitl [Ho]; · iexact Ho
      iexact HH
    · iexact HZ
  case tail =>
    intro c Q'
    have open' : ((RDat.familyOf pcs a p rdat p c).arraysAt (pin pcs a p).N : sProp 𝕄)
        ⊢ iprop(∃ A, ⌜∀ w, (rdat c).ArrAt w (pin pcs a p).N (A w)⌝ ∗ (rdat c).arrays A) := by
      rw [RDat.familyOf_self]; unfold RDat.arraysAt
      iintro Ha
      ihave Ha' := (BI.bigSep_exists_pi Finset.univ (fun w F => iprop(⌜(rdat c).ArrAt w (pin pcs a p).N F⌝
          ∗ ((pin pcs a p).win w).arr.view.loc (c.tc : Thread nD τ) ↦[((pin pcs a p).win w).arr.view.set]{(rdat c).share w} F))) $$ Ha
      icases Ha' with ⟨%A, Ha⟩
      ihave Ha2 := (BI.bigSep_pure_sep Finset.univ (fun w => (rdat c).ArrAt w (pin pcs a p).N (A w))
          (fun w => ((pin pcs a p).win w).arr.view.loc (c.tc : Thread nD τ) ↦[((pin pcs a p).win w).arr.view.set]{(rdat c).share w} A w)) $$ Ha
      icases Ha2 with ⟨%h, Ha⟩
      iexists A; isplitr; · ipureintro; exact fun w => h w (Finset.mem_univ w)
      unfold RDat.arrays
      iexact Ha
    have close' : ∀ A, (∀ w, (rdat c).ArrAt w (pin pcs a p).N (A w)) →
        ((rdat c).arrays A : sProp 𝕄) ⊢ (RDat.familyOf pcs a p rdat p c).arraysAt (pin pcs a p).N := fun A h => by
      rw [RDat.familyOf_self]; unfold RDat.arraysAt RDat.arrays
      refine BI.bigSep_mono fun w _ => ?_
      show (((pin pcs a p).win w).arr.view.loc (c.tc : Thread nD τ) ↦[((pin pcs a p).win w).arr.view.set]{(rdat c).share w} A w : sProp 𝕄)
        ⊢ iprop(∃ F, ⌜(rdat c).ArrAt w (pin pcs a p).N F⌝ ∗ ((pin pcs a p).win w).arr.view.loc (c.tc : Thread nD τ) ↦[((pin pcs a p).win w).arr.view.set]{(rdat c).share w} F)
      iintro H; iexists (A w); isplitr; · ipureintro; exact h w
      iexact H
    iintro ⟨Hk, Hb, Ha, -, HZ⟩
    ihave Ha' := open' $$ Ha
    icases Ha' with ⟨%A, %hA', Ha⟩
    have hB : (rdat c).arrays A = arrBufs (pin pcs a p).spec c (fun b => withArrays (pin pcs a p).spec c (V₀ c) A (Proc.devRef .tc b)) :=
      ((rdat c).arrBufs_eq_arrays kit₀.sharedIn kit₀.arr_whole (hq c) _ A fun w =>
        (withArrays_arr (pin pcs a p).spec kit.win.arr_inj c (V₀ c) A w).symm).symm
    ihave Ha1 := (Entails.of_eq hB) $$ Ha
    iapply (tail_seqs_but_bufs_b pcs defs₀ 𝒱₀ (pcs p).pre (pin pcs a p).spec H c (V₀ c) A opss hsub hfresh hkeep Q')
    isplitl [Hk]
    · iintro ⟨Hb2, Ha2, Hu⟩
      iapply Hk
      isplitl [Hb2]; · iexact Hb2
      isplitl [Ha2]; · iapply (close' A hA'); iapply (Entails.of_eq hB.symm); iexact Ha2
      isplitr; · iempintro
      iexists A; isplitr; · ipureintro; exact hA'
      iexact Hu
    · isplitl [Hb]; · iexact Hb
      isplitl [Ha1]; · iexact Ha1
      iexact HZ
  case read =>
    intro c s'
    iintro ⟨-, ⟨%A, %hA', HZ⟩, HSI⟩
    ihave HZ' := (pointsTo_read_all (restRefsP sig (pcs p).pre (pin pcs a p).spec \ H) (fun b => (c.tc : Thread nD τ).loc b)
      (fun b => StableHlo.after opss.flatten (withArrays (pin pcs a p).spec c (V₀ c) A) (Proc.devRef .tc b)) s') $$ [HZ HSI]
    · isplitl [HZ] <;> iassumption
    icases HZ' with ⟨%hZ, HSI⟩
    imodintro
    isplitr
    · ipureintro; exact ⟨A, hA', hZ⟩
    · iexact HSI

end Cert.Tail

end
-- ==== Proof.Run.lean ====
module

public import proofs.«01_k».proof.Proof.Step
public import proofs.«01_k».proof.Proof.Tail
public import proofs.«01_k».proof.Proof.Gen.KernelIdeal.Launch
public import Idealize.ShloMosaic.Lib.Pipeline.FrameBody
public import Idealize.ShloMosaic.Lib.Pipeline.DatRel

/-! # The call

The call as a whole: what holds between its steps, each step's obligation, and the run of the whole program around it. -/

@[expose] public section

set_option maxRecDepth 65536
set_option pp.maxSteps 120

noncomputable section

namespace Cert.KernelIdeal.Hand

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A window's buffer at given contents, as one buffer. -/
theorem owns_open {sp : Space} {s : Shape} {e : EltTy} {c : Dev nD} {mr : Memref sig .tc sp s e} (h : mr.IsWhole) (q : PosShare TreeShare) (X : s.Idx → Elt F e) :
    (owns (c : Thread nD τ) mr q X : sProp 𝕄) ⊢ iprop(∃ f, ⌜mr.view.read (Elt F) f = X⌝ ∗ (mr.view.loc (c : Thread nD τ) ↦{q} f)) := by
  unfold owns
  rw [h.set_eq_univ]

/-- The same, back. -/
theorem owns_close {sp : Space} {s : Shape} {e : EltTy} {c : Dev nD} {mr : Memref sig .tc sp s e} (h : mr.IsWhole) (q : PosShare TreeShare) (X : s.Idx → Elt F e)
    (f : Buf (Elt F) (mr.view.loc (c : Thread nD τ))) (hf : mr.view.read (Elt F) f = X) :
    (mr.view.loc (c : Thread nD τ) ↦{q} f : sProp 𝕄) ⊢ owns (c : Thread nD τ) mr q X := by
  unfold owns
  rw [h.set_eq_univ]
  iintro H; iexists f
  isplitr; · ipureintro; exact hf
  iexact H

/-- An element of a table of numbers. -/
def wv (X : S256.Idx → F .f32) (g : ℕ) : F .f32 := X (fun a => match a with | 0 => (⟨g % 256, Nat.mod_lt _ (by decide)⟩ : Fin 256))

theorem wd_of_read {c : Dev nD} {ms : Memref sig .tc .smem S256 .f32} {f : Buf (Elt F) (ms.view.loc (c : Thread nD τ))} {X : S256.Idx → F .f32}
    (h : ms.view.read (Elt F) f = X) (g : ℕ) : wd ms f g = wv X g := congrFun h _

/-- A step, its windows' buffers given by their contents. -/
theorem stepO {c : Dev nD} {i : grid0.Coords} {arg2 : Memref sig .tc .smem S256 .i32} {harg2 : arg2.IsWhole} {arg3 : Memref sig .tc .smem S256 .i32} {harg3 : arg3.IsWhole} {arg4 : Memref sig .tc .smem S256 .i32} {harg4 : arg4.IsWhole} {arg5 : Memref sig .tc .smem S256 .i32} {harg5 : arg5.IsWhole} {arg6 : Memref sig .tc .smem S256 .i32} {harg6 : arg6.IsWhole} {arg7 : Memref sig .tc .smem S256 .f32} {harg7 : arg7.IsWhole} {arg8 : Memref sig .tc .smem S256 .f32} {harg8 : arg8.IsWhole} {arg9 : Memref sig .tc .smem S256 .f32} {harg9 : arg9.IsWhole} {arg10 : Memref sig .tc .smem S256 .f32} {harg10 : arg10.IsWhole}
    {arg11 : Memref sig .tc .hbm S2x200x69632 .f32} {harg11 : arg11.IsWhole} {arg12 : Memref sig .tc .vmem S1x14x16x256 .f32} {harg12 : arg12.IsWhole} {arg13 : Memref sig .tc .vmem S4x88x27136 .f32} {harg13 : arg13.IsWhole} {arg14 : Memref sig .tc .vmem S16x27136 .f32} {harg14 : arg14.IsWhole} {arg15 : Memref sig .tc .vmem S1498x128 .f32} {harg15 : arg15.IsWhole} {arg16 : Memref sig .tc .vmem S1498x128 .f32} {harg16 : arg16.IsWhole} {arg17 : DmaSems sig S4}
    (fd : Buf (Elt F) (arg11.view.loc (c : Thread nD τ))) (q : Fin 4 → PosShare TreeShare) (p : PosShare TreeShare)
    (t2 : Buf (Elt F) (arg2.view.loc (c : Thread nD τ))) (t3 : Buf (Elt F) (arg3.view.loc (c : Thread nD τ))) (t4 : Buf (Elt F) (arg4.view.loc (c : Thread nD τ))) (t5 : Buf (Elt F) (arg5.view.loc (c : Thread nD τ))) (t6 : Buf (Elt F) (arg6.view.loc (c : Thread nD τ))) (X7 X8 X9 X10 : S256.Idx → F .f32)
    (hG : ∀ g < 256, ((item arg2 arg3 arg4 arg5 arg6 t2 t3 t4 t5 t6) g).Good) {Q : PUnit → sProp 𝕄}
    (hQ : iprop(RingSt c arg13 arg11 arg17 fd q (stAt (item arg2 arg3 arg4 arg5 arg6 t2 t3 t4 t5 t6) ((128 * (i 0).val + (i 1).val) + 1) ((i 1).val + 1) 3) ∗ ((∃ W, owes (c : Thread nD τ) 0 W) ∗ (Scr c arg14 arg15 arg16 ∗ (((arg2.view.loc (c : Thread nD τ) ↦{p} t2) ∗ (arg3.view.loc (c : Thread nD τ) ↦{p} t3) ∗ (arg4.view.loc (c : Thread nD τ) ↦{p} t4) ∗ (arg5.view.loc (c : Thread nD τ) ↦{p} t5) ∗ (arg6.view.loc (c : Thread nD τ) ↦{p} t6)) ∗ (owns (c : Thread nD τ) arg7 fullShare X7 ∗ owns (c : Thread nD τ) arg8 fullShare X8 ∗ owns (c : Thread nD τ) arg9 fullShare X9 ∗ owns (c : Thread nD τ) arg10 fullShare X10 ∗ (∃ O, ⌜Res c i arg11 arg13 fd ((item arg2 arg3 arg4 arg5 arg6 t2 t3 t4 t5 t6) (128 * (i 0).val + (i 1).val)) (wv X7 (128 * (i 0).val + (i 1).val)) (wv X8 (128 * (i 0).val + (i 1).val)) (wv X9 (128 * (i 0).val + (i 1).val)) (wv X10 (128 * (i 0).val + (i 1).val)) O⌝ ∗ owns (c : Thread nD τ) arg12 fullShare O)))))) ⊢ Q ⟨⟩) :
    iprop(RingSt c arg13 arg11 arg17 fd q (stAt (item arg2 arg3 arg4 arg5 arg6 t2 t3 t4 t5 t6) (128 * (i 0).val + (i 1).val) (i 1).val (if (i 1).val = 0 then 0 else 3)) ∗ ((∃ W, owes (c : Thread nD τ) 0 W) ∗ (Scr c arg14 arg15 arg16 ∗ (((arg2.view.loc (c : Thread nD τ) ↦{p} t2) ∗ (arg3.view.loc (c : Thread nD τ) ↦{p} t3) ∗ (arg4.view.loc (c : Thread nD τ) ↦{p} t4) ∗ (arg5.view.loc (c : Thread nD τ) ↦{p} t5) ∗ (arg6.view.loc (c : Thread nD τ) ↦{p} t6)) ∗ (owns (c : Thread nD τ) arg7 fullShare X7 ∗ owns (c : Thread nD τ) arg8 fullShare X8 ∗ owns (c : Thread nD τ) arg9 fullShare X9 ∗ owns (c : Thread nD τ) arg10 fullShare X10 ∗ (∃ O, owns (c : Thread nD τ) arg12 fullShare O))))))
      ⊢ wp frame (wpE (defs₀ (F := F)) Variants.none (c : Thread nD τ) none) Set.univ (cc0__roi_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17) Q := by
  iintro ⟨HR, HW, HS, ⟨T2, T3, T4, T5, T6⟩, O7, O8, O9, O10, ⟨%Y, OY⟩⟩
  ihave O7' := (owns_open harg7 fullShare X7) $$ O7
  ihave O8' := (owns_open harg8 fullShare X8) $$ O8
  ihave O9' := (owns_open harg9 fullShare X9) $$ O9
  ihave O10' := (owns_open harg10 fullShare X10) $$ O10
  ihave OY' := (owns_open harg12 fullShare Y) $$ OY
  icases O7' with ⟨%f7, %h7, T7⟩
  icases O8' with ⟨%f8, %h8, T8⟩
  icases O9' with ⟨%f9, %h9, T9⟩
  icases O10' with ⟨%f10, %h10, T10⟩
  icases OY' with ⟨%fy, %hy, TY⟩
  have hs := step (arg12 := arg12) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (arg17 := arg17) (i := i) (fd := fd) (q := q) (p := p) (t2 := t2) (t3 := t3) (t4 := t4) (t5 := t5) (t6 := t6) (t7 := f7) (t8 := f8) (t9 := f9) (t10 := f10) (R := iprop(emp)) hG (Q := Q) (by
    refine BIBase.Entails.trans ?_ hQ
    unfold Tab
    iintro ⟨HR, HW, HS, ⟨T2, T3, T4, T5, T6, T7, T8, T9, T10⟩, ⟨%O, %hO, TO⟩, -⟩
    isplitl [HR]; · iexact HR
    isplitl [HW]; · iexact HW
    isplitl [HS]; · iexact HS
    isplitl [T2 T3 T4 T5 T6]
    · isplitl [T2]; · iexact T2
      isplitl [T3]; · iexact T3
      isplitl [T4]; · iexact T4
      isplitl [T5]; · iexact T5
      iexact T6
    isplitl [T7]; · iapply (owns_close harg7 fullShare X7 f7 h7); iexact T7
    isplitl [T8]; · iapply (owns_close harg8 fullShare X8 f8 h8); iexact T8
    isplitl [T9]; · iapply (owns_close harg9 fullShare X9 f9 h9); iexact T9
    isplitl [T10]; · iapply (owns_close harg10 fullShare X10 f10 h10); iexact T10
    iexists (arg12.view.read (Elt F) O)
    isplitr
    · ipureintro
      rw [← wd_of_read h7, ← wd_of_read h8, ← wd_of_read h9, ← wd_of_read h10]
      exact hO
    · iapply (owns_close harg12 fullShare _ O rfl); iexact TO)
  iapply hs
  isplitl [HR]; · iexact HR
  isplitl [HW]; · iexact HW
  isplitl [HS]; · iexact HS
  unfold Tab
  isplitl [T2 T3 T4 T5 T6 T7 T8 T9 T10]
  · isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    iexact T10
  isplitl [TY]; · iexists fy; iexact TY
  iempintro

variable (m : (ℓ : Loc nD τ sig) → Buf (Elt F) ℓ)

/-- The host operations before the call. -/
def pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- What the buffers hold at the call. -/
@[irreducible] def V (c : Dev nD) : Valuation τ sig (Elt F) := StableHlo.after (pre (F := F)).flatten (fun b => m (c, b))

/-- The prefetched tables as the call finds them. -/
def adm : (p : Fin 1) → (pcfgs (F := F) p).Adm := fun _ => ⟨fun k => V m 0 (Proc.devRef .tc (pre0.ref k)), trivial⟩

/-- The call's configuration. -/
abbrev cfg : Pipeline.Cfg sig Λ₀ := Pipeline.pin pcfgs (adm m) 0

/-- A table's contents. -/
abbrev tb (c : Dev nD) (b : Ref sig .tc) : Buf (Elt F) ((c : Thread nD τ).loc b) := V m c (Proc.devRef .tc b)

/-- The items the tables name. -/
def its (c : Dev nD) : ℕ → Item :=
  item (c := c) (Memref.whole main_v2) (Memref.whole main_v89) (Memref.whole main_v108) (Memref.whole main_v99) (Memref.whole main_v110)
    (tb m c main_v2) (tb m c main_v89) (tb m c main_v108) (tb m c main_v99) (tb m c main_v110)

/-- The shares the copies read the features at. -/
def qs : Fin 4 → PosShare TreeShare := Transfers.shareTok fullShare 4

/-- What holds before step `n`. -/
def Inv (c : Dev nD) (n : ℕ) : sProp 𝕄 :=
  iprop(RingSt c (Memref.whole cc0_scratch0) (Memref.whole main_v106) cc0_scratch4 (tb m c main_v106) qs (stAt (its m c) n (n % 128) (if n % 128 = 0 then 0 else 3))
    ∗ Scr c (Memref.whole cc0_scratch1) (Memref.whole cc0_scratch2) (Memref.whole cc0_scratch3)
    ∗ prefHeld pre0 c (fun _ => fullShare.right) (fun k => V m c (Proc.devRef .tc (pre0.ref k))))

/-- What a step leaves in its output block. -/
def Out4 (c : Dev nD) (i : grid0.Coords) (O : S1x14x16x256.Idx → F .f32) : Prop :=
  Res c i (Memref.whole main_v106) (Memref.whole cc0_scratch0) (tb m c main_v106) (its m c (128 * (i 0).val + (i 1).val))
    (wv (tb m c main_v10) (128 * (i 0).val + (i 1).val)) (wv (tb m c main_v112) (128 * (i 0).val + (i 1).val))
    (wv (tb m c main_v6) (128 * (i 0).val + (i 1).val)) (wv (tb m c main_v114) (128 * (i 0).val + (i 1).val)) O

/-- The call's exact proof data. -/
def dat (c : Dev nD) : Pipeline.Dat τ (Elt F) Unit ℕ (Pipeline.UD sig nD τ) ℕ (cfg m) c where
  A w := V m c (Proc.devRef .tc (arrRef spec0 w))
  after w t := match w with
    | 0 => tb m c main_v10
    | 1 => tb m c main_v112
    | 2 => tb m c main_v6
    | 3 => tb m c main_v114
    | 4 => fun _ => Classical.arbitrary _
  Φ k := Inv m c k.val
  q _ := fullShare
  owed _ := 0

/-- The window whose contents are only constrained. -/
def fgt : Fin 5 → Bool := fun w => w == 4

/-- The constraint. -/
def Rl (c : Dev nD) : (w : Fin (cfg m).W) → Fin (cfg m).N → (((cfg m).win w).block.Idx → Elt F ((cfg m).win w).elt) → Prop := fun w t =>
  match w with
  | 4 => fun X => Out4 m c (grid0.coords t) X
  | 0 => fun _ => True
  | 1 => fun _ => True
  | 2 => fun _ => True
  | 3 => fun _ => True

/-- The call's proof data, its output only constrained. -/
def rdat (c : Dev nD) := (dat m c).toRRel fgt (Rl m c)

theorem blk_0 (c : Dev nD) (t : Fin (cfg m).N) : (dat m c).blockOf 0 t = tb m c main_v10 := by
  funext j
  show tb m c main_v10 ((((cfg m).win 0).blk t).view.emb j) = tb m c main_v10 j
  have h : ∀ k : S256.Idx, ((((cfg m).win 0).blk t).view.emb k : S256.Idx) = k := fun k => by
    funext (x : Fin 1)
    match x with
    | ⟨0, _⟩ =>
      refine Fin.ext ?_
      show 0 * 256 + 1 * (k 0).val = (k 0).val
      omega
  exact congrArg (tb m c main_v10) (h j)

theorem before_0 (c : Dev nD) (t : Fin (cfg m).N) (d) : (dat m c).before 0 t d = tb m c main_v10 := by
  rw [Dat.before_in_eq_fetched (dat m c) 0 rfl (fun _ => rfl) (fun _ _ _ => rfl) (fun t => (blk_0 m c t).symm) t d]
  exact blk_0 m c t

theorem blk_1 (c : Dev nD) (t : Fin (cfg m).N) : (dat m c).blockOf 1 t = tb m c main_v112 := by
  funext j
  show tb m c main_v112 ((((cfg m).win 1).blk t).view.emb j) = tb m c main_v112 j
  have h : ∀ k : S256.Idx, ((((cfg m).win 1).blk t).view.emb k : S256.Idx) = k := fun k => by
    funext (x : Fin 1)
    match x with
    | ⟨0, _⟩ =>
      refine Fin.ext ?_
      show 0 * 256 + 1 * (k 0).val = (k 0).val
      omega
  exact congrArg (tb m c main_v112) (h j)

theorem before_1 (c : Dev nD) (t : Fin (cfg m).N) (d) : (dat m c).before 1 t d = tb m c main_v112 := by
  rw [Dat.before_in_eq_fetched (dat m c) 1 rfl (fun _ => rfl) (fun _ _ _ => rfl) (fun t => (blk_1 m c t).symm) t d]
  exact blk_1 m c t

theorem blk_2 (c : Dev nD) (t : Fin (cfg m).N) : (dat m c).blockOf 2 t = tb m c main_v6 := by
  funext j
  show tb m c main_v6 ((((cfg m).win 2).blk t).view.emb j) = tb m c main_v6 j
  have h : ∀ k : S256.Idx, ((((cfg m).win 2).blk t).view.emb k : S256.Idx) = k := fun k => by
    funext (x : Fin 1)
    match x with
    | ⟨0, _⟩ =>
      refine Fin.ext ?_
      show 0 * 256 + 1 * (k 0).val = (k 0).val
      omega
  exact congrArg (tb m c main_v6) (h j)

theorem before_2 (c : Dev nD) (t : Fin (cfg m).N) (d) : (dat m c).before 2 t d = tb m c main_v6 := by
  rw [Dat.before_in_eq_fetched (dat m c) 2 rfl (fun _ => rfl) (fun _ _ _ => rfl) (fun t => (blk_2 m c t).symm) t d]
  exact blk_2 m c t

theorem blk_3 (c : Dev nD) (t : Fin (cfg m).N) : (dat m c).blockOf 3 t = tb m c main_v114 := by
  funext j
  show tb m c main_v114 ((((cfg m).win 3).blk t).view.emb j) = tb m c main_v114 j
  have h : ∀ k : S256.Idx, ((((cfg m).win 3).blk t).view.emb k : S256.Idx) = k := fun k => by
    funext (x : Fin 1)
    match x with
    | ⟨0, _⟩ =>
      refine Fin.ext ?_
      show 0 * 256 + 1 * (k 0).val = (k 0).val
      omega
  exact congrArg (tb m c main_v114) (h j)

theorem before_3 (c : Dev nD) (t : Fin (cfg m).N) (d) : (dat m c).before 3 t d = tb m c main_v114 := by
  rw [Dat.before_in_eq_fetched (dat m c) 3 rfl (fun _ => rfl) (fun _ _ _ => rfl) (fun t => (blk_3 m c t).symm) t d]
  exact blk_3 m c t

theorem crd_t : ∀ t : Fin grid0.N, 128 * (grid0.coords t 0).val + (grid0.coords t 1).val = t.val ∧ (grid0.coords t 1).val = t.val % 128 := by decide +kernel

theorem st_next (W : ℕ → Item) (n : ℕ) : stAt W (n + 1) (n % 128 + 1) 3 = stAt W (n + 1) ((n + 1) % 128) (if (n + 1) % 128 = 0 then 0 else 3) := by
  by_cases h : (n + 1) % 128 = 0
  · rw [if_pos h, h, show n % 128 + 1 = 128 by omega, stAt_last, stAt_zero]
  · rw [if_neg h, show (n + 1) % 128 = n % 128 + 1 by omega]

theorem row (c : Dev nD) (t : Fin (cfg m).N) (s : (w : Fin 5) → Fin (spec0 w).nbuf) : (defs₀ (F := F)) .tc (cfg m).body ((cfg m).bodyArgs t s) =
      (cc0__roi_kernel (grid0.coords t) (Memref.whole main_v2) (Memref.isWhole_whole _) (Memref.whole main_v89) (Memref.isWhole_whole _) (Memref.whole main_v108) (Memref.isWhole_whole _) (Memref.whole main_v99) (Memref.isWhole_whole _) (Memref.whole main_v110) (Memref.isWhole_whole _)
        (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3))
        (Memref.whole main_v106) (Memref.isWhole_whole _) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) := by
  unfold defs₀; rw [Defs.onTc_tc]

theorem inv_open (c : Dev nD) (n : ℕ) : Inv m c n ⊢ iprop(RingSt c (Memref.whole cc0_scratch0) (Memref.whole main_v106) cc0_scratch4 (tb m c main_v106) qs (stAt (its m c) n (n % 128) (if n % 128 = 0 then 0 else 3)) ∗ Scr c (Memref.whole cc0_scratch1) (Memref.whole cc0_scratch2) (Memref.whole cc0_scratch3) ∗ (((Memref.whole main_v2 : Memref sig .tc .smem S256 .i32).view.loc (c : Thread nD τ) ↦{fullShare.right} tb m c main_v2) ∗ ((Memref.whole main_v89 : Memref sig .tc .smem S256 .i32).view.loc (c : Thread nD τ) ↦{fullShare.right} tb m c main_v89) ∗ ((Memref.whole main_v108 : Memref sig .tc .smem S256 .i32).view.loc (c : Thread nD τ) ↦{fullShare.right} tb m c main_v108) ∗ ((Memref.whole main_v99 : Memref sig .tc .smem S256 .i32).view.loc (c : Thread nD τ) ↦{fullShare.right} tb m c main_v99) ∗ ((Memref.whole main_v110 : Memref sig .tc .smem S256 .i32).view.loc (c : Thread nD τ) ↦{fullShare.right} tb m c main_v110))) := by
  unfold Inv prefHeld
  rw [bigSep_W0]
  exact .rfl

theorem inv_close (c : Dev nD) (n : ℕ) : iprop(RingSt c (Memref.whole cc0_scratch0) (Memref.whole main_v106) cc0_scratch4 (tb m c main_v106) qs (stAt (its m c) n (n % 128) (if n % 128 = 0 then 0 else 3)) ∗ Scr c (Memref.whole cc0_scratch1) (Memref.whole cc0_scratch2) (Memref.whole cc0_scratch3) ∗ (((Memref.whole main_v2 : Memref sig .tc .smem S256 .i32).view.loc (c : Thread nD τ) ↦{fullShare.right} tb m c main_v2) ∗ ((Memref.whole main_v89 : Memref sig .tc .smem S256 .i32).view.loc (c : Thread nD τ) ↦{fullShare.right} tb m c main_v89) ∗ ((Memref.whole main_v108 : Memref sig .tc .smem S256 .i32).view.loc (c : Thread nD τ) ↦{fullShare.right} tb m c main_v108) ∗ ((Memref.whole main_v99 : Memref sig .tc .smem S256 .i32).view.loc (c : Thread nD τ) ↦{fullShare.right} tb m c main_v99) ∗ ((Memref.whole main_v110 : Memref sig .tc .smem S256 .i32).view.loc (c : Thread nD τ) ↦{fullShare.right} tb m c main_v110))) ⊢ Inv m c n := by
  unfold Inv prefHeld
  rw [bigSep_W0]
  exact .rfl

theorem owes_open (c : Dev nD) (k : Fin ((cfg m).N + 1)) : (dat m c).owesAt () k ⊢ iprop(∃ W, owes (c : Thread nD τ) 0 W) := by
  unfold Dat.owesAt Pipeline.owesWithin
  rw [show (dat m c).owed k = 0 from rfl]
  iintro ⟨%W, -, HW⟩
  iexists W; iexact HW

theorem owes_close (c : Dev nD) (k : Fin ((cfg m).N + 1)) : iprop(∃ W, owes (c : Thread nD τ) 0 W) ⊢ (dat m c).owesAt () k := by
  unfold Dat.owesAt Pipeline.owesWithin
  rw [show (dat m c).owed k = 0 from rfl]
  iintro ⟨%W, HW⟩
  iexists W
  isplitr; · ipureintro; exact fun _ _ => Or.inl trivial
  iexact HW

set_option maxHeartbeats 800000 in
theorem bodyS (hG : ∀ c, ∀ g < 256, (its m c g).Good) (c : Dev nD) (t : Fin (cfg m).N) (s : (w : Fin 5) → Fin (spec0 w).nbuf) :
    iprop(Inv m c t.val ∗ (dat m c).owesAt () t.castSucc ∗ owns (c : Thread nD τ) (spec0_0.stage (s 0)) fullShare (tb m c main_v10) ∗ owns (c : Thread nD τ) (spec0_1.stage (s 1)) fullShare (tb m c main_v112) ∗ owns (c : Thread nD τ) (spec0_2.stage (s 2)) fullShare (tb m c main_v6) ∗ owns (c : Thread nD τ) (spec0_3.stage (s 3)) fullShare (tb m c main_v114) ∗ (∃ Y, owns (c : Thread nD τ) (spec0_4.stage (s 4)) fullShare Y))
      ⊢ wp frame (wpE (defs₀ (F := F)) Variants.none (c : Thread nD τ) none) Set.univ
      (cc0__roi_kernel (grid0.coords t) (Memref.whole main_v2) (Memref.isWhole_whole _) (Memref.whole main_v89) (Memref.isWhole_whole _) (Memref.whole main_v108) (Memref.isWhole_whole _) (Memref.whole main_v99) (Memref.isWhole_whole _) (Memref.whole main_v110) (Memref.isWhole_whole _)
        (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3))
        (Memref.whole main_v106) (Memref.isWhole_whole _) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4)
        (fun _ => iprop(Inv m c (t.val + 1) ∗ (dat m c).owesAt () t.succ ∗ owns (c : Thread nD τ) (spec0_0.stage (s 0)) fullShare (tb m c main_v10) ∗ owns (c : Thread nD τ) (spec0_1.stage (s 1)) fullShare (tb m c main_v112) ∗ owns (c : Thread nD τ) (spec0_2.stage (s 2)) fullShare (tb m c main_v6) ∗ owns (c : Thread nD τ) (spec0_3.stage (s 3)) fullShare (tb m c main_v114) ∗ (∃ X, ⌜Out4 m c (grid0.coords t) X⌝ ∗ owns (c : Thread nD τ) (spec0_4.stage (s 4)) fullShare X))) := by
  obtain ⟨e1, e2⟩ := crd_t t
  refine BIBase.Entails.trans ?_ (stepO (c := c) (arg2 := Memref.whole main_v2) (arg3 := Memref.whole main_v89) (arg4 := Memref.whole main_v108) (arg5 := Memref.whole main_v99) (arg6 := Memref.whole main_v110) (arg11 := Memref.whole main_v106) (arg13 := Memref.whole cc0_scratch0) (arg14 := Memref.whole cc0_scratch1) (arg15 := Memref.whole cc0_scratch2) (arg16 := Memref.whole cc0_scratch3) (arg17 := cc0_scratch4) (i := grid0.coords t) (tb m c main_v106) qs fullShare.right (tb m c main_v2) (tb m c main_v89) (tb m c main_v108) (tb m c main_v99) (tb m c main_v110) (tb m c main_v10) (tb m c main_v112) (tb m c main_v6) (tb m c main_v114) (hG c) ?_)
  · rw [e1, e2]
    iintro ⟨HI, HW, H0, H1, H2, H3, HY⟩
    ihave HI' := (inv_open m c t.val) $$ HI
    icases HI' with ⟨HR, HS, HT⟩
    isplitl [HR]; · iexact HR
    isplitl [HW]; · iapply (owes_open m c t.castSucc); iexact HW
    isplitl [HS]; · iexact HS
    isplitl [HT]; · iexact HT
    isplitl [H0]; · iexact H0
    isplitl [H1]; · iexact H1
    isplitl [H2]; · iexact H2
    isplitl [H3]; · iexact H3
    iexact HY
  · rw [e1, e2, st_next]
    iintro ⟨HR, HW, HS, HT, H0, H1, H2, H3, ⟨%O, %hO, HO⟩⟩
    isplitl [HR HS HT]
    · iapply (inv_close m c (t.val + 1))
      isplitl [HR]; · iexact HR
      isplitl [HS]; · iexact HS
      iexact HT
    isplitl [HW]; · iapply (owes_close m c t.succ); iexact HW
    isplitl [H0]; · iexact H0
    isplitl [H1]; · iexact H1
    isplitl [H2]; · iexact H2
    isplitl [H3]; · iexact H3
    iexists O
    isplitr
    · ipureintro
      show Out4 m c (grid0.coords t) O
      unfold Out4
      rw [e1]
      exact hO
    · iexact HO

theorem fg0 : fgt 0 = false := rfl
theorem fg1 : fgt 1 = false := rfl
theorem fg2 : fgt 2 = false := rfl
theorem fg3 : fgt 3 = false := rfl
theorem fg4 : fgt 4 = true := rfl

theorem phi_at (c : Dev nD) (k : Fin ((cfg m).N + 1)) : (dat m c).Φ k = Inv m c k.val := rfl

theorem phi_lo (c : Dev nD) (t : Fin (cfg m).N) : (dat m c).Φ t.castSucc = Inv m c t.val :=
  (phi_at m c t.castSucc).trans (congrArg (Inv m c) (Fin.val_castSucc t))

theorem phi_hi (c : Dev nD) (t : Fin (cfg m).N) : (dat m c).Φ t.succ = Inv m c (t.val + 1) :=
  (phi_at m c t.succ).trans (congrArg (Inv m c) (Fin.val_succ t))

set_option maxHeartbeats 200000 in
theorem body (hG : ∀ c, ∀ g < 256, (its m c g).Good) (c : Dev nD) :
    Pipeline.BodyObligationRel (dat m c) (defs₀ (F := F)) Variants.none () Set.univ fgt (Rl m c) := fun t => by
  rw [bigSep_W0, bigSep_W0, phi_lo, phi_hi]
  simp only [fg0, fg1, fg2, fg3, fg4]
  generalize hs : (cfg m).slots t = s
  refine BIBase.Entails.trans ?_ (BIBase.Entails.trans (bodyS m hG c t s) ?_)
  · iintro ⟨HI, HW, ⟨%d0, H0⟩, ⟨%d1, H1⟩, ⟨%d2, H2⟩, ⟨%d3, H3⟩, ⟨%Y, -, HY⟩⟩
    isplitl [HI]; · iexact HI
    isplitl [HW]; · iexact HW
    isplitl [H0]; · iapply (Entails.of_eq (congrArg (owns (c : Thread nD τ) (spec0_0.stage (s 0)) fullShare) (before_0 m c t d0))); iexact H0
    isplitl [H1]; · iapply (Entails.of_eq (congrArg (owns (c : Thread nD τ) (spec0_1.stage (s 1)) fullShare) (before_1 m c t d1))); iexact H1
    isplitl [H2]; · iapply (Entails.of_eq (congrArg (owns (c : Thread nD τ) (spec0_2.stage (s 2)) fullShare) (before_2 m c t d2))); iexact H2
    isplitl [H3]; · iapply (Entails.of_eq (congrArg (owns (c : Thread nD τ) (spec0_3.stage (s 3)) fullShare) (before_3 m c t d3))); iexact H3
    iexists Y; iexact HY
  · rw [← row m c t s]
    exact .rfl

theorem mem_slot (c : Dev nD) (s : Fin 4) (j : S4x88x27136.Idx) :
    (j : Idx ((Memref.whole cc0_scratch0 : Memref sig .tc .vmem S4x88x27136 .f32).view.loc (c : Thread nD τ))) ∈ slotSet c (Memref.whole cc0_scratch0) s ↔ (j 0).val = s.val := by
  unfold slotSet
  have h := View.mem_setOn (v := (Memref.whole cc0_scratch0 : Memref sig .tc .vmem S4x88x27136 .f32).view) (M := Finset.univ.filter fun j : S4x88x27136.Idx => (j 0).val = s.val) (x := j)
  rw [Finset.mem_filter] at h
  exact h.trans (and_iff_right (Finset.mem_univ _))

theorem pbuf_univ (c : Dev nD) : (Finset.univ : Finset (Fin 4)).biUnion (slotSet c (Memref.whole cc0_scratch0)) = Finset.univ := by
  refine Finset.eq_univ_of_forall fun j => ?_
  rw [Finset.mem_biUnion]
  exact ⟨((j : S4x88x27136.Idx) 0 : Fin 4), Finset.mem_univ _, (mem_slot c _ j).mpr rfl⟩

theorem pbuf_disj (c : Dev nD) : ∀ t ∈ (Finset.univ : Finset (Fin 4)), ∀ t' ∈ (Finset.univ : Finset (Fin 4)), t ≠ t' →
    Disjoint (slotSet c (Memref.whole cc0_scratch0) t) (slotSet c (Memref.whole cc0_scratch0) t') := by
  intro t _ t' _ h
  rw [Finset.disjoint_left]
  intro j hj hj'
  exact h (Fin.ext (((mem_slot c t j).mp hj).symm.trans ((mem_slot c t' j).mp hj')))

end Cert.KernelIdeal.Hand

end
-- ==== Proof.Around.lean ====
module

public import proofs.«01_k».proof.Proof.Run

/-! # The run

The whole program around the call, read at its end. -/

@[expose] public section

set_option maxRecDepth 65536
set_option pp.maxSteps 120

noncomputable section

namespace Cert.KernelIdeal.Hand

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- The kernel's own semaphores. -/
def osem : Fin 4 → SemLoc sig := fun s => SemLoc.dma (semAt cc0_scratch4 s)

theorem osemFacts : OwnSemFacts spec0 osem := by decide +kernel

theorem idle_zero (c : Dev nD) (n : ℕ) (h : n % 128 = 0) : stAt (its m c) n (n % 128) (if n % 128 = 0 then 0 else 3) = fun _ => none := by
  rw [if_pos h, stAt_zero]

theorem slots_some (c : Dev nD) (f : Buf (Elt F) ((Memref.whole cc0_scratch0 : Memref sig .tc .vmem S4x88x27136 .f32).view.loc (c : Thread nD τ))) :
    (bigSep Finset.univ (fun s : Fin 4 => (((Memref.whole cc0_scratch0 : Memref sig .tc .vmem S4x88x27136 .f32).view.loc (c : Thread nD τ)) ↦[slotSet c (Memref.whole cc0_scratch0) s]{fullShare} f : sProp 𝕄)) : sProp 𝕄) ⊢ bigSep Finset.univ (fun s : Fin 4 => iprop(∃ f, ((Memref.whole cc0_scratch0 : Memref sig .tc .vmem S4x88x27136 .f32).view.loc (c : Thread nD τ)) ↦[slotSet c (Memref.whole cc0_scratch0) s]{fullShare} f)) :=
  bigSep_mono fun s _ => by
    show (((Memref.whole cc0_scratch0 : Memref sig .tc .vmem S4x88x27136 .f32).view.loc (c : Thread nD τ)) ↦[slotSet c (Memref.whole cc0_scratch0) s]{fullShare} f : sProp 𝕄) ⊢ iprop(∃ f, ((Memref.whole cc0_scratch0 : Memref sig .tc .vmem S4x88x27136 .f32).view.loc (c : Thread nD τ)) ↦[slotSet c (Memref.whole cc0_scratch0) s]{fullShare} f)
    iintro H; iexists f; iexact H

/-- The ring with every slot idle, from its buffer, its semaphores and a share of the features. -/
theorem pbuf_in (c : Dev nD) (fd : Buf (Elt F) ((Memref.whole main_v106 : Memref sig .tc .hbm S2x200x69632 .f32).view.loc (c : Thread nD τ))) :
    iprop((∃ f : Buf (Elt F) ((c : Thread nD τ).loc cc0_scratch0), (c : Thread nD τ).loc cc0_scratch0 ↦{fullShare} f) ∗ ownSems0 osem c ∗ ((c : Thread nD τ).loc main_v106 ↦{fullShare} fd))
      ⊢ (RingSt c (Memref.whole cc0_scratch0) (Memref.whole main_v106) cc0_scratch4 fd qs (fun _ => none) : sProp 𝕄) := by
  iintro ⟨⟨%f, Hp⟩, Hs, Hf⟩
  ihave Hf' := (Transfers.pointsTo_toks_split fullShare 4) $$ Hf
  icases Hf' with ⟨-, Hf⟩
  ihave Hp' := (Entails.of_eq (show ((c : Thread nD τ).loc cc0_scratch0 ↦{fullShare} f : sProp 𝕄)
      = bigSep Finset.univ fun s => ((Memref.whole cc0_scratch0 : Memref sig .tc .vmem S4x88x27136 .f32).view.loc (c : Thread nD τ)) ↦[slotSet c (Memref.whole cc0_scratch0) s]{fullShare} f from by
        rw [← pointsTo_biUnion _ _ (pbuf_disj c), pbuf_univ])) $$ Hp
  unfold RingSt Slot Idle ownSems0
  rw [bigSep_sep', bigSep_sep']
  isplitl [Hp']
  · iapply (slots_some c f)
    iexact Hp'
  isplitl [Hs]; · iexact Hs
  iexact Hf

/-- The idle ring's buffer and semaphores, back. -/
theorem pbuf_out (c : Dev nD) (fd : Buf (Elt F) ((Memref.whole main_v106 : Memref sig .tc .hbm S2x200x69632 .f32).view.loc (c : Thread nD τ))) :
    (RingSt c (Memref.whole cc0_scratch0) (Memref.whole main_v106) cc0_scratch4 fd qs (fun _ => none) : sProp 𝕄)
      ⊢ iprop((∃ f : Buf (Elt F) ((c : Thread nD τ).loc cc0_scratch0), (c : Thread nD τ).loc cc0_scratch0 ↦{fullShare} f) ∗ ownSems0 osem c) := by
  unfold RingSt Slot Idle ownSems0
  rw [bigSep_sep', bigSep_sep']
  iintro ⟨Hp, Hs, -⟩
  ihave Hp' := (bigSep_exists_pi Finset.univ (fun (s : Fin 4) (f : Buf (Elt F) ((Memref.whole cc0_scratch0 : Memref sig .tc .vmem S4x88x27136 .f32).view.loc (c : Thread nD τ))) =>
      (((Memref.whole cc0_scratch0 : Memref sig .tc .vmem S4x88x27136 .f32).view.loc (c : Thread nD τ)) ↦[slotSet c (Memref.whole cc0_scratch0) s]{fullShare} f : sProp 𝕄))) $$ Hp
  icases Hp' with ⟨%fs, Hp⟩
  ihave Hp2 := (pointsTo_biUnion_join Finset.univ (slotSet c (Memref.whole cc0_scratch0)) fs (fs 0) (pbuf_disj c)) $$ Hp
  icases Hp2 with ⟨%g, -, Hp⟩
  isplitl [Hp]
  · iexists g
    iapply (Entails.of_eq (show (((Memref.whole cc0_scratch0 : Memref sig .tc .vmem S4x88x27136 .f32).view.loc (c : Thread nD τ)) ↦[Finset.univ.biUnion (slotSet c (Memref.whole cc0_scratch0))]{fullShare} g : sProp 𝕄)
      = ((c : Thread nD τ).loc cc0_scratch0 ↦{fullShare} g) from by rw [pbuf_univ]))
    iexact Hp
  iexact Hs

theorem hin (c : Dev nD) :
    (iprop(((∃ r, prngReg c r) ∗ ownSems0 osem c ∗ bigSep {main_v106} fun b => ((c.tc : Thread nD τ).loc b) ↦{fullShare} V m c (Proc.devRef .tc b))
        ∗ prefHeld pre0 c (fun _ => fullShare.right) (adm m 0).1 ∗ scopedRest spec0 c) : sProp 𝕄) ⊢ (rdat m c).Φ 0 := by
  obtain rfl : c = 0 := Subsingleton.elim _ _
  rw [bigSep_singleton, scopedRest0_eq]
  show _ ⊢ Inv m 0 0
  unfold Inv Scr
  rw [idle_zero m 0 0 rfl]
  iintro ⟨⟨-, Hs, Hf⟩, HT, Hp, H1, H2, H3⟩
  isplitl [Hs Hf Hp]
  · iapply (pbuf_in (F := F) 0 (tb m 0 main_v106))
    isplitl [Hp]; · iexact Hp
    isplitl [Hs]; · iexact Hs
    iexact Hf
  isplitl [H1 H2 H3]
  · isplitl [H1]; · iexact H1
    isplitl [H2]; · iexact H2
    iexact H3
  iexact HT

theorem hout (c : Dev nD) : (rdat m c).Φ (Fin.last (cfg m).N) ⊢ (iprop(emp ∗ ownSems0 osem c ∗ scopedRest spec0 c) : sProp 𝕄) := by
  rw [scopedRest0_eq]
  show Inv m c (cfg m).N ⊢ _
  rw [show (cfg m).N = 256 from N_0]
  unfold Inv Scr
  rw [idle_zero m c 256 rfl]
  iintro ⟨HR, ⟨H1, H2, H3⟩, -⟩
  ihave HR' := (pbuf_out (F := F) c (tb m c main_v106)) $$ HR
  icases HR' with ⟨Hp, Hs⟩
  isplitr; · iempintro
  isplitl [Hs]; · iexact Hs
  isplitl [Hp]; · iexact Hp
  isplitl [H1]; · iexact H1
  isplitl [H2]; · iexact H2
  iexact H3

theorem tail_sub : ∀ ops ∈ [hostOps1 (F := F)], ∀ op ∈ ops, op.bufs ⊆ tailRefsBut (τ := τ) sig pre0 spec0 {main_v106} := by
  intro ops h op ho
  rw [List.mem_singleton] at h
  subst h
  refine sub_tailRefsBut pre0 spec0 _ op (List.forall_iff_forall_mem.mp hostOps1_sub op ho) ?_ ?_
  · simp only [hostOps1, List.mem_cons, List.not_mem_nil, _root_.or_false] at ho
    rcases ho with rfl | rfl <;> (intro k h; simp only [StableHlo.unary_bufs, Finset.mem_insert, Finset.mem_singleton] at h; rcases h with h | h <;> exact absurd h (StableHlo.devRef_ne_of_ne ((by decide +kernel : ∀ k : Fin 5, pre0.ref k ≠ main_v115 ∧ pre0.ref k ≠ main_v116 ∧ pre0.ref k ≠ main_v117) k |> fun x => by first | exact x.1 | exact x.2.1 | exact x.2.2)))
  · simp only [hostOps1, List.mem_cons, List.not_mem_nil, _root_.or_false] at ho
    rcases ho with rfl | rfl <;> (intro b hb; rw [Finset.mem_singleton] at hb; subst hb; intro h; simp only [StableHlo.unary_bufs, Finset.mem_insert, Finset.mem_singleton] at h; rcases h with h | h <;> exact absurd h (StableHlo.devRef_ne_of_ne (by decide +kernel)))

theorem tail_fresh : ∀ ops ∈ [hostOps1 (F := F)], ∀ op ∈ ops, op.fresh = ∅ := by
  intro ops h op ho
  rw [List.mem_singleton] at h
  subst h
  simp only [hostOps1, List.mem_cons, List.not_mem_nil, _root_.or_false] at ho
  rcases ho with rfl | rfl <;> rfl

theorem tail_keep : ∀ ops ∈ [hostOps1 (F := F)], ∀ op ∈ ops, ∀ w, Proc.devRef .tc (arrRef spec0 w) ∉ op.writes := by
  intro ops h op ho
  rw [List.mem_singleton] at h
  subst h
  simp only [hostOps1, List.mem_cons, List.not_mem_nil, _root_.or_false] at ho
  rcases ho with rfl | rfl <;> (intro w h; rw [StableHlo.unary_writes, Finset.mem_singleton] at h; exact absurd h (StableHlo.devRef_ne_of_ne ((by decide +kernel : ∀ w : Fin 5, arrRef spec0 w ≠ main_v116 ∧ arrRef spec0 w ≠ main_v117) w |> fun x => by first | exact x.1 | exact x.2)))

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩

theorem pre_fresh : (pre (F := F)).Forall fun ops => ops.Forall fun op => op.fresh = ∅ :=
  ⟨StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl, StableHlo.forall_fresh_of_map rfl⟩

/-- The run of the whole program, from facts on the words its tables hold. -/
theorem run (ρ : Dev nD → PrngReg) (hG : ∀ c, ∀ g < 256, (its m c g).Good) {Q : PUnit × MemSt nD τ sig (Elt F) → Prop}
    (hQ : ∀ s : MemSt nD τ sig (Elt F), (∀ c, Cert.Tail.Ends pcfgs (adm m) 0 (rdat m) {main_v106} (V m) [hostOps1] c s) → s.sem = (fun _ => 0) → Q (⟨⟩, s)) :
    θ_run (defs (F := F)) (onTc (τ := τ) (main (F := F))) ⟨m, fun _ => 0, ρ⟩ Q := by
  refine Cert.Tail.run_ends pcfgs (adm m) 0 launch0 osem defs₀ Variants.none (rdat m) osemFacts {main_v106} ?hH m ρ main
    (fun c => (body m hG c).toRRel) ?hshare (fun _ _ => rfl) (V m) [hostOps1] tail_sub tail_fresh tail_keep ?hmain (fun _ _ => rfl) ?hpf (hin m) (hout m) hQ
  case hH => exact (by decide +kernel : ({main_v106} : Finset (Ref sig .tc)) ⊆ restRefsP sig pre0 spec0)
  case hshare => intro c w; unfold RDat.share; split <;> rfl
  case hmain =>
    rw [show (fun (c : Dev nD) (b : Ref sig .tc) => V m c (Proc.devRef .tc b)) = fun c b => StableHlo.after (pre (F := F)).flatten (fun b => m (c, b)) (Proc.devRef .tc b) from by unfold V; rfl]
    exact hmainP_around pcfgs 0 defs₀ Variants.none m main pre [hostOps1] pre_sub pre_fresh (fun c => (main_chain c).trans rfl)
  case hpf => intro c k; obtain rfl : c = 0 := Subsingleton.elim _ _; rfl

end Cert.KernelIdeal.Hand

end
-- ==== Proof.Words.lean ====
module

public import proofs.«01_k».proof.Proof.Around
public import Idealize.ShloMosaic.Lib.StableHlo.RunRead

/-! # The words of the tables

What the host computes into the five tables: each is cut to a range by a minimum and a maximum, the ones counted in tiles are products by the tile. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline
open Idealize.SL Idealize.SL.RA Idealize.SL.BI Idealize.SL.Sem

variable {F : FTy → Type} [FloatOps F]

theorem after_app (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

variable (m : (ℓ : Loc nD τ sig) → Buf (Elt F) ℓ)

theorem V_split (c : Dev nD) (k : ℕ) : ∃ W : Valuation τ sig (Elt F), V m c = StableHlo.after ((pre (F := F)).drop k).flatten W := by
  refine ⟨StableHlo.after ((pre (F := F)).take k).flatten (fun b => m (c, b)), ?_⟩
  unfold V
  rw [← after_app, ← List.flatten_append, List.take_append_drop]

theorem y0_at (c : Dev nD) : ∃ k : IVec S256 32, V m c (Proc.devRef .tc main_v89) = fun i => IntOp.minsi 112#32 (IntOp.maxsi 0#32 (IntOp.muli (k i) 8#32)) := by
  obtain ⟨W, hW⟩ := V_split m c 6
  rw [hW]
  after_reads_simp
  exact ⟨_, rfl⟩

theorem x0_at (c : Dev nD) : ∃ k : IVec S256 32, V m c (Proc.devRef .tc main_v108) = fun i => IntOp.muli (IntOp.minsi 166#32 (IntOp.maxsi 0#32 (k i))) 256#32 := by
  obtain ⟨W, hW⟩ := V_split m c 8
  rw [hW]
  after_reads_simp
  exact ⟨_, rfl⟩

theorem nr_at (c : Dev nD) : ∃ k : IVec S256 32, V m c (Proc.devRef .tc main_v99) = fun i => IntOp.minsi 88#32 (IntOp.maxsi 8#32 (IntOp.muli (k i) 8#32)) := by
  obtain ⟨W, hW⟩ := V_split m c 12
  rw [hW]
  after_reads_simp
  exact ⟨_, rfl⟩

theorem nl_at (c : Dev nD) : ∃ k : IVec S256 32, V m c (Proc.devRef .tc main_v110) = fun i => IntOp.muli (IntOp.minsi 106#32 (IntOp.maxsi 1#32 (k i))) 256#32 := by
  obtain ⟨W, hW⟩ := V_split m c 14
  rw [hW]
  after_reads_simp
  exact ⟨_, rfl⟩

/-- The image numbers, as both programs read them off the boxes. -/
theorem bt_at (c : Dev nD) : V m c (Proc.devRef .tc main_v2) = (fptosi 32 (shapeCast S256 ((extractStridedSlice S256x1 ![0, 0] · slices_S256x5_S256x1_0_0) (m ((c.tc : Thread nD τ).loc main_arg1) : FVec F S256x5 .f32)) shapeCasts_S256x1_S256) : IVec S256 32) := by
  unfold V
  after_reads_simp
  rfl

/-- A word cut to a range is one of its ends or itself, and within them. -/
theorem clip_range (a b x : BitVec 32) (ha : 0 ≤ a.toInt) (hab : a.toInt ≤ b.toInt) :
    (IntOp.minsi b (IntOp.maxsi a x) = a ∨ IntOp.minsi b (IntOp.maxsi a x) = b ∨ IntOp.minsi b (IntOp.maxsi a x) = x)
      ∧ a.toNat ≤ (IntOp.minsi b (IntOp.maxsi a x)).toNat ∧ (IntOp.minsi b (IntOp.maxsi a x)).toNat ≤ b.toNat := by
  have ea := BitVec.toInt_eq_toNat_cond a
  have eb := BitVec.toInt_eq_toNat_cond b
  have ex := BitVec.toInt_eq_toNat_cond x
  have la := a.isLt
  have lb := b.isLt
  have lx := x.isLt
  unfold IntOp.minsi IntOp.maxsi
  simp only [BitVec.slt_iff_toInt_lt, BitVec.sle_iff_toInt_le]
  split <;> split <;> (first | refine ⟨Or.inl rfl, ?_, ?_⟩ | refine ⟨Or.inr (Or.inl rfl), ?_, ?_⟩ | refine ⟨Or.inr (Or.inr rfl), ?_, ?_⟩) <;> (repeat' split at ea) <;> (repeat' split at eb) <;> (repeat' split at ex) <;> omega

theorem dvd_mul8 (x : BitVec 32) : 8 ∣ (IntOp.muli x 8#32).toNat := by
  show 8 ∣ (x * 8#32).toNat
  rw [BitVec.toNat_mul]
  show 8 ∣ x.toNat * 8 % 2 ^ 32
  omega

theorem mul256 (x : BitVec 32) (h : x.toNat ≤ 166) : (IntOp.muli x 256#32).toNat = x.toNat * 256 := by
  show (x * 256#32).toNat = _
  rw [BitVec.toNat_mul]
  show x.toNat * 256 % 2 ^ 32 = _
  omega

/-- Every item the tables name lies in the features, the image numbers being in range. -/
theorem its_good (c : Dev nD) (hb : ∀ i : S256.Idx, ((V m c (Proc.devRef .tc main_v2) : IVec S256 32) i).toNat < 2) (g : ℕ) : (its m c g).Good := by
  obtain ⟨ky, hy⟩ := y0_at m c
  obtain ⟨kx, hx⟩ := x0_at m c
  obtain ⟨kr, hr⟩ := nr_at m c
  obtain ⟨kl, hl⟩ := nl_at m c
  have e : ∃ i : S256.Idx, (its m c g).b = (V m c (Proc.devRef .tc main_v2) : IVec S256 32) i ∧ (its m c g).y = (V m c (Proc.devRef .tc main_v89) : IVec S256 32) i ∧ (its m c g).x = (V m c (Proc.devRef .tc main_v108) : IVec S256 32) i
      ∧ (its m c g).r = (V m c (Proc.devRef .tc main_v99) : IVec S256 32) i ∧ (its m c g).l = (V m c (Proc.devRef .tc main_v110) : IVec S256 32) i := ⟨_, rfl, rfl, rfl, rfl, rfl⟩
  obtain ⟨i, eb, ey, ex, er, el⟩ := e
  rw [hy] at ey
  rw [hx] at ex
  rw [hr] at er
  rw [hl] at el
  dsimp only at ey ex er el
  have cy := clip_range 0#32 112#32 (IntOp.muli (ky i) 8#32) (by decide) (by decide)
  have cx := clip_range 0#32 166#32 (kx i) (by decide) (by decide)
  have cr := clip_range 8#32 88#32 (IntOp.muli (kr i) 8#32) (by decide) (by decide)
  have cl := clip_range 1#32 106#32 (kl i) (by decide) (by decide)
  have hx2 := mul256 _ (show (IntOp.minsi 166#32 (IntOp.maxsi 0#32 (kx i))).toNat ≤ 166 from cx.2.2)
  have hl2 := mul256 _ (show (IntOp.minsi 106#32 (IntOp.maxsi 1#32 (kl i))).toNat ≤ 166 from Nat.le_trans cl.2.2 (by decide))
  rw [← ex] at hx2
  rw [← el] at hl2
  rw [← ey] at cy
  rw [← er] at cr
  have d1 := dvd_mul8 (ky i)
  have d2 := dvd_mul8 (kr i)
  have y8 : 8 ∣ (its m c g).y.toNat := by
    rcases cy.1 with h | h | h <;> rw [h]
    · decide
    · decide
    · exact d1
  have r8 : 8 ∣ (its m c g).r.toNat := by
    rcases cr.1 with h | h | h <;> rw [h]
    · decide
    · decide
    · exact d2
  have n1 : (112#32).toNat = 112 := rfl
  have n2 : (166#32).toNat = 166 := rfl
  have n3 : (88#32).toNat = 88 := rfl
  have n4 : (106#32).toNat = 106 := rfl
  have n5 : (8#32).toNat = 8 := rfl
  have n6 : (1#32).toNat = 1 := rfl
  refine ⟨by rw [eb]; exact hb i, y8, by omega, r8, by omega, by omega, by omega, by omega, by omega, by omega, by omega⟩

end Cert.KernelIdeal.Hand

end
-- ==== Proof.Frame.lean ====
module

public import proofs.«01_k».proof.Proof.Words

/-! # The kernel's frame

The program ends with its arguments as they were and its counters at zero, the image numbers being in range. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline
open Idealize.SL Idealize.SL.RA Idealize.SL.BI Idealize.SL.Sem

variable {F : FTy → Type} [FloatOps F]

variable (m : (ℓ : Loc nD τ sig) → Buf (Elt F) ℓ)

theorem V_arg0 (c : Dev nD) : V m c (Proc.devRef .tc main_arg0) = m ((c.tc : Thread nD τ).loc main_arg0) := by
  unfold V
  after_reads_simp

theorem V_arg1 (c : Dev nD) : V m c (Proc.devRef .tc main_arg1) = m ((c.tc : Thread nD τ).loc main_arg1) := by
  unfold V
  after_reads_simp

theorem after_arg0 (W : Valuation τ sig (Elt F)) : StableHlo.after ([hostOps1 (F := F)]).flatten W (Proc.devRef .tc main_arg0) = W (Proc.devRef .tc main_arg0) := by
  after_reads_simp

theorem after_arg1 (W : Valuation τ sig (Elt F)) : StableHlo.after ([hostOps1 (F := F)]).flatten W (Proc.devRef .tc main_arg1) = W (Proc.devRef .tc main_arg1) := by
  after_reads_simp

/-- The image numbers as the boxes give them. -/
abbrev imgs (x : FVec F S256x5 .f32) : IVec S256 32 :=
  fptosi 32 (shapeCast S256 ((extractStridedSlice S256x1 ![0, 0] · slices_S256x5_S256x1_0_0) x) shapeCasts_S256x1_S256)

theorem frame (hb : ∀ (c : Dev nD) (i : S256.Idx), (imgs (m ((c.tc : Thread nD τ).loc main_arg1) : FVec F S256x5 .f32) i).toNat < 2) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine run m ρ (fun c g _ => its_good m c (by rw [bt_at]; exact hb c) g) ?_
  rintro s hs h0
  refine ⟨fun c => ?_, h0⟩
  obtain ⟨A, -, hA⟩ := hs c
  constructor
  · rw [hA main_arg0 (by exact (by decide +kernel : main_arg0 ∈ restRefsP sig pre0 spec0 \ ({main_v106} : Finset (Ref sig .tc)))), after_arg0, withArrays_of_ne _ _ _ _ _ (by exact (by decide +kernel : ∀ w : Fin 5, arrRef spec0 w ≠ main_arg0)), V_arg0]
  · rw [hA main_arg1 (by exact (by decide +kernel : main_arg1 ∈ restRefsP sig pre0 spec0 \ ({main_v106} : Finset (Ref sig .tc)))), after_arg1, withArrays_of_ne _ _ _ _ _ (by exact (by decide +kernel : ∀ w : Fin 5, arrRef spec0 w ≠ main_arg1)), V_arg1]

end Cert.KernelIdeal.Hand

end
-- ==== Proof.Same.lean ====
module

public import proofs.«01_k».proof.Proof.Gen.Kernel
public import proofs.«01_k».proof.Proof.Gen.KernelIdeal

/-! # The two printed kernels are one program

The text printed for bits and the text printed for extended reals are the same, part by part. -/

@[expose] public section

set_option maxRecDepth 65536
set_option maxHeartbeats 0

noncomputable section

namespace Cert.Same

open Idealize.ShloMosaic Idealize.SL.Sem

variable {F : FTy → Type} [FloatOps F]

/-- The kernels' bodies are the same. -/
theorem body_eq : @Cert.Kernel.cc0__roi_kernel F _ Cert.Kernel.Gen.facts = @Cert.KernelIdeal.cc0__roi_kernel F _ Cert.KernelIdeal.Gen.facts := rfl

theorem defs₀_eq : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => exact rfl
  | ⟨_ + 1, h⟩, _ => exact absurd h (Nat.not_lt.2 (Nat.le_add_left _ _))

/-- The labels run the same programs. -/
theorem defs_eq : Cert.Kernel.defs (F := F) = Cert.KernelIdeal.defs (F := F) :=
  congrArg (Pipeline.defs (Cert.KernelIdeal.pcfgs (F := F))) defs₀_eq

theorem part0_eq : Cert.Kernel.main_part0 (F := F) = Cert.KernelIdeal.main_part0 (F := F) := by
  funext d
  simp only [Cert.Kernel.main_part0, Cert.KernelIdeal.main_part0, Cert.Kernel.fn_clip.body, Cert.KernelIdeal.fn_clip.body, Cert.Kernel.fn_clip_0.body, Cert.KernelIdeal.fn_clip_0.body,
    Cert.Kernel.fn_where.body, Cert.KernelIdeal.fn_where.body, Cert.Kernel.fn_floor_divide.body, Cert.KernelIdeal.fn_floor_divide.body]
  rfl

theorem part1_eq : Cert.Kernel.main_part1 (F := F) = Cert.KernelIdeal.main_part1 (F := F) := by
  funext d
  simp only [Cert.Kernel.main_part1, Cert.KernelIdeal.main_part1, Cert.Kernel.fn_clip.body, Cert.KernelIdeal.fn_clip.body, Cert.Kernel.fn_clip_0.body, Cert.KernelIdeal.fn_clip_0.body,
    Cert.Kernel.fn_where.body, Cert.KernelIdeal.fn_where.body, Cert.Kernel.fn_floor_divide.body, Cert.KernelIdeal.fn_floor_divide.body]
  rfl

theorem part2_eq : Cert.Kernel.main_part2 (F := F) = Cert.KernelIdeal.main_part2 (F := F) := by
  funext d
  simp only [Cert.Kernel.main_part2, Cert.KernelIdeal.main_part2, Cert.Kernel.fn_clip.body, Cert.KernelIdeal.fn_clip.body, Cert.Kernel.fn_clip_0.body, Cert.KernelIdeal.fn_clip_0.body,
    Cert.Kernel.fn_where.body, Cert.KernelIdeal.fn_where.body, Cert.Kernel.fn_floor_divide.body, Cert.KernelIdeal.fn_floor_divide.body]
  rfl

/-- The host programs are the same. -/
theorem main_eq : Cert.Kernel.main (F := F) = Cert.KernelIdeal.main (F := F) := by
  funext d
  unfold Cert.Kernel.main Cert.KernelIdeal.main
  rw [part0_eq, part1_eq, part2_eq]
  rfl

end Cert.Same

end
-- ==== Proof.RefRun.lean ====
module

public import proofs.«01_k».proof.Proof.Gen.ReferenceIdeal
public import Idealize.ShloMosaic.Lib.StableHlo.Run
public import Idealize.ShloMosaic.Lib.StableHlo.RunRead

/-! # The reference's run

The reference launches no kernel: it is a line of host operations, listed here, and ends with each buffer at what the line leaves there. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.StableHlo
open Idealize.SL.Sem

variable {F : FTy → Type} [FloatOps F]

/-- The operations of the program's part 0. -/
abbrev ops0 : List (HloOp τ sig (Elt F)) :=
  [ StableHlo.unary main_arg1 main_v0 ((extractStridedSlice S256x1 ![0, 0] · slices_S256x5_S256x1_0_0) : (⟨S256x5, .f32⟩ : BufTy).Contents (Elt F) → (⟨S256x1, .f32⟩ : BufTy).Contents (Elt F)),
    StableHlo.reshape main_v0 main_v1 (rfl : (.f32 : EltTy) = .f32) shapeCasts_S256x1_S256,
    StableHlo.unary main_v1 main_v2 (fptosi 32 : (⟨S256, .f32⟩ : BufTy).Contents (Elt F) → (⟨S256, .i32⟩ : BufTy).Contents (Elt F)),
    StableHlo.unary main_arg1 main_v3 ((extractStridedSlice S256x1 ![0, 1] · slices_S256x5_S256x1_0_1) : (⟨S256x5, .f32⟩ : BufTy).Contents (Elt F) → (⟨S256x1, .f32⟩ : BufTy).Contents (Elt F)),
    StableHlo.reshape main_v3 main_v4 (rfl : (.f32 : EltTy) = .f32) shapeCasts_S256x1_S256,
    StableHlo.nullary main_cst (constant S_ .f32 0x3E800000#32),
    StableHlo.unary main_cst main_v5 (broadcastInDim S256 ![] bcast_S_S256 : (⟨S_, .f32⟩ : BufTy).Contents (Elt F) → (⟨S256, .f32⟩ : BufTy).Contents (Elt F)),
    StableHlo.binary main_v4 main_v5 main_v6 (mulf : (⟨S256, .f32⟩ : BufTy).Contents (Elt F) → (⟨S256, .f32⟩ : BufTy).Contents (Elt F) → (⟨S256, .f32⟩ : BufTy).Contents (Elt F)),
    StableHlo.unary main_arg1 main_v7 ((extractStridedSlice S256x1 ![0, 2] · slices_S256x5_S256x1_0_2) : (⟨S256x5, .f32⟩ : BufTy).Contents (Elt F) → (⟨S256x1, .f32⟩ : BufTy).Contents (Elt F)),
    StableHlo.reshape main_v7 main_v8 (rfl : (.f32 : EltTy) = .f32) shapeCasts_S256x1_S256,
    StableHlo.nullary main_cst_0 (constant S_ .f32 0x3E800000#32),
    StableHlo.unary main_cst_0 main_v9 (broadcastInDim S256 ![] bcast_S_S256 : (⟨S_, .f32⟩ : BufTy).Contents (Elt F) → (⟨S256, .f32⟩ : BufTy).Contents (Elt F)),
    StableHlo.binary main_v8 main_v9 main_v10 (mulf : (⟨S256, .f32⟩ : BufTy).Contents (Elt F) → (⟨S256, .f32⟩ : BufTy).Contents (Elt F) → (⟨S256, .f32⟩ : BufTy).Contents (Elt F)),
    StableHlo.unary main_arg1 main_v11 ((extractStridedSlice S256x1 ![0, 3] · slices_S256x5_S256x1_0_3) : (⟨S256x5, .f32⟩ : BufTy).Contents (Elt F) → (⟨S256x1, .f32⟩ : BufTy).Contents (Elt F)),
    StableHlo.reshape main_v11 main_v12 (rfl : (.f32 : EltTy) = .f32) shapeCasts_S256x1_S256,
    StableHlo.nullary main_cst_1 (constant S_ .f32 0x3E800000#32),
    StableHlo.unary main_cst_1 main_v13 (broadcastInDim S256 ![] bcast_S_S256 : (⟨S_, .f32⟩ : BufTy).Contents (Elt F) → (⟨S256, .f32⟩ : BufTy).Contents (Elt F)),
    StableHlo.binary main_v12 main_v13 main_v14 (mulf : (⟨S256, .f32⟩ : BufTy).Contents (Elt F) → (⟨S256, .f32⟩ : BufTy).Contents (Elt F) → (⟨S256, .f32⟩ : BufTy).Contents (Elt F)),
    StableHlo.unary main_arg1 main_v15 ((extractStridedSlice S256x1 ![0, 4] · slices_S256x5_S256x1_0_4) : (⟨S256x5, .f32⟩ : BufTy).Contents (Elt F) → (⟨S256x1, .f32⟩ : BufTy).Contents (Elt F)),
    StableHlo.reshape main_v15 main_v16 (rfl : (.f32 : EltTy) = .f32) shapeCasts_S256x1_S256,
    StableHlo.nullary main_cst_2 (constant S_ .f32 0x3E800000#32),
    StableHlo.unary main_cst_2 main_v17 (broadcastInDim S256 ![] bcast_S_S256 : (⟨S_, .f32⟩ : BufTy).Contents (Elt F) → (⟨S256, .f32⟩ : BufTy).Contents (Elt F)),
    StableHlo.binary main_v16 main_v17 main_v18 (mulf : (⟨S256, .f32⟩ : BufTy).Contents (Elt F) → (⟨S256, .f32⟩ : BufTy).Contents (Elt F) → (⟨S256, .f32⟩ : BufTy).Contents (Elt F)),
    StableHlo.binary main_v6 main_v14 main_v19 (addf : (⟨S256, .f32⟩ : BufTy).Contents (Elt F) → (⟨S256, .f32⟩ : BufTy).Contents (Elt F) → (⟨S256, .f32⟩ : BufTy).Contents (Elt F)),
    StableHlo.nullary main_cst_3 (constant S_ .f32 0x3F000000#32),
    StableHlo.unary main_cst_3 main_v20 (broadcastInDim S256 ![] bcast_S_S256 : (⟨S_, .f32⟩ : BufTy).Contents (Elt F) → (⟨S256, .f32⟩ : BufTy).Contents (Elt F)),
    StableHlo.binary main_v20 main_v19 main_v21 (mulf : (⟨S256, .f32⟩ : BufTy).Contents (Elt F) → (⟨S256, .f32⟩ : BufTy).Contents (Elt F) → (⟨S256, .f32⟩ : BufTy).Contents (Elt F)),
    StableHlo.binary main_v10 main_v18 main_v22 (addf : (⟨S256, .f32⟩ : BufTy).Contents (Elt F) → (⟨S256, .f32⟩ : BufTy).Contents (Elt F) → (⟨S256, .f32⟩ : BufTy).Contents (Elt F)),
    StableHlo.nullary main_cst_4 (constant S_ .f32 0x3F000000#32),
    StableHlo.unary main_cst_4 main_v23 (broadcastInDim S256 ![] bcast_S_S256 : (⟨S_, .f32⟩ : BufTy).Contents (Elt F) → (⟨S256, .f32⟩ : BufTy).Contents (Elt F)),
    StableHlo.binary main_v23 main_v22 main_v24 (mulf : (⟨S256, .f32⟩ : BufTy).Contents (Elt F) → (⟨S256, .f32⟩ : BufTy).Contents (Elt F) → (⟨S256, .f32⟩ : BufTy).Contents (Elt F)),
    StableHlo.binary main_v14 main_v6 main_v25 (subf : (⟨S256, .f32⟩ : BufTy).Contents (Elt F) → (⟨S256, .f32⟩ : BufTy).Contents (Elt F) → (⟨S256, .f32⟩ : BufTy).Contents (Elt F)),
    StableHlo.nullary main_cst_5 (constant S_ .f32 0x3F000000#32),
    StableHlo.unary main_cst_5 main_v26 (broadcastInDim S256 ![] bcast_S_S256 : (⟨S_, .f32⟩ : BufTy).Contents (Elt F) → (⟨S256, .f32⟩ : BufTy).Contents (Elt F)),
    StableHlo.binary main_v26 main_v25 main_v27 (mulf : (⟨S256, .f32⟩ : BufTy).Contents (Elt F) → (⟨S256, .f32⟩ : BufTy).Contents (Elt F) → (⟨S256, .f32⟩ : BufTy).Contents (Elt F)),
    StableHlo.nullary main_cst_6 (constant S_ .f32 0x3F800000#32),
    StableHlo.unary main_cst_6 main_v28 (broadcastInDim S256 ![] bcast_S_S256 : (⟨S_, .f32⟩ : BufTy).Contents (Elt F) → (⟨S256, .f32⟩ : BufTy).Contents (Elt F)),
    StableHlo.binary main_v27 main_v28 main_v29 (mulf : (⟨S256, .f32⟩ : BufTy).Contents (Elt F) → (⟨S256, .f32⟩ : BufTy).Contents (Elt F) → (⟨S256, .f32⟩ : BufTy).Contents (Elt F)),
    StableHlo.binary main_v18 main_v10 main_v30 (subf : (⟨S256, .f32⟩ : BufTy).Contents (Elt F) → (⟨S256, .f32⟩ : BufTy).Contents (Elt F) → (⟨S256, .f32⟩ : BufTy).Contents (Elt F)),
    StableHlo.nullary main_cst_7 (constant S_ .f32 0x3F000000#32),
    StableHlo.unary main_cst_7 main_v31 (broadcastInDim S256 ![] bcast_S_S256 : (⟨S_, .f32⟩ : BufTy).Contents (Elt F) → (⟨S256, .f32⟩ : BufTy).Contents (Elt F)),
    StableHlo.binary main_v31 main_v30 main_v32 (mulf : (⟨S256, .f32⟩ : BufTy).Contents (Elt F) → (⟨S256, .f32⟩ : BufTy).Contents (Elt F) → (⟨S256, .f32⟩ : BufTy).Contents (Elt F)),
    StableHlo.nullary main_cst_8 (constant S_ .f32 0x3F800000#32),
    StableHlo.unary main_cst_8 main_v33 (broadcastInDim S256 ![] bcast_S_S256 : (⟨S_, .f32⟩ : BufTy).Contents (Elt F) → (⟨S256, .f32⟩ : BufTy).Contents (Elt F)),
    StableHlo.binary main_v32 main_v33 main_v34 (mulf : (⟨S256, .f32⟩ : BufTy).Contents (Elt F) → (⟨S256, .f32⟩ : BufTy).Contents (Elt F) → (⟨S256, .f32⟩ : BufTy).Contents (Elt F)),
    StableHlo.binary main_v21 main_v29 main_v35 (subf : (⟨S256, .f32⟩ : BufTy).Contents (Elt F) → (⟨S256, .f32⟩ : BufTy).Contents (Elt F) → (⟨S256, .f32⟩ : BufTy).Contents (Elt F)),
    StableHlo.nullary main_cst_9 (constant S_ .f32 0x00000000#32),
    StableHlo.unary main_cst_9 main_v36 (broadcastInDim S256 ![] bcast_S_S256 : (⟨S_, .f32⟩ : BufTy).Contents (Elt F) → (⟨S256, .f32⟩ : BufTy).Contents (Elt F)),
    StableHlo.binary main_v35 main_v36 main_v37 (addf : (⟨S256, .f32⟩ : BufTy).Contents (Elt F) → (⟨S256, .f32⟩ : BufTy).Contents (Elt F) → (⟨S256, .f32⟩ : BufTy).Contents (Elt F)),
    StableHlo.binary main_v21 main_v29 main_v38 (addf : (⟨S256, .f32⟩ : BufTy).Contents (Elt F) → (⟨S256, .f32⟩ : BufTy).Contents (Elt F) → (⟨S256, .f32⟩ : BufTy).Contents (Elt F)),
    StableHlo.nullary main_cst_10 (constant S_ .f32 0x00000000#32),
    StableHlo.unary main_cst_10 main_v39 (broadcastInDim S256 ![] bcast_S_S256 : (⟨S_, .f32⟩ : BufTy).Contents (Elt F) → (⟨S256, .f32⟩ : BufTy).Contents (Elt F)),
    StableHlo.binary main_v38 main_v39 main_v40 (addf : (⟨S256, .f32⟩ : BufTy).Contents (Elt F) → (⟨S256, .f32⟩ : BufTy).Contents (Elt F) → (⟨S256, .f32⟩ : BufTy).Contents (Elt F)),
    StableHlo.binary main_v24 main_v34 main_v41 (subf : (⟨S256, .f32⟩ : BufTy).Contents (Elt F) → (⟨S256, .f32⟩ : BufTy).Contents (Elt F) → (⟨S256, .f32⟩ : BufTy).Contents (Elt F)),
    StableHlo.nullary main_cst_11 (constant S_ .f32 0x00000000#32),
    StableHlo.unary main_cst_11 main_v42 (broadcastInDim S256 ![] bcast_S_S256 : (⟨S_, .f32⟩ : BufTy).Contents (Elt F) → (⟨S256, .f32⟩ : BufTy).Contents (Elt F)),
    StableHlo.binary main_v41 main_v42 main_v43 (addf : (⟨S256, .f32⟩ : BufTy).Contents (Elt F) → (⟨S256, .f32⟩ : BufTy).Contents (Elt F) → (⟨S256, .f32⟩ : BufTy).Contents (Elt F)),
    StableHlo.binary main_v24 main_v34 main_v44 (addf : (⟨S256, .f32⟩ : BufTy).Contents (Elt F) → (⟨S256, .f32⟩ : BufTy).Contents (Elt F) → (⟨S256, .f32⟩ : BufTy).Contents (Elt F)),
    StableHlo.nullary main_cst_12 (constant S_ .f32 0x00000000#32),
    StableHlo.unary main_cst_12 main_v45 (broadcastInDim S256 ![] bcast_S_S256 : (⟨S_, .f32⟩ : BufTy).Contents (Elt F) → (⟨S256, .f32⟩ : BufTy).Contents (Elt F)) ]

theorem part0 (c : Dev nD) : main_part0 (F := F) c = seq ops0 := by
  simp only [main_part0, fn_clip.body, seq, bind_assoc, pure_bind]
  rfl

/-- The operations of the program's part 1. -/
abbrev ops1 : List (HloOp τ sig (Elt F)) :=
  [ StableHlo.binary main_v44 main_v45 main_v46 (addf : (⟨S256, .f32⟩ : BufTy).Contents (Elt F) → (⟨S256, .f32⟩ : BufTy).Contents (Elt F) → (⟨S256, .f32⟩ : BufTy).Contents (Elt F)),
    StableHlo.binary main_v40 main_v37 main_v47 (subf : (⟨S256, .f32⟩ : BufTy).Contents (Elt F) → (⟨S256, .f32⟩ : BufTy).Contents (Elt F) → (⟨S256, .f32⟩ : BufTy).Contents (Elt F)),
    StableHlo.nullary main_cst_13 (constant S_ .f32 0x3F800000#32),
    StableHlo.unary main_cst_13 main_v48 (broadcastInDim S256 ![] bcast_S_S256 : (⟨S_, .f32⟩ : BufTy).Contents (Elt F) → (⟨S256, .f32⟩ : BufTy).Contents (Elt F)),
    StableHlo.binary main_v47 main_v48 main_v49 (maximumf : (⟨S256, .f32⟩ : BufTy).Contents (Elt F) → (⟨S256, .f32⟩ : BufTy).Contents (Elt F) → (⟨S256, .f32⟩ : BufTy).Contents (Elt F)),
    StableHlo.binary main_v46 main_v43 main_v50 (subf : (⟨S256, .f32⟩ : BufTy).Contents (Elt F) → (⟨S256, .f32⟩ : BufTy).Contents (Elt F) → (⟨S256, .f32⟩ : BufTy).Contents (Elt F)),
    StableHlo.nullary main_cst_14 (constant S_ .f32 0x3F800000#32),
    StableHlo.unary main_cst_14 main_v51 (broadcastInDim S256 ![] bcast_S_S256 : (⟨S_, .f32⟩ : BufTy).Contents (Elt F) → (⟨S256, .f32⟩ : BufTy).Contents (Elt F)),
    StableHlo.binary main_v50 main_v51 main_v52 (maximumf : (⟨S256, .f32⟩ : BufTy).Contents (Elt F) → (⟨S256, .f32⟩ : BufTy).Contents (Elt F) → (⟨S256, .f32⟩ : BufTy).Contents (Elt F)),
    StableHlo.nullary main_cst_15 (constant S_ .f32 0x41700000#32),
    StableHlo.unary main_cst_15 main_v53 (broadcastInDim S256 ![] bcast_S_S256 : (⟨S_, .f32⟩ : BufTy).Contents (Elt F) → (⟨S256, .f32⟩ : BufTy).Contents (Elt F)),
    StableHlo.binary main_v49 main_v53 main_v54 (Host.divf : (⟨S256, .f32⟩ : BufTy).Contents (Elt F) → (⟨S256, .f32⟩ : BufTy).Contents (Elt F) → (⟨S256, .f32⟩ : BufTy).Contents (Elt F)),
    StableHlo.nullary main_cst_16 (constant S_ .f32 0x41700000#32),
    StableHlo.unary main_cst_16 main_v55 (broadcastInDim S256 ![] bcast_S_S256 : (⟨S_, .f32⟩ : BufTy).Contents (Elt F) → (⟨S256, .f32⟩ : BufTy).Contents (Elt F)),
    StableHlo.binary main_v52 main_v55 main_v56 (Host.divf : (⟨S256, .f32⟩ : BufTy).Contents (Elt F) → (⟨S256, .f32⟩ : BufTy).Contents (Elt F) → (⟨S256, .f32⟩ : BufTy).Contents (Elt F)),
    StableHlo.nullary main_v57 (sitofp .f32 (iotaInDim S30 32 0)),
    StableHlo.nullary main_v58 (sitofp .f32 (iotaInDim S30 32 0)),
    StableHlo.unary main_v37 main_v59 (broadcastInDim S256x1 ![0] bcast_S256_S256x1_0 : (⟨S256, .f32⟩ : BufTy).Contents (Elt F) → (⟨S256x1, .f32⟩ : BufTy).Contents (Elt F)),
    StableHlo.unary main_v57 main_v60 (broadcastInDim S1x30 ![1] bcast_S30_S1x30_1 : (⟨S30, .f32⟩ : BufTy).Contents (Elt F) → (⟨S1x30, .f32⟩ : BufTy).Contents (Elt F)),
    StableHlo.nullary main_cst_17 (constant S_ .f32 0x3F000000#32),
    StableHlo.unary main_cst_17 main_v61 (broadcastInDim S1x30 ![] bcast_S_S1x30 : (⟨S_, .f32⟩ : BufTy).Contents (Elt F) → (⟨S1x30, .f32⟩ : BufTy).Contents (Elt F)),
    StableHlo.binary main_v60 main_v61 main_v62 (addf : (⟨S1x30, .f32⟩ : BufTy).Contents (Elt F) → (⟨S1x30, .f32⟩ : BufTy).Contents (Elt F) → (⟨S1x30, .f32⟩ : BufTy).Contents (Elt F)),
    StableHlo.unary main_v54 main_v63 (broadcastInDim S256x1 ![0] bcast_S256_S256x1_0 : (⟨S256, .f32⟩ : BufTy).Contents (Elt F) → (⟨S256x1, .f32⟩ : BufTy).Contents (Elt F)),
    StableHlo.nullary main_cst_18 (constant S_ .f32 0x40000000#32),
    StableHlo.unary main_cst_18 main_v64 (broadcastInDim S256x1 ![] bcast_S_S256x1 : (⟨S_, .f32⟩ : BufTy).Contents (Elt F) → (⟨S256x1, .f32⟩ : BufTy).Contents (Elt F)),
    StableHlo.binary main_v63 main_v64 main_v65 (Host.divf : (⟨S256x1, .f32⟩ : BufTy).Contents (Elt F) → (⟨S256x1, .f32⟩ : BufTy).Contents (Elt F) → (⟨S256x1, .f32⟩ : BufTy).Contents (Elt F)),
    StableHlo.unary main_v62 main_v66 (broadcastInDim S256x30 ![0, 1] bcast_S1x30_S256x30_0_1 : (⟨S1x30, .f32⟩ : BufTy).Contents (Elt F) → (⟨S256x30, .f32⟩ : BufTy).Contents (Elt F)),
    StableHlo.unary main_v65 main_v67 (broadcastInDim S256x30 ![0, 1] bcast_S256x1_S256x30_0_1 : (⟨S256x1, .f32⟩ : BufTy).Contents (Elt F) → (⟨S256x30, .f32⟩ : BufTy).Contents (Elt F)),
    StableHlo.binary main_v66 main_v67 main_v68 (mulf : (⟨S256x30, .f32⟩ : BufTy).Contents (Elt F) → (⟨S256x30, .f32⟩ : BufTy).Contents (Elt F) → (⟨S256x30, .f32⟩ : BufTy).Contents (Elt F)),
    StableHlo.unary main_v59 main_v69 (broadcastInDim S256x30 ![0, 1] bcast_S256x1_S256x30_0_1 : (⟨S256x1, .f32⟩ : BufTy).Contents (Elt F) → (⟨S256x30, .f32⟩ : BufTy).Contents (Elt F)),
    StableHlo.binary main_v69 main_v68 main_v70 (addf : (⟨S256x30, .f32⟩ : BufTy).Contents (Elt F) → (⟨S256x30, .f32⟩ : BufTy).Contents (Elt F) → (⟨S256x30, .f32⟩ : BufTy).Contents (Elt F)),
    StableHlo.unary main_v43 main_v71 (broadcastInDim S256x1 ![0] bcast_S256_S256x1_0 : (⟨S256, .f32⟩ : BufTy).Contents (Elt F) → (⟨S256x1, .f32⟩ : BufTy).Contents (Elt F)),
    StableHlo.unary main_v58 main_v72 (broadcastInDim S1x30 ![1] bcast_S30_S1x30_1 : (⟨S30, .f32⟩ : BufTy).Contents (Elt F) → (⟨S1x30, .f32⟩ : BufTy).Contents (Elt F)),
    StableHlo.nullary main_cst_19 (constant S_ .f32 0x3F000000#32),
    StableHlo.unary main_cst_19 main_v73 (broadcastInDim S1x30 ![] bcast_S_S1x30 : (⟨S_, .f32⟩ : BufTy).Contents (Elt F) → (⟨S1x30, .f32⟩ : BufTy).Contents (Elt F)),
    StableHlo.binary main_v72 main_v73 main_v74 (addf : (⟨S1x30, .f32⟩ : BufTy).Contents (Elt F) → (⟨S1x30, .f32⟩ : BufTy).Contents (Elt F) → (⟨S1x30, .f32⟩ : BufTy).Contents (Elt F)),
    StableHlo.unary main_v56 main_v75 (broadcastInDim S256x1 ![0] bcast_S256_S256x1_0 : (⟨S256, .f32⟩ : BufTy).Contents (Elt F) → (⟨S256x1, .f32⟩ : BufTy).Contents (Elt F)),
    StableHlo.nullary main_cst_20 (constant S_ .f32 0x40000000#32),
    StableHlo.unary main_cst_20 main_v76 (broadcastInDim S256x1 ![] bcast_S_S256x1 : (⟨S_, .f32⟩ : BufTy).Contents (Elt F) → (⟨S256x1, .f32⟩ : BufTy).Contents (Elt F)),
    StableHlo.binary main_v75 main_v76 main_v77 (Host.divf : (⟨S256x1, .f32⟩ : BufTy).Contents (Elt F) → (⟨S256x1, .f32⟩ : BufTy).Contents (Elt F) → (⟨S256x1, .f32⟩ : BufTy).Contents (Elt F)),
    StableHlo.unary main_v74 main_v78 (broadcastInDim S256x30 ![0, 1] bcast_S1x30_S256x30_0_1 : (⟨S1x30, .f32⟩ : BufTy).Contents (Elt F) → (⟨S256x30, .f32⟩ : BufTy).Contents (Elt F)),
    StableHlo.unary main_v77 main_v79 (broadcastInDim S256x30 ![0, 1] bcast_S256x1_S256x30_0_1 : (⟨S256x1, .f32⟩ : BufTy).Contents (Elt F) → (⟨S256x30, .f32⟩ : BufTy).Contents (Elt F)),
    StableHlo.binary main_v78 main_v79 main_v80 (mulf : (⟨S256x30, .f32⟩ : BufTy).Contents (Elt F) → (⟨S256x30, .f32⟩ : BufTy).Contents (Elt F) → (⟨S256x30, .f32⟩ : BufTy).Contents (Elt F)),
    StableHlo.unary main_v71 main_v81 (broadcastInDim S256x30 ![0, 1] bcast_S256x1_S256x30_0_1 : (⟨S256x1, .f32⟩ : BufTy).Contents (Elt F) → (⟨S256x30, .f32⟩ : BufTy).Contents (Elt F)),
    StableHlo.binary main_v81 main_v80 main_v82 (addf : (⟨S256x30, .f32⟩ : BufTy).Contents (Elt F) → (⟨S256x30, .f32⟩ : BufTy).Contents (Elt F) → (⟨S256x30, .f32⟩ : BufTy).Contents (Elt F)),
    StableHlo.nullary main_cst_21 (constant S_ .f32 0xBF800000#32),
    StableHlo.unary main_cst_21 main_v83 (broadcastInDim S256x30 ![] bcast_S_S256x30 : (⟨S_, .f32⟩ : BufTy).Contents (Elt F) → (⟨S256x30, .f32⟩ : BufTy).Contents (Elt F)),
    StableHlo.binary main_v82 main_v83 main_v84 (cmpf .ogt : (⟨S256x30, .f32⟩ : BufTy).Contents (Elt F) → (⟨S256x30, .f32⟩ : BufTy).Contents (Elt F) → (⟨S256x30, .i1⟩ : BufTy).Contents (Elt F)),
    StableHlo.nullary main_cst_22 (constant S_ .f32 0x43480000#32),
    StableHlo.unary main_cst_22 main_v85 (broadcastInDim S256x30 ![] bcast_S_S256x30 : (⟨S_, .f32⟩ : BufTy).Contents (Elt F) → (⟨S256x30, .f32⟩ : BufTy).Contents (Elt F)),
    StableHlo.binary main_v82 main_v85 main_v86 (cmpf .olt : (⟨S256x30, .f32⟩ : BufTy).Contents (Elt F) → (⟨S256x30, .f32⟩ : BufTy).Contents (Elt F) → (⟨S256x30, .i1⟩ : BufTy).Contents (Elt F)),
    StableHlo.binary main_v84 main_v86 main_v87 (andi : (⟨S256x30, .i1⟩ : BufTy).Contents (Elt F) → (⟨S256x30, .i1⟩ : BufTy).Contents (Elt F) → (⟨S256x30, .i1⟩ : BufTy).Contents (Elt F)),
    StableHlo.nullary main_cst_23 (constant S_ .f32 0x00000000#32),
    StableHlo.nullary main_cst_24 (constant S_ .f32 0x43470000#32),
    StableHlo.TRef.unary (.of main_cst_23) main_call0.v0 id,
    StableHlo.TRef.unary main_call0.v0 main_call0.v1 (broadcastInDim S256x30 ![] bcast_S_S256x30),
    StableHlo.TRef.binary main_call0.v1 (.of main_v82) main_call0.v2 maximumf,
    StableHlo.TRef.unary (.of main_cst_24) main_call0.v3 id,
    StableHlo.TRef.unary main_call0.v3 main_call0.v4 (broadcastInDim S256x30 ![] bcast_S_S256x30),
    StableHlo.TRef.binary main_call0.v4 main_call0.v2 main_call0.v5 minimumf,
    StableHlo.unary main_v88 main_v89 (Host.floor : (⟨S256x30, .f32⟩ : BufTy).Contents (Elt F) → (⟨S256x30, .f32⟩ : BufTy).Contents (Elt F)),
    StableHlo.nullary main_cst_25 (constant S_ .f32 0x3F800000#32),
    StableHlo.unary main_cst_25 main_v90 (broadcastInDim S256x30 ![] bcast_S_S256x30 : (⟨S_, .f32⟩ : BufTy).Contents (Elt F) → (⟨S256x30, .f32⟩ : BufTy).Contents (Elt F)),
    StableHlo.binary main_v89 main_v90 main_v91 (addf : (⟨S256x30, .f32⟩ : BufTy).Contents (Elt F) → (⟨S256x30, .f32⟩ : BufTy).Contents (Elt F) → (⟨S256x30, .f32⟩ : BufTy).Contents (Elt F)),
    StableHlo.nullary main_cst_26 (constant S_ .f32 0x43470000#32) ]

theorem part1 (c : Dev nD) : main_part1 (F := F) c = seq ops1 := by
  simp only [main_part1, fn_clip.body, seq, bind_assoc, pure_bind]
  rfl

/-- The operations of the program's part 2. -/
abbrev ops2 : List (HloOp τ sig (Elt F)) :=
  [ StableHlo.unary main_cst_26 main_v92 (broadcastInDim S256x30 ![] bcast_S_S256x30 : (⟨S_, .f32⟩ : BufTy).Contents (Elt F) → (⟨S256x30, .f32⟩ : BufTy).Contents (Elt F)),
    StableHlo.binary main_v91 main_v92 main_v93 (minimumf : (⟨S256x30, .f32⟩ : BufTy).Contents (Elt F) → (⟨S256x30, .f32⟩ : BufTy).Contents (Elt F) → (⟨S256x30, .f32⟩ : BufTy).Contents (Elt F)),
    StableHlo.binary main_v88 main_v89 main_v94 (subf : (⟨S256x30, .f32⟩ : BufTy).Contents (Elt F) → (⟨S256x30, .f32⟩ : BufTy).Contents (Elt F) → (⟨S256x30, .f32⟩ : BufTy).Contents (Elt F)),
    StableHlo.unary main_v89 main_v95 (fptosi 32 : (⟨S256x30, .f32⟩ : BufTy).Contents (Elt F) → (⟨S256x30, .i32⟩ : BufTy).Contents (Elt F)),
    StableHlo.unary main_v93 main_v96 (fptosi 32 : (⟨S256x30, .f32⟩ : BufTy).Contents (Elt F) → (⟨S256x30, .i32⟩ : BufTy).Contents (Elt F)),
    StableHlo.unary main_v87 main_v97 (uitofp .f32 : (⟨S256x30, .i1⟩ : BufTy).Contents (Elt F) → (⟨S256x30, .f32⟩ : BufTy).Contents (Elt F)),
    StableHlo.nullary main_cst_27 (constant S_ .f32 0xBF800000#32),
    StableHlo.unary main_cst_27 main_v98 (broadcastInDim S256x30 ![] bcast_S_S256x30 : (⟨S_, .f32⟩ : BufTy).Contents (Elt F) → (⟨S256x30, .f32⟩ : BufTy).Contents (Elt F)),
    StableHlo.binary main_v70 main_v98 main_v99 (cmpf .ogt : (⟨S256x30, .f32⟩ : BufTy).Contents (Elt F) → (⟨S256x30, .f32⟩ : BufTy).Contents (Elt F) → (⟨S256x30, .i1⟩ : BufTy).Contents (Elt F)),
    StableHlo.nullary main_cst_28 (constant S_ .f32 0x43880000#32),
    StableHlo.unary main_cst_28 main_v100 (broadcastInDim S256x30 ![] bcast_S_S256x30 : (⟨S_, .f32⟩ : BufTy).Contents (Elt F) → (⟨S256x30, .f32⟩ : BufTy).Contents (Elt F)),
    StableHlo.binary main_v70 main_v100 main_v101 (cmpf .olt : (⟨S256x30, .f32⟩ : BufTy).Contents (Elt F) → (⟨S256x30, .f32⟩ : BufTy).Contents (Elt F) → (⟨S256x30, .i1⟩ : BufTy).Contents (Elt F)),
    StableHlo.binary main_v99 main_v101 main_v102 (andi : (⟨S256x30, .i1⟩ : BufTy).Contents (Elt F) → (⟨S256x30, .i1⟩ : BufTy).Contents (Elt F) → (⟨S256x30, .i1⟩ : BufTy).Contents (Elt F)),
    StableHlo.nullary main_cst_29 (constant S_ .f32 0x00000000#32),
    StableHlo.nullary main_cst_30 (constant S_ .f32 0x43878000#32),
    StableHlo.TRef.unary (.of main_cst_29) main_call1.v0 id,
    StableHlo.TRef.unary main_call1.v0 main_call1.v1 (broadcastInDim S256x30 ![] bcast_S_S256x30),
    StableHlo.TRef.binary main_call1.v1 (.of main_v70) main_call1.v2 maximumf,
    StableHlo.TRef.unary (.of main_cst_30) main_call1.v3 id,
    StableHlo.TRef.unary main_call1.v3 main_call1.v4 (broadcastInDim S256x30 ![] bcast_S_S256x30),
    StableHlo.TRef.binary main_call1.v4 main_call1.v2 main_call1.v5 minimumf,
    StableHlo.unary main_v103 main_v104 (Host.floor : (⟨S256x30, .f32⟩ : BufTy).Contents (Elt F) → (⟨S256x30, .f32⟩ : BufTy).Contents (Elt F)),
    StableHlo.nullary main_cst_31 (constant S_ .f32 0x3F800000#32),
    StableHlo.unary main_cst_31 main_v105 (broadcastInDim S256x30 ![] bcast_S_S256x30 : (⟨S_, .f32⟩ : BufTy).Contents (Elt F) → (⟨S256x30, .f32⟩ : BufTy).Contents (Elt F)),
    StableHlo.binary main_v104 main_v105 main_v106 (addf : (⟨S256x30, .f32⟩ : BufTy).Contents (Elt F) → (⟨S256x30, .f32⟩ : BufTy).Contents (Elt F) → (⟨S256x30, .f32⟩ : BufTy).Contents (Elt F)),
    StableHlo.nullary main_cst_32 (constant S_ .f32 0x43878000#32),
    StableHlo.unary main_cst_32 main_v107 (broadcastInDim S256x30 ![] bcast_S_S256x30 : (⟨S_, .f32⟩ : BufTy).Contents (Elt F) → (⟨S256x30, .f32⟩ : BufTy).Contents (Elt F)),
    StableHlo.binary main_v106 main_v107 main_v108 (minimumf : (⟨S256x30, .f32⟩ : BufTy).Contents (Elt F) → (⟨S256x30, .f32⟩ : BufTy).Contents (Elt F) → (⟨S256x30, .f32⟩ : BufTy).Contents (Elt F)),
    StableHlo.binary main_v103 main_v104 main_v109 (subf : (⟨S256x30, .f32⟩ : BufTy).Contents (Elt F) → (⟨S256x30, .f32⟩ : BufTy).Contents (Elt F) → (⟨S256x30, .f32⟩ : BufTy).Contents (Elt F)),
    StableHlo.unary main_v104 main_v110 (fptosi 32 : (⟨S256x30, .f32⟩ : BufTy).Contents (Elt F) → (⟨S256x30, .i32⟩ : BufTy).Contents (Elt F)),
    StableHlo.unary main_v108 main_v111 (fptosi 32 : (⟨S256x30, .f32⟩ : BufTy).Contents (Elt F) → (⟨S256x30, .i32⟩ : BufTy).Contents (Elt F)),
    StableHlo.unary main_v102 main_v112 (uitofp .f32 : (⟨S256x30, .i1⟩ : BufTy).Contents (Elt F) → (⟨S256x30, .f32⟩ : BufTy).Contents (Elt F)),
    StableHlo.unary main_arg0 main_v113 ((transpose S2x200x272x256 [0, 2, 3, 1] · transposes_S2x256x200x272_S2x200x272x256_0_2_3_1) : (⟨S2x256x200x272, .f32⟩ : BufTy).Contents (Elt F) → (⟨S2x200x272x256, .f32⟩ : BufTy).Contents (Elt F)),
    StableHlo.unary main_v2 main_v114 (broadcastInDim S256x1x1 ![0] bcast_S256_S256x1x1_0 : (⟨S256, .i32⟩ : BufTy).Contents (Elt F) → (⟨S256x1x1, .i32⟩ : BufTy).Contents (Elt F)),
    StableHlo.nullary main_cst_33 (constant S_ .f32 0x3F800000#32),
    StableHlo.unary main_cst_33 main_v115 (broadcastInDim S256x30 ![] bcast_S_S256x30 : (⟨S_, .f32⟩ : BufTy).Contents (Elt F) → (⟨S256x30, .f32⟩ : BufTy).Contents (Elt F)),
    StableHlo.binary main_v115 main_v94 main_v116 (subf : (⟨S256x30, .f32⟩ : BufTy).Contents (Elt F) → (⟨S256x30, .f32⟩ : BufTy).Contents (Elt F) → (⟨S256x30, .f32⟩ : BufTy).Contents (Elt F)),
    StableHlo.nullary main_cst_34 (constant S_ .f32 0x3F800000#32),
    StableHlo.unary main_cst_34 main_v117 (broadcastInDim S256x30 ![] bcast_S_S256x30 : (⟨S_, .f32⟩ : BufTy).Contents (Elt F) → (⟨S256x30, .f32⟩ : BufTy).Contents (Elt F)),
    StableHlo.binary main_v117 main_v109 main_v118 (subf : (⟨S256x30, .f32⟩ : BufTy).Contents (Elt F) → (⟨S256x30, .f32⟩ : BufTy).Contents (Elt F) → (⟨S256x30, .f32⟩ : BufTy).Contents (Elt F)),
    StableHlo.unary main_v95 main_v119 (broadcastInDim S256x30x1 ![0, 1] bcast_S256x30_S256x30x1_0_1 : (⟨S256x30, .i32⟩ : BufTy).Contents (Elt F) → (⟨S256x30x1, .i32⟩ : BufTy).Contents (Elt F)),
    StableHlo.unary main_v110 main_v120 (broadcastInDim S256x1x30 ![0, 2] bcast_S256x30_S256x1x30_0_2 : (⟨S256x30, .i32⟩ : BufTy).Contents (Elt F) → (⟨S256x1x30, .i32⟩ : BufTy).Contents (Elt F)),
    StableHlo.nullary main_c (constantI S_ 32 0#32),
    StableHlo.unary main_c main_v121 (broadcastInDim S256x1x1 ![] bcast_S_S256x1x1 : (⟨S_, .i32⟩ : BufTy).Contents (Elt F) → (⟨S256x1x1, .i32⟩ : BufTy).Contents (Elt F)),
    StableHlo.binary main_v114 main_v121 main_v122 (cmpi .slt : (⟨S256x1x1, .i32⟩ : BufTy).Contents (Elt F) → (⟨S256x1x1, .i32⟩ : BufTy).Contents (Elt F) → (⟨S256x1x1, .i1⟩ : BufTy).Contents (Elt F)),
    StableHlo.nullary main_c_35 (constantI S_ 32 2#32),
    StableHlo.unary main_c_35 main_v123 (broadcastInDim S256x1x1 ![] bcast_S_S256x1x1 : (⟨S_, .i32⟩ : BufTy).Contents (Elt F) → (⟨S256x1x1, .i32⟩ : BufTy).Contents (Elt F)),
    StableHlo.binary main_v114 main_v123 main_v124 (addi : (⟨S256x1x1, .i32⟩ : BufTy).Contents (Elt F) → (⟨S256x1x1, .i32⟩ : BufTy).Contents (Elt F) → (⟨S256x1x1, .i32⟩ : BufTy).Contents (Elt F)),
    StableHlo.ternary main_v122 main_v124 main_v114 main_v125 (select : (⟨S256x1x1, .i1⟩ : BufTy).Contents (Elt F) → (⟨S256x1x1, .i32⟩ : BufTy).Contents (Elt F) → (⟨S256x1x1, .i32⟩ : BufTy).Contents (Elt F) → (⟨S256x1x1, .i32⟩ : BufTy).Contents (Elt F)),
    StableHlo.nullary main_c_36 (constantI S_ 32 0#32),
    StableHlo.unary main_c_36 main_v126 (broadcastInDim S256x30x1 ![] bcast_S_S256x30x1 : (⟨S_, .i32⟩ : BufTy).Contents (Elt F) → (⟨S256x30x1, .i32⟩ : BufTy).Contents (Elt F)),
    StableHlo.binary main_v119 main_v126 main_v127 (cmpi .slt : (⟨S256x30x1, .i32⟩ : BufTy).Contents (Elt F) → (⟨S256x30x1, .i32⟩ : BufTy).Contents (Elt F) → (⟨S256x30x1, .i1⟩ : BufTy).Contents (Elt F)),
    StableHlo.nullary main_c_37 (constantI S_ 32 200#32),
    StableHlo.unary main_c_37 main_v128 (broadcastInDim S256x30x1 ![] bcast_S_S256x30x1 : (⟨S_, .i32⟩ : BufTy).Contents (Elt F) → (⟨S256x30x1, .i32⟩ : BufTy).Contents (Elt F)),
    StableHlo.binary main_v119 main_v128 main_v129 (addi : (⟨S256x30x1, .i32⟩ : BufTy).Contents (Elt F) → (⟨S256x30x1, .i32⟩ : BufTy).Contents (Elt F) → (⟨S256x30x1, .i32⟩ : BufTy).Contents (Elt F)),
    StableHlo.ternary main_v127 main_v129 main_v119 main_v130 (select : (⟨S256x30x1, .i1⟩ : BufTy).Contents (Elt F) → (⟨S256x30x1, .i32⟩ : BufTy).Contents (Elt F) → (⟨S256x30x1, .i32⟩ : BufTy).Contents (Elt F) → (⟨S256x30x1, .i32⟩ : BufTy).Contents (Elt F)),
    StableHlo.nullary main_c_38 (constantI S_ 32 0#32),
    StableHlo.unary main_c_38 main_v131 (broadcastInDim S256x1x30 ![] bcast_S_S256x1x30 : (⟨S_, .i32⟩ : BufTy).Contents (Elt F) → (⟨S256x1x30, .i32⟩ : BufTy).Contents (Elt F)),
    StableHlo.binary main_v120 main_v131 main_v132 (cmpi .slt : (⟨S256x1x30, .i32⟩ : BufTy).Contents (Elt F) → (⟨S256x1x30, .i32⟩ : BufTy).Contents (Elt F) → (⟨S256x1x30, .i1⟩ : BufTy).Contents (Elt F)),
    StableHlo.nullary main_c_39 (constantI S_ 32 272#32),
    StableHlo.unary main_c_39 main_v133 (broadcastInDim S256x1x30 ![] bcast_S_S256x1x30 : (⟨S_, .i32⟩ : BufTy).Contents (Elt F) → (⟨S256x1x30, .i32⟩ : BufTy).Contents (Elt F)),
    StableHlo.binary main_v120 main_v133 main_v134 (addi : (⟨S256x1x30, .i32⟩ : BufTy).Contents (Elt F) → (⟨S256x1x30, .i32⟩ : BufTy).Contents (Elt F) → (⟨S256x1x30, .i32⟩ : BufTy).Contents (Elt F)),
    StableHlo.ternary main_v132 main_v134 main_v120 main_v135 (select : (⟨S256x1x30, .i1⟩ : BufTy).Contents (Elt F) → (⟨S256x1x30, .i32⟩ : BufTy).Contents (Elt F) → (⟨S256x1x30, .i32⟩ : BufTy).Contents (Elt F) → (⟨S256x1x30, .i32⟩ : BufTy).Contents (Elt F)),
    StableHlo.unary main_v125 main_v136 (broadcastInDim S256x30x30 ![0, 1, 2] bcast_S256x1x1_S256x30x30_0_1_2 : (⟨S256x1x1, .i32⟩ : BufTy).Contents (Elt F) → (⟨S256x30x30, .i32⟩ : BufTy).Contents (Elt F)),
    StableHlo.unary main_v130 main_v137 (broadcastInDim S256x30x30 ![0, 1, 2] bcast_S256x30x1_S256x30x30_0_1_2 : (⟨S256x30x1, .i32⟩ : BufTy).Contents (Elt F) → (⟨S256x30x30, .i32⟩ : BufTy).Contents (Elt F)) ]

theorem part2 (c : Dev nD) : main_part2 (F := F) c = seq ops2 := by
  simp only [main_part2, fn_clip.body, seq, bind_assoc, pure_bind]
  rfl

/-- The operations of the program's part 3. -/
abbrev ops3 : List (HloOp τ sig (Elt F)) :=
  [ StableHlo.unary main_v135 main_v138 (broadcastInDim S256x30x30 ![0, 1, 2] bcast_S256x1x30_S256x30x30_0_1_2 : (⟨S256x1x30, .i32⟩ : BufTy).Contents (Elt F) → (⟨S256x30x30, .i32⟩ : BufTy).Contents (Elt F)),
    StableHlo.unary main_v136 main_v139 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.unary main_v137 main_v140 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.unary main_v138 main_v141 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.nary ![main_v139, main_v140, main_v141] main_v142 (fun u => (concatenate S256x30x30x3 3 [⟨S256x30x30x1, (u 0 : (⟨S256x30x30x1, .i32⟩ : BufTy).Contents (Elt F))⟩, ⟨S256x30x30x1, (u 1 : (⟨S256x30x30x1, .i32⟩ : BufTy).Contents (Elt F))⟩, ⟨S256x30x30x1, (u 2 : (⟨S256x30x30x1, .i32⟩ : BufTy).Contents (Elt F))⟩] concatenates_S256x30x30x1_S256x30x30x1_S256x30x30x1_S256x30x30x3_d3 : (⟨S256x30x30x3, .i32⟩ : BufTy).Contents (Elt F))),
    StableHlo.binary main_v113 main_v142 main_v143 ((fun x i => Host.gather gather_S2x200x272x256_S256x30x30x3_S256x30x30x256_3_012_n_n_012_3_111256 x i) : (⟨S2x200x272x256, .f32⟩ : BufTy).Contents (Elt F) → (⟨S256x30x30x3, .i32⟩ : BufTy).Contents (Elt F) → (⟨S256x30x30x256, .f32⟩ : BufTy).Contents (Elt F)),
    StableHlo.unary main_v116 main_v144 (broadcastInDim S256x30x1 ![0, 1] bcast_S256x30_S256x30x1_0_1 : (⟨S256x30, .f32⟩ : BufTy).Contents (Elt F) → (⟨S256x30x1, .f32⟩ : BufTy).Contents (Elt F)),
    StableHlo.unary main_v118 main_v145 (broadcastInDim S256x1x30 ![0, 2] bcast_S256x30_S256x1x30_0_2 : (⟨S256x30, .f32⟩ : BufTy).Contents (Elt F) → (⟨S256x1x30, .f32⟩ : BufTy).Contents (Elt F)),
    StableHlo.unary main_v144 main_v146 (broadcastInDim S256x30x30 ![0, 1, 2] bcast_S256x30x1_S256x30x30_0_1_2 : (⟨S256x30x1, .f32⟩ : BufTy).Contents (Elt F) → (⟨S256x30x30, .f32⟩ : BufTy).Contents (Elt F)),
    StableHlo.unary main_v145 main_v147 (broadcastInDim S256x30x30 ![0, 1, 2] bcast_S256x1x30_S256x30x30_0_1_2 : (⟨S256x1x30, .f32⟩ : BufTy).Contents (Elt F) → (⟨S256x30x30, .f32⟩ : BufTy).Contents (Elt F)),
    StableHlo.binary main_v146 main_v147 main_v148 (mulf : (⟨S256x30x30, .f32⟩ : BufTy).Contents (Elt F) → (⟨S256x30x30, .f32⟩ : BufTy).Contents (Elt F) → (⟨S256x30x30, .f32⟩ : BufTy).Contents (Elt F)),
    StableHlo.unary main_v148 main_v149 (broadcastInDim S256x30x30x1 ![0, 1, 2] bcast_S256x30x30_S256x30x30x1_0_1_2 : (⟨S256x30x30, .f32⟩ : BufTy).Contents (Elt F) → (⟨S256x30x30x1, .f32⟩ : BufTy).Contents (Elt F)),
    StableHlo.unary main_v149 main_v150 (broadcastInDim S256x30x30x256 ![0, 1, 2, 3] bcast_S256x30x30x1_S256x30x30x256_0_1_2_3 : (⟨S256x30x30x1, .f32⟩ : BufTy).Contents (Elt F) → (⟨S256x30x30x256, .f32⟩ : BufTy).Contents (Elt F)),
    StableHlo.binary main_v143 main_v150 main_v151 (mulf : (⟨S256x30x30x256, .f32⟩ : BufTy).Contents (Elt F) → (⟨S256x30x30x256, .f32⟩ : BufTy).Contents (Elt F) → (⟨S256x30x30x256, .f32⟩ : BufTy).Contents (Elt F)),
    StableHlo.unary main_v95 main_v152 (broadcastInDim S256x30x1 ![0, 1] bcast_S256x30_S256x30x1_0_1 : (⟨S256x30, .i32⟩ : BufTy).Contents (Elt F) → (⟨S256x30x1, .i32⟩ : BufTy).Contents (Elt F)),
    StableHlo.unary main_v111 main_v153 (broadcastInDim S256x1x30 ![0, 2] bcast_S256x30_S256x1x30_0_2 : (⟨S256x30, .i32⟩ : BufTy).Contents (Elt F) → (⟨S256x1x30, .i32⟩ : BufTy).Contents (Elt F)),
    StableHlo.nullary main_c_40 (constantI S_ 32 0#32),
    StableHlo.unary main_c_40 main_v154 (broadcastInDim S256x1x1 ![] bcast_S_S256x1x1 : (⟨S_, .i32⟩ : BufTy).Contents (Elt F) → (⟨S256x1x1, .i32⟩ : BufTy).Contents (Elt F)),
    StableHlo.binary main_v114 main_v154 main_v155 (cmpi .slt : (⟨S256x1x1, .i32⟩ : BufTy).Contents (Elt F) → (⟨S256x1x1, .i32⟩ : BufTy).Contents (Elt F) → (⟨S256x1x1, .i1⟩ : BufTy).Contents (Elt F)),
    StableHlo.nullary main_c_41 (constantI S_ 32 2#32),
    StableHlo.unary main_c_41 main_v156 (broadcastInDim S256x1x1 ![] bcast_S_S256x1x1 : (⟨S_, .i32⟩ : BufTy).Contents (Elt F) → (⟨S256x1x1, .i32⟩ : BufTy).Contents (Elt F)),
    StableHlo.binary main_v114 main_v156 main_v157 (addi : (⟨S256x1x1, .i32⟩ : BufTy).Contents (Elt F) → (⟨S256x1x1, .i32⟩ : BufTy).Contents (Elt F) → (⟨S256x1x1, .i32⟩ : BufTy).Contents (Elt F)),
    StableHlo.ternary main_v155 main_v157 main_v114 main_v158 (select : (⟨S256x1x1, .i1⟩ : BufTy).Contents (Elt F) → (⟨S256x1x1, .i32⟩ : BufTy).Contents (Elt F) → (⟨S256x1x1, .i32⟩ : BufTy).Contents (Elt F) → (⟨S256x1x1, .i32⟩ : BufTy).Contents (Elt F)),
    StableHlo.nullary main_c_42 (constantI S_ 32 0#32),
    StableHlo.unary main_c_42 main_v159 (broadcastInDim S256x30x1 ![] bcast_S_S256x30x1 : (⟨S_, .i32⟩ : BufTy).Contents (Elt F) → (⟨S256x30x1, .i32⟩ : BufTy).Contents (Elt F)),
    StableHlo.binary main_v152 main_v159 main_v160 (cmpi .slt : (⟨S256x30x1, .i32⟩ : BufTy).Contents (Elt F) → (⟨S256x30x1, .i32⟩ : BufTy).Contents (Elt F) → (⟨S256x30x1, .i1⟩ : BufTy).Contents (Elt F)),
    StableHlo.nullary main_c_43 (constantI S_ 32 200#32),
    StableHlo.unary main_c_43 main_v161 (broadcastInDim S256x30x1 ![] bcast_S_S256x30x1 : (⟨S_, .i32⟩ : BufTy).Contents (Elt F) → (⟨S256x30x1, .i32⟩ : BufTy).Contents (Elt F)),
    StableHlo.binary main_v152 main_v161 main_v162 (addi : (⟨S256x30x1, .i32⟩ : BufTy).Contents (Elt F) → (⟨S256x30x1, .i32⟩ : BufTy).Contents (Elt F) → (⟨S256x30x1, .i32⟩ : BufTy).Contents (Elt F)),
    StableHlo.ternary main_v160 main_v162 main_v152 main_v163 (select : (⟨S256x30x1, .i1⟩ : BufTy).Contents (Elt F) → (⟨S256x30x1, .i32⟩ : BufTy).Contents (Elt F) → (⟨S256x30x1, .i32⟩ : BufTy).Contents (Elt F) → (⟨S256x30x1, .i32⟩ : BufTy).Contents (Elt F)),
    StableHlo.nullary main_c_44 (constantI S_ 32 0#32),
    StableHlo.unary main_c_44 main_v164 (broadcastInDim S256x1x30 ![] bcast_S_S256x1x30 : (⟨S_, .i32⟩ : BufTy).Contents (Elt F) → (⟨S256x1x30, .i32⟩ : BufTy).Contents (Elt F)),
    StableHlo.binary main_v153 main_v164 main_v165 (cmpi .slt : (⟨S256x1x30, .i32⟩ : BufTy).Contents (Elt F) → (⟨S256x1x30, .i32⟩ : BufTy).Contents (Elt F) → (⟨S256x1x30, .i1⟩ : BufTy).Contents (Elt F)),
    StableHlo.nullary main_c_45 (constantI S_ 32 272#32),
    StableHlo.unary main_c_45 main_v166 (broadcastInDim S256x1x30 ![] bcast_S_S256x1x30 : (⟨S_, .i32⟩ : BufTy).Contents (Elt F) → (⟨S256x1x30, .i32⟩ : BufTy).Contents (Elt F)),
    StableHlo.binary main_v153 main_v166 main_v167 (addi : (⟨S256x1x30, .i32⟩ : BufTy).Contents (Elt F) → (⟨S256x1x30, .i32⟩ : BufTy).Contents (Elt F) → (⟨S256x1x30, .i32⟩ : BufTy).Contents (Elt F)),
    StableHlo.ternary main_v165 main_v167 main_v153 main_v168 (select : (⟨S256x1x30, .i1⟩ : BufTy).Contents (Elt F) → (⟨S256x1x30, .i32⟩ : BufTy).Contents (Elt F) → (⟨S256x1x30, .i32⟩ : BufTy).Contents (Elt F) → (⟨S256x1x30, .i32⟩ : BufTy).Contents (Elt F)),
    StableHlo.unary main_v158 main_v169 (broadcastInDim S256x30x30 ![0, 1, 2] bcast_S256x1x1_S256x30x30_0_1_2 : (⟨S256x1x1, .i32⟩ : BufTy).Contents (Elt F) → (⟨S256x30x30, .i32⟩ : BufTy).Contents (Elt F)),
    StableHlo.unary main_v163 main_v170 (broadcastInDim S256x30x30 ![0, 1, 2] bcast_S256x30x1_S256x30x30_0_1_2 : (⟨S256x30x1, .i32⟩ : BufTy).Contents (Elt F) → (⟨S256x30x30, .i32⟩ : BufTy).Contents (Elt F)),
    StableHlo.unary main_v168 main_v171 (broadcastInDim S256x30x30 ![0, 1, 2] bcast_S256x1x30_S256x30x30_0_1_2 : (⟨S256x1x30, .i32⟩ : BufTy).Contents (Elt F) → (⟨S256x30x30, .i32⟩ : BufTy).Contents (Elt F)),
    StableHlo.unary main_v169 main_v172 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.unary main_v170 main_v173 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.unary main_v171 main_v174 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.nary ![main_v172, main_v173, main_v174] main_v175 (fun u => (concatenate S256x30x30x3 3 [⟨S256x30x30x1, (u 0 : (⟨S256x30x30x1, .i32⟩ : BufTy).Contents (Elt F))⟩, ⟨S256x30x30x1, (u 1 : (⟨S256x30x30x1, .i32⟩ : BufTy).Contents (Elt F))⟩, ⟨S256x30x30x1, (u 2 : (⟨S256x30x30x1, .i32⟩ : BufTy).Contents (Elt F))⟩] concatenates_S256x30x30x1_S256x30x30x1_S256x30x30x1_S256x30x30x3_d3 : (⟨S256x30x30x3, .i32⟩ : BufTy).Contents (Elt F))),
    StableHlo.binary main_v113 main_v175 main_v176 ((fun x i => Host.gather gather_S2x200x272x256_S256x30x30x3_S256x30x30x256_3_012_n_n_012_3_111256 x i) : (⟨S2x200x272x256, .f32⟩ : BufTy).Contents (Elt F) → (⟨S256x30x30x3, .i32⟩ : BufTy).Contents (Elt F) → (⟨S256x30x30x256, .f32⟩ : BufTy).Contents (Elt F)),
    StableHlo.unary main_v116 main_v177 (broadcastInDim S256x30x1 ![0, 1] bcast_S256x30_S256x30x1_0_1 : (⟨S256x30, .f32⟩ : BufTy).Contents (Elt F) → (⟨S256x30x1, .f32⟩ : BufTy).Contents (Elt F)),
    StableHlo.unary main_v109 main_v178 (broadcastInDim S256x1x30 ![0, 2] bcast_S256x30_S256x1x30_0_2 : (⟨S256x30, .f32⟩ : BufTy).Contents (Elt F) → (⟨S256x1x30, .f32⟩ : BufTy).Contents (Elt F)),
    StableHlo.unary main_v177 main_v179 (broadcastInDim S256x30x30 ![0, 1, 2] bcast_S256x30x1_S256x30x30_0_1_2 : (⟨S256x30x1, .f32⟩ : BufTy).Contents (Elt F) → (⟨S256x30x30, .f32⟩ : BufTy).Contents (Elt F)),
    StableHlo.unary main_v178 main_v180 (broadcastInDim S256x30x30 ![0, 1, 2] bcast_S256x1x30_S256x30x30_0_1_2 : (⟨S256x1x30, .f32⟩ : BufTy).Contents (Elt F) → (⟨S256x30x30, .f32⟩ : BufTy).Contents (Elt F)),
    StableHlo.binary main_v179 main_v180 main_v181 (mulf : (⟨S256x30x30, .f32⟩ : BufTy).Contents (Elt F) → (⟨S256x30x30, .f32⟩ : BufTy).Contents (Elt F) → (⟨S256x30x30, .f32⟩ : BufTy).Contents (Elt F)),
    StableHlo.unary main_v181 main_v182 (broadcastInDim S256x30x30x1 ![0, 1, 2] bcast_S256x30x30_S256x30x30x1_0_1_2 : (⟨S256x30x30, .f32⟩ : BufTy).Contents (Elt F) → (⟨S256x30x30x1, .f32⟩ : BufTy).Contents (Elt F)),
    StableHlo.unary main_v182 main_v183 (broadcastInDim S256x30x30x256 ![0, 1, 2, 3] bcast_S256x30x30x1_S256x30x30x256_0_1_2_3 : (⟨S256x30x30x1, .f32⟩ : BufTy).Contents (Elt F) → (⟨S256x30x30x256, .f32⟩ : BufTy).Contents (Elt F)),
    StableHlo.binary main_v176 main_v183 main_v184 (mulf : (⟨S256x30x30x256, .f32⟩ : BufTy).Contents (Elt F) → (⟨S256x30x30x256, .f32⟩ : BufTy).Contents (Elt F) → (⟨S256x30x30x256, .f32⟩ : BufTy).Contents (Elt F)),
    StableHlo.binary main_v151 main_v184 main_v185 (addf : (⟨S256x30x30x256, .f32⟩ : BufTy).Contents (Elt F) → (⟨S256x30x30x256, .f32⟩ : BufTy).Contents (Elt F) → (⟨S256x30x30x256, .f32⟩ : BufTy).Contents (Elt F)),
    StableHlo.unary main_v96 main_v186 (broadcastInDim S256x30x1 ![0, 1] bcast_S256x30_S256x30x1_0_1 : (⟨S256x30, .i32⟩ : BufTy).Contents (Elt F) → (⟨S256x30x1, .i32⟩ : BufTy).Contents (Elt F)),
    StableHlo.unary main_v110 main_v187 (broadcastInDim S256x1x30 ![0, 2] bcast_S256x30_S256x1x30_0_2 : (⟨S256x30, .i32⟩ : BufTy).Contents (Elt F) → (⟨S256x1x30, .i32⟩ : BufTy).Contents (Elt F)),
    StableHlo.nullary main_c_46 (constantI S_ 32 0#32),
    StableHlo.unary main_c_46 main_v188 (broadcastInDim S256x1x1 ![] bcast_S_S256x1x1 : (⟨S_, .i32⟩ : BufTy).Contents (Elt F) → (⟨S256x1x1, .i32⟩ : BufTy).Contents (Elt F)),
    StableHlo.binary main_v114 main_v188 main_v189 (cmpi .slt : (⟨S256x1x1, .i32⟩ : BufTy).Contents (Elt F) → (⟨S256x1x1, .i32⟩ : BufTy).Contents (Elt F) → (⟨S256x1x1, .i1⟩ : BufTy).Contents (Elt F)),
    StableHlo.nullary main_c_47 (constantI S_ 32 2#32) ]

theorem part3 (c : Dev nD) : main_part3 (F := F) c = seq ops3 := by
  simp only [main_part3, fn_clip.body, seq, bind_assoc, pure_bind]
  rfl

/-- The operations of the program's part 4. -/
abbrev ops4 : List (HloOp τ sig (Elt F)) :=
  [ StableHlo.unary main_c_47 main_v190 (broadcastInDim S256x1x1 ![] bcast_S_S256x1x1 : (⟨S_, .i32⟩ : BufTy).Contents (Elt F) → (⟨S256x1x1, .i32⟩ : BufTy).Contents (Elt F)),
    StableHlo.binary main_v114 main_v190 main_v191 (addi : (⟨S256x1x1, .i32⟩ : BufTy).Contents (Elt F) → (⟨S256x1x1, .i32⟩ : BufTy).Contents (Elt F) → (⟨S256x1x1, .i32⟩ : BufTy).Contents (Elt F)),
    StableHlo.ternary main_v189 main_v191 main_v114 main_v192 (select : (⟨S256x1x1, .i1⟩ : BufTy).Contents (Elt F) → (⟨S256x1x1, .i32⟩ : BufTy).Contents (Elt F) → (⟨S256x1x1, .i32⟩ : BufTy).Contents (Elt F) → (⟨S256x1x1, .i32⟩ : BufTy).Contents (Elt F)),
    StableHlo.nullary main_c_48 (constantI S_ 32 0#32),
    StableHlo.unary main_c_48 main_v193 (broadcastInDim S256x30x1 ![] bcast_S_S256x30x1 : (⟨S_, .i32⟩ : BufTy).Contents (Elt F) → (⟨S256x30x1, .i32⟩ : BufTy).Contents (Elt F)),
    StableHlo.binary main_v186 main_v193 main_v194 (cmpi .slt : (⟨S256x30x1, .i32⟩ : BufTy).Contents (Elt F) → (⟨S256x30x1, .i32⟩ : BufTy).Contents (Elt F) → (⟨S256x30x1, .i1⟩ : BufTy).Contents (Elt F)),
    StableHlo.nullary main_c_49 (constantI S_ 32 200#32),
    StableHlo.unary main_c_49 main_v195 (broadcastInDim S256x30x1 ![] bcast_S_S256x30x1 : (⟨S_, .i32⟩ : BufTy).Contents (Elt F) → (⟨S256x30x1, .i32⟩ : BufTy).Contents (Elt F)),
    StableHlo.binary main_v186 main_v195 main_v196 (addi : (⟨S256x30x1, .i32⟩ : BufTy).Contents (Elt F) → (⟨S256x30x1, .i32⟩ : BufTy).Contents (Elt F) → (⟨S256x30x1, .i32⟩ : BufTy).Contents (Elt F)),
    StableHlo.ternary main_v194 main_v196 main_v186 main_v197 (select : (⟨S256x30x1, .i1⟩ : BufTy).Contents (Elt F) → (⟨S256x30x1, .i32⟩ : BufTy).Contents (Elt F) → (⟨S256x30x1, .i32⟩ : BufTy).Contents (Elt F) → (⟨S256x30x1, .i32⟩ : BufTy).Contents (Elt F)),
    StableHlo.nullary main_c_50 (constantI S_ 32 0#32),
    StableHlo.unary main_c_50 main_v198 (broadcastInDim S256x1x30 ![] bcast_S_S256x1x30 : (⟨S_, .i32⟩ : BufTy).Contents (Elt F) → (⟨S256x1x30, .i32⟩ : BufTy).Contents (Elt F)),
    StableHlo.binary main_v187 main_v198 main_v199 (cmpi .slt : (⟨S256x1x30, .i32⟩ : BufTy).Contents (Elt F) → (⟨S256x1x30, .i32⟩ : BufTy).Contents (Elt F) → (⟨S256x1x30, .i1⟩ : BufTy).Contents (Elt F)),
    StableHlo.nullary main_c_51 (constantI S_ 32 272#32),
    StableHlo.unary main_c_51 main_v200 (broadcastInDim S256x1x30 ![] bcast_S_S256x1x30 : (⟨S_, .i32⟩ : BufTy).Contents (Elt F) → (⟨S256x1x30, .i32⟩ : BufTy).Contents (Elt F)),
    StableHlo.binary main_v187 main_v200 main_v201 (addi : (⟨S256x1x30, .i32⟩ : BufTy).Contents (Elt F) → (⟨S256x1x30, .i32⟩ : BufTy).Contents (Elt F) → (⟨S256x1x30, .i32⟩ : BufTy).Contents (Elt F)),
    StableHlo.ternary main_v199 main_v201 main_v187 main_v202 (select : (⟨S256x1x30, .i1⟩ : BufTy).Contents (Elt F) → (⟨S256x1x30, .i32⟩ : BufTy).Contents (Elt F) → (⟨S256x1x30, .i32⟩ : BufTy).Contents (Elt F) → (⟨S256x1x30, .i32⟩ : BufTy).Contents (Elt F)),
    StableHlo.unary main_v192 main_v203 (broadcastInDim S256x30x30 ![0, 1, 2] bcast_S256x1x1_S256x30x30_0_1_2 : (⟨S256x1x1, .i32⟩ : BufTy).Contents (Elt F) → (⟨S256x30x30, .i32⟩ : BufTy).Contents (Elt F)),
    StableHlo.unary main_v197 main_v204 (broadcastInDim S256x30x30 ![0, 1, 2] bcast_S256x30x1_S256x30x30_0_1_2 : (⟨S256x30x1, .i32⟩ : BufTy).Contents (Elt F) → (⟨S256x30x30, .i32⟩ : BufTy).Contents (Elt F)),
    StableHlo.unary main_v202 main_v205 (broadcastInDim S256x30x30 ![0, 1, 2] bcast_S256x1x30_S256x30x30_0_1_2 : (⟨S256x1x30, .i32⟩ : BufTy).Contents (Elt F) → (⟨S256x30x30, .i32⟩ : BufTy).Contents (Elt F)),
    StableHlo.unary main_v203 main_v206 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.unary main_v204 main_v207 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.unary main_v205 main_v208 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.nary ![main_v206, main_v207, main_v208] main_v209 (fun u => (concatenate S256x30x30x3 3 [⟨S256x30x30x1, (u 0 : (⟨S256x30x30x1, .i32⟩ : BufTy).Contents (Elt F))⟩, ⟨S256x30x30x1, (u 1 : (⟨S256x30x30x1, .i32⟩ : BufTy).Contents (Elt F))⟩, ⟨S256x30x30x1, (u 2 : (⟨S256x30x30x1, .i32⟩ : BufTy).Contents (Elt F))⟩] concatenates_S256x30x30x1_S256x30x30x1_S256x30x30x1_S256x30x30x3_d3 : (⟨S256x30x30x3, .i32⟩ : BufTy).Contents (Elt F))),
    StableHlo.binary main_v113 main_v209 main_v210 ((fun x i => Host.gather gather_S2x200x272x256_S256x30x30x3_S256x30x30x256_3_012_n_n_012_3_111256 x i) : (⟨S2x200x272x256, .f32⟩ : BufTy).Contents (Elt F) → (⟨S256x30x30x3, .i32⟩ : BufTy).Contents (Elt F) → (⟨S256x30x30x256, .f32⟩ : BufTy).Contents (Elt F)),
    StableHlo.unary main_v94 main_v211 (broadcastInDim S256x30x1 ![0, 1] bcast_S256x30_S256x30x1_0_1 : (⟨S256x30, .f32⟩ : BufTy).Contents (Elt F) → (⟨S256x30x1, .f32⟩ : BufTy).Contents (Elt F)),
    StableHlo.unary main_v118 main_v212 (broadcastInDim S256x1x30 ![0, 2] bcast_S256x30_S256x1x30_0_2 : (⟨S256x30, .f32⟩ : BufTy).Contents (Elt F) → (⟨S256x1x30, .f32⟩ : BufTy).Contents (Elt F)),
    StableHlo.unary main_v211 main_v213 (broadcastInDim S256x30x30 ![0, 1, 2] bcast_S256x30x1_S256x30x30_0_1_2 : (⟨S256x30x1, .f32⟩ : BufTy).Contents (Elt F) → (⟨S256x30x30, .f32⟩ : BufTy).Contents (Elt F)),
    StableHlo.unary main_v212 main_v214 (broadcastInDim S256x30x30 ![0, 1, 2] bcast_S256x1x30_S256x30x30_0_1_2 : (⟨S256x1x30, .f32⟩ : BufTy).Contents (Elt F) → (⟨S256x30x30, .f32⟩ : BufTy).Contents (Elt F)),
    StableHlo.binary main_v213 main_v214 main_v215 (mulf : (⟨S256x30x30, .f32⟩ : BufTy).Contents (Elt F) → (⟨S256x30x30, .f32⟩ : BufTy).Contents (Elt F) → (⟨S256x30x30, .f32⟩ : BufTy).Contents (Elt F)),
    StableHlo.unary main_v215 main_v216 (broadcastInDim S256x30x30x1 ![0, 1, 2] bcast_S256x30x30_S256x30x30x1_0_1_2 : (⟨S256x30x30, .f32⟩ : BufTy).Contents (Elt F) → (⟨S256x30x30x1, .f32⟩ : BufTy).Contents (Elt F)),
    StableHlo.unary main_v216 main_v217 (broadcastInDim S256x30x30x256 ![0, 1, 2, 3] bcast_S256x30x30x1_S256x30x30x256_0_1_2_3 : (⟨S256x30x30x1, .f32⟩ : BufTy).Contents (Elt F) → (⟨S256x30x30x256, .f32⟩ : BufTy).Contents (Elt F)),
    StableHlo.binary main_v210 main_v217 main_v218 (mulf : (⟨S256x30x30x256, .f32⟩ : BufTy).Contents (Elt F) → (⟨S256x30x30x256, .f32⟩ : BufTy).Contents (Elt F) → (⟨S256x30x30x256, .f32⟩ : BufTy).Contents (Elt F)),
    StableHlo.binary main_v185 main_v218 main_v219 (addf : (⟨S256x30x30x256, .f32⟩ : BufTy).Contents (Elt F) → (⟨S256x30x30x256, .f32⟩ : BufTy).Contents (Elt F) → (⟨S256x30x30x256, .f32⟩ : BufTy).Contents (Elt F)),
    StableHlo.unary main_v96 main_v220 (broadcastInDim S256x30x1 ![0, 1] bcast_S256x30_S256x30x1_0_1 : (⟨S256x30, .i32⟩ : BufTy).Contents (Elt F) → (⟨S256x30x1, .i32⟩ : BufTy).Contents (Elt F)),
    StableHlo.unary main_v111 main_v221 (broadcastInDim S256x1x30 ![0, 2] bcast_S256x30_S256x1x30_0_2 : (⟨S256x30, .i32⟩ : BufTy).Contents (Elt F) → (⟨S256x1x30, .i32⟩ : BufTy).Contents (Elt F)),
    StableHlo.nullary main_c_52 (constantI S_ 32 0#32),
    StableHlo.unary main_c_52 main_v222 (broadcastInDim S256x1x1 ![] bcast_S_S256x1x1 : (⟨S_, .i32⟩ : BufTy).Contents (Elt F) → (⟨S256x1x1, .i32⟩ : BufTy).Contents (Elt F)),
    StableHlo.binary main_v114 main_v222 main_v223 (cmpi .slt : (⟨S256x1x1, .i32⟩ : BufTy).Contents (Elt F) → (⟨S256x1x1, .i32⟩ : BufTy).Contents (Elt F) → (⟨S256x1x1, .i1⟩ : BufTy).Contents (Elt F)),
    StableHlo.nullary main_c_53 (constantI S_ 32 2#32),
    StableHlo.unary main_c_53 main_v224 (broadcastInDim S256x1x1 ![] bcast_S_S256x1x1 : (⟨S_, .i32⟩ : BufTy).Contents (Elt F) → (⟨S256x1x1, .i32⟩ : BufTy).Contents (Elt F)),
    StableHlo.binary main_v114 main_v224 main_v225 (addi : (⟨S256x1x1, .i32⟩ : BufTy).Contents (Elt F) → (⟨S256x1x1, .i32⟩ : BufTy).Contents (Elt F) → (⟨S256x1x1, .i32⟩ : BufTy).Contents (Elt F)),
    StableHlo.ternary main_v223 main_v225 main_v114 main_v226 (select : (⟨S256x1x1, .i1⟩ : BufTy).Contents (Elt F) → (⟨S256x1x1, .i32⟩ : BufTy).Contents (Elt F) → (⟨S256x1x1, .i32⟩ : BufTy).Contents (Elt F) → (⟨S256x1x1, .i32⟩ : BufTy).Contents (Elt F)),
    StableHlo.nullary main_c_54 (constantI S_ 32 0#32),
    StableHlo.unary main_c_54 main_v227 (broadcastInDim S256x30x1 ![] bcast_S_S256x30x1 : (⟨S_, .i32⟩ : BufTy).Contents (Elt F) → (⟨S256x30x1, .i32⟩ : BufTy).Contents (Elt F)),
    StableHlo.binary main_v220 main_v227 main_v228 (cmpi .slt : (⟨S256x30x1, .i32⟩ : BufTy).Contents (Elt F) → (⟨S256x30x1, .i32⟩ : BufTy).Contents (Elt F) → (⟨S256x30x1, .i1⟩ : BufTy).Contents (Elt F)),
    StableHlo.nullary main_c_55 (constantI S_ 32 200#32),
    StableHlo.unary main_c_55 main_v229 (broadcastInDim S256x30x1 ![] bcast_S_S256x30x1 : (⟨S_, .i32⟩ : BufTy).Contents (Elt F) → (⟨S256x30x1, .i32⟩ : BufTy).Contents (Elt F)),
    StableHlo.binary main_v220 main_v229 main_v230 (addi : (⟨S256x30x1, .i32⟩ : BufTy).Contents (Elt F) → (⟨S256x30x1, .i32⟩ : BufTy).Contents (Elt F) → (⟨S256x30x1, .i32⟩ : BufTy).Contents (Elt F)),
    StableHlo.ternary main_v228 main_v230 main_v220 main_v231 (select : (⟨S256x30x1, .i1⟩ : BufTy).Contents (Elt F) → (⟨S256x30x1, .i32⟩ : BufTy).Contents (Elt F) → (⟨S256x30x1, .i32⟩ : BufTy).Contents (Elt F) → (⟨S256x30x1, .i32⟩ : BufTy).Contents (Elt F)),
    StableHlo.nullary main_c_56 (constantI S_ 32 0#32),
    StableHlo.unary main_c_56 main_v232 (broadcastInDim S256x1x30 ![] bcast_S_S256x1x30 : (⟨S_, .i32⟩ : BufTy).Contents (Elt F) → (⟨S256x1x30, .i32⟩ : BufTy).Contents (Elt F)),
    StableHlo.binary main_v221 main_v232 main_v233 (cmpi .slt : (⟨S256x1x30, .i32⟩ : BufTy).Contents (Elt F) → (⟨S256x1x30, .i32⟩ : BufTy).Contents (Elt F) → (⟨S256x1x30, .i1⟩ : BufTy).Contents (Elt F)),
    StableHlo.nullary main_c_57 (constantI S_ 32 272#32),
    StableHlo.unary main_c_57 main_v234 (broadcastInDim S256x1x30 ![] bcast_S_S256x1x30 : (⟨S_, .i32⟩ : BufTy).Contents (Elt F) → (⟨S256x1x30, .i32⟩ : BufTy).Contents (Elt F)),
    StableHlo.binary main_v221 main_v234 main_v235 (addi : (⟨S256x1x30, .i32⟩ : BufTy).Contents (Elt F) → (⟨S256x1x30, .i32⟩ : BufTy).Contents (Elt F) → (⟨S256x1x30, .i32⟩ : BufTy).Contents (Elt F)),
    StableHlo.ternary main_v233 main_v235 main_v221 main_v236 (select : (⟨S256x1x30, .i1⟩ : BufTy).Contents (Elt F) → (⟨S256x1x30, .i32⟩ : BufTy).Contents (Elt F) → (⟨S256x1x30, .i32⟩ : BufTy).Contents (Elt F) → (⟨S256x1x30, .i32⟩ : BufTy).Contents (Elt F)),
    StableHlo.unary main_v226 main_v237 (broadcastInDim S256x30x30 ![0, 1, 2] bcast_S256x1x1_S256x30x30_0_1_2 : (⟨S256x1x1, .i32⟩ : BufTy).Contents (Elt F) → (⟨S256x30x30, .i32⟩ : BufTy).Contents (Elt F)),
    StableHlo.unary main_v231 main_v238 (broadcastInDim S256x30x30 ![0, 1, 2] bcast_S256x30x1_S256x30x30_0_1_2 : (⟨S256x30x1, .i32⟩ : BufTy).Contents (Elt F) → (⟨S256x30x30, .i32⟩ : BufTy).Contents (Elt F)),
    StableHlo.unary main_v236 main_v239 (broadcastInDim S256x30x30 ![0, 1, 2] bcast_S256x1x30_S256x30x30_0_1_2 : (⟨S256x1x30, .i32⟩ : BufTy).Contents (Elt F) → (⟨S256x30x30, .i32⟩ : BufTy).Contents (Elt F)) ]

theorem part4 (c : Dev nD) : main_part4 (F := F) c = seq ops4 := by
  simp only [main_part4, fn_clip.body, seq, bind_assoc, pure_bind]
  rfl

/-- The operations of the program's part 5. -/
abbrev ops5 : List (HloOp τ sig (Elt F)) :=
  [ StableHlo.unary main_v237 main_v240 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.unary main_v238 main_v241 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.unary main_v239 main_v242 (broadcastInDim S256x30x30x1 ![0, 1, 2] bcast_S256x30x30_S256x30x30x1_0_1_2 : (⟨S256x30x30, .i32⟩ : BufTy).Contents (Elt F) → (⟨S256x30x30x1, .i32⟩ : BufTy).Contents (Elt F)),
    StableHlo.nary ![main_v240, main_v241, main_v242] main_v243 (fun u => (concatenate S256x30x30x3 3 [⟨S256x30x30x1, (u 0 : (⟨S256x30x30x1, .i32⟩ : BufTy).Contents (Elt F))⟩, ⟨S256x30x30x1, (u 1 : (⟨S256x30x30x1, .i32⟩ : BufTy).Contents (Elt F))⟩, ⟨S256x30x30x1, (u 2 : (⟨S256x30x30x1, .i32⟩ : BufTy).Contents (Elt F))⟩] concatenates_S256x30x30x1_S256x30x30x1_S256x30x30x1_S256x30x30x3_d3 : (⟨S256x30x30x3, .i32⟩ : BufTy).Contents (Elt F))),
    StableHlo.binary main_v113 main_v243 main_v244 ((fun x i => Host.gather gather_S2x200x272x256_S256x30x30x3_S256x30x30x256_3_012_n_n_012_3_111256 x i) : (⟨S2x200x272x256, .f32⟩ : BufTy).Contents (Elt F) → (⟨S256x30x30x3, .i32⟩ : BufTy).Contents (Elt F) → (⟨S256x30x30x256, .f32⟩ : BufTy).Contents (Elt F)),
    StableHlo.unary main_v94 main_v245 (broadcastInDim S256x30x1 ![0, 1] bcast_S256x30_S256x30x1_0_1 : (⟨S256x30, .f32⟩ : BufTy).Contents (Elt F) → (⟨S256x30x1, .f32⟩ : BufTy).Contents (Elt F)),
    StableHlo.unary main_v109 main_v246 (broadcastInDim S256x1x30 ![0, 2] bcast_S256x30_S256x1x30_0_2 : (⟨S256x30, .f32⟩ : BufTy).Contents (Elt F) → (⟨S256x1x30, .f32⟩ : BufTy).Contents (Elt F)),
    StableHlo.unary main_v245 main_v247 (broadcastInDim S256x30x30 ![0, 1, 2] bcast_S256x30x1_S256x30x30_0_1_2 : (⟨S256x30x1, .f32⟩ : BufTy).Contents (Elt F) → (⟨S256x30x30, .f32⟩ : BufTy).Contents (Elt F)),
    StableHlo.unary main_v246 main_v248 (broadcastInDim S256x30x30 ![0, 1, 2] bcast_S256x1x30_S256x30x30_0_1_2 : (⟨S256x1x30, .f32⟩ : BufTy).Contents (Elt F) → (⟨S256x30x30, .f32⟩ : BufTy).Contents (Elt F)),
    StableHlo.binary main_v247 main_v248 main_v249 (mulf : (⟨S256x30x30, .f32⟩ : BufTy).Contents (Elt F) → (⟨S256x30x30, .f32⟩ : BufTy).Contents (Elt F) → (⟨S256x30x30, .f32⟩ : BufTy).Contents (Elt F)),
    StableHlo.unary main_v249 main_v250 (broadcastInDim S256x30x30x1 ![0, 1, 2] bcast_S256x30x30_S256x30x30x1_0_1_2 : (⟨S256x30x30, .f32⟩ : BufTy).Contents (Elt F) → (⟨S256x30x30x1, .f32⟩ : BufTy).Contents (Elt F)),
    StableHlo.unary main_v250 main_v251 (broadcastInDim S256x30x30x256 ![0, 1, 2, 3] bcast_S256x30x30x1_S256x30x30x256_0_1_2_3 : (⟨S256x30x30x1, .f32⟩ : BufTy).Contents (Elt F) → (⟨S256x30x30x256, .f32⟩ : BufTy).Contents (Elt F)),
    StableHlo.binary main_v244 main_v251 main_v252 (mulf : (⟨S256x30x30x256, .f32⟩ : BufTy).Contents (Elt F) → (⟨S256x30x30x256, .f32⟩ : BufTy).Contents (Elt F) → (⟨S256x30x30x256, .f32⟩ : BufTy).Contents (Elt F)),
    StableHlo.binary main_v219 main_v252 main_v253 (addf : (⟨S256x30x30x256, .f32⟩ : BufTy).Contents (Elt F) → (⟨S256x30x30x256, .f32⟩ : BufTy).Contents (Elt F) → (⟨S256x30x30x256, .f32⟩ : BufTy).Contents (Elt F)),
    StableHlo.unary main_v97 main_v254 (broadcastInDim S256x30x1 ![0, 1] bcast_S256x30_S256x30x1_0_1 : (⟨S256x30, .f32⟩ : BufTy).Contents (Elt F) → (⟨S256x30x1, .f32⟩ : BufTy).Contents (Elt F)),
    StableHlo.unary main_v112 main_v255 (broadcastInDim S256x1x30 ![0, 2] bcast_S256x30_S256x1x30_0_2 : (⟨S256x30, .f32⟩ : BufTy).Contents (Elt F) → (⟨S256x1x30, .f32⟩ : BufTy).Contents (Elt F)),
    StableHlo.unary main_v254 main_v256 (broadcastInDim S256x30x30 ![0, 1, 2] bcast_S256x30x1_S256x30x30_0_1_2 : (⟨S256x30x1, .f32⟩ : BufTy).Contents (Elt F) → (⟨S256x30x30, .f32⟩ : BufTy).Contents (Elt F)),
    StableHlo.unary main_v255 main_v257 (broadcastInDim S256x30x30 ![0, 1, 2] bcast_S256x1x30_S256x30x30_0_1_2 : (⟨S256x1x30, .f32⟩ : BufTy).Contents (Elt F) → (⟨S256x30x30, .f32⟩ : BufTy).Contents (Elt F)),
    StableHlo.binary main_v256 main_v257 main_v258 (mulf : (⟨S256x30x30, .f32⟩ : BufTy).Contents (Elt F) → (⟨S256x30x30, .f32⟩ : BufTy).Contents (Elt F) → (⟨S256x30x30, .f32⟩ : BufTy).Contents (Elt F)),
    StableHlo.unary main_v258 main_v259 (broadcastInDim S256x30x30x1 ![0, 1, 2] bcast_S256x30x30_S256x30x30x1_0_1_2 : (⟨S256x30x30, .f32⟩ : BufTy).Contents (Elt F) → (⟨S256x30x30x1, .f32⟩ : BufTy).Contents (Elt F)),
    StableHlo.unary main_v259 main_v260 (broadcastInDim S256x30x30x256 ![0, 1, 2, 3] bcast_S256x30x30x1_S256x30x30x256_0_1_2_3 : (⟨S256x30x30x1, .f32⟩ : BufTy).Contents (Elt F) → (⟨S256x30x30x256, .f32⟩ : BufTy).Contents (Elt F)),
    StableHlo.binary main_v253 main_v260 main_v261 (mulf : (⟨S256x30x30x256, .f32⟩ : BufTy).Contents (Elt F) → (⟨S256x30x30x256, .f32⟩ : BufTy).Contents (Elt F) → (⟨S256x30x30x256, .f32⟩ : BufTy).Contents (Elt F)),
    StableHlo.reshape main_v261 main_v262 (rfl : (.f32 : EltTy) = .f32) shapeCasts_S256x30x30x256_S256x15x2x15x2x256,
    StableHlo.nullary main_cst_58 (constant S_ .f32 0x00000000#32),
    StableHlo.binary main_v262 main_cst_58 main_v263 ((fun x v => Host.reduceAdd x v reducesTo_S256x15x2x15x2x256_S256x15x15x256_d2_4 h_S_) : (⟨S256x15x2x15x2x256, .f32⟩ : BufTy).Contents (Elt F) → (⟨S_, .f32⟩ : BufTy).Contents (Elt F) → (⟨S256x15x15x256, .f32⟩ : BufTy).Contents (Elt F)),
    StableHlo.nullary main_cst_59 (constant S_ .f32 0x40800000#32),
    StableHlo.unary main_cst_59 main_v264 (broadcastInDim S256x15x15x256 ![] bcast_S_S256x15x15x256 : (⟨S_, .f32⟩ : BufTy).Contents (Elt F) → (⟨S256x15x15x256, .f32⟩ : BufTy).Contents (Elt F)),
    StableHlo.binary main_v263 main_v264 main_v265 (Host.divf : (⟨S256x15x15x256, .f32⟩ : BufTy).Contents (Elt F) → (⟨S256x15x15x256, .f32⟩ : BufTy).Contents (Elt F) → (⟨S256x15x15x256, .f32⟩ : BufTy).Contents (Elt F)),
    StableHlo.unary main_v265 main_v266 ((transpose S256x256x15x15 [0, 3, 1, 2] · transposes_S256x15x15x256_S256x256x15x15_0_3_1_2) : (⟨S256x15x15x256, .f32⟩ : BufTy).Contents (Elt F) → (⟨S256x256x15x15, .f32⟩ : BufTy).Contents (Elt F)),
    StableHlo.unary main_v266 main_v267 ((extractStridedSlice S256x256x14x14 ![0, 0, 0, 0] · slices_S256x256x15x15_S256x256x14x14_0_0_0_0) : (⟨S256x256x15x15, .f32⟩ : BufTy).Contents (Elt F) → (⟨S256x256x14x14, .f32⟩ : BufTy).Contents (Elt F)),
    StableHlo.unary main_v266 main_v268 ((extractStridedSlice S256x256x14x14 ![0, 0, 1, 0] · slices_S256x256x15x15_S256x256x14x14_0_0_1_0) : (⟨S256x256x15x15, .f32⟩ : BufTy).Contents (Elt F) → (⟨S256x256x14x14, .f32⟩ : BufTy).Contents (Elt F)),
    StableHlo.binary main_v267 main_v268 main_v269 (addf : (⟨S256x256x14x14, .f32⟩ : BufTy).Contents (Elt F) → (⟨S256x256x14x14, .f32⟩ : BufTy).Contents (Elt F) → (⟨S256x256x14x14, .f32⟩ : BufTy).Contents (Elt F)),
    StableHlo.unary main_v266 main_v270 ((extractStridedSlice S256x256x14x14 ![0, 0, 0, 1] · slices_S256x256x15x15_S256x256x14x14_0_0_0_1) : (⟨S256x256x15x15, .f32⟩ : BufTy).Contents (Elt F) → (⟨S256x256x14x14, .f32⟩ : BufTy).Contents (Elt F)),
    StableHlo.binary main_v269 main_v270 main_v271 (addf : (⟨S256x256x14x14, .f32⟩ : BufTy).Contents (Elt F) → (⟨S256x256x14x14, .f32⟩ : BufTy).Contents (Elt F) → (⟨S256x256x14x14, .f32⟩ : BufTy).Contents (Elt F)),
    StableHlo.unary main_v266 main_v272 ((extractStridedSlice S256x256x14x14 ![0, 0, 1, 1] · slices_S256x256x15x15_S256x256x14x14_0_0_1_1) : (⟨S256x256x15x15, .f32⟩ : BufTy).Contents (Elt F) → (⟨S256x256x14x14, .f32⟩ : BufTy).Contents (Elt F)),
    StableHlo.binary main_v271 main_v272 main_v273 (addf : (⟨S256x256x14x14, .f32⟩ : BufTy).Contents (Elt F) → (⟨S256x256x14x14, .f32⟩ : BufTy).Contents (Elt F) → (⟨S256x256x14x14, .f32⟩ : BufTy).Contents (Elt F)),
    StableHlo.nullary main_cst_60 (constant S_ .f32 0x3E800000#32),
    StableHlo.unary main_cst_60 main_v274 (broadcastInDim S256x256x14x14 ![] bcast_S_S256x256x14x14 : (⟨S_, .f32⟩ : BufTy).Contents (Elt F) → (⟨S256x256x14x14, .f32⟩ : BufTy).Contents (Elt F)),
    StableHlo.binary main_v274 main_v273 main_v275 (mulf : (⟨S256x256x14x14, .f32⟩ : BufTy).Contents (Elt F) → (⟨S256x256x14x14, .f32⟩ : BufTy).Contents (Elt F) → (⟨S256x256x14x14, .f32⟩ : BufTy).Contents (Elt F)) ]

theorem part5 (c : Dev nD) : main_part5 (F := F) c = seq ops5 := by
  simp only [main_part5, fn_clip.body, seq, bind_assoc, pure_bind]

/-- The whole line. -/
def ops : List (HloOp τ sig (Elt F)) := ops0 ++ (ops1 ++ (ops2 ++ (ops3 ++ (ops4 ++ (ops5)))))

theorem ops0_sub : (ops0 : List (HloOp τ sig (Elt F))).Forall fun op => op.bufs ⊆ tcRefs τ sig :=
  ⟨unary_bufs_sub .., reshape_bufs_sub .., unary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

theorem ops0_fresh : (ops0 : List (HloOp τ sig (Elt F))).Forall fun op => op.fresh = ∅ := forall_fresh_of_map rfl

theorem ops1_sub : (ops1 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., nullary_bufs_sub .., unary_bufs_sub .., binary_bufs_sub .., unary_bufs_sub .., nullary_bufs_sub .., unary_bufs_sub .., binary_bufs_sub .., unary_bufs_sub .., unary_bufs_sub .., binary_bufs_sub .., unary_bufs_sub .., binary_bufs_sub .., unary_bufs_sub .., unary_bufs_sub .., nullary_bufs_sub .., unary_bufs_sub .., binary_bufs_sub .., unary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub ..⟩

theorem ops1_fresh : (ops1 : List (HloOp τ sig (Elt F))).Forall fun op => op.fresh = ∅ := forall_fresh_of_map rfl

theorem ops2_sub : (ops2 : List (HloOp τ sig (Elt F))).Forall fun op => op.bufs ⊆ tcRefs τ sig :=
  ⟨unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem ops2_fresh : (ops2 : List (HloOp τ sig (Elt F))).Forall fun op => op.fresh = ∅ := forall_fresh_of_map rfl

theorem ops3_sub : (ops3 : List (HloOp τ sig (Elt F))).Forall fun op => op.bufs ⊆ tcRefs τ sig :=
  ⟨unary_bufs_sub .., unary_bufs_sub .., unary_bufs_sub .., unary_bufs_sub .., nary_bufs_sub .. |> id, binary_bufs_sub .., unary_bufs_sub .., unary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., nary_bufs_sub .. |> id, binary_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub ..⟩

theorem ops3_fresh : (ops3 : List (HloOp τ sig (Elt F))).Forall fun op => op.fresh = ∅ := forall_fresh_of_map rfl

theorem ops4_sub : (ops4 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., nary_bufs_sub .. |> id, binary_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

theorem ops4_fresh : (ops4 : List (HloOp τ sig (Elt F))).Forall fun op => op.fresh = ∅ := forall_fresh_of_map rfl

theorem ops5_sub : (ops5 : List (HloOp τ sig (Elt F))).Forall fun op => op.bufs ⊆ tcRefs τ sig :=
  ⟨unary_bufs_sub .., unary_bufs_sub .., unary_bufs_sub .., nary_bufs_sub .. |> id, binary_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., unary_bufs_sub .., binary_bufs_sub .., unary_bufs_sub .., binary_bufs_sub .., unary_bufs_sub .., binary_bufs_sub .., nullary_bufs_sub .., unary_bufs_sub .., binary_bufs_sub ..⟩

theorem ops5_fresh : (ops5 : List (HloOp τ sig (Elt F))).Forall fun op => op.fresh = ∅ := forall_fresh_of_map rfl

theorem main_line (c : Dev nD) : main (F := F) c = seq ops := by
  simp only [ops, seq_append, main, part0, part1, part2, part3, part4, part5]

theorem forall_app {P : HloOp τ sig (Elt F) → Prop} {l₁ l₂ : List (HloOp τ sig (Elt F))} (h₁ : l₁.Forall P) (h₂ : l₂.Forall P) : (l₁ ++ l₂).Forall P :=
  List.forall_iff_forall_mem.2 fun o ho => (List.mem_append.1 ho).elim (List.forall_iff_forall_mem.1 h₁ o) (List.forall_iff_forall_mem.1 h₂ o)

theorem ops_sub : (ops : List (HloOp τ sig (Elt F))).Forall fun op => op.bufs ⊆ tcRefs τ sig :=
  forall_app ops0_sub (forall_app ops1_sub (forall_app ops2_sub (forall_app ops3_sub (forall_app ops4_sub ops5_sub))))

theorem ops_fresh : (ops : List (HloOp τ sig (Elt F))).Forall fun op => op.fresh = ∅ :=
  forall_app ops0_fresh (forall_app ops1_fresh (forall_app ops2_fresh (forall_app ops3_fresh (forall_app ops4_fresh ops5_fresh))))

theorem scopedRefs_eq : (Finset.univ.filter fun b : Ref sig .tc => b.isScoped) = ∅ := by decide +kernel
theorem scopedSems_eq : (Finset.univ.filter fun sm : SemLoc sig => sm.isScoped .tc) = ∅ := by decide +kernel

theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_line (fun _ => ops_sub) m ρ (fun _ => List.forall_iff_forall_mem.1 ops_fresh)

theorem arg0_kept (W : Valuation τ sig (Elt F)) : after ops W (Proc.devRef .tc main_arg0) = W (Proc.devRef .tc main_arg0) := by
  after_reads_simp

theorem arg1_kept (W : Valuation τ sig (Elt F)) : after ops W (Proc.devRef .tc main_arg1) = W (Proc.devRef .tc main_arg1) := by
  after_reads_simp

end Cert.ReferenceIdeal.Hand

end
-- ==== Proof.Sums.lean ====
module

public import Mathlib.Data.EReal.Operations
public import Mathlib.Data.EReal.Inv
public import Mathlib.Data.NNReal.Basic
public import Mathlib.Algebra.BigOperators.Group.Finset.Basic
public import Mathlib.Algebra.Module.BigOperators
public import Mathlib.Tactic.Module
public import Mathlib.Tactic.Ring
public import Mathlib.Tactic.NormNum
public import Mathlib.Tactic.Positivity
public import Mathlib.Tactic.Linarith

/-! # Weighted sums of extended reals

Nonnegative finite weights distribute over sums of extended reals. Two matrix products with interpolation weights, summed over
the samples of overlapping bins, are the average of the bins' averages. -/

@[expose] public section

noncomputable section

namespace Cert.Sums

open scoped NNReal
open Finset

/-- A nonnegative real as an extended real. -/
def E (c : ℝ≥0) : EReal := ((c : ℝ) : EReal)

theorem E_add (c d : ℝ≥0) : E (c + d) = E c + E d := by unfold E; rw [NNReal.coe_add, EReal.coe_add]
theorem E_mul (c d : ℝ≥0) : E (c * d) = E c * E d := by unfold E; rw [NNReal.coe_mul, EReal.coe_mul]
theorem E_zero : E 0 = 0 := by unfold E; simp
theorem E_one : E 1 = 1 := by unfold E; simp
theorem E_nonneg (c : ℝ≥0) : 0 ≤ E c := by unfold E; exact EReal.coe_nonneg.mpr c.2
theorem E_ne_top (c : ℝ≥0) : E c ≠ ⊤ := EReal.coe_ne_top _

theorem E_sum {ι : Type} (s : Finset ι) (f : ι → ℝ≥0) : E (∑ i ∈ s, f i) = ∑ i ∈ s, E (f i) := by
  classical
  induction s using Finset.induction_on with
  | empty => simp [E_zero]
  | insert a s h ih => rw [Finset.sum_insert h, Finset.sum_insert h, E_add, ih]

/-- Extended reals under nonnegative real weights. -/
local instance : Module ℝ≥0 EReal where
  smul c x := E c * x
  one_smul x := by show E 1 * x = x; rw [E_one, one_mul]
  mul_smul c d x := by show E (c * d) * x = E c * (E d * x); rw [E_mul, mul_assoc]
  smul_zero c := mul_zero _
  smul_add c x y := EReal.left_distrib_of_nonneg_of_ne_top (E_nonneg c) (E_ne_top c) x y
  add_smul c d x := by
    show E (c + d) * x = E c * x + E d * x
    rw [E_add]
    exact EReal.right_distrib_of_nonneg (E_nonneg c) (E_nonneg d)
  zero_smul x := by show E 0 * x = 0; rw [E_zero, zero_mul]

theorem smul_def (c : ℝ≥0) (x : EReal) : c • x = E c * x := rfl

/-- One sample's weights along an axis. -/
def wt (v w0 w1 : ℝ≥0) (a b x : ℕ) : ℝ≥0 := v * ((if x = a then w0 else 0) + (if x = b then w1 else 0))

theorem pick (N : ℕ) (v w0 w1 : ℝ≥0) (a b : ℕ) (Z : ℕ → EReal) (h : v ≠ 0 → a < N ∧ b < N) :
    ∑ x ∈ range N, wt v w0 w1 a b x • Z x = (v * w0) • Z a + (v * w1) • Z b := by
  by_cases hv : v = 0
  · subst hv; simp [wt]
  · obtain ⟨ha, hb⟩ := h hv
    simp only [wt, mul_smul, add_smul, smul_add, ite_smul, zero_smul, Finset.sum_add_distrib, smul_ite, smul_zero]
    rw [Finset.sum_ite_eq' (range N) a, Finset.sum_ite_eq' (range N) b, if_pos (mem_range.mpr ha), if_pos (mem_range.mpr hb)]

/-- The weights of a bin over the samples. -/
def bin (p s : ℕ) : ℝ≥0 := if 2 * p ≤ s ∧ s < 2 * p + 4 then 1 / 4 else 0

theorem bin_sum (p : ℕ) (hp : p < 14) (G : ℕ → EReal) :
    ∑ s ∈ range 32, bin p s • G s = (1 / 4 : ℝ≥0) • (G (2 * p) + G (2 * p + 1) + G (2 * p + 2) + G (2 * p + 3)) := by
  have hs : ({2 * p, 2 * p + 1, 2 * p + 2, 2 * p + 3} : Finset ℕ) ⊆ range 32 := by
    intro x hx
    simp only [mem_insert, mem_singleton] at hx
    rw [mem_range]; omega
  rw [← Finset.sum_subset hs (f := fun s => bin p s • G s)]
  · rw [sum_insert, sum_insert, sum_insert, sum_singleton]
    · simp only [bin]
      rw [if_pos (by omega), if_pos (by omega), if_pos (by omega), if_pos (by omega)]
      module
    all_goals simp only [mem_insert, mem_singleton]; omega
  · intro x _ hx
    simp only [mem_insert, mem_singleton] at hx
    simp only [bin]
    rw [if_neg (by omega), zero_smul]

theorem swap (N M : ℕ) (Q : ℕ → ℝ≥0) (SX : ℕ → ℕ → ℝ≥0) (Z : ℕ → EReal) :
    ∑ x ∈ range N, (∑ t ∈ range M, Q t * SX t x) • Z x = ∑ t ∈ range M, Q t • ∑ x ∈ range N, SX t x • Z x := by
  simp only [Finset.sum_smul, Finset.smul_sum, mul_smul]
  exact Finset.sum_comm

/-- One sample of the features, interpolated. -/
def val (S : ℕ → ℕ → EReal) (vy y0 y1 vx x0 x1 : ℝ≥0) (ay by' ax bx : ℕ) : EReal :=
  (vy * vx) • ((y0 * x0) • S ay ax + (y0 * x1) • S ay bx + (y1 * x0) • S by' ax + (y1 * x1) • S by' bx)

theorem pooled (p q : ℕ) (hp : p < 14) (hq : q < 14) (S : ℕ → ℕ → EReal)
    (vy y0 y1 vx x0 x1 : ℕ → ℝ≥0) (ay by' ax bx : ℕ → ℕ)
    (hy : ∀ s < 30, vy s ≠ 0 → ay s < 88 ∧ by' s < 88) (hx : ∀ s < 30, vx s ≠ 0 → ax s < 106 ∧ bx s < 106)
    (SY SX : ℕ → ℕ → ℝ≥0) (hSY : ∀ s < 30, ∀ k < 88, SY s k = wt (vy s) (y0 s) (y1 s) (ay s) (by' s) k)
    (hSX : ∀ s < 30, ∀ k < 106, SX s k = wt (vx s) (x0 s) (x1 s) (ax s) (bx s) k) :
    ∑ x ∈ range 106, (∑ t ∈ range 32, bin q t * SX t x) • ∑ k ∈ range 88, (∑ s ∈ range 32, bin p s * SY s k) • S k x
      = let V := fun s t => val S (vy s) (y0 s) (y1 s) (vx t) (x0 t) (x1 t) (ay s) (by' s) (ax t) (bx t)
        let A := fun i j => (1 / 4 : ℝ≥0) • (V (2 * i) (2 * j) + V (2 * i) (2 * j + 1) + V (2 * i + 1) (2 * j) + V (2 * i + 1) (2 * j + 1))
        (1 / 4 : ℝ≥0) • (A p q + A (p + 1) q + A p (q + 1) + A (p + 1) (q + 1)) := by
  have eY : ∀ x, ∑ k ∈ range 88, (∑ s ∈ range 32, bin p s * SY s k) • S k x
      = (1 / 4 : ℝ≥0) • (((vy (2 * p) * y0 (2 * p)) • S (ay (2 * p)) x + (vy (2 * p) * y1 (2 * p)) • S (by' (2 * p)) x)
        + ((vy (2 * p + 1) * y0 (2 * p + 1)) • S (ay (2 * p + 1)) x + (vy (2 * p + 1) * y1 (2 * p + 1)) • S (by' (2 * p + 1)) x)
        + ((vy (2 * p + 2) * y0 (2 * p + 2)) • S (ay (2 * p + 2)) x + (vy (2 * p + 2) * y1 (2 * p + 2)) • S (by' (2 * p + 2)) x)
        + ((vy (2 * p + 3) * y0 (2 * p + 3)) • S (ay (2 * p + 3)) x + (vy (2 * p + 3) * y1 (2 * p + 3)) • S (by' (2 * p + 3)) x)) := by
    intro x
    rw [swap, bin_sum p hp]
    have e : ∀ s < 30, ∑ k ∈ range 88, SY s k • S k x = (vy s * y0 s) • S (ay s) x + (vy s * y1 s) • S (by' s) x := by
      intro s hs
      rw [← pick 88 _ _ _ _ _ (fun k => S k x) (hy s hs)]
      exact Finset.sum_congr rfl fun k hk => by rw [hSY s hs k (mem_range.mp hk)]
    rw [e _ (by omega), e _ (by omega), e _ (by omega), e _ (by omega)]
  rw [swap, bin_sum q hq]
  have e : ∀ t < 30, ∀ Z : ℕ → EReal, ∑ x ∈ range 106, SX t x • Z x = (vx t * x0 t) • Z (ax t) + (vx t * x1 t) • Z (bx t) := by
    intro t ht Z
    rw [← pick 106 _ _ _ _ _ Z (hx t ht)]
    exact Finset.sum_congr rfl fun k hk => by rw [hSX t ht k (mem_range.mp hk)]
  rw [e _ (by omega), e _ (by omega), e _ (by omega), e _ (by omega)]
  simp only [eY, val]
  rw [show 2 * (p + 1) = 2 * p + 2 by ring, show 2 * (q + 1) = 2 * q + 2 by ring, show 2 * p + 2 + 1 = 2 * p + 3 by ring, show 2 * q + 2 + 1 = 2 * q + 3 by ring]
  module

end Cert.Sums

end
-- ==== Proof.Axis.lean ====
module

public import proofs.«01_k».proof.Proof.Sums
public import Idealize.ShloMosaic.Lib.Pipeline.ValueKit
public import Idealize.ShloMosaic.Lib.IdealHost

/-! # A sample along an axis

A sample's coordinate is clamped to the map; its neighbours are the floor of that and the next, and its weights the distances to them. -/

@[expose] public section

noncomputable section

namespace Cert.Axis

open scoped NNReal
open Idealize.ShloMosaic Cert.Sums

/-- The coordinate clamped to the map. -/
def cl (n s : EReal) : EReal := min n (max 0 s)
/-- The neighbour below. -/
def lo (n s : EReal) : EReal := Ideal.liftRound Int.floor (cl n s)
/-- The neighbour above. -/
def hi (n s : EReal) : EReal := min (lo n s + 1) n

theorem axis (n : ℕ) (s : EReal) : ∃ (l h : ℕ) (w0 w1 : ℝ≥0), lo ((n : ℝ) : EReal) s = ((l : ℝ) : EReal) ∧ hi ((n : ℝ) : EReal) s = ((h : ℝ) : EReal)
    ∧ cl ((n : ℝ) : EReal) s - lo ((n : ℝ) : EReal) s = E w1 ∧ 1 - (cl ((n : ℝ) : EReal) s - lo ((n : ℝ) : EReal) s) = E w0 ∧ l ≤ h ∧ h ≤ n := by
  obtain ⟨c, hc, h0, h1⟩ : ∃ c : ℝ, cl ((n : ℝ) : EReal) s = (c : EReal) ∧ 0 ≤ c ∧ c ≤ n := by
    unfold cl
    induction s using EReal.rec with
    | bot => exact ⟨0, by simp, le_refl _, by positivity⟩
    | top => exact ⟨n, by simp, by positivity, le_refl _⟩
    | coe r =>
      refine ⟨min (n : ℝ) (max 0 r), ?_, le_min (by positivity) (le_max_left _ _), min_le_left _ _⟩
      rw [EReal.coe_strictMono.monotone.map_min, EReal.coe_strictMono.monotone.map_max, EReal.coe_zero]
  have hf : 0 ≤ ⌊c⌋ := Int.floor_nonneg.mpr h0
  obtain ⟨l, hl⟩ := Int.eq_ofNat_of_zero_le hf
  have hlo : lo ((n : ℝ) : EReal) s = ((l : ℝ) : EReal) := by
    unfold lo; rw [hc]
    show (((⌊c⌋ : ℤ) : ℝ) : EReal) = _
    rw [hl]; simp
  have e1 : (l : ℝ) ≤ c := by have := Int.floor_le c; rw [hl] at this; simpa using this
  have e2 : c < l + 1 := by have := Int.lt_floor_add_one c; rw [hl] at this; simpa using this
  have hln : l ≤ n := by exact_mod_cast e1.trans h1
  refine ⟨l, min (l + 1) n, ⟨1 - (c - l), by linarith⟩, ⟨c - l, by linarith⟩, hlo, ?_, ?_, ?_, ?_, min_le_right _ _⟩
  · unfold hi; rw [hlo, Nat.cast_min, EReal.coe_strictMono.monotone.map_min]; simp
  · rw [hlo, hc]; unfold E; rw [← EReal.coe_sub]; rfl
  · rw [hlo, hc]; unfold E; rw [← EReal.coe_sub, ← EReal.coe_one, ← EReal.coe_sub]; rfl
  · exact le_min (Nat.le_succ _) hln

/-- The neighbours' numbers and their weights. -/
def lN (n : ℕ) (s : EReal) : ℕ := (axis n s).choose
def hN (n : ℕ) (s : EReal) : ℕ := (axis n s).choose_spec.choose
def w0 (n : ℕ) (s : EReal) : ℝ≥0 := (axis n s).choose_spec.choose_spec.choose
def w1 (n : ℕ) (s : EReal) : ℝ≥0 := (axis n s).choose_spec.choose_spec.choose_spec.choose

theorem spec (n : ℕ) (s : EReal) : lo ((n : ℝ) : EReal) s = ((lN n s : ℝ) : EReal) ∧ hi ((n : ℝ) : EReal) s = ((hN n s : ℝ) : EReal)
    ∧ cl ((n : ℝ) : EReal) s - lo ((n : ℝ) : EReal) s = E (w1 n s) ∧ 1 - (cl ((n : ℝ) : EReal) s - lo ((n : ℝ) : EReal) s) = E (w0 n s) ∧ lN n s ≤ hN n s ∧ hN n s ≤ n :=
  (axis n s).choose_spec.choose_spec.choose_spec.choose_spec

/-- Whether a sample lies on a map of `n + 1` lines. -/
def On (n : ℕ) (s : EReal) : Prop := ((-1 : ℝ) : EReal) < s ∧ s < (((n + 1 : ℕ) : ℝ) : EReal)
/-- The same as a weight. -/
def vN (n : ℕ) (s : EReal) : ℝ≥0 := open Classical in if On n s then 1 else 0

theorem vN_ne {n : ℕ} {s : EReal} (h : vN n s ≠ 0) : On n s := by
  unfold vN at h; split at h
  · assumption
  · exact absurd rfl h

theorem bits_m1 : Ideal.ofBits FTy.f32 3212836864#32 = ((-1 : ℝ) : EReal) := by simp [Ideal.ofBits, Ideal.ieee]; rw [← EReal.coe_mul, ← EReal.coe_one]; congr 1; norm_num
theorem bits_199 : Ideal.ofBits FTy.f32 1128726528#32 = (((199 : ℕ) : ℝ) : EReal) := by simp [Ideal.ofBits, Ideal.ieee]; rw [← EReal.coe_mul]; congr 1; norm_num
theorem bits_200 : Ideal.ofBits FTy.f32 1128792064#32 = (((199 + 1 : ℕ) : ℝ) : EReal) := by simp [Ideal.ofBits, Ideal.ieee]; rw [← EReal.coe_mul]; congr 1; norm_num
theorem bits_271 : Ideal.ofBits FTy.f32 0x43878000#32 = (((271 : ℕ) : ℝ) : EReal) := by simp [Ideal.ofBits, Ideal.ieee]; rw [← EReal.coe_mul]; congr 1; norm_num
theorem bits_272 : Ideal.ofBits FTy.f32 0x43880000#32 = (((271 + 1 : ℕ) : ℝ) : EReal) := by simp [Ideal.ofBits, Ideal.ieee]; rw [← EReal.coe_mul]; congr 1; norm_num
theorem bits_30 : Ideal.ofBits FTy.f32 1106247680#32 = (((30 : ℕ) : ℝ) : EReal) := by simp [Ideal.ofBits, Ideal.ieee]; rw [← EReal.coe_mul]; congr 1; norm_num
theorem bits_2 : Ideal.ofBits FTy.f32 1073741824#32 = ((2 : ℝ) : EReal) := by simp [Ideal.ofBits, Ideal.ieee]; rw [← EReal.coe_mul]; congr 1; norm_num
theorem bits_4 : Ideal.ofBits FTy.f32 1082130432#32 = ((4 : ℝ) : EReal) := by simp [Ideal.ofBits, Ideal.ieee]; rw [← EReal.coe_mul]; congr 1; norm_num
theorem bits_14 : Ideal.ofBits FTy.f32 1096810496#32 = ((14 : ℝ) : EReal) := by simp [Ideal.ofBits, Ideal.ieee]; rw [← EReal.coe_mul]; congr 1; norm_num
theorem bits_q : Ideal.ofBits FTy.f32 1048576000#32 = E (1 / 4) := by
  show _ = (((1 / 4 : ℝ≥0) : ℝ) : EReal)
  simp [Ideal.ofBits, Ideal.ieee]; rw [← EReal.coe_mul]; congr 1; norm_num
theorem bits_h : Ideal.ofBits FTy.f32 1056964608#32 = ((1 / 2 : ℝ) : EReal) := by simp [Ideal.ofBits, Ideal.ieee]; rw [← EReal.coe_mul]; congr 1; norm_num

/-- Selecting by a word of a truth. -/
theorem sel {α : Type} (p : Prop) [Decidable p] (x y : α) : Scalar.select (BitVec.ofBool (decide p)) x y = if p then x else y := by
  by_cases h : p <;> simp [h, Scalar.select]

theorem andi_bool (a b : Bool) : IntOp.andi (BitVec.ofBool a) (BitVec.ofBool b) = BitVec.ofBool (a && b) := by
  cases a <;> cases b <;> rfl

/-- A truth widened and read as a number. -/
theorem bool_num (p : Prop) [Decidable p] : (FloatOps.sitofp FTy.f32 (BitVec.setWidth 32 (BitVec.ofBool (decide p))) : Ideal .f32) = E (if p then 1 else 0) := by
  by_cases h : p
  · rw [if_pos h, decide_eq_true h, E_one]
    show (((1#32 : BitVec 32).toInt : ℝ) : EReal) = 1
    rw [show (1#32 : BitVec 32).toInt = 1 by decide]; simp
  · rw [if_neg h, decide_eq_false h, E_zero]
    show (((0#32 : BitVec 32).toInt : ℝ) : EReal) = 0
    rw [show (0#32 : BitVec 32).toInt = 0 by decide]; simp

theorem word_num (k : ℕ) (h : k < 2147483648) : (FloatOps.sitofp FTy.f32 (BitVec.ofNat 32 k) : Ideal .f32) = ((k : ℝ) : EReal) := by
  show (((BitVec.ofNat 32 k).toInt : ℝ) : EReal) = _
  have : (BitVec.ofNat 32 k).toInt = (k : ℤ) := by
    rw [BitVec.toInt_eq_toNat_cond, BitVec.toNat_ofNat, Nat.mod_eq_of_lt (by omega), if_pos (by omega)]
  rw [this]; simp

/-- One weight of a sample, as the kernel computes it. -/
theorem weight (n : ℕ) (s : EReal) (k o : ℕ) (ho : On n s → o ≤ lN n s) [Decidable (On n s)] :
    (if On n s then E (if ((k : ℝ) : EReal) = lo ((n : ℝ) : EReal) s - ((o : ℝ) : EReal) then 1 else 0) * (1 - (cl ((n : ℝ) : EReal) s - lo ((n : ℝ) : EReal) s))
        + E (if ((k : ℝ) : EReal) = hi ((n : ℝ) : EReal) s - ((o : ℝ) : EReal) then 1 else 0) * (cl ((n : ℝ) : EReal) s - lo ((n : ℝ) : EReal) s) else 0)
      = E (wt (vN n s) (w0 n s) (w1 n s) (lN n s - o) (hN n s - o) k) := by
  obtain ⟨e1, e2, e3, e4, hl, hh⟩ := spec n s
  by_cases h : On n s
  · have ho := ho h
    rw [if_pos h, e4, e3, e1, e2]
    have hv : vN n s = 1 := by unfold vN; rw [if_pos h]
    have t : ∀ a : ℕ, o ≤ a → (((k : ℝ) : EReal) = ((a : ℝ) : EReal) - ((o : ℝ) : EReal) ↔ k = a - o) := by
      intro a ha
      rw [← EReal.coe_sub, EReal.coe_eq_coe_iff, ← Nat.cast_sub ha, Nat.cast_inj]
    simp only [t _ ho, t _ (ho.trans hl)]
    rw [← E_mul, ← E_mul, ← E_add]
    unfold wt
    rw [hv, one_mul]
    simp only [ite_mul, one_mul, zero_mul]
  · rw [if_neg h]
    have hv : vN n s = 0 := by unfold vN; rw [if_neg h]
    unfold wt
    rw [hv, zero_mul, E_zero]

/-- A sample's coordinate along an axis. -/
def samp (a b : EReal) (s : ℕ) : EReal := a + (((s : ℝ) : EReal) + Ideal.ofBits FTy.f32 1056964608#32) * b

/-- Half of a bin's width, from a box's two edges. -/
def wid (a b : EReal) : EReal := Ideal.div (Ideal.div (max (b - a) 1) (Ideal.ofBits FTy.f32 1097859072#32)) (Ideal.ofBits FTy.f32 1073741824#32)

/-- The edges by way of the centre. -/
def edgeLo (a b : EReal) : EReal := Ideal.ofBits FTy.f32 1056964608#32 * (a + b) - Ideal.ofBits FTy.f32 1056964608#32 * (b - a)
def edgeHi (a b : EReal) : EReal := Ideal.ofBits FTy.f32 1056964608#32 * (a + b) + Ideal.ofBits FTy.f32 1056964608#32 * (b - a)

theorem edges (r t : ℝ) : edgeLo (r : EReal) (t : EReal) = (r : EReal) ∧ edgeHi (r : EReal) (t : EReal) = (t : EReal) := by
  unfold edgeLo edgeHi
  rw [bits_h]
  simp only [← EReal.coe_add, ← EReal.coe_sub, ← EReal.coe_mul]
  constructor <;> (congr 1; ring)

/-- A box's edge on the map. -/
def edge (x : EReal) : EReal := x * Ideal.ofBits FTy.f32 1048576000#32

theorem edge_coe {x : EReal} (h0 : ⊥ < x) (h1 : x < ⊤) : ∃ r : ℝ, edge x = (r : EReal) := by
  induction x using EReal.rec with
  | bot => exact absurd h0 (lt_irrefl _)
  | top => exact absurd h1 (lt_irrefl _)
  | coe r => exact ⟨r * ((1 / 4 : ℝ≥0) : ℝ), by unfold edge; rw [bits_q]; unfold E; rw [EReal.coe_mul]⟩

theorem on_num (n : ℕ) (s : EReal) [Decidable (((-1 : ℝ) : EReal) < s)] [Decidable (s < (((n + 1 : ℕ) : ℝ) : EReal))] :
    (FloatOps.uitofp FTy.f32 (IntOp.andi (BitVec.ofBool (decide (((-1 : ℝ) : EReal) < s))) (BitVec.ofBool (decide (s < (((n + 1 : ℕ) : ℝ) : EReal))))) : Ideal .f32) = E (vN n s) := by
  classical
  rw [andi_bool, ← Bool.decide_and]
  unfold vN On
  by_cases h : ((-1 : ℝ) : EReal) < s ∧ s < (((n + 1 : ℕ) : ℝ) : EReal)
  · rw [if_pos h, decide_eq_true h, E_one]
    show (((1#1 : BitVec 1).toNat : ℝ) : EReal) = 1
    simp
  · rw [if_neg h, decide_eq_false h, E_zero]
    show (((0#1 : BitVec 1).toNat : ℝ) : EReal) = 0
    simp

/-- A small natural, converted to a word. -/
theorem word_of (k : ℕ) (h : k < 2147483648) : Ideal.fptosi 32 ((k : ℝ) : EReal) = BitVec.ofNat 32 k := by
  show BitVec.ofInt 32 (max _ (min _ (if (0 : ℝ) ≤ (k : ℝ) then ⌊(k : ℝ)⌋ else ⌈(k : ℝ)⌉))) = _
  rw [if_pos (by positivity), Int.floor_natCast, min_eq_right (by norm_num; omega), max_eq_right (by first | omega | norm_num)]
  exact BitVec.ofInt_natCast 32 k

end Cert.Axis

end
-- ==== Proof.RefAt.lean ====
module

public import proofs.«01_k».proof.Proof.RefRun
public import proofs.«01_k».proof.Proof.Axis
public import Idealize.ShloMosaic.Lib.StableHlo.ReadAt
public import Idealize.ShloMosaic.Lib.Pipeline.ValueKit
public import Idealize.ShloMosaic.Lib.IdealHost

/-! # The reference's line, read at an index

Each buffer of interest, an element at a time, in the elements of the buffers it is computed from. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.StableHlo
open Idealize.SL.Sem

theorem after_app (l₁ l₂ : List (HloOp τ sig (Elt Ideal))) (W : Valuation τ sig (Elt Ideal)) : after (l₁ ++ l₂) W = after l₂ (after l₁ W) := by
  induction l₁ generalizing W with
  | nil => rfl
  | cons op l ih => exact ih _

theorem split (W : Valuation τ sig (Elt Ideal)) (k : ℕ) : ∃ X : Valuation τ sig (Elt Ideal), after (ops (F := Ideal)) W = after ((ops (F := Ideal)).drop k) X :=
  ⟨after ((ops (F := Ideal)).take k) W, by rw [← after_app, List.take_append_drop]⟩

/-- What the line leaves in a buffer. -/
abbrev R (W : Valuation τ sig (Elt Ideal)) (b : Ref sig .tc) := after (ops (F := Ideal)) W (Proc.devRef .tc b)

end Cert.ReferenceIdeal.Hand
end
-- ==== Proof.RefVal.lean ====
module

public import proofs.«01_k».proof.Proof.RefAt
public import proofs.«01_k».proof.Proof.Axis
public import Idealize.ShloMosaic.Lib.StableHlo.ReadAt
public import Idealize.ShloMosaic.Lib.Pipeline.ValueKit
public import Idealize.ShloMosaic.Lib.IdealHost

/-! # The samples of the reference

A sample's value from its four neighbours and weights, and the neighbours' index words. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.StableHlo
open Idealize.SL.Sem

variable (W : Valuation τ sig (Elt Ideal))

theorem r261 (n : Fin 256) (s t : Fin 30) (ch : Fin 256) : ((R W main_v261 : FVec Ideal S256x30x30x256 .f32) (ix4 n s t ch) : EReal) = ((show EReal from (R W main_v219 : FVec Ideal S256x30x30x256 .f32) (ix4 n s t ch)) + (show EReal from (R W main_v244 : FVec Ideal S256x30x30x256 .f32) (ix4 n s t ch)) * (@HMul.hMul EReal EReal EReal instHMul ((R W main_v94 : FVec Ideal S256x30 .f32) (ix2 n s)) ((R W main_v109 : FVec Ideal S256x30 .f32) (ix2 n t)))) * (@HMul.hMul EReal EReal EReal instHMul ((R W main_v97 : FVec Ideal S256x30 .f32) (ix2 n s)) ((R W main_v112 : FVec Ideal S256x30 .f32) (ix2 n t))) := by
  obtain ⟨X, hX⟩ := split W 315
  unfold R
  rw [hX]
  simp only [ops, List.drop, List.cons_append, List.nil_append]
  after_reads_at

theorem r219 (n : Fin 256) (s t : Fin 30) (ch : Fin 256) : ((R W main_v219 : FVec Ideal S256x30x30x256 .f32) (ix4 n s t ch) : EReal) = (show EReal from (R W main_v185 : FVec Ideal S256x30x30x256 .f32) (ix4 n s t ch)) + (show EReal from (R W main_v210 : FVec Ideal S256x30x30x256 .f32) (ix4 n s t ch)) * (@HMul.hMul EReal EReal EReal instHMul ((R W main_v94 : FVec Ideal S256x30 .f32) (ix2 n s)) ((R W main_v118 : FVec Ideal S256x30 .f32) (ix2 n t))) := by
  obtain ⟨X, hX⟩ := split W 275
  unfold R
  rw [hX]
  simp only [ops, List.drop, List.cons_append, List.nil_append]
  after_reads_at

theorem r185 (n : Fin 256) (s t : Fin 30) (ch : Fin 256) : ((R W main_v185 : FVec Ideal S256x30x30x256 .f32) (ix4 n s t ch) : EReal) = (show EReal from (R W main_v151 : FVec Ideal S256x30x30x256 .f32) (ix4 n s t ch)) + (show EReal from (R W main_v176 : FVec Ideal S256x30x30x256 .f32) (ix4 n s t ch)) * (@HMul.hMul EReal EReal EReal instHMul ((R W main_v116 : FVec Ideal S256x30 .f32) (ix2 n s)) ((R W main_v109 : FVec Ideal S256x30 .f32) (ix2 n t))) := by
  obtain ⟨X, hX⟩ := split W 235
  unfold R
  rw [hX]
  simp only [ops, List.drop, List.cons_append, List.nil_append]
  after_reads_at

theorem r151 (n : Fin 256) (s t : Fin 30) (ch : Fin 256) : ((R W main_v151 : FVec Ideal S256x30x30x256 .f32) (ix4 n s t ch) : EReal) = (show EReal from (R W main_v143 : FVec Ideal S256x30x30x256 .f32) (ix4 n s t ch)) * (@HMul.hMul EReal EReal EReal instHMul ((R W main_v116 : FVec Ideal S256x30 .f32) (ix2 n s)) ((R W main_v118 : FVec Ideal S256x30 .f32) (ix2 n t))) := by
  obtain ⟨X, hX⟩ := split W 196
  unfold R
  rw [hX]
  simp only [ops, List.drop, List.cons_append, List.nil_append]
  after_reads_at

theorem r139 (n : Fin 256) (s t : Fin 30) : ((R W main_v139 : IVec S256x30x30x1 32) (ix4 n s t 0) : BitVec 32) = Scalar.select (IntOp.cmpi .slt ((R W main_v114 : IVec S256x1x1 32) (ix3 n 0 0)) 0#32) (IntOp.addi ((R W main_v114 : IVec S256x1x1 32) (ix3 n 0 0)) 2#32) ((R W main_v114 : IVec S256x1x1 32) (ix3 n 0 0)) := by
  obtain ⟨X, hX⟩ := split W 159
  unfold R
  rw [hX]
  simp only [ops, List.drop, List.cons_append, List.nil_append]
  after_reads_at

theorem r140 (n : Fin 256) (s t : Fin 30) : ((R W main_v140 : IVec S256x30x30x1 32) (ix4 n s t 0) : BitVec 32) = Scalar.select (IntOp.cmpi .slt ((R W main_v95 : IVec S256x30 32) (ix2 n s)) 0#32) (IntOp.addi ((R W main_v95 : IVec S256x30 32) (ix2 n s)) 200#32) ((R W main_v95 : IVec S256x30 32) (ix2 n s)) := by
  obtain ⟨X, hX⟩ := split W 159
  unfold R
  rw [hX]
  simp only [ops, List.drop, List.cons_append, List.nil_append]
  after_reads_at

theorem r141 (n : Fin 256) (s t : Fin 30) : ((R W main_v141 : IVec S256x30x30x1 32) (ix4 n s t 0) : BitVec 32) = Scalar.select (IntOp.cmpi .slt ((R W main_v110 : IVec S256x30 32) (ix2 n t)) 0#32) (IntOp.addi ((R W main_v110 : IVec S256x30 32) (ix2 n t)) 272#32) ((R W main_v110 : IVec S256x30 32) (ix2 n t)) := by
  obtain ⟨X, hX⟩ := split W 159
  unfold R
  rw [hX]
  simp only [ops, List.drop, List.cons_append, List.nil_append]
  after_reads_at

theorem r172 (n : Fin 256) (s t : Fin 30) : ((R W main_v172 : IVec S256x30x30x1 32) (ix4 n s t 0) : BitVec 32) = Scalar.select (IntOp.cmpi .slt ((R W main_v114 : IVec S256x1x1 32) (ix3 n 0 0)) 0#32) (IntOp.addi ((R W main_v114 : IVec S256x1x1 32) (ix3 n 0 0)) 2#32) ((R W main_v114 : IVec S256x1x1 32) (ix3 n 0 0)) := by
  obtain ⟨X, hX⟩ := split W 196
  unfold R
  rw [hX]
  simp only [ops, List.drop, List.cons_append, List.nil_append]
  after_reads_at

theorem r173 (n : Fin 256) (s t : Fin 30) : ((R W main_v173 : IVec S256x30x30x1 32) (ix4 n s t 0) : BitVec 32) = Scalar.select (IntOp.cmpi .slt ((R W main_v95 : IVec S256x30 32) (ix2 n s)) 0#32) (IntOp.addi ((R W main_v95 : IVec S256x30 32) (ix2 n s)) 200#32) ((R W main_v95 : IVec S256x30 32) (ix2 n s)) := by
  obtain ⟨X, hX⟩ := split W 196
  unfold R
  rw [hX]
  simp only [ops, List.drop, List.cons_append, List.nil_append]
  after_reads_at

theorem r174 (n : Fin 256) (s t : Fin 30) : ((R W main_v174 : IVec S256x30x30x1 32) (ix4 n s t 0) : BitVec 32) = Scalar.select (IntOp.cmpi .slt ((R W main_v111 : IVec S256x30 32) (ix2 n t)) 0#32) (IntOp.addi ((R W main_v111 : IVec S256x30 32) (ix2 n t)) 272#32) ((R W main_v111 : IVec S256x30 32) (ix2 n t)) := by
  obtain ⟨X, hX⟩ := split W 196
  unfold R
  rw [hX]
  simp only [ops, List.drop, List.cons_append, List.nil_append]
  after_reads_at

theorem r206 (n : Fin 256) (s t : Fin 30) : ((R W main_v206 : IVec S256x30x30x1 32) (ix4 n s t 0) : BitVec 32) = Scalar.select (IntOp.cmpi .slt ((R W main_v114 : IVec S256x1x1 32) (ix3 n 0 0)) 0#32) (IntOp.addi ((R W main_v114 : IVec S256x1x1 32) (ix3 n 0 0)) 2#32) ((R W main_v114 : IVec S256x1x1 32) (ix3 n 0 0)) := by
  obtain ⟨X, hX⟩ := split W 235
  unfold R
  rw [hX]
  simp only [ops, List.drop, List.cons_append, List.nil_append]
  after_reads_at

theorem r207 (n : Fin 256) (s t : Fin 30) : ((R W main_v207 : IVec S256x30x30x1 32) (ix4 n s t 0) : BitVec 32) = Scalar.select (IntOp.cmpi .slt ((R W main_v96 : IVec S256x30 32) (ix2 n s)) 0#32) (IntOp.addi ((R W main_v96 : IVec S256x30 32) (ix2 n s)) 200#32) ((R W main_v96 : IVec S256x30 32) (ix2 n s)) := by
  obtain ⟨X, hX⟩ := split W 235
  unfold R
  rw [hX]
  simp only [ops, List.drop, List.cons_append, List.nil_append]
  after_reads_at

theorem r208 (n : Fin 256) (s t : Fin 30) : ((R W main_v208 : IVec S256x30x30x1 32) (ix4 n s t 0) : BitVec 32) = Scalar.select (IntOp.cmpi .slt ((R W main_v110 : IVec S256x30 32) (ix2 n t)) 0#32) (IntOp.addi ((R W main_v110 : IVec S256x30 32) (ix2 n t)) 272#32) ((R W main_v110 : IVec S256x30 32) (ix2 n t)) := by
  obtain ⟨X, hX⟩ := split W 235
  unfold R
  rw [hX]
  simp only [ops, List.drop, List.cons_append, List.nil_append]
  after_reads_at

theorem r240 (n : Fin 256) (s t : Fin 30) : ((R W main_v240 : IVec S256x30x30x1 32) (ix4 n s t 0) : BitVec 32) = Scalar.select (IntOp.cmpi .slt ((R W main_v114 : IVec S256x1x1 32) (ix3 n 0 0)) 0#32) (IntOp.addi ((R W main_v114 : IVec S256x1x1 32) (ix3 n 0 0)) 2#32) ((R W main_v114 : IVec S256x1x1 32) (ix3 n 0 0)) := by
  obtain ⟨X, hX⟩ := split W 275
  unfold R
  rw [hX]
  simp only [ops, List.drop, List.cons_append, List.nil_append]
  after_reads_at

theorem r241 (n : Fin 256) (s t : Fin 30) : ((R W main_v241 : IVec S256x30x30x1 32) (ix4 n s t 0) : BitVec 32) = Scalar.select (IntOp.cmpi .slt ((R W main_v96 : IVec S256x30 32) (ix2 n s)) 0#32) (IntOp.addi ((R W main_v96 : IVec S256x30 32) (ix2 n s)) 200#32) ((R W main_v96 : IVec S256x30 32) (ix2 n s)) := by
  obtain ⟨X, hX⟩ := split W 275
  unfold R
  rw [hX]
  simp only [ops, List.drop, List.cons_append, List.nil_append]
  after_reads_at

theorem r242 (n : Fin 256) (s t : Fin 30) : ((R W main_v242 : IVec S256x30x30x1 32) (ix4 n s t 0) : BitVec 32) = Scalar.select (IntOp.cmpi .slt ((R W main_v111 : IVec S256x30 32) (ix2 n t)) 0#32) (IntOp.addi ((R W main_v111 : IVec S256x30 32) (ix2 n t)) 272#32) ((R W main_v111 : IVec S256x30 32) (ix2 n t)) := by
  obtain ⟨X, hX⟩ := split W 275
  unfold R
  rw [hX]
  simp only [ops, List.drop, List.cons_append, List.nil_append]
  after_reads_at

end Cert.ReferenceIdeal.Hand
end
-- ==== Proof.RefCat.lean ====
module

public import proofs.«01_k».proof.Proof.RefAt
public import proofs.«01_k».proof.Proof.Axis
public import Idealize.ShloMosaic.Lib.StableHlo.ReadAt
public import Idealize.ShloMosaic.Lib.Pipeline.ValueKit
public import Idealize.ShloMosaic.Lib.IdealHost

/-! # The neighbours of the reference's samples

The three index words put side by side, and the features they pick. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.StableHlo
open Idealize.SL.Sem

variable (W : Valuation τ sig (Elt Ideal))

theorem r142 : (R W main_v142 : IVec S256x30x30x3 32) = concatenate S256x30x30x3 3 [⟨S256x30x30x1, (R W main_v139 : IVec S256x30x30x1 32)⟩, ⟨S256x30x30x1, (R W main_v140 : IVec S256x30x30x1 32)⟩, ⟨S256x30x30x1, (R W main_v141 : IVec S256x30x30x1 32)⟩] concatenates_S256x30x30x1_S256x30x30x1_S256x30x30x1_S256x30x30x3_d3 := by
  obtain ⟨X, hX⟩ := split W 194
  unfold R
  rw [hX]
  simp only [ops, List.drop, List.cons_append, List.nil_append]
  after_reads_simp
  rfl

theorem r143 : (R W main_v143 : FVec Ideal S256x30x30x256 .f32) = Host.gather gather_S2x200x272x256_S256x30x30x3_S256x30x30x256_3_012_n_n_012_3_111256 (R W main_v113 : FVec Ideal S2x200x272x256 .f32) (R W main_v142 : IVec S256x30x30x3 32) := by
  obtain ⟨X, hX⟩ := split W 195
  unfold R
  rw [hX]
  simp only [ops, List.drop, List.cons_append, List.nil_append]
  after_reads_simp

theorem r175 : (R W main_v175 : IVec S256x30x30x3 32) = concatenate S256x30x30x3 3 [⟨S256x30x30x1, (R W main_v172 : IVec S256x30x30x1 32)⟩, ⟨S256x30x30x1, (R W main_v173 : IVec S256x30x30x1 32)⟩, ⟨S256x30x30x1, (R W main_v174 : IVec S256x30x30x1 32)⟩] concatenates_S256x30x30x1_S256x30x30x1_S256x30x30x1_S256x30x30x3_d3 := by
  obtain ⟨X, hX⟩ := split W 233
  unfold R
  rw [hX]
  simp only [ops, List.drop, List.cons_append, List.nil_append]
  after_reads_simp
  rfl

theorem r176 : (R W main_v176 : FVec Ideal S256x30x30x256 .f32) = Host.gather gather_S2x200x272x256_S256x30x30x3_S256x30x30x256_3_012_n_n_012_3_111256 (R W main_v113 : FVec Ideal S2x200x272x256 .f32) (R W main_v175 : IVec S256x30x30x3 32) := by
  obtain ⟨X, hX⟩ := split W 234
  unfold R
  rw [hX]
  simp only [ops, List.drop, List.cons_append, List.nil_append]
  after_reads_simp

theorem r209 : (R W main_v209 : IVec S256x30x30x3 32) = concatenate S256x30x30x3 3 [⟨S256x30x30x1, (R W main_v206 : IVec S256x30x30x1 32)⟩, ⟨S256x30x30x1, (R W main_v207 : IVec S256x30x30x1 32)⟩, ⟨S256x30x30x1, (R W main_v208 : IVec S256x30x30x1 32)⟩] concatenates_S256x30x30x1_S256x30x30x1_S256x30x30x1_S256x30x30x3_d3 := by
  obtain ⟨X, hX⟩ := split W 273
  unfold R
  rw [hX]
  simp only [ops, List.drop, List.cons_append, List.nil_append]
  after_reads_simp
  rfl

theorem r210 : (R W main_v210 : FVec Ideal S256x30x30x256 .f32) = Host.gather gather_S2x200x272x256_S256x30x30x3_S256x30x30x256_3_012_n_n_012_3_111256 (R W main_v113 : FVec Ideal S2x200x272x256 .f32) (R W main_v209 : IVec S256x30x30x3 32) := by
  obtain ⟨X, hX⟩ := split W 274
  unfold R
  rw [hX]
  simp only [ops, List.drop, List.cons_append, List.nil_append]
  after_reads_simp

theorem r243 : (R W main_v243 : IVec S256x30x30x3 32) = concatenate S256x30x30x3 3 [⟨S256x30x30x1, (R W main_v240 : IVec S256x30x30x1 32)⟩, ⟨S256x30x30x1, (R W main_v241 : IVec S256x30x30x1 32)⟩, ⟨S256x30x30x1, (R W main_v242 : IVec S256x30x30x1 32)⟩] concatenates_S256x30x30x1_S256x30x30x1_S256x30x30x1_S256x30x30x3_d3 := by
  obtain ⟨X, hX⟩ := split W 313
  unfold R
  rw [hX]
  simp only [ops, List.drop, List.cons_append, List.nil_append]
  after_reads_simp
  rfl

theorem r244 : (R W main_v244 : FVec Ideal S256x30x30x256 .f32) = Host.gather gather_S2x200x272x256_S256x30x30x3_S256x30x30x256_3_012_n_n_012_3_111256 (R W main_v113 : FVec Ideal S2x200x272x256 .f32) (R W main_v243 : IVec S256x30x30x3 32) := by
  obtain ⟨X, hX⟩ := split W 314
  unfold R
  rw [hX]
  simp only [ops, List.drop, List.cons_append, List.nil_append]
  after_reads_simp

end Cert.ReferenceIdeal.Hand
end
-- ==== Proof.RefBase.lean ====
module

public import proofs.«01_k».proof.Proof.RefAt
public import proofs.«01_k».proof.Proof.Axis
public import Idealize.ShloMosaic.Lib.StableHlo.ReadAt
public import Idealize.ShloMosaic.Lib.Pipeline.ValueKit
public import Idealize.ShloMosaic.Lib.IdealHost

/-! # The reference's sample positions

Positions, weights, neighbours and image numbers, from the boxes. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.StableHlo
open Idealize.SL.Sem

variable (W : Valuation τ sig (Elt Ideal))

theorem r94 (n : Fin 256) (s : Fin 30) : ((R W main_v94 : FVec Ideal S256x30 .f32) (ix2 n s) : EReal) = Axis.cl (Ideal.ofBits FTy.f32 1128726528#32) ((R W main_v82 : FVec Ideal S256x30 .f32) (ix2 n s)) - Axis.lo (Ideal.ofBits FTy.f32 1128726528#32) ((R W main_v82 : FVec Ideal S256x30 .f32) (ix2 n s)) := by
  obtain ⟨X, hX⟩ := split W 105
  unfold R
  rw [hX]
  simp only [ops, List.drop, List.cons_append, List.nil_append]
  after_reads_at
  have hz : (id (constant (F := Ideal) S_ FTy.f32 0#32) ix0 : Ideal .f32) = 0 := Ideal.ofBits_zero_f32
  rw [hz]
  rfl

theorem r109 (n : Fin 256) (s : Fin 30) : ((R W main_v109 : FVec Ideal S256x30 .f32) (ix2 n s) : EReal) = Axis.cl (Ideal.ofBits FTy.f32 1132953600#32) ((R W main_v70 : FVec Ideal S256x30 .f32) (ix2 n s)) - Axis.lo (Ideal.ofBits FTy.f32 1132953600#32) ((R W main_v70 : FVec Ideal S256x30 .f32) (ix2 n s)) := by
  obtain ⟨X, hX⟩ := split W 105
  unfold R
  rw [hX]
  simp only [ops, List.drop, List.cons_append, List.nil_append]
  after_reads_at
  have hz : (id (constant (F := Ideal) S_ FTy.f32 0#32) ix0 : Ideal .f32) = 0 := Ideal.ofBits_zero_f32
  rw [hz]
  rfl

theorem r116 (n : Fin 256) (s : Fin 30) : ((R W main_v116 : FVec Ideal S256x30 .f32) (ix2 n s) : EReal) = (1 : EReal) - (R W main_v94 : FVec Ideal S256x30 .f32) (ix2 n s) := by
  obtain ⟨X, hX⟩ := split W 158
  unfold R
  rw [hX]
  simp only [ops, List.drop, List.cons_append, List.nil_append]
  after_reads_at

theorem r118 (n : Fin 256) (s : Fin 30) : ((R W main_v118 : FVec Ideal S256x30 .f32) (ix2 n s) : EReal) = (1 : EReal) - (R W main_v109 : FVec Ideal S256x30 .f32) (ix2 n s) := by
  obtain ⟨X, hX⟩ := split W 158
  unfold R
  rw [hX]
  simp only [ops, List.drop, List.cons_append, List.nil_append]
  after_reads_at

theorem r97 (n : Fin 256) (s : Fin 30) : ((R W main_v97 : FVec Ideal S256x30 .f32) (ix2 n s) : EReal) = Sums.E (Axis.vN 199 ((R W main_v82 : FVec Ideal S256x30 .f32) (ix2 n s))) := by
  obtain ⟨X, hX⟩ := split W 105
  unfold R
  rw [hX]
  simp only [ops, List.drop, List.cons_append, List.nil_append]
  after_reads_at
  rw [Axis.bits_m1, Axis.bits_200]
  exact Axis.on_num 199 _

theorem r112 (n : Fin 256) (s : Fin 30) : ((R W main_v112 : FVec Ideal S256x30 .f32) (ix2 n s) : EReal) = Sums.E (Axis.vN 271 ((R W main_v70 : FVec Ideal S256x30 .f32) (ix2 n s))) := by
  obtain ⟨X, hX⟩ := split W 105
  unfold R
  rw [hX]
  simp only [ops, List.drop, List.cons_append, List.nil_append]
  after_reads_at
  rw [Axis.bits_m1, Axis.bits_272]
  exact Axis.on_num 271 _

theorem r95 (n : Fin 256) (s : Fin 30) : ((R W main_v95 : IVec S256x30 32) (ix2 n s) : BitVec 32) = Ideal.fptosi 32 (Axis.lo (Ideal.ofBits FTy.f32 1128726528#32) ((R W main_v82 : FVec Ideal S256x30 .f32) (ix2 n s))) := by
  obtain ⟨X, hX⟩ := split W 105
  unfold R
  rw [hX]
  simp only [ops, List.drop, List.cons_append, List.nil_append]
  after_reads_at
  have hz : (id (constant (F := Ideal) S_ FTy.f32 0#32) ix0 : Ideal .f32) = 0 := Ideal.ofBits_zero_f32
  rw [hz]
  rfl

theorem r96 (n : Fin 256) (s : Fin 30) : ((R W main_v96 : IVec S256x30 32) (ix2 n s) : BitVec 32) = Ideal.fptosi 32 (Axis.hi (Ideal.ofBits FTy.f32 1128726528#32) ((R W main_v82 : FVec Ideal S256x30 .f32) (ix2 n s))) := by
  obtain ⟨X, hX⟩ := split W 105
  unfold R
  rw [hX]
  simp only [ops, List.drop, List.cons_append, List.nil_append]
  after_reads_at
  have hz : (id (constant (F := Ideal) S_ FTy.f32 0#32) ix0 : Ideal .f32) = 0 := Ideal.ofBits_zero_f32
  rw [hz]
  rfl

theorem r110 (n : Fin 256) (s : Fin 30) : ((R W main_v110 : IVec S256x30 32) (ix2 n s) : BitVec 32) = Ideal.fptosi 32 (Axis.lo (Ideal.ofBits FTy.f32 1132953600#32) ((R W main_v70 : FVec Ideal S256x30 .f32) (ix2 n s))) := by
  obtain ⟨X, hX⟩ := split W 105
  unfold R
  rw [hX]
  simp only [ops, List.drop, List.cons_append, List.nil_append]
  after_reads_at
  have hz : (id (constant (F := Ideal) S_ FTy.f32 0#32) ix0 : Ideal .f32) = 0 := Ideal.ofBits_zero_f32
  rw [hz]
  rfl

theorem r111 (n : Fin 256) (s : Fin 30) : ((R W main_v111 : IVec S256x30 32) (ix2 n s) : BitVec 32) = Ideal.fptosi 32 (Axis.hi (Ideal.ofBits FTy.f32 1132953600#32) ((R W main_v70 : FVec Ideal S256x30 .f32) (ix2 n s))) := by
  obtain ⟨X, hX⟩ := split W 105
  unfold R
  rw [hX]
  simp only [ops, List.drop, List.cons_append, List.nil_append]
  after_reads_at
  have hz : (id (constant (F := Ideal) S_ FTy.f32 0#32) ix0 : Ideal .f32) = 0 := Ideal.ofBits_zero_f32
  rw [hz]
  rfl

theorem r114 (n : Fin 256) : ((R W main_v114 : IVec S256x1x1 32) (ix3 n 0 0) : BitVec 32) = Ideal.fptosi 32 ((R W main_arg1 : FVec Ideal S256x5 .f32) (ix2 n 0)) := by
  obtain ⟨X, hX⟩ := split W 0
  unfold R
  rw [hX]
  simp only [ops, List.drop, List.cons_append, List.nil_append]
  after_reads_at
  rfl

theorem r113 (b : Fin 2) (y : Fin 200) (x : Fin 272) (ch : Fin 256) : ((R W main_v113 : FVec Ideal S2x200x272x256 .f32) (ix4 b y x ch) : EReal) = (R W main_arg0 : FVec Ideal S2x256x200x272 .f32) (ix4 b ch y x) := by
  obtain ⟨X, hX⟩ := split W 0
  unfold R
  rw [hX]
  simp only [ops, List.drop, List.cons_append, List.nil_append]
  after_reads_at

theorem r82 (n : Fin 256) (s : Fin 30) : ((R W main_v82 : FVec Ideal S256x30 .f32) (ix2 n s) : EReal) = Axis.samp (Axis.edgeLo (Axis.edge ((R W main_arg1 : FVec Ideal S256x5 .f32) (ix2 n 2))) (Axis.edge ((R W main_arg1 : FVec Ideal S256x5 .f32) (ix2 n 4)))) (Axis.wid (Axis.edgeLo (Axis.edge ((R W main_arg1 : FVec Ideal S256x5 .f32) (ix2 n 2))) (Axis.edge ((R W main_arg1 : FVec Ideal S256x5 .f32) (ix2 n 4)))) (Axis.edgeHi (Axis.edge ((R W main_arg1 : FVec Ideal S256x5 .f32) (ix2 n 2))) (Axis.edge ((R W main_arg1 : FVec Ideal S256x5 .f32) (ix2 n 4))))) s.val := by
  obtain ⟨X, hX⟩ := split W 0
  unfold R
  rw [hX]
  simp only [ops, List.drop, List.cons_append, List.nil_append]
  after_reads_at
  rw [Axis.word_num _ (show s.val < 2147483648 by omega)]
  rfl

theorem r70 (n : Fin 256) (s : Fin 30) : ((R W main_v70 : FVec Ideal S256x30 .f32) (ix2 n s) : EReal) = Axis.samp (Axis.edgeLo (Axis.edge ((R W main_arg1 : FVec Ideal S256x5 .f32) (ix2 n 1))) (Axis.edge ((R W main_arg1 : FVec Ideal S256x5 .f32) (ix2 n 3)))) (Axis.wid (Axis.edgeLo (Axis.edge ((R W main_arg1 : FVec Ideal S256x5 .f32) (ix2 n 1))) (Axis.edge ((R W main_arg1 : FVec Ideal S256x5 .f32) (ix2 n 3)))) (Axis.edgeHi (Axis.edge ((R W main_arg1 : FVec Ideal S256x5 .f32) (ix2 n 1))) (Axis.edge ((R W main_arg1 : FVec Ideal S256x5 .f32) (ix2 n 3))))) s.val := by
  obtain ⟨X, hX⟩ := split W 0
  unfold R
  rw [hX]
  simp only [ops, List.drop, List.cons_append, List.nil_append]
  after_reads_at
  rw [Axis.word_num _ (show s.val < 2147483648 by omega)]
  rfl

end Cert.ReferenceIdeal.Hand
end
-- ==== Proof.RefPick.lean ====
module

public import proofs.«01_k».proof.Proof.RefAt
public import proofs.«01_k».proof.Proof.Axis
public import Idealize.ShloMosaic.Lib.StableHlo.ReadAt
public import Idealize.ShloMosaic.Lib.Pipeline.ValueKit
public import Idealize.ShloMosaic.Lib.IdealHost

/-! # The reference's results

Gathers, joins and sums read at an index. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.StableHlo
open Idealize.SL.Sem

theorem gather_at (x : S2x200x272x256.Idx → Ideal .f32) (idx : IVec S256x30x30x3 32) (n : Fin 256) (s t : Fin 30) (ch : Fin 256) :
    Host.gather gather_S2x200x272x256_S256x30x30x3_S256x30x30x256_3_012_n_n_012_3_111256 x idx (ix4 n s t ch)
      = x (ix4 (⟨min (idx (ix4 n s t 0)).toInt.toNat 1, by omega⟩ : Fin 2) (⟨min (idx (ix4 n s t 1)).toInt.toNat 199, by omega⟩ : Fin 200) (⟨min (idx (ix4 n s t 2)).toInt.toNat 271, by omega⟩ : Fin 272) ch) := by
  unfold Host.gather
  congr 1
  funext a
  refine Fin.ext ?_
  generalize hg : gather_S2x200x272x256_S256x30x30x3_S256x30x30x256_3_012_n_n_012_3_111256 = g
  have e1 : g.collapsedSliceDims = [0, 1, 2] := by subst hg; rfl
  have e2 : g.operandBatchingDims = [] := by subst hg; rfl
  have e3 : g.startIndexMap = [0, 1, 2] := by subst hg; rfl
  show g.start (ix4 n s t ch) idx a + g.batchCoord (ix4 n s t ch) a + g.offCoord (ix4 n s t ch) a = _
  rw [GatherDims.batchCoord_eq_zero _ _ _ (by rw [e2]; exact List.not_mem_nil)]
  have key : ∀ (l : Fin 4) (hl : l ∈ g.startIndexMap) (hc : l ∈ g.collapsedSliceDims) (w : BitVec 32) (hw : idx (g.siIdx (ix4 n s t ch) ⟨List.idxOf l g.startIndexMap, List.idxOf_lt_length_of_mem hl⟩) = w), g.start (ix4 n s t ch) idx l + 0 + g.offCoord (ix4 n s t ch) l = min w.toInt.toNat (S2x200x272x256.size l - g.sliceSizes l) := by
    intro l hl hc w hw
    rw [GatherDims.offCoord_eq_zero _ _ _ (fun h => ((GatherDims.mem_sKept _ _).mp h).1 hc)]
    simp only [Nat.add_zero]
    unfold GatherDims.start
    rw [dif_pos hl]
    rw [hw]
  match a with
  | ⟨0, _⟩ =>
    refine (key 0 (by rw [e3]; decide) (by rw [e1]; decide) (idx (ix4 n s t 0)) ?_).trans ?_
    · subst hg
      congr 1
      funext b; refine Fin.ext ?_
      match b with
      | ⟨0, _⟩ => rfl
      | ⟨1, _⟩ => rfl
      | ⟨2, _⟩ => rfl
      | ⟨3, _⟩ => rfl
    · subst hg; rfl
  | ⟨1, _⟩ =>
    refine (key 1 (by rw [e3]; decide) (by rw [e1]; decide) (idx (ix4 n s t 1)) ?_).trans ?_
    · subst hg
      congr 1
      funext b; refine Fin.ext ?_
      match b with
      | ⟨0, _⟩ => rfl
      | ⟨1, _⟩ => rfl
      | ⟨2, _⟩ => rfl
      | ⟨3, _⟩ => rfl
    · subst hg; rfl
  | ⟨2, _⟩ =>
    refine (key 2 (by rw [e3]; decide) (by rw [e1]; decide) (idx (ix4 n s t 2)) ?_).trans ?_
    · subst hg
      congr 1
      funext b; refine Fin.ext ?_
      match b with
      | ⟨0, _⟩ => rfl
      | ⟨1, _⟩ => rfl
      | ⟨2, _⟩ => rfl
      | ⟨3, _⟩ => rfl
    · subst hg; rfl
  | ⟨3, _⟩ =>
    have h3 : g.start (ix4 n s t ch) idx (3 : Fin 4) = 0 := by
      unfold GatherDims.start
      exact dif_neg (show ¬ (3 : Fin 4) ∈ g.startIndexMap by rw [e3]; decide)
    refine (congrArg (fun z => z + 0 + g.offCoord (ix4 n s t ch) (3 : Fin 4)) h3).trans ?_
    have h4 : g.offCoord (ix4 n s t ch) (3 : Fin 4) = ch.val := by
      unfold GatherDims.offCoord
      rw [dif_pos ((GatherDims.mem_sKept _ _).mpr ⟨by rw [e1]; decide, by rw [e2]; exact List.not_mem_nil⟩)]
      subst hg
      rfl
    rw [Nat.zero_add]
    exact h4

theorem cat_at (x y z : IVec S256x30x30x1 32) (h) (n : Fin 256) (s t : Fin 30) :
    concatenate S256x30x30x3 3 [⟨S256x30x30x1, x⟩, ⟨S256x30x30x1, y⟩, ⟨S256x30x30x1, z⟩] h (ix4 n s t 0) = x (ix4 n s t 0)
    ∧ concatenate S256x30x30x3 3 [⟨S256x30x30x1, x⟩, ⟨S256x30x30x1, y⟩, ⟨S256x30x30x1, z⟩] h (ix4 n s t 1) = y (ix4 n s t 0)
    ∧ concatenate S256x30x30x3 3 [⟨S256x30x30x1, x⟩, ⟨S256x30x30x1, y⟩, ⟨S256x30x30x1, z⟩] h (ix4 n s t 2) = z (ix4 n s t 0) := by
  refine ⟨?_, ?_, ?_⟩
  · pointwise []
  · pointwise []
  · pointwise []

end Cert.ReferenceIdeal.Hand
end
-- ==== Proof.RefSum.lean ====
module

public import proofs.«01_k».proof.Proof.RefAt
public import proofs.«01_k».proof.Proof.Axis
public import Idealize.ShloMosaic.Lib.StableHlo.ReadAt
public import Idealize.ShloMosaic.Lib.Pipeline.ValueKit
public import Idealize.ShloMosaic.Lib.IdealHost

/-! # The reference's results

Gathers, joins and sums read at an index. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.StableHlo
open Idealize.SL.Sem

variable (W : Valuation τ sig (Elt Ideal))

/-- Dividing by four. -/
theorem div4 (x : EReal) : Ideal.div x (Ideal.ofBits FTy.f32 1082130432#32) = Sums.E (1 / 4) * x := by
  rw [Axis.bits_4]
  rw [Ideal.div_coe (by norm_num), mul_comm]
  unfold Sums.E
  congr 2

theorem red_at (x : S256x15x2x15x2x256.Idx → EReal) (n : Fin 256) (i j : Fin 15) (ch : Fin 256) :
    (Ideal.hostReduceAdd reducesTo_S256x15x2x15x2x256_S256x15x15x256_d2_4 x 0 (ix4 n i j ch) : EReal)
      = ∑ a : Fin 2, ∑ b : Fin 2, x (fun k => match k with | 0 => n | 1 => i | 2 => a | 3 => j | 4 => b | 5 => ch) := by
  unfold Ideal.hostReduceAdd
  rw [zero_add, ← Finset.sum_product']
  refine (Finset.sum_nbij' (fun k : S256x15x2x15x2x256.Idx => ((k 2 : Fin 2), (k 4 : Fin 2))) (fun ab => fun k => match k with | 0 => n | 1 => i | 2 => ab.1 | 3 => j | 4 => ab.2 | 5 => ch) ?_ ?_ ?_ ?_ ?_)
  · intro k hk; exact Finset.mem_univ _
  · rintro ⟨a, b⟩ hk
    rw [Finset.mem_filter]
    refine ⟨Finset.mem_univ _, ?_⟩
    funext (y : Fin 4)
    match y with
    | 0 => rfl
    | 1 => rfl
    | 2 => rfl
    | 3 => rfl
  · intro k hk
    rw [Finset.mem_filter] at hk
    have h := hk.2
    have h0 : (k 0 : Fin 256) = n := congrFun h (0 : Fin 4)
    have h1 : (k 1 : Fin 15) = i := congrFun h (1 : Fin 4)
    have h3 : (k 3 : Fin 15) = j := congrFun h (2 : Fin 4)
    have h5 : (k 5 : Fin 256) = ch := congrFun h (3 : Fin 4)
    funext (y : Fin 6)
    match y with
    | 0 => exact h0.symm
    | 1 => exact h1.symm
    | 2 => rfl
    | 3 => exact h3.symm
    | 4 => rfl
    | 5 => exact h5.symm
  · rintro ⟨a, b⟩ hk; rfl
  · intro k hk
    rw [Finset.mem_filter] at hk
    have h := hk.2
    have h0 : (k 0 : Fin 256) = n := congrFun h (0 : Fin 4)
    have h1 : (k 1 : Fin 15) = i := congrFun h (1 : Fin 4)
    have h3 : (k 3 : Fin 15) = j := congrFun h (2 : Fin 4)
    have h5 : (k 5 : Fin 256) = ch := congrFun h (3 : Fin 4)
    congr 1
    funext (y : Fin 6)
    match y with
    | 0 => exact h0
    | 1 => exact h1
    | 2 => rfl
    | 3 => exact h3
    | 4 => rfl
    | 5 => exact h5

theorem r275 (n : Fin 256) (ch : Fin 256) (p q : Fin 14) (f : ℕ → ℕ → EReal)
    (hf : ∀ s t : Fin 30, ((R W main_v261 : FVec Ideal S256x30x30x256 .f32) (ix4 n s t ch) : EReal) = f s.val t.val) :
    ((R W main_v275 : FVec Ideal S256x256x14x14 .f32) (ix4 n ch p q) : EReal)
      = let A := fun i j : ℕ => Sums.E (1 / 4) * (f (2 * i) (2 * j) + f (2 * i) (2 * j + 1) + f (2 * i + 1) (2 * j) + f (2 * i + 1) (2 * j + 1))
        Sums.E (1 / 4) * (A p.val q.val + A (p.val + 1) q.val + A p.val (q.val + 1) + A (p.val + 1) (q.val + 1)) := by
  obtain ⟨X, hX⟩ := split W 332
  have h261 : R W main_v261 = X main_v261 := by
    unfold R
    rw [hX]
    simp only [ops, List.drop, List.cons_append, List.nil_append]
    after_reads_simp
  rw [h261] at hf
  unfold R
  rw [hX]
  simp only [ops, List.drop, List.cons_append, List.nil_append]
  after_reads_at
  have hA : ∀ i j : Fin 15, (Ideal.div
              (Ideal.hostReduceAdd reducesTo_S256x15x2x15x2x256_S256x15x15x256_d2_4
                (fun i : S256x15x2x15x2x256.Idx =>
                  (X (Proc.tc.devRef main_v261) : FVec Ideal S256x30x30x256 .f32) (ix4 (i 0) (⟨(i 1).val * 2 + (i 2).val, by have h1 : (i 1).val < 15 := (i 1).isLt; have h2 : (i 2).val < 2 := (i 2).isLt; omega⟩ : Fin 30) (⟨(i 3).val * 2 + (i 4).val, by have h1 : (i 3).val < 15 := (i 3).isLt; have h2 : (i 4).val < 2 := (i 4).isLt; omega⟩ : Fin 30) (i 5)))
                0 (ix4 n i j ch))
              (Ideal.ofBits FTy.f32 1082130432#32) : EReal) = Sums.E (1 / 4) * (f (2 * i.val) (2 * j.val) + f (2 * i.val) (2 * j.val + 1) + f (2 * i.val + 1) (2 * j.val) + f (2 * i.val + 1) (2 * j.val + 1)) := by
    intro i j
    rw [red_at, Fin.sum_univ_two, Fin.sum_univ_two, Fin.sum_univ_two, div4]
    have e : ∀ (a b : Fin 2) (h1 : i.val * 2 + a.val < 30) (h2 : j.val * 2 + b.val < 30), ((X (Proc.tc.devRef main_v261) : FVec Ideal S256x30x30x256 .f32) (ix4 n (⟨i.val * 2 + a.val, h1⟩ : Fin 30) (⟨j.val * 2 + b.val, h2⟩ : Fin 30) ch) : EReal) = f (2 * i.val + a.val) (2 * j.val + b.val) := by
      intro a b h1 h2
      rw [Nat.mul_comm 2 i.val, Nat.mul_comm 2 j.val]
      exact hf ⟨_, h1⟩ ⟨_, h2⟩
    have h1 := i.isLt
    have h2 := j.isLt
    have e00 := e 0 0 (by show i.val * 2 + 0 < 30; omega) (by show j.val * 2 + 0 < 30; omega)
    have e01 := e 0 1 (by show i.val * 2 + 0 < 30; omega) (by show j.val * 2 + 1 < 30; omega)
    have e10 := e 1 0 (by show i.val * 2 + 1 < 30; omega) (by show j.val * 2 + 0 < 30; omega)
    have e11 := e 1 1 (by show i.val * 2 + 1 < 30; omega) (by show j.val * 2 + 1 < 30; omega)
    have g : ∀ {a b c d a' b' c' d' : EReal}, a = a' → b = b' → c = c' → d = d' → Sums.E (1 / 4) * (a + b + (c + d)) = Sums.E (1 / 4) * (a' + b' + c' + d') := by
      rintro a b c d _ _ _ _ rfl rfl rfl rfl
      rw [← add_assoc]
    exact g e00 e01 e10 e11
  have g : ∀ {a b c d a' b' c' d' : EReal}, a = a' → b = b' → c = c' → d = d' → Ideal.ofBits FTy.f32 1048576000#32 * (a + b + c + d) = Sums.E (1 / 4) * (a' + b' + c' + d') := by
    rintro a b c d _ _ _ _ rfl rfl rfl rfl
    rw [Axis.bits_q]
  have hp := p.isLt
  have hq := q.isLt
  refine g ?_ ?_ ?_ ?_
  · exact hA ⟨p.val, by omega⟩ ⟨q.val, by omega⟩
  · refine (hA ⟨1 + p.val, by omega⟩ ⟨q.val, by omega⟩).trans ?_
    simp only [Nat.add_comm 1 p.val]
  · refine (hA ⟨p.val, by omega⟩ ⟨1 + q.val, by omega⟩).trans ?_
    simp only [Nat.add_comm 1 q.val]
  · refine (hA ⟨1 + p.val, by omega⟩ ⟨1 + q.val, by omega⟩).trans ?_
    simp only [Nat.add_comm 1 p.val, Nat.add_comm 1 q.val]

end Cert.ReferenceIdeal.Hand
end
-- ==== Proof.Mean.lean ====
module

public import proofs.«01_k».proof.Proof.Axis

/-! # A cell's mean

A sample as the weighted sum of its four neighbours, and a result as the mean of four bins of four samples. -/

@[expose] public section

noncomputable section

namespace Cert.Axis

open Idealize.ShloMosaic Cert.Sums

/-- A sample, from its four neighbours. -/
def nbr (F : ℕ → ℕ → EReal) (zy zx : EReal) : EReal :=
  E (vN 199 zy * vN 271 zx) * (E (w0 199 zy * w0 271 zx) * F (lN 199 zy) (lN 271 zx) + E (w0 199 zy * w1 271 zx) * F (lN 199 zy) (hN 271 zx)
    + E (w1 199 zy * w0 271 zx) * F (hN 199 zy) (lN 271 zx) + E (w1 199 zy * w1 271 zx) * F (hN 199 zy) (hN 271 zx))

/-- The mean of four samples. -/
def quad (f : ℕ → ℕ → EReal) (i j : ℕ) : EReal :=
  E (1 / 4) * (f (2 * i) (2 * j) + f (2 * i) (2 * j + 1) + f (2 * i + 1) (2 * j) + f (2 * i + 1) (2 * j + 1))

/-- The mean of four bins. -/
def mean (f : ℕ → ℕ → EReal) (p q : ℕ) : EReal :=
  E (1 / 4) * (quad f p q + quad f (p + 1) q + quad f p (q + 1) + quad f (p + 1) (q + 1))

theorem mean_congr (f g : ℕ → ℕ → EReal) (h : ∀ s t, s < 30 → t < 30 → f s t = g s t) (p q : ℕ) (hp : p < 14) (hq : q < 14) : mean f p q = mean g p q := by
  have e : ∀ i j, i < 15 → j < 15 → quad f i j = quad g i j := by
    intro i j hi hj
    unfold quad
    rw [h _ _ (by omega) (by omega), h _ _ (by omega) (by omega), h _ _ (by omega) (by omega), h _ _ (by omega) (by omega)]
  unfold mean
  rw [e _ _ (by omega) (by omega), e _ _ (by omega) (by omega), e _ _ (by omega) (by omega), e _ _ (by omega) (by omega)]

theorem wt_zero (v a0 a1 : NNReal) (a b x n : ℕ) (h : v ≠ 0 → a < n ∧ b < n) (hx : n ≤ x) : wt v a0 a1 a b x = 0 := by
  unfold wt
  by_cases hv : v = 0
  · rw [hv, zero_mul]
  · obtain ⟨h1, h2⟩ := h hv
    rw [if_neg (by omega), if_neg (by omega), add_zero, mul_zero]

theorem bin_zero (p s : ℕ) (hp : p < 14) (hs : 30 ≤ s) : bin p s = 0 := by
  unfold bin
  rw [if_neg (by omega)]

end Cert.Axis

end
-- ==== Proof.RefOut.lean ====
module

public import proofs.«01_k».proof.Proof.RefVal
public import proofs.«01_k».proof.Proof.RefCat
public import proofs.«01_k».proof.Proof.RefBase
public import proofs.«01_k».proof.Proof.RefPick
public import proofs.«01_k».proof.Proof.RefSum
public import proofs.«01_k».proof.Proof.Mean
public import proofs.«01_k».proof.Proof.Axis
public import Idealize.ShloMosaic.Lib.StableHlo.ReadAt
public import Idealize.ShloMosaic.Lib.Pipeline.ValueKit
public import Idealize.ShloMosaic.Lib.IdealHost

/-! # The reference's results, from its arguments

Each result as the mean of its samples. -/

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.StableHlo
open Idealize.SL.Sem

theorem wrap {v z : BitVec 32} {k : ℕ} (e : v = BitVec.ofNat 32 k) (h : k < 1000) : Scalar.select (IntOp.cmpi .slt v 0#32) (IntOp.addi v z) v = BitVec.ofNat 32 k := by
  subst e
  unfold Scalar.select
  refine if_neg fun hc => ?_
  have h1 := IntOp.cmpi_slt.1 hc
  rw [BitVec.toInt_eq_toNat_cond, BitVec.toNat_ofNat, Nat.mod_eq_of_lt (by omega), if_pos (by omega)] at h1
  have h2 : (0#32 : BitVec 32).toInt = 0 := by decide
  omega

theorem word_nat (k b : ℕ) (h : k ≤ b) (hb : b < 1000) : min (BitVec.ofNat 32 k).toInt.toNat b = k := by
  rw [BitVec.toInt_eq_toNat_cond, BitVec.toNat_ofNat, Nat.mod_eq_of_lt (by omega), if_pos (by omega)]
  omega

theorem gat (x : S2x200x272x256.Idx → Ideal .f32) (idx : IVec S256x30x30x3 32) (n : Fin 256) (s t : Fin 30) (ch : Fin 256) (b y z : ℕ) (hb : b < 2) (hy : y < 200) (hz : z < 272)
    (h0 : idx (ix4 n s t 0) = BitVec.ofNat 32 b) (h1 : idx (ix4 n s t 1) = BitVec.ofNat 32 y) (h2 : idx (ix4 n s t 2) = BitVec.ofNat 32 z) :
    Host.gather gather_S2x200x272x256_S256x30x30x3_S256x30x30x256_3_012_n_n_012_3_111256 x idx (ix4 n s t ch) = x (ix4 (⟨b, hb⟩ : Fin 2) (⟨y, hy⟩ : Fin 200) (⟨z, hz⟩ : Fin 272) ch) := by
  rw [gather_at]
  congr 1
  have e0 : (⟨min (idx (ix4 n s t 0)).toInt.toNat 1, by omega⟩ : Fin 2) = ⟨b, hb⟩ := Fin.ext (by show min _ _ = b; rw [h0]; exact word_nat b 1 (by omega) (by omega))
  have e1 : (⟨min (idx (ix4 n s t 1)).toInt.toNat 199, by omega⟩ : Fin 200) = ⟨y, hy⟩ := Fin.ext (by show min _ _ = y; rw [h1]; exact word_nat y 199 (by omega) (by omega))
  have e2 : (⟨min (idx (ix4 n s t 2)).toInt.toNat 271, by omega⟩ : Fin 272) = ⟨z, hz⟩ := Fin.ext (by show min _ _ = z; rw [h2]; exact word_nat z 271 (by omega) (by omega))
  rw [e0, e1, e2]

theorem alg {a219 a244 a185 a210 a151 a176 a143 b94 b109 b116 b118 b97 b112 f00 f01 f10 f11 : EReal} {wy0 wy1 wx0 wx1 vy vx : NNReal}
    (h219 : a219 = a185 + a210 * (b94 * b118)) (h185 : a185 = a151 + a176 * (b116 * b109)) (h151 : a151 = a143 * (b116 * b118))
    (h94 : b94 = Sums.E wy1) (h109 : b109 = Sums.E wx1) (h116 : b116 = Sums.E wy0) (h118 : b118 = Sums.E wx0) (h97 : b97 = Sums.E vy) (h112 : b112 = Sums.E vx)
    (h143 : a143 = f00) (h176 : a176 = f01) (h210 : a210 = f10) (h244 : a244 = f11) :
    (a219 + a244 * (b94 * b109)) * (b97 * b112) = Sums.E (vy * vx) * (Sums.E (wy0 * wx0) * f00 + Sums.E (wy0 * wx1) * f01 + Sums.E (wy1 * wx0) * f10 + Sums.E (wy1 * wx1) * f11) := by
  subst h143 h176 h210 h244 h219 h185 h151 h94 h109 h116 h118 h97 h112
  simp only [← Sums.E_mul]
  rw [mul_comm _ (Sums.E (vy * vx)), mul_comm a143, mul_comm a176, mul_comm a210, mul_comm a244]

variable (W : Valuation τ sig (Elt Ideal))

theorem n143 (n : Fin 256) (s t : Fin 30) (ch : Fin 256) (b : ℕ) (hb : b < 2) (hw : Ideal.fptosi 32 ((R W main_arg1 : FVec Ideal S256x5 .f32) (ix2 n 0)) = BitVec.ofNat 32 b)
    (zy zx : EReal) (hzy : ((R W main_v82 : FVec Ideal S256x30 .f32) (ix2 n s) : EReal) = zy) (hzx : ((R W main_v70 : FVec Ideal S256x30 .f32) (ix2 n t) : EReal) = zx)
    (F : ℕ → ℕ → EReal) (hF : ∀ (y : Fin 200) (x : Fin 272), ((R W main_arg0 : FVec Ideal S2x256x200x272 .f32) (ix4 (⟨b, hb⟩ : Fin 2) ch y x) : EReal) = F y.val x.val) :
    ((R W main_v143 : FVec Ideal S256x30x30x256 .f32) (ix4 n s t ch) : EReal) = F (Axis.lN 199 zy) (Axis.lN 271 zx) := by
  obtain ⟨el, eh, -, -, h1, h2⟩ := Axis.spec 199 zy
  obtain ⟨fl, fh, -, -, g1, g2⟩ := Axis.spec 271 zx
  have ey : ((R W main_v95 : IVec S256x30 32) (ix2 n s) : BitVec 32) = BitVec.ofNat 32 (Axis.lN 199 zy) := by
    rw [r95, Axis.bits_199, hzy, el]
    exact Axis.word_of _ (by omega)
  have ex : ((R W main_v110 : IVec S256x30 32) (ix2 n t) : BitVec 32) = BitVec.ofNat 32 (Axis.lN 271 zx) := by
    rw [r110, Axis.bits_271, hzx, fl]
    exact Axis.word_of _ (by omega)
  have eb : ((R W main_v114 : IVec S256x1x1 32) (ix3 n 0 0) : BitVec 32) = BitVec.ofNat 32 b := (r114 W n).trans hw
  refine (congrFun (r143 W) (ix4 n s t ch)).trans ?_
  refine (gat _ _ n s t ch b (Axis.lN 199 zy) (Axis.lN 271 zx) hb (by omega) (by omega) ?_ ?_ ?_).trans ?_
  · exact (congrFun (r142 W) _).trans ((cat_at _ _ _ _ n s t).1.trans ((r139 W n s t).trans (wrap eb (by omega))))
  · exact (congrFun (r142 W) _).trans ((cat_at _ _ _ _ n s t).2.1.trans ((r140 W n s t).trans (wrap ey (by omega))))
  · exact (congrFun (r142 W) _).trans ((cat_at _ _ _ _ n s t).2.2.trans ((r141 W n s t).trans (wrap ex (by omega))))
  · exact (r113 W _ _ _ ch).trans (hF _ _)

theorem n176 (n : Fin 256) (s t : Fin 30) (ch : Fin 256) (b : ℕ) (hb : b < 2) (hw : Ideal.fptosi 32 ((R W main_arg1 : FVec Ideal S256x5 .f32) (ix2 n 0)) = BitVec.ofNat 32 b)
    (zy zx : EReal) (hzy : ((R W main_v82 : FVec Ideal S256x30 .f32) (ix2 n s) : EReal) = zy) (hzx : ((R W main_v70 : FVec Ideal S256x30 .f32) (ix2 n t) : EReal) = zx)
    (F : ℕ → ℕ → EReal) (hF : ∀ (y : Fin 200) (x : Fin 272), ((R W main_arg0 : FVec Ideal S2x256x200x272 .f32) (ix4 (⟨b, hb⟩ : Fin 2) ch y x) : EReal) = F y.val x.val) :
    ((R W main_v176 : FVec Ideal S256x30x30x256 .f32) (ix4 n s t ch) : EReal) = F (Axis.lN 199 zy) (Axis.hN 271 zx) := by
  obtain ⟨el, eh, -, -, h1, h2⟩ := Axis.spec 199 zy
  obtain ⟨fl, fh, -, -, g1, g2⟩ := Axis.spec 271 zx
  have ey : ((R W main_v95 : IVec S256x30 32) (ix2 n s) : BitVec 32) = BitVec.ofNat 32 (Axis.lN 199 zy) := by
    rw [r95, Axis.bits_199, hzy, el]
    exact Axis.word_of _ (by omega)
  have ex : ((R W main_v111 : IVec S256x30 32) (ix2 n t) : BitVec 32) = BitVec.ofNat 32 (Axis.hN 271 zx) := by
    rw [r111, Axis.bits_271, hzx, fh]
    exact Axis.word_of _ (by omega)
  have eb : ((R W main_v114 : IVec S256x1x1 32) (ix3 n 0 0) : BitVec 32) = BitVec.ofNat 32 b := (r114 W n).trans hw
  refine (congrFun (r176 W) (ix4 n s t ch)).trans ?_
  refine (gat _ _ n s t ch b (Axis.lN 199 zy) (Axis.hN 271 zx) hb (by omega) (by omega) ?_ ?_ ?_).trans ?_
  · exact (congrFun (r175 W) _).trans ((cat_at _ _ _ _ n s t).1.trans ((r172 W n s t).trans (wrap eb (by omega))))
  · exact (congrFun (r175 W) _).trans ((cat_at _ _ _ _ n s t).2.1.trans ((r173 W n s t).trans (wrap ey (by omega))))
  · exact (congrFun (r175 W) _).trans ((cat_at _ _ _ _ n s t).2.2.trans ((r174 W n s t).trans (wrap ex (by omega))))
  · exact (r113 W _ _ _ ch).trans (hF _ _)

theorem n210 (n : Fin 256) (s t : Fin 30) (ch : Fin 256) (b : ℕ) (hb : b < 2) (hw : Ideal.fptosi 32 ((R W main_arg1 : FVec Ideal S256x5 .f32) (ix2 n 0)) = BitVec.ofNat 32 b)
    (zy zx : EReal) (hzy : ((R W main_v82 : FVec Ideal S256x30 .f32) (ix2 n s) : EReal) = zy) (hzx : ((R W main_v70 : FVec Ideal S256x30 .f32) (ix2 n t) : EReal) = zx)
    (F : ℕ → ℕ → EReal) (hF : ∀ (y : Fin 200) (x : Fin 272), ((R W main_arg0 : FVec Ideal S2x256x200x272 .f32) (ix4 (⟨b, hb⟩ : Fin 2) ch y x) : EReal) = F y.val x.val) :
    ((R W main_v210 : FVec Ideal S256x30x30x256 .f32) (ix4 n s t ch) : EReal) = F (Axis.hN 199 zy) (Axis.lN 271 zx) := by
  obtain ⟨el, eh, -, -, h1, h2⟩ := Axis.spec 199 zy
  obtain ⟨fl, fh, -, -, g1, g2⟩ := Axis.spec 271 zx
  have ey : ((R W main_v96 : IVec S256x30 32) (ix2 n s) : BitVec 32) = BitVec.ofNat 32 (Axis.hN 199 zy) := by
    rw [r96, Axis.bits_199, hzy, eh]
    exact Axis.word_of _ (by omega)
  have ex : ((R W main_v110 : IVec S256x30 32) (ix2 n t) : BitVec 32) = BitVec.ofNat 32 (Axis.lN 271 zx) := by
    rw [r110, Axis.bits_271, hzx, fl]
    exact Axis.word_of _ (by omega)
  have eb : ((R W main_v114 : IVec S256x1x1 32) (ix3 n 0 0) : BitVec 32) = BitVec.ofNat 32 b := (r114 W n).trans hw
  refine (congrFun (r210 W) (ix4 n s t ch)).trans ?_
  refine (gat _ _ n s t ch b (Axis.hN 199 zy) (Axis.lN 271 zx) hb (by omega) (by omega) ?_ ?_ ?_).trans ?_
  · exact (congrFun (r209 W) _).trans ((cat_at _ _ _ _ n s t).1.trans ((r206 W n s t).trans (wrap eb (by omega))))
  · exact (congrFun (r209 W) _).trans ((cat_at _ _ _ _ n s t).2.1.trans ((r207 W n s t).trans (wrap ey (by omega))))
  · exact (congrFun (r209 W) _).trans ((cat_at _ _ _ _ n s t).2.2.trans ((r208 W n s t).trans (wrap ex (by omega))))
  · exact (r113 W _ _ _ ch).trans (hF _ _)

theorem n244 (n : Fin 256) (s t : Fin 30) (ch : Fin 256) (b : ℕ) (hb : b < 2) (hw : Ideal.fptosi 32 ((R W main_arg1 : FVec Ideal S256x5 .f32) (ix2 n 0)) = BitVec.ofNat 32 b)
    (zy zx : EReal) (hzy : ((R W main_v82 : FVec Ideal S256x30 .f32) (ix2 n s) : EReal) = zy) (hzx : ((R W main_v70 : FVec Ideal S256x30 .f32) (ix2 n t) : EReal) = zx)
    (F : ℕ → ℕ → EReal) (hF : ∀ (y : Fin 200) (x : Fin 272), ((R W main_arg0 : FVec Ideal S2x256x200x272 .f32) (ix4 (⟨b, hb⟩ : Fin 2) ch y x) : EReal) = F y.val x.val) :
    ((R W main_v244 : FVec Ideal S256x30x30x256 .f32) (ix4 n s t ch) : EReal) = F (Axis.hN 199 zy) (Axis.hN 271 zx) := by
  obtain ⟨el, eh, -, -, h1, h2⟩ := Axis.spec 199 zy
  obtain ⟨fl, fh, -, -, g1, g2⟩ := Axis.spec 271 zx
  have ey : ((R W main_v96 : IVec S256x30 32) (ix2 n s) : BitVec 32) = BitVec.ofNat 32 (Axis.hN 199 zy) := by
    rw [r96, Axis.bits_199, hzy, eh]
    exact Axis.word_of _ (by omega)
  have ex : ((R W main_v111 : IVec S256x30 32) (ix2 n t) : BitVec 32) = BitVec.ofNat 32 (Axis.hN 271 zx) := by
    rw [r111, Axis.bits_271, hzx, fh]
    exact Axis.word_of _ (by omega)
  have eb : ((R W main_v114 : IVec S256x1x1 32) (ix3 n 0 0) : BitVec 32) = BitVec.ofNat 32 b := (r114 W n).trans hw
  refine (congrFun (r244 W) (ix4 n s t ch)).trans ?_
  refine (gat _ _ n s t ch b (Axis.hN 199 zy) (Axis.hN 271 zx) hb (by omega) (by omega) ?_ ?_ ?_).trans ?_
  · exact (congrFun (r243 W) _).trans ((cat_at _ _ _ _ n s t).1.trans ((r240 W n s t).trans (wrap eb (by omega))))
  · exact (congrFun (r243 W) _).trans ((cat_at _ _ _ _ n s t).2.1.trans ((r241 W n s t).trans (wrap ey (by omega))))
  · exact (congrFun (r243 W) _).trans ((cat_at _ _ _ _ n s t).2.2.trans ((r242 W n s t).trans (wrap ex (by omega))))
  · exact (r113 W _ _ _ ch).trans (hF _ _)

theorem samp_at (n : Fin 256) (s t : Fin 30) (ch : Fin 256) (b : ℕ) (hb : b < 2) (hw : Ideal.fptosi 32 ((R W main_arg1 : FVec Ideal S256x5 .f32) (ix2 n 0)) = BitVec.ofNat 32 b)
    (zy zx : EReal) (hzy : ((R W main_v82 : FVec Ideal S256x30 .f32) (ix2 n s) : EReal) = zy) (hzx : ((R W main_v70 : FVec Ideal S256x30 .f32) (ix2 n t) : EReal) = zx)
    (F : ℕ → ℕ → EReal) (hF : ∀ (y : Fin 200) (x : Fin 272), ((R W main_arg0 : FVec Ideal S2x256x200x272 .f32) (ix4 (⟨b, hb⟩ : Fin 2) ch y x) : EReal) = F y.val x.val) :
    ((R W main_v261 : FVec Ideal S256x30x30x256 .f32) (ix4 n s t ch) : EReal) = Axis.nbr F zy zx := by
  obtain ⟨-, -, ew1, ew0, -, -⟩ := Axis.spec 199 zy
  obtain ⟨-, -, fw1, fw0, -, -⟩ := Axis.spec 271 zx
  have e94 := r94 W n s
  rw [Axis.bits_199, hzy] at e94
  have e109 := r109 W n t
  rw [Axis.bits_271, hzx] at e109
  have e116 : ((R W main_v116 : FVec Ideal S256x30 .f32) (ix2 n s) : EReal) = Sums.E (Axis.w0 199 zy) := (r116 W n s).trans ((congrArg (fun z : EReal => 1 - z) e94).trans ew0)
  have e118 : ((R W main_v118 : FVec Ideal S256x30 .f32) (ix2 n t) : EReal) = Sums.E (Axis.w0 271 zx) := (r118 W n t).trans ((congrArg (fun z : EReal => 1 - z) e109).trans fw0)
  have e97 := r97 W n s
  rw [hzy] at e97
  have e112 := r112 W n t
  rw [hzx] at e112
  exact (r261 W n s t ch).trans (alg (r219 W n s t ch) (r185 W n s t ch) (r151 W n s t ch) (e94.trans ew1) (e109.trans fw1) e116 e118 e97 e112
    (n143 W n s t ch b hb hw zy zx hzy hzx F hF) (n176 W n s t ch b hb hw zy zx hzy hzx F hF) (n210 W n s t ch b hb hw zy zx hzy hzx F hF) (n244 W n s t ch b hb hw zy zx hzy hzx F hF))

theorem ref_at (n ch : Fin 256) (p q : Fin 14) (rois : Fin 5 → EReal) (hr : ∀ j, ((R W main_arg1 : FVec Ideal S256x5 .f32) (ix2 n j) : EReal) = rois j)
    (hfin : ∀ j, (⊥ : EReal) < rois j ∧ rois j < (⊤ : EReal)) (b : ℕ) (hb : b < 2) (hw : Ideal.fptosi 32 (rois 0) = BitVec.ofNat 32 b)
    (F : ℕ → ℕ → EReal) (hF : ∀ (y : Fin 200) (x : Fin 272), ((R W main_arg0 : FVec Ideal S2x256x200x272 .f32) (ix4 (⟨b, hb⟩ : Fin 2) ch y x) : EReal) = F y.val x.val) :
    ((R W main_v275 : FVec Ideal S256x256x14x14 .f32) (ix4 n ch p q) : EReal)
      = Axis.mean (fun s t => Axis.nbr F (Axis.samp (Axis.edge (rois 2)) (Axis.wid (Axis.edge (rois 2)) (Axis.edge (rois 4))) s) (Axis.samp (Axis.edge (rois 1)) (Axis.wid (Axis.edge (rois 1)) (Axis.edge (rois 3))) t)) p.val q.val := by
  obtain ⟨r1, e1⟩ := Axis.edge_coe (hfin 1).1 (hfin 1).2
  obtain ⟨r2, e2⟩ := Axis.edge_coe (hfin 2).1 (hfin 2).2
  obtain ⟨r3, e3⟩ := Axis.edge_coe (hfin 3).1 (hfin 3).2
  obtain ⟨r4, e4⟩ := Axis.edge_coe (hfin 4).1 (hfin 4).2
  generalize hf : (fun s t : ℕ => Axis.nbr F (Axis.samp (Axis.edge (rois 2)) (Axis.wid (Axis.edge (rois 2)) (Axis.edge (rois 4))) s) (Axis.samp (Axis.edge (rois 1)) (Axis.wid (Axis.edge (rois 1)) (Axis.edge (rois 3))) t)) = f
  have key : ∀ s t : Fin 30, ((R W main_v261 : FVec Ideal S256x30x30x256 .f32) (ix4 n s t ch) : EReal) = f s.val t.val := ?_
  · have h := r275 W n ch p q f key
    unfold Axis.mean Axis.quad
    exact h
  intro s t
  subst hf
  refine samp_at W n s t ch b hb ((congrArg (Ideal.fptosi 32) (hr 0)).trans hw) _ _ ?_ ?_ F hF
  · refine (r82 W n s).trans ?_
    rw [hr 2, hr 4, e2, e4, (Axis.edges r2 r4).1, (Axis.edges r2 r4).2]
  · refine (r70 W n t).trans ?_
    rw [hr 1, hr 3, e1, e3, (Axis.edges r1 r3).1, (Axis.edges r1 r3).2]

end Cert.ReferenceIdeal.Hand

end
-- ==== Proof.Fit.lean ====
module

public import proofs.«01_k».proof.Pre_windows_fit
public import proofs.«01_k».proof.Proof.Axis
public import Idealize.ShloMosaic.Lib.ReduceAll
public import Idealize.ShloMosaic.Lib.Affine
public import Idealize.ShloMosaic.Lib.Pipeline.ValueKit
public import Idealize.ShloMosaic.Lib.StableHlo.ReadAt

/-! # The precondition of the value claim, read

What the precondition says of each box: its image number is in range, its numbers are finite, and the samples
that count have their neighbours inside the box's window. -/

@[expose] public section

set_option maxRecDepth 65536

noncomputable section

namespace Cert.Fit

open Idealize.ShloMosaic Cert.Pre_windows_fit Cert.Axis Cert.Sums

/-- The shape relations the precondition takes. -/
instance facts : Cert.Pre_windows_fit.Facts where
  slices_S256x5_S256x1_0_0 := by decide
  shapeCasts_S256x1_S256 := by decide
  slices_S256x5_S256x1_0_1 := by decide
  bcast_S_S256 := by decide
  slices_S256x5_S256x1_0_2 := by decide
  slices_S256x5_S256x1_0_3 := by decide
  slices_S256x5_S256x1_0_4 := by decide
  bcast_S256_S256x1_0 := by decide
  bcast_S30_S1x30_1 := by decide
  bcast_S_S1x30 := by decide
  bcast_S_S256x1 := by decide
  bcast_S1x30_S256x30_0_1 := by decide
  bcast_S256x1_S256x30_0_1 := by decide
  bcast_S_S256x30 := by decide
  reducesTo_S256x30_S256_d1 := by decide
  h_S_ := by decide
  reducesTo_S256_S_d0 := by decide
  bcast_S_S256x5 := by decide
  reducesTo_S256x5_S_d0_1 := by decide
  reducesTo_S256x30_S_d0_1 := by decide

open Cert.Pre_windows_fit.Facts

theorem rows_of {n : ℕ} {s p : EReal} [Decidable (p = 0)] (hp : p = E (vN n s)) (hon : On n s) {a b c d : BitVec 32}
    (h : IntOp.ori (BitVec.ofBool (decide (p = 0))) (IntOp.andi (IntOp.cmpi .sge a b) (IntOp.cmpi .slt c d)) = 1#1) : b.toInt ≤ a.toInt ∧ c.toInt < d.toInt := by
  have e : vN n s = 1 := if_pos hon
  have hne : ¬ p = 0 := by rw [hp, e, E_one]; exact one_ne_zero
  rw [decide_eq_false hne] at h
  have h' : IntOp.andi (IntOp.cmpi .sge a b) (IntOp.cmpi .slt c d) = 1#1 := by
    rw [← h]; show _ = (0#1 ||| _); simp
  obtain ⟨c1, c2⟩ := IntOp.andi_eq_one.1 h'
  exact ⟨IntOp.cmpi_sge.1 c1, IntOp.cmpi_slt.1 c2⟩

theorem part7_at (a1 : FVec Ideal S256x5 .f32) (v2 v89 v91 v99 v104 : IVec S256 32) (v117 : FVec Ideal S256x30 .f32) (v118 : FVec Ideal S256x1 .f32)
    (v121 : FVec Ideal S1x30 .f32) (v122 : FVec Ideal S256x1 .f32) (h : fn_part7 (F := Ideal) a1 v2 v89 v91 v99 v104 v117 v118 v121 v122 = fun _ => 1#1)
    (n : Fin 256) (s : Fin 30) (j : Fin 5) (sy : EReal) (hsy : sy = v118 (ix2 n 0) + v121 (ix2 0 s) * Ideal.div (v122 (ix2 n 0)) (Ideal.ofBits .f32 1073741824#32)) :
    (0 ≤ (v2 (ix1 n)).toInt ∧ (v2 (ix1 n)).toInt < 2) ∧ ((⊥ : EReal) < a1 (ix2 n j) ∧ a1 (ix2 n j) < (⊤ : EReal))
      ∧ (On 199 sy → (v89 (ix1 n)).toInt ≤ (Ideal.fptosi 32 (lo ((199 : ℕ) : ℝ) sy)).toInt ∧ (Ideal.fptosi 32 (hi ((199 : ℕ) : ℝ) sy)).toInt < (IntOp.addi (v89 (ix1 n)) (v99 (ix1 n))).toInt)
      ∧ (On 271 (v117 (ix2 n s)) → (v91 (ix1 n)).toInt ≤ (Ideal.fptosi 32 (lo ((271 : ℕ) : ℝ) (v117 (ix2 n s)))).toInt ∧ (Ideal.fptosi 32 (hi ((271 : ℕ) : ℝ) (v117 (ix2 n s)))).toInt < (IntOp.addi (v91 (ix1 n)) (v104 (ix1 n))).toInt) := by
  dsimp only [fn_part7, fn_part8, fn_part9, fn_part10, fn_part11] at h
  have h0 := congrFun h (fun a => a.elim0)
  obtain ⟨h1, hx⟩ := IntOp.andi_eq_one.1 h0
  obtain ⟨h2, hy⟩ := IntOp.andi_eq_one.1 h1
  obtain ⟨hb, hf⟩ := IntOp.andi_eq_one.1 h2
  have hx1 := Host.reduce_andi_all _ _ _ _ _ hx (ix2 n s)
  have hy1 := Host.reduce_andi_all _ _ _ _ _ hy (ix2 n s)
  have hf1 := Host.reduce_andi_all _ _ _ _ _ hf (ix2 n j)
  have hb1 := Host.reduce_andi_all _ _ _ _ _ hb (ix1 n)
  clear h0 h1 h2 hx hy hf hb h
  refine ⟨?_, ?_, ?_, ?_⟩
  · obtain ⟨c1, c2⟩ := IntOp.andi_eq_one.1 hb1
    exact ⟨IntOp.cmpi_sge.1 c1, IntOp.cmpi_slt.1 c2⟩
  · clear hx1 hy1
    revert hf1
    pointwise []
    intro hf1
    rw [andi_bool, ← Bool.decide_and, show Ideal.ofBits FTy.f32 4286578688#32 = (⊥ : EReal) by simp [Ideal.ofBits, Ideal.ieee], show Ideal.ofBits FTy.f32 2139095040#32 = (⊤ : EReal) by simp [Ideal.ofBits, Ideal.ieee]] at hf1
    by_contra hc
    rw [decide_eq_false hc] at hf1
    exact absurd hf1 (by decide)
  · clear hx1 hf1
    revert hy1
    pointwise [fn_clip]
    rw [← hsy]
    intro h hon
    have hz : (id (constant (F := Ideal) S_ FTy.f32 0#32) ix0 : Ideal .f32) = 0 := Ideal.ofBits_zero_f32
    have hm : (id (constant (F := Ideal) S_ FTy.f32 1128726528#32) ix0 : Ideal .f32) = ((199 : ℕ) : ℝ) := bits_199
    rw [hz, hm, bits_199] at h
    refine rows_of ?_ hon h
    rw [bits_m1, bits_200]
    exact on_num 199 _
  · clear hy1 hf1
    revert hx1
    pointwise [fn_clip]
    skip
    intro h hon
    have hz : (id (constant (F := Ideal) S_ FTy.f32 0#32) ix0 : Ideal .f32) = 0 := Ideal.ofBits_zero_f32
    have hm : (id (constant (F := Ideal) S_ FTy.f32 1132953600#32) ix0 : Ideal .f32) = ((271 : ℕ) : ℝ) := bits_271
    rw [hz, hm, bits_271] at h
    refine rows_of ?_ hon h
    rw [bits_m1, bits_272]
    exact on_num 271 _

theorem part7_at' (a1 : FVec Ideal S256x5 .f32) (v2 v89 v91 v99 v104 : IVec S256 32) (v117 : FVec Ideal S256x30 .f32) (v118 : FVec Ideal S256x1 .f32)
    (v121 : FVec Ideal S1x30 .f32) (v122 : FVec Ideal S256x1 .f32) (h : fn_part7 (F := Ideal) a1 v2 v89 v91 v99 v104 v117 v118 v121 v122 = fun _ => 1#1)
    (n : Fin 256) (s : Fin 30) (j : Fin 5) (sy sx : EReal) (hsy : sy = v118 (ix2 n 0) + v121 (ix2 0 s) * Ideal.div (v122 (ix2 n 0)) (Ideal.ofBits .f32 1073741824#32)) (hsx : sx = v117 (ix2 n s)) :
    (0 ≤ (v2 (ix1 n)).toInt ∧ (v2 (ix1 n)).toInt < 2) ∧ ((⊥ : EReal) < a1 (ix2 n j) ∧ a1 (ix2 n j) < (⊤ : EReal))
      ∧ (On 199 sy → (v89 (ix1 n)).toInt ≤ (Ideal.fptosi 32 (lo ((199 : ℕ) : ℝ) sy)).toInt ∧ (Ideal.fptosi 32 (hi ((199 : ℕ) : ℝ) sy)).toInt < (IntOp.addi (v89 (ix1 n)) (v99 (ix1 n))).toInt)
      ∧ (On 271 sx → (v91 (ix1 n)).toInt ≤ (Ideal.fptosi 32 (lo ((271 : ℕ) : ℝ) sx)).toInt ∧ (Ideal.fptosi 32 (hi ((271 : ℕ) : ℝ) sx)).toInt < (IntOp.addi (v91 (ix1 n)) (v104 (ix1 n))).toInt) := by
  subst hsx
  exact part7_at a1 v2 v89 v91 v99 v104 v117 v118 v121 v122 h n s j sy hsy

/-- The window's bounds for one box and one sample, from the check. -/
theorem part6_at (a1 : FVec Ideal S256x5 .f32) (v2 : IVec S256 32) (v6 v10 v26 v28 : FVec Ideal S256 .f32) (v89 v91 v99 v103 : IVec S256 32)
    (h : fn_part6 (F := Ideal) a1 v2 v6 v10 v26 v28 v89 v91 v99 v103 = fun _ => 1#1) (n : Fin 256) (s : Fin 30) (j : Fin 5) (sy sx : EReal)
    (hy : sy = samp (v10 (ix1 n)) (Ideal.div (v28 (ix1 n)) (Ideal.ofBits .f32 1073741824#32)) s.val) (hx : sx = samp (v6 (ix1 n)) (Ideal.div (v26 (ix1 n)) (Ideal.ofBits .f32 1073741824#32)) s.val) :
    (0 ≤ (v2 (ix1 n)).toInt ∧ (v2 (ix1 n)).toInt < 2) ∧ ((⊥ : EReal) < a1 (ix2 n j) ∧ a1 (ix2 n j) < (⊤ : EReal))
      ∧ (On 199 sy → (v89 (ix1 n)).toInt ≤ (Ideal.fptosi 32 (lo ((199 : ℕ) : ℝ) sy)).toInt ∧ (Ideal.fptosi 32 (hi ((199 : ℕ) : ℝ) sy)).toInt < (IntOp.addi (v89 (ix1 n)) (v99 (ix1 n))).toInt)
      ∧ (On 271 sx → (v91 (ix1 n)).toInt ≤ (Ideal.fptosi 32 (lo ((271 : ℕ) : ℝ) sx)).toInt ∧ (Ideal.fptosi 32 (hi ((271 : ℕ) : ℝ) sx)).toInt < (IntOp.addi (v91 (ix1 n)) (IntOp.minsi 106#32 (IntOp.maxsi 1#32 (v103 (ix1 n))))).toInt) := by
  dsimp only [fn_part6] at h
  refine part7_at' _ _ _ _ _ _ _ _ _ _ h n s j sy sx ?_ ?_
  · subst hy
    unfold samp
    rw [← word_num s.val (by have := s.isLt; omega)]
    pointwise []
  · subst hx
    unfold samp
    rw [← word_num s.val (by have := s.isLt; omega)]
    pointwise []

end Cert.Fit

end
-- ==== Proof.FitV.lean ====
module

public import proofs.«01_k».proof.Proof.Words
public import proofs.«01_k».proof.Proof.Fit
public import Idealize.ShloMosaic.Lib.StableHlo.ReadAt

/-! # The precondition in the host's words

The precondition computes what the host lines before the call compute: its windows are the words the call's tables hold. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline Idealize.ShloMosaic.StableHlo
open Idealize.SL Idealize.SL.RA Idealize.SL.BI Idealize.SL.Sem

variable (m : (ℓ : Loc nD τ sig) → Buf (Elt Ideal) ℓ)

theorem pre4 (c : Dev nD) : Cert.Pre_windows_fit.fn (F := Ideal) (m ((c.tc : Thread nD τ).loc main_arg0)) (m ((c.tc : Thread nD τ).loc main_arg1))
    = Cert.Pre_windows_fit.fn_part4 (F := Ideal) (m ((c.tc : Thread nD τ).loc main_arg1)) (V m c (Proc.devRef .tc main_v2)) (V m c (Proc.devRef .tc main_v6)) (V m c (Proc.devRef .tc main_v10)) (V m c (Proc.devRef .tc main_v26)) (V m c (Proc.devRef .tc main_v28)) (V m c (Proc.devRef .tc main_v42)) (V m c (Proc.devRef .tc main_v66)) (V m c (Proc.devRef .tc main_v67)) (V m c (Proc.devRef .tc main_v74)) (constant Cert.Pre_windows_fit.S_ .f32 0#32) := by
  unfold V
  after_reads_simp
  rfl

set_option maxHeartbeats 1500000 in
theorem pre5 (c : Dev nD) : Cert.Pre_windows_fit.fn_part4 (F := Ideal) (m ((c.tc : Thread nD τ).loc main_arg1)) (V m c (Proc.devRef .tc main_v2)) (V m c (Proc.devRef .tc main_v6)) (V m c (Proc.devRef .tc main_v10)) (V m c (Proc.devRef .tc main_v26)) (V m c (Proc.devRef .tc main_v28)) (V m c (Proc.devRef .tc main_v42)) (V m c (Proc.devRef .tc main_v66)) (V m c (Proc.devRef .tc main_v67)) (V m c (Proc.devRef .tc main_v74)) (constant Cert.Pre_windows_fit.S_ .f32 0#32)
    = Cert.Pre_windows_fit.fn_part5 (F := Ideal) (m ((c.tc : Thread nD τ).loc main_arg1)) (V m c (Proc.devRef .tc main_v2)) (V m c (Proc.devRef .tc main_v6)) (V m c (Proc.devRef .tc main_v10)) (V m c (Proc.devRef .tc main_v26)) (V m c (Proc.devRef .tc main_v28)) (V m c (Proc.devRef .tc main_v67)) (V m c (Proc.devRef .tc main_v81)) (V m c (Proc.devRef .tc main_v82)) (V m c (Proc.devRef .tc main_v89)) (constantI Cert.Pre_windows_fit.S_ 32 2147483647#32) := by
  obtain ⟨W, hW⟩ := V_split m c 2
  rw [hW]
  after_reads_simp
  clean_types
  rfl

set_option maxHeartbeats 1500000 in
theorem pre6 (c : Dev nD) : Cert.Pre_windows_fit.fn_part5 (F := Ideal) (m ((c.tc : Thread nD τ).loc main_arg1)) (V m c (Proc.devRef .tc main_v2)) (V m c (Proc.devRef .tc main_v6)) (V m c (Proc.devRef .tc main_v10)) (V m c (Proc.devRef .tc main_v26)) (V m c (Proc.devRef .tc main_v28)) (V m c (Proc.devRef .tc main_v67)) (V m c (Proc.devRef .tc main_v81)) (V m c (Proc.devRef .tc main_v82)) (V m c (Proc.devRef .tc main_v89)) (constantI Cert.Pre_windows_fit.S_ 32 2147483647#32)
    = Cert.Pre_windows_fit.fn_part6 (F := Ideal) (m ((c.tc : Thread nD τ).loc main_arg1)) (V m c (Proc.devRef .tc main_v2)) (V m c (Proc.devRef .tc main_v6)) (V m c (Proc.devRef .tc main_v10)) (V m c (Proc.devRef .tc main_v26)) (V m c (Proc.devRef .tc main_v28)) (V m c (Proc.devRef .tc main_v89)) (V m c (Proc.devRef .tc main_v91)) (V m c (Proc.devRef .tc main_v99)) (V m c (Proc.devRef .tc main_v103)) := by
  obtain ⟨W, hW⟩ := V_split m c 6
  rw [hW]
  after_reads_simp
  clean_types
  rfl

end Cert.KernelIdeal.Hand

end
-- ==== Proof.Tabs.lean ====
module

public import proofs.«01_k».proof.Proof.Words
public import proofs.«01_k».proof.Proof.Fit
public import Idealize.ShloMosaic.Lib.StableHlo.ReadAt

/-! # The words and numbers the call finds

The tables of the call and its features, an element at a time. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline Idealize.ShloMosaic.StableHlo
open Idealize.SL Idealize.SL.RA Idealize.SL.BI Idealize.SL.Sem

variable (m : (ℓ : Loc nD τ sig) → Buf (Elt Ideal) ℓ)

theorem v10_at (c : Dev nD) (n : Fin 256) : ((V m c (Proc.devRef .tc main_v10) : FVec Ideal S256 .f32) (ix1 n) : EReal) = Cert.Axis.edge ((m ((c.tc : Thread nD τ).loc main_arg1) : FVec Ideal S256x5 .f32) (ix2 n 2)) := by
  unfold V
  after_reads_at
  rfl

theorem v6_at (c : Dev nD) (n : Fin 256) : ((V m c (Proc.devRef .tc main_v6) : FVec Ideal S256 .f32) (ix1 n) : EReal) = Cert.Axis.edge ((m ((c.tc : Thread nD τ).loc main_arg1) : FVec Ideal S256x5 .f32) (ix2 n 1)) := by
  unfold V
  after_reads_at
  rfl

theorem v112_at (c : Dev nD) (n : Fin 256) : ((V m c (Proc.devRef .tc main_v112) : FVec Ideal S256 .f32) (ix1 n) : EReal) = Cert.Axis.wid (Cert.Axis.edge ((m ((c.tc : Thread nD τ).loc main_arg1) : FVec Ideal S256x5 .f32) (ix2 n 2))) (Cert.Axis.edge ((m ((c.tc : Thread nD τ).loc main_arg1) : FVec Ideal S256x5 .f32) (ix2 n 4))) := by
  unfold V
  after_reads_at
  rfl

theorem v114_at (c : Dev nD) (n : Fin 256) : ((V m c (Proc.devRef .tc main_v114) : FVec Ideal S256 .f32) (ix1 n) : EReal) = Cert.Axis.wid (Cert.Axis.edge ((m ((c.tc : Thread nD τ).loc main_arg1) : FVec Ideal S256x5 .f32) (ix2 n 1))) (Cert.Axis.edge ((m ((c.tc : Thread nD τ).loc main_arg1) : FVec Ideal S256x5 .f32) (ix2 n 3))) := by
  unfold V
  after_reads_at
  rfl

theorem v28_at (c : Dev nD) (n : Fin 256) : Ideal.div ((V m c (Proc.devRef .tc main_v28) : FVec Ideal S256 .f32) (ix1 n) : EReal) (Ideal.ofBits .f32 1073741824#32) = Cert.Axis.wid (Cert.Axis.edge ((m ((c.tc : Thread nD τ).loc main_arg1) : FVec Ideal S256x5 .f32) (ix2 n 2))) (Cert.Axis.edge ((m ((c.tc : Thread nD τ).loc main_arg1) : FVec Ideal S256x5 .f32) (ix2 n 4))) := by
  unfold V
  after_reads_at
  rfl

theorem v26_at (c : Dev nD) (n : Fin 256) : Ideal.div ((V m c (Proc.devRef .tc main_v26) : FVec Ideal S256 .f32) (ix1 n) : EReal) (Ideal.ofBits .f32 1073741824#32) = Cert.Axis.wid (Cert.Axis.edge ((m ((c.tc : Thread nD τ).loc main_arg1) : FVec Ideal S256x5 .f32) (ix2 n 1))) (Cert.Axis.edge ((m ((c.tc : Thread nD τ).loc main_arg1) : FVec Ideal S256x5 .f32) (ix2 n 3))) := by
  unfold V
  after_reads_at
  rfl

theorem v2_at (c : Dev nD) (n : Fin 256) : (V m c (Proc.devRef .tc main_v2) : IVec S256 32) (ix1 n) = Ideal.fptosi 32 ((m ((c.tc : Thread nD τ).loc main_arg1) : FVec Ideal S256x5 .f32) (ix2 n 0)) := by
  unfold V
  after_reads_at
  rfl

theorem v108_at (c : Dev nD) (n : Fin 256) : (V m c (Proc.devRef .tc main_v108) : IVec S256 32) (ix1 n) = IntOp.muli ((V m c (Proc.devRef .tc main_v91) : IVec S256 32) (ix1 n)) 256#32 := by
  obtain ⟨W, hW⟩ := V_split m c 14
  rw [hW]
  after_reads_at

theorem v110_at (c : Dev nD) (n : Fin 256) : (V m c (Proc.devRef .tc main_v110) : IVec S256 32) (ix1 n) = IntOp.muli ((V m c (Proc.devRef .tc main_v104) : IVec S256 32) (ix1 n)) 256#32 := by
  obtain ⟨W, hW⟩ := V_split m c 14
  rw [hW]
  after_reads_at

theorem v104_at (c : Dev nD) (n : Fin 256) : (V m c (Proc.devRef .tc main_v104) : IVec S256 32) (ix1 n) = IntOp.minsi 106#32 (IntOp.maxsi 1#32 ((V m c (Proc.devRef .tc main_v103) : IVec S256 32) (ix1 n))) := by
  obtain ⟨W, hW⟩ := V_split m c 14
  rw [hW]
  after_reads_at
  rfl

theorem v91_at (c : Dev nD) (n : Fin 256) : ∃ k, (V m c (Proc.devRef .tc main_v91) : IVec S256 32) (ix1 n) = IntOp.minsi 166#32 (IntOp.maxsi 0#32 k) := by
  obtain ⟨W, hW⟩ := V_split m c 8
  rw [hW]
  after_reads_at
  exact ⟨_, rfl⟩

theorem v106_at (c : Dev nD) (b : Fin 2) (y : Fin 200) (x : Fin 272) (ch : Fin 256) : ((V m c (Proc.devRef .tc main_v106) : FVec Ideal S2x200x69632 .f32) (ix3 b y ⟨256 * x.val + ch.val, by omega⟩) : EReal) = (m ((c.tc : Thread nD τ).loc main_arg0) : FVec Ideal S2x256x200x272 .f32) (ix4 b ch y x) := by
  unfold V
  after_reads_at

end Cert.KernelIdeal.Hand

end
-- ==== Proof.Box.lean ====
module

public import proofs.«01_k».proof.Proof.FitV
public import proofs.«01_k».proof.Proof.Tabs

/-! # One box's window

The window's corner and extent as naturals, and the neighbours within it. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline Cert.Axis

variable (m : (ℓ : Loc nD τ sig) → Buf (Elt Ideal) ℓ)

/-- A word cut to a small range, as a natural. -/
theorem cut (a b : ℕ) (hb : b < 1000) (hab : a ≤ b) (k : BitVec 32) : ∃ r : ℕ, IntOp.minsi (BitVec.ofNat 32 b) (IntOp.maxsi (BitVec.ofNat 32 a) k) = BitVec.ofNat 32 r ∧ a ≤ r ∧ r ≤ b := by
  have ea : (BitVec.ofNat 32 a).toNat = a := by rw [BitVec.toNat_ofNat]; exact Nat.mod_eq_of_lt (by omega)
  have eb : (BitVec.ofNat 32 b).toNat = b := by rw [BitVec.toNat_ofNat]; exact Nat.mod_eq_of_lt (by omega)
  have ia := BitVec.toInt_eq_toNat_cond (BitVec.ofNat 32 a)
  have ib := BitVec.toInt_eq_toNat_cond (BitVec.ofNat 32 b)
  rw [ea, if_pos (by omega)] at ia
  rw [eb, if_pos (by omega)] at ib
  obtain ⟨-, h1, h2⟩ := clip_range (BitVec.ofNat 32 a) (BitVec.ofNat 32 b) k (by omega) (by omega)
  refine ⟨(IntOp.minsi (BitVec.ofNat 32 b) (IntOp.maxsi (BitVec.ofNat 32 a) k)).toNat, by simp, ?_, ?_⟩
  · omega
  · omega

theorem small_int (k : ℕ) (h : k < 2147483648) : (BitVec.ofNat 32 k).toInt = (k : ℤ) := by
  rw [BitVec.toInt_eq_toNat_cond, BitVec.toNat_ofNat, Nat.mod_eq_of_lt (by omega), if_pos (by omega)]

/-- The neighbours' words within a window of small words are the neighbours within the window. -/
theorem within (N : ℕ) (hb : N < 500) (s : EReal) (o r : ℕ) (ho : o < 300) (hr : r < 300)
    (h : On N s → (BitVec.ofNat 32 o).toInt ≤ (Ideal.fptosi 32 (lo ((N : ℕ) : ℝ) s)).toInt ∧ (Ideal.fptosi 32 (hi ((N : ℕ) : ℝ) s)).toInt < (IntOp.addi (BitVec.ofNat 32 o) (BitVec.ofNat 32 r)).toInt) :
    On N s → o ≤ lN N s ∧ hN N s < o + r := by
  intro hon
  obtain ⟨h1, h2⟩ := h hon
  obtain ⟨el, eh, -, -, hlh, hhn⟩ := spec N s
  rw [el, word_of _ (by omega), small_int _ (by omega), small_int _ (by omega)] at h1
  rw [eh, word_of _ (by omega), small_int _ (by omega)] at h2
  rw [show IntOp.addi (BitVec.ofNat 32 o) (BitVec.ofNat 32 r) = BitVec.ofNat 32 (o + r) from (BitVec.ofNat_add o r).symm, small_int _ (by omega)] at h2
  omega

/-- The number of a box's component. -/
abbrev roi (c : Dev nD) (n : Fin 256) (j : Fin 5) : EReal := (m ((c.tc : Thread nD τ).loc main_arg1) : FVec Ideal S256x5 .f32) (ix2 n j)

/-- A sample's row and column. -/
def sy (c : Dev nD) (n : Fin 256) (s : ℕ) : EReal := samp (edge (roi m c n 2)) (wid (edge (roi m c n 2)) (edge (roi m c n 4))) s
def sx (c : Dev nD) (n : Fin 256) (s : ℕ) : EReal := samp (edge (roi m c n 1)) (wid (edge (roi m c n 1)) (edge (roi m c n 3))) s

theorem box (c : Dev nD) (h : Cert.Pre_windows_fit.fn (F := Ideal) (m ((c.tc : Thread nD τ).loc main_arg0)) (m ((c.tc : Thread nD τ).loc main_arg1)) = fun _ => 1#1) (n : Fin 256) :
    (∀ j : Fin 5, (⊥ : EReal) < roi m c n j ∧ roi m c n j < (⊤ : EReal))
    ∧ ∃ b y x nr nc : ℕ, b < 2 ∧ y ≤ 112 ∧ x ≤ 166 ∧ nr ≤ 88 ∧ nc ≤ 106
      ∧ Ideal.fptosi 32 (roi m c n 0) = BitVec.ofNat 32 b
      ∧ (V m c (Proc.devRef .tc main_v2) : IVec S256 32) (ix1 n) = BitVec.ofNat 32 b
      ∧ (V m c (Proc.devRef .tc main_v89) : IVec S256 32) (ix1 n) = BitVec.ofNat 32 y
      ∧ (V m c (Proc.devRef .tc main_v108) : IVec S256 32) (ix1 n) = BitVec.ofNat 32 (256 * x)
      ∧ (V m c (Proc.devRef .tc main_v99) : IVec S256 32) (ix1 n) = BitVec.ofNat 32 nr
      ∧ (V m c (Proc.devRef .tc main_v110) : IVec S256 32) (ix1 n) = BitVec.ofNat 32 (256 * nc)
      ∧ (∀ s < 30, On 199 (sy m c n s) → y ≤ lN 199 (sy m c n s) ∧ hN 199 (sy m c n s) < y + nr)
      ∧ (∀ s < 30, On 271 (sx m c n s) → x ≤ lN 271 (sx m c n s) ∧ hN 271 (sx m c n s) < x + nc) := by
  have h6 := ((pre4 m c).trans ((pre5 m c).trans (pre6 m c))).symm.trans h
  have key := fun (s : Fin 30) (j : Fin 5) => Cert.Fit.part6_at _ _ _ _ _ _ _ _ _ _ h6 n s j _ _ rfl rfl
  have e2 := v2_at m c n
  have e10 := v10_at m c n
  have e6 := v6_at m c n
  have e28 := v28_at m c n
  have e26 := v26_at m c n
  rw [show Ideal.div ((V m c (Proc.devRef .tc main_v28) : FVec Ideal S256 .f32) (ix1 n)) (Ideal.ofBits .f32 1073741824#32) = _ from e28, show Ideal.div ((V m c (Proc.devRef .tc main_v26) : FVec Ideal S256 .f32) (ix1 n)) (Ideal.ofBits .f32 1073741824#32) = _ from e26, show (V m c (Proc.devRef .tc main_v10) : FVec Ideal S256 .f32) (ix1 n) = _ from e10, show (V m c (Proc.devRef .tc main_v6) : FVec Ideal S256 .f32) (ix1 n) = _ from e6] at key
  obtain ⟨ky, hky⟩ := y0_at m c
  obtain ⟨kn, hkn⟩ := nr_at m c
  obtain ⟨kx, hkx⟩ := v91_at m c n
  have e104 := v104_at m c n
  obtain ⟨y, ey, -, hy⟩ := cut 0 112 (by omega) (by omega) (IntOp.muli (ky (ix1 n)) 8#32)
  obtain ⟨x, ex, -, hx⟩ := cut 0 166 (by omega) (by omega) kx
  obtain ⟨r, er, -, hr⟩ := cut 8 88 (by omega) (by omega) (IntOp.muli (kn (ix1 n)) 8#32)
  obtain ⟨q, eq, -, hq⟩ := cut 1 106 (by omega) (by omega) ((V m c (Proc.devRef .tc main_v103) : IVec S256 32) (ix1 n))
  have fy : (V m c (Proc.devRef .tc main_v89) : IVec S256 32) (ix1 n) = BitVec.ofNat 32 y := (congrFun hky (ix1 n)).trans ey
  have fr : (V m c (Proc.devRef .tc main_v99) : IVec S256 32) (ix1 n) = BitVec.ofNat 32 r := (congrFun hkn (ix1 n)).trans er
  have fx : (V m c (Proc.devRef .tc main_v91) : IVec S256 32) (ix1 n) = BitVec.ofNat 32 x := hkx.trans ex
  have h256 : ∀ k : ℕ, IntOp.muli (BitVec.ofNat 32 k) 256#32 = BitVec.ofNat 32 (256 * k) := by
    intro k
    rw [Nat.mul_comm 256 k]
    exact (BitVec.ofNat_mul k 256).symm
  refine ⟨fun j => (key 0 j).2.1, ((V m c (Proc.devRef .tc main_v2) : IVec S256 32) (ix1 n)).toNat, y, x, r, q, ?_, hy, hx, hr, hq, ?_, ?_, fy, ?_, fr, ?_, ?_, ?_⟩
  · obtain ⟨b0, b1⟩ := (key 0 0).1
    have hc := BitVec.toInt_eq_toNat_cond ((V m c (Proc.devRef .tc main_v2) : IVec S256 32) (ix1 n))
    split at hc <;> omega
  · rw [← e2]; simp
  · simp
  · rw [v108_at, fx, h256]
  · rw [v110_at, e104, show IntOp.minsi 106#32 (IntOp.maxsi 1#32 ((V m c (Proc.devRef .tc main_v103) : IVec S256 32) (ix1 n))) = _ from eq, h256]
  · intro s hs
    have k := (key ⟨s, hs⟩ 0).2.2.1
    rw [show (V m c (Proc.devRef .tc main_v89) : IVec S256 32) (ix1 n) = _ from fy, show (V m c (Proc.devRef .tc main_v99) : IVec S256 32) (ix1 n) = _ from fr] at k
    exact within 199 (by omega) _ y r (by omega) (by omega) k
  · intro s hs
    have k := (key ⟨s, hs⟩ 0).2.2.2
    rw [show (V m c (Proc.devRef .tc main_v91) : IVec S256 32) (ix1 n) = _ from fx, show IntOp.minsi 106#32 (IntOp.maxsi 1#32 ((V m c (Proc.devRef .tc main_v103) : IVec S256 32) (ix1 n))) = _ from eq] at k
    exact within 271 (by omega) _ x q (by omega) (by omega) k

end Cert.KernelIdeal.Hand

end
-- ==== Proof.Wts.lean ====
module

public import proofs.«01_k».proof.Proof.Step
public import proofs.«01_k».proof.Proof.Axis
public import Idealize.ShloMosaic.Lib.Pipeline.ValueKit

/-! # The kernel's weights

The sampling matrices of a box, an element at a time, as the weights of its samples. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline Cert.Sums Cert.Axis

theorem rowW_at (y : BitVec 32) (a b : Ideal .f32) (o : ℕ) (hy : y.toInt = (o : ℤ)) (s : Fin 32) (k : Fin 88) (hs : s.val < 30)
    (ho : On 199 (samp a b s) → o ≤ lN 199 (samp a b s)) :
    rowW (F := Ideal) y a b (ix2 s k) = E (wt (vN 199 (samp a b s)) (w0 199 (samp a b s)) (w1 199 (samp a b s)) (lN 199 (samp a b s) - o) (hN 199 (samp a b s) - o) k) := by
  classical
  rw [← weight 199 _ _ _ ho]
  pointwise [rowW, k0_pay109, k0_pay108, k0_pay107]
  simp only [bool_num, word_num _ (show s.val < 2147483648 by omega), word_num _ (show k.val < 2147483648 by omega), andi_bool, ← Bool.decide_and, sel, bits_m1, bits_199, bits_200, bits_30, hy]
  have e30 : (((s.val : ℝ) : EReal) < (((30 : ℕ) : ℝ) : EReal)) ↔ True := by
    rw [EReal.coe_lt_coe_iff, Nat.cast_lt]; simp [hs]
  simp only [e30, and_true]
  exact if_congr Iff.rfl rfl rfl

theorem colW_at (y : BitVec 32) (a b : Ideal .f32) (o : ℕ) (hy : y.toInt = 256 * (o : ℤ)) (s : Fin 32) (k : Fin 106) (hs : s.val < 30)
    (ho : On 271 (samp a b s) → o ≤ lN 271 (samp a b s)) :
    k0_pay111 (F := Ideal) (k0_pay110 y) a b (ix2 s k) = E (wt (vN 271 (samp a b s)) (w0 271 (samp a b s)) (w1 271 (samp a b s)) (lN 271 (samp a b s) - o) (hN 271 (samp a b s) - o) k) := by
  classical
  rw [← weight 271 _ _ _ ho]
  pointwise [k0_pay111, k0_pay110]
  have e256 : (((y.toInt : ℝ) : EReal)) * Ideal.ofBits FTy.f32 998244352#32 = ((o : ℝ) : EReal) := by
    have : Ideal.ofBits FTy.f32 998244352#32 = ((1 / 256 : ℝ) : EReal) := by
      simp [Ideal.ofBits, Ideal.ieee]; rw [← EReal.coe_mul]; congr 1; norm_num
    rw [this, hy, ← EReal.coe_mul]; congr 1; push_cast; ring
  simp only [bool_num, word_num _ (show s.val < 2147483648 by omega), word_num _ (show k.val < 2147483648 by omega), andi_bool, ← Bool.decide_and, sel, bits_m1, bits_271, bits_272, bits_30, e256]
  have e30 : (((s.val : ℝ) : EReal) < (((30 : ℕ) : ℝ) : EReal)) ↔ True := by
    rw [EReal.coe_lt_coe_iff, Nat.cast_lt]; simp [hs]
  simp only [e30, and_true]
  exact if_congr Iff.rfl rfl rfl

theorem bin_at (p x : ℕ) (hp : p < 14) (hx : x < 32) (w : EReal) (c : BitVec 32) (hc : Ideal.ofBits FTy.f32 c = E (1 / 4)) :
    Scalar.select (IntOp.andi (IntOp.andi
        (BitVec.ofBool (decide (Ideal.ofBits FTy.f32 1073741824#32 * FloatOps.sitofp (F := Ideal) FTy.f32 (BitVec.ofNat 32 p) ≤ FloatOps.sitofp (F := Ideal) FTy.f32 (BitVec.ofNat 32 x))))
        (BitVec.ofBool (decide (FloatOps.sitofp (F := Ideal) FTy.f32 (BitVec.ofNat 32 x) < Ideal.ofBits FTy.f32 1073741824#32 * FloatOps.sitofp (F := Ideal) FTy.f32 (BitVec.ofNat 32 p) + Ideal.ofBits FTy.f32 1082130432#32))))
        (BitVec.ofBool (decide (FloatOps.sitofp (F := Ideal) FTy.f32 (BitVec.ofNat 32 p) < Ideal.ofBits FTy.f32 1096810496#32))))
        (Ideal.ofBits FTy.f32 c * w) 0 = E (bin p x) * w := by
  simp only [word_num _ (show p < 2147483648 by omega), word_num _ (show x < 2147483648 by omega), andi_bool, ← Bool.decide_and, sel, bits_2, bits_4, bits_14, hc,
    ← EReal.coe_mul, ← EReal.coe_add, EReal.coe_le_coe_iff, EReal.coe_lt_coe_iff]
  have e1 : (2 * (p : ℝ) ≤ (x : ℝ)) ↔ 2 * p ≤ x := by exact_mod_cast Iff.rfl
  have e2 : ((x : ℝ) < 2 * (p : ℝ) + 4) ↔ x < 2 * p + 4 := by exact_mod_cast Iff.rfl
  have e3 : ((p : ℝ) < 14) ↔ True := by simp only [iff_true]; exact_mod_cast hp
  simp only [e1, e2, e3, and_true]
  unfold bin
  split
  · rfl
  · rw [E_zero, zero_mul]

theorem myW_at (y : BitVec 32) (a b : Ideal .f32) (s : Fin 14) (k : Fin 88) :
    myW (F := Ideal) y a b (ix2 s k) = ∑ x : Fin 32, E (bin s x) * rowW (F := Ideal) y a b (ix2 x k) := by
  pointwise [myW, k0_pay113, k0_pay112]
  refine Finset.sum_congr rfl fun x _ => ?_
  exact bin_at s.val x.val s.isLt x.isLt _ _ bits_q

theorem mxW_at (y : BitVec 32) (a b : Ideal .f32) (s : Fin 14) (k : Fin 106) :
    mxW (F := Ideal) y a b (ix2 s k) = ∑ x : Fin 32, E (bin s x) * k0_pay111 (F := Ideal) (k0_pay110 y) a b (ix2 x k) := by
  pointwise [mxW, k0_pay114]
  refine Finset.sum_congr rfl fun x _ => ?_
  exact bin_at s.val x.val s.isLt x.isLt _ _ bits_q

theorem zHi_at (y : BitVec 32) (a b : Ideal .f32) (hi : Vec Ideal S1x88x12800 .f32) (s : Fin 14) (k : Fin 12800) :
    zHi (F := Ideal) y a b hi (ix2 s k) = ∑ x : Fin 88, myW (F := Ideal) y a b (ix2 s x) * hi (ix3 0 x k) := by
  pointwise [zHi, k0_pay8]

theorem zLo_at (y : BitVec 32) (a b : Ideal .f32) (l : Vec Ideal S1x88x14336 .f32) (s : Fin 14) (k : Fin 14336) :
    zLo (F := Ideal) y a b l (ix2 s k) = ∑ x : Fin 88, myW (F := Ideal) y a b (ix2 s x) * l (ix3 0 x k) := by
  pointwise [zLo, k0_pay116, k0_pay115]
  rfl

theorem blk_at (mx : FVec Ideal S14x106 .f32) (v : Vec Ideal S106x128 .f32) (s : Fin 14) (k : Fin 128) :
    k0_pay231 (F := Ideal) mx v (ix4 0 0 s k) = ∑ x : Fin 106, mx (ix2 s x) * v (ix2 x k) := by
  pointwise [k0_pay231]

end Cert.KernelIdeal.Hand
end
-- ==== Proof.Out.lean ====
module

public import proofs.«01_k».proof.Proof.Wts

/-! # A step's results as sums

Each result of a step is a sum over the window's columns, of the column weight times a sum over its rows. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline Cert.Sums Cert.Axis

theorem slot_word : ∀ v : Fin 128, (Scalar.indexCast (Scalar.remsi (BitVec.ofNat 32 v.val) 4#32) : Index).toNat = v.val % 4 := by decide +kernel

/-- The row product at a lane, over the slot's rows. -/
theorem zAll_at {c : Dev nD} (i : grid0.Coords) (f : Buf (Elt Ideal) ((Memref.whole cc0_scratch0).view.loc (c : Thread nD τ))) (y : BitVec 32) (a b : Ideal .f32) (p : Fin 14) (L : ℕ) (hL : L < 27136) :
    (zAll (F := Ideal) y a b ((Memref.whole cc0_scratch0).view.readAt (Elt Ideal) (Rect.unit (s := S4x88x27136) (k0_off39 i) S1x88x14336.size (k0_off39_inb i)).toLoadRect f)
      ((Memref.whole cc0_scratch0).view.readAt (Elt Ideal) (Rect.unit (s := S4x88x27136) (k0_off40 i) S1x88x12800.size (k0_off40_inb i)).toLoadRect f) p.val L : EReal)
    = ∑ k : Fin 88, (myW (F := Ideal) y a b (ix2 p k) : EReal) * (f : FVec Ideal S4x88x27136 .f32) (ix3 ⟨(i 1).val % 4, Nat.mod_lt _ (by decide)⟩ k ⟨L, hL⟩) := by
  by_cases h : L < 14336
  · refine (zAll_lo (F := Ideal) (hi := _) (ix2 p (⟨L, h⟩ : Fin 14336))).symm.trans ?_
    rw [zLo_at]
    refine Finset.sum_congr rfl fun k _ => ?_
    congr 1
    show (f : FVec Ideal S4x88x27136 .f32) _ = (f : FVec Ideal S4x88x27136 .f32) _
    congr 1
    funext x
    refine Fin.ext ?_
    match x with
    | ⟨0, _⟩ => show (Scalar.indexCast (Scalar.remsi (BitVec.ofNat 32 (i 1).val) 4#32) : Index).toNat + 1 * 0 = (i 1).val % 4; rw [slot_word (i 1)]; omega
    | ⟨1, _⟩ => show 0 + 1 * k.val = k.val; omega
    | ⟨2, _⟩ => show 0 + 1 * L = L; omega
  · have h2 : L - 14336 < 12800 := by omega
    have hL2 : L = 14336 + (L - 14336) := by omega
    refine Eq.trans (congrArg (zAll (F := Ideal) y a b _ _ p.val) hL2) ?_
    refine (zAll_hi (F := Ideal) (lo := _) (ix2 p (⟨L - 14336, h2⟩ : Fin 12800))).symm.trans ?_
    rw [zHi_at]
    refine Finset.sum_congr rfl fun k _ => ?_
    congr 1
    show (f : FVec Ideal S4x88x27136 .f32) _ = (f : FVec Ideal S4x88x27136 .f32) _
    congr 1
    funext x
    refine Fin.ext ?_
    match x with
    | ⟨0, _⟩ => show (Scalar.indexCast (Scalar.remsi (BitVec.ofNat 32 (i 1).val) 4#32) : Index).toNat + 1 * 0 = (i 1).val % 4; rw [slot_word (i 1)]; omega
    | ⟨1, _⟩ => show 0 + 1 * k.val = k.val; omega
    | ⟨2, _⟩ => show 14336 + 1 * (L - 14336) = L; omega

theorem res_sum {c : Dev nD} {i : grid0.Coords} {fd : Buf (Elt Ideal) ((Memref.whole main_v106).view.loc (c : Thread nD τ))} {w : Item} {y1 yp x1 xp : Ideal .f32} {O : S1x14x16x256.Idx → Elt Ideal .f32}
    (h : Res (F := Ideal) c i (Memref.whole main_v106) (Memref.whole cc0_scratch0) fd w y1 yp x1 xp O) (p q : Fin 14) (q' : Fin 16) (hq : q'.val = q.val) (ch : Fin 256) :
    ∃ (g : ℕ → ℕ → EReal) (v : Fin 106 → EReal),
      (O (ix4 0 p q' ch) : EReal) = ∑ x : Fin 106, (mxW (F := Ideal) w.x x1 xp (ix2 q x) : EReal) * v x
      ∧ (∀ x : Fin 106, x.val < cols w.l → v x = ∑ k : Fin 88, (myW (F := Ideal) w.y y1 yp (ix2 p k) : EReal) * g k.val x.val)
      ∧ ∀ k x : ℕ, k < 88 → x < 106 → k < w.r.toNat → 256 * x + ch.val < w.l.toNat → ∀ j : S2x200x69632.Idx, (j 0).val = w.b.toNat → (j 1).val = w.y.toNat + k → (j 2).val = w.x.toNat + (256 * x + ch.val) →
          g k x = (fd : FVec Ideal S2x200x69632 .f32) j := by
  obtain ⟨f, hL, hD⟩ := h
  have hc := ch.isLt
  have hp := p.isLt
  obtain ⟨w', ⟨v, hv, rfl⟩, hO⟩ := hD (ix4 0 p q' ch) (2 * p.val + ch.val / 128) (by omega) (show p.val = _ by omega) (show q'.val < 14 by rw [hq]; exact q.isLt) (show ch.val / 128 = _ by omega)
  refine ⟨fun k x => if h : k < 88 ∧ x < 106 then (f : FVec Ideal S4x88x27136 .f32) (ix3 ⟨(i 1).val % 4, Nat.mod_lt _ (by decide)⟩ ⟨k, h.1⟩ ⟨256 * x + ch.val, by omega⟩) else 0,
    fun x => v (ix2 x ⟨ch.val % 128, Nat.mod_lt _ (by decide)⟩), ?_, ?_, ?_⟩
  · rw [hO (ix4 0 0 q ⟨ch.val % 128, Nat.mod_lt _ (by decide)⟩) hq.symm rfl, blk_at]
  · intro x hx
    have hx' := x.isLt
    have e := hv (ix2 x ⟨ch.val % 128, Nat.mod_lt _ (by decide)⟩) hx
    refine e.trans ?_
    rw [show (2 * p.val + ch.val / 128) / 2 = p.val by omega,
      show 256 * ((ix2 x (⟨ch.val % 128, Nat.mod_lt _ (by decide)⟩ : Fin 128) : S106x128.Idx) 0).val + 128 * ((2 * p.val + ch.val / 128) % 2) + ((ix2 x (⟨ch.val % 128, Nat.mod_lt _ (by decide)⟩ : Fin 128) : S106x128.Idx) 1).val = 256 * x.val + ch.val from by
        show 256 * x.val + 128 * ((2 * p.val + ch.val / 128) % 2) + ch.val % 128 = _; omega]
    rw [zAll_at i f w.y y1 yp p (256 * x.val + ch.val) (by omega)]
    refine Finset.sum_congr rfl fun k _ => ?_
    dsimp only
    rw [dif_pos (show k.val < 88 ∧ x.val < 106 from ⟨k.isLt, x.isLt⟩)]
  · intro k x hk hx hr hl j h0 h1 h2
    dsimp only
    rw [dif_pos (show k < 88 ∧ x < 106 from ⟨hk, hx⟩)]
    exact hL _ j rfl h0 h1 h2 hr hl

/-- Sums over a window whose weights vanish outside its used part. -/
theorem sums_eq (MX MY : ℕ → NNReal) (mx : Fin 106 → EReal) (my : Fin 88 → EReal) (hmx : ∀ x, mx x = E (MX x.val)) (hmy : ∀ k, my k = E (MY k.val)) (v : Fin 106 → EReal) (g S : ℕ → ℕ → EReal) (nc nr : ℕ)
    (hv : ∀ x : Fin 106, x.val < nc → v x = ∑ k : Fin 88, my k * g k.val x.val) (hX : ∀ x < 106, nc ≤ x → MX x = 0) (hY : ∀ k < 88, nr ≤ k → MY k = 0) (hg : ∀ k x : ℕ, k < 88 → x < 106 → k < nr → x < nc → g k x = S k x) :
    ∑ x : Fin 106, mx x * v x = ∑ x ∈ Finset.range 106, E (MX x) * ∑ k ∈ Finset.range 88, E (MY k) * S k x := by
  rw [Finset.sum_range (fun x => E (MX x) * ∑ k ∈ Finset.range 88, E (MY k) * S k x)]
  refine Finset.sum_congr rfl fun x _ => ?_
  rw [hmx]
  by_cases hx : x.val < nc
  · rw [hv x hx, Finset.sum_range (fun k => E (MY k) * S k x.val)]
    congr 1
    refine Finset.sum_congr rfl fun k _ => ?_
    rw [hmy]
    by_cases hk : k.val < nr
    · rw [hg k.val x.val k.isLt x.isLt hk hx]
    · rw [hY k.val k.isLt (not_lt.1 hk), E_zero, zero_mul, zero_mul]
  · rw [hX x.val x.isLt (not_lt.1 hx), E_zero, zero_mul, zero_mul]

end Cert.KernelIdeal.Hand

end
-- ==== Proof.Fin.lean ====
module

public import proofs.«01_k».proof.Proof.Frame
public import Idealize.ShloMosaic.Lib.Pipeline.ArrRel
public import Idealize.ShloMosaic.Lib.StableHlo.ReadAt
public import Idealize.ShloMosaic.Lib.Pipeline.TableIdle
public import Idealize.ShloMosaic.Lib.Pipeline.ValueKit

/-! # The results, from what the steps leave

Each element of the results is the element of the block that its box's step left. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline
open Idealize.SL Idealize.SL.RA Idealize.SL.BI Idealize.SL.Sem

variable {F : FTy → Type} [FloatOps F]

variable (m : (ℓ : Loc nD τ sig) → Buf (Elt F) ℓ)

theorem after_v117 (W : Valuation τ sig (Elt F)) (n : Fin 256) (ch : Fin 256) (p q : Fin 14) :
    (StableHlo.after ([hostOps1 (F := F)]).flatten W (Proc.devRef .tc main_v117) : FVec F S256x256x14x14 .f32) (ix4 n ch p q)
      = (W (Proc.devRef .tc main_v115) : FVec F S256x14x16x256 .f32) (ix4 n p (Fin.castLE (by decide) q) ch) := by
  after_reads_at
  rfl

theorem covers4 : ((cfg m).win 4).Covers := by
  have h : ∀ β : Fin 256, ∃ t : Fin grid0.N, cc0_transform_5 (grid0.coords t) 0 = β.val ∧ (t.val + 1 = grid0.N ∨ ∃ h : t.val + 1 < grid0.N, cc0_transform_5 (grid0.coords ⟨t.val + 1, h⟩) 0 ≠ cc0_transform_5 (grid0.coords t) 0) := by decide +kernel
  have hs : ∀ a : Fin 4, 0 < S1x14x16x256.size a := by decide
  refine ⟨fun a => hs a, fun β => ?_⟩
  have e : ∀ a : Fin 4, ((cfg m).win 4).nblk a = (S256x14x16x256.size a + S1x14x16x256.size a - 1) / S1x14x16x256.size a := fun a => rfl
  have hb : (β (0 : Fin 4)).val < 256 := lt_of_lt_of_eq (β (0 : Fin 4)).isLt ((e 0).trans (by decide))
  have hb1 : (β (1 : Fin 4)).val < 1 := lt_of_lt_of_eq (β (1 : Fin 4)).isLt ((e 1).trans (by decide))
  have hb2 : (β (2 : Fin 4)).val < 1 := lt_of_lt_of_eq (β (2 : Fin 4)).isLt ((e 2).trans (by decide))
  have hb3 : (β (3 : Fin 4)).val < 1 := lt_of_lt_of_eq (β (3 : Fin 4)).isLt ((e 3).trans (by decide))
  obtain ⟨t, ht, hf⟩ := h ⟨(β (0 : Fin 4)).val, hb⟩
  refine ⟨t, ?_, fun a => ⟨?_, Or.inl rfl⟩⟩
  · rw [Window.flush_eq_flushF]
    unfold Window.flushF
    rw [Bool.and_eq_true]
    refine ⟨rfl, ?_⟩
    rw [Bool.or_eq_true, decide_eq_true_iff, decide_eq_true_iff]
    rcases hf with hf | ⟨h1, h2⟩
    · exact Or.inl hf
    · exact Or.inr ⟨h1, (0 : Fin 4), h2⟩
  · match a with
    | (0 : Fin 4) => exact ht
    | (1 : Fin 4) => show 0 = _; omega
    | (2 : Fin 4) => show 0 = _; omega
    | (3 : Fin 4) => show 0 = _; omega

theorem idx4 (t : Fin grid0.N) : 128 * (grid0.coords t 0).val + (grid0.coords t 1).val = ((cfg m).win 4).index t (0 : Fin 4) := by
  have h : ∀ t : Fin grid0.N, 128 * (grid0.coords t 0).val + (grid0.coords t 1).val = cc0_transform_5 (grid0.coords t) 0 := by decide +kernel
  exact h t

/-- The array of results, each element as its step left it. -/
theorem arr_at (c : Dev nD) (A : (w : Fin (cfg m).W) → Buf (Elt F) (((cfg m).win w).arr.view.loc (c.tc : Thread nD τ))) (hA : ∀ w, (rdat m c).ArrAt w (cfg m).N (A w)) (i : S256x14x16x256.Idx) :
    ∃ (t : Fin grid0.N) (O : S1x14x16x256.Idx → F .f32), 128 * (grid0.coords t 0).val + (grid0.coords t 1).val = (i 0).val ∧ Out4 m c (grid0.coords t) O
      ∧ (A 4 : FVec F S256x14x16x256 .f32) i = O (ix4 0 (i 1) (i 2) (i 3)) := by
  obtain ⟨after, hl, he⟩ := RDat.ArrAt.exists_exact_all hA
  rw [he 4]
  refine Dat.arrAt_forall_of_covers ((rdat m c).withAfter after) 4 (show S256x14x16x256.Idx → F .f32 → Prop from fun i v => ∃ (t : Fin grid0.N) (O : S1x14x16x256.Idx → F .f32), 128 * (grid0.coords t 0).val + (grid0.coords t 1).val = (i 0).val ∧ Out4 m c (grid0.coords t) O
      ∧ v = O (ix4 0 (i 1) (i 2) (i 3))) (covers4 m) (fun t hf y => ?_) i
  have hO : Out4 m c (grid0.coords t) (after 4 t) := Dat.toRRel_leaves (dat m c) (Rl := Rl m c) (w := 4) rfl (hl 4 t t.isLt hf)
  refine ⟨t, after 4 t, ?_, hO, ?_⟩
  · blk_simp
    exact idx4 (m := m) t
  · show after 4 t y = _
    congr 1
    funext (a : Fin 4)
    refine Fin.ext ?_
    match a with
    | ⟨0, _⟩ =>
      have : (y (0 : Fin 4)).val < 1 := (y (0 : Fin 4)).isLt
      show (y (0 : Fin 4)).val = 0
      omega
    | ⟨1, _⟩ => blk_simp; show (y (1 : Fin 4)).val = 0 * 14 + (y (1 : Fin 4)).val; omega
    | ⟨2, _⟩ => blk_simp; show (y (2 : Fin 4)).val = 0 * 16 + (y (2 : Fin 4)).val; omega
    | ⟨3, _⟩ => blk_simp; show (y (3 : Fin 4)).val = 0 * 256 + (y (3 : Fin 4)).val; omega

end Cert.KernelIdeal.Hand

end
-- ==== Proof.KerOut.lean ====
module

public import proofs.«01_k».proof.Proof.Box
public import proofs.«01_k».proof.Proof.Out
public import proofs.«01_k».proof.Proof.Fin
public import proofs.«01_k».proof.Proof.Mean

/-! # The kernel's results, from its arguments

Each result as the mean of its samples. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline Cert.Sums Cert.Axis

theorem cols_at : ∀ k : Fin 107, k.val ≤ cols (BitVec.ofNat 32 (256 * k.val)) := by decide +kernel

theorem mod_ix (n : Fin 256) : (fun a => match a with | 0 => (⟨n.val % 256, Nat.mod_lt _ (by decide)⟩ : Fin 256) : S256.Idx) = ix1 n := by
  funext (a : Fin 1)
  match a with
  | 0 => exact Fin.ext (Nat.mod_eq_of_lt n.isLt)

theorem wv_at (X : S256.Idx → Ideal .f32) (n : Fin 256) : wv (F := Ideal) X n.val = X (ix1 n) := by
  unfold wv
  exact congrArg X (mod_ix n)

theorem toNat_small (k : ℕ) (h : k < 4294967296) : (BitVec.ofNat 32 k).toNat = k := by
  rw [BitVec.toNat_ofNat]; exact Nat.mod_eq_of_lt h

variable (m : (ℓ : Loc nD τ sig) → Buf (Elt Ideal) ℓ)

theorem its_b (c : Dev nD) (n : Fin 256) : (its m c n.val).b = (V m c (Proc.devRef .tc main_v2) : IVec S256 32) (ix1 n) := by
  exact congrArg (V m c (Proc.devRef .tc main_v2) : IVec S256 32) (mod_ix n)
theorem its_y (c : Dev nD) (n : Fin 256) : (its m c n.val).y = (V m c (Proc.devRef .tc main_v89) : IVec S256 32) (ix1 n) := by
  exact congrArg (V m c (Proc.devRef .tc main_v89) : IVec S256 32) (mod_ix n)
theorem its_x (c : Dev nD) (n : Fin 256) : (its m c n.val).x = (V m c (Proc.devRef .tc main_v108) : IVec S256 32) (ix1 n) := by
  exact congrArg (V m c (Proc.devRef .tc main_v108) : IVec S256 32) (mod_ix n)
theorem its_r (c : Dev nD) (n : Fin 256) : (its m c n.val).r = (V m c (Proc.devRef .tc main_v99) : IVec S256 32) (ix1 n) := by
  exact congrArg (V m c (Proc.devRef .tc main_v99) : IVec S256 32) (mod_ix n)
theorem its_l (c : Dev nD) (n : Fin 256) : (its m c n.val).l = (V m c (Proc.devRef .tc main_v110) : IVec S256 32) (ix1 n) := by
  exact congrArg (V m c (Proc.devRef .tc main_v110) : IVec S256 32) (mod_ix n)

/-- The mean over rows of a cell's weights. -/
def avg (p : ℕ) (SY : ℕ → ℕ → NNReal) (k : ℕ) : NNReal := ∑ s ∈ Finset.range 32, bin p s * SY s k

theorem avg_eq (p k : ℕ) (hp : p < 14) (SY : ℕ → ℕ → NNReal) (f : Fin 32 → EReal) (h : ∀ s : Fin 32, s.val < 30 → f s = E (SY s.val k)) :
    ∑ s : Fin 32, E (bin p s) * f s = E (avg p SY k) := by
  unfold avg
  rw [E_sum, Finset.sum_range]
  refine Finset.sum_congr rfl fun s _ => ?_
  rw [E_mul]
  by_cases hs : s.val < 30
  · rw [h s hs]
  · rw [bin_zero p s.val hp (by omega), E_zero, zero_mul, zero_mul]

theorem avg_zero (p k : ℕ) (hp : p < 14) (SY : ℕ → ℕ → NNReal) (h : ∀ s < 30, SY s k = 0) : avg p SY k = 0 := by
  unfold avg
  refine Finset.sum_eq_zero fun s _ => ?_
  by_cases hs : s < 30
  · rw [h s hs, mul_zero]
  · rw [bin_zero p s hp (by omega), zero_mul]

/-- One axis's weights from a window's corner. -/
def wts (N o : ℕ) (z : ℕ → EReal) (s k : ℕ) : NNReal := wt (vN N (z s)) (w0 N (z s)) (w1 N (z s)) (lN N (z s) - o) (hN N (z s) - o) k

theorem val_at (F : ℕ → ℕ → EReal) (y x : ℕ) (zy zx : EReal) (hy : On 199 zy → y ≤ lN 199 zy) (hx : On 271 zx → x ≤ lN 271 zx) :
    E (vN 199 zy * vN 271 zx) * (E (w0 199 zy * w0 271 zx) * F (y + (lN 199 zy - y)) (x + (lN 271 zx - x)) + E (w0 199 zy * w1 271 zx) * F (y + (lN 199 zy - y)) (x + (hN 271 zx - x))
      + E (w1 199 zy * w0 271 zx) * F (y + (hN 199 zy - y)) (x + (lN 271 zx - x)) + E (w1 199 zy * w1 271 zx) * F (y + (hN 199 zy - y)) (x + (hN 271 zx - x))) = nbr F zy zx := by
  unfold nbr
  obtain ⟨-, -, -, -, h1, -⟩ := spec 199 zy
  obtain ⟨-, -, -, -, h2, -⟩ := spec 271 zx
  by_cases hv : vN 199 zy = 0
  · rw [hv, zero_mul, E_zero, zero_mul, zero_mul]
  by_cases hw : vN 271 zx = 0
  · rw [hw, mul_zero, E_zero, zero_mul, zero_mul]
  have a := hy (vN_ne hv)
  have b := hx (vN_ne hw)
  rw [show y + (lN 199 zy - y) = lN 199 zy by omega, show y + (hN 199 zy - y) = hN 199 zy by omega, show x + (lN 271 zx - x) = lN 271 zx by omega, show x + (hN 271 zx - x) = hN 271 zx by omega]

theorem pool_at (p q : ℕ) (hp : p < 14) (hq : q < 14) (F : ℕ → ℕ → EReal) (y x nr nc : ℕ) (hnr : nr ≤ 88) (hnc : nc ≤ 106) (zy zx : ℕ → EReal)
    (hy : ∀ s < 30, On 199 (zy s) → y ≤ lN 199 (zy s) ∧ hN 199 (zy s) < y + nr) (hx : ∀ s < 30, On 271 (zx s) → x ≤ lN 271 (zx s) ∧ hN 271 (zx s) < x + nc) :
    ∑ k ∈ Finset.range 106, E (avg q (wts 271 x zx) k) * ∑ l ∈ Finset.range 88, E (avg p (wts 199 y zy) l) * F (y + l) (x + k) = mean (fun s t => nbr F (zy s) (zx t)) p q := by
  rw [← mean_congr (fun s t => E (vN 199 (zy s) * vN 271 (zx t)) * (E (w0 199 (zy s) * w0 271 (zx t)) * F (y + (lN 199 (zy s) - y)) (x + (lN 271 (zx t) - x)) + E (w0 199 (zy s) * w1 271 (zx t)) * F (y + (lN 199 (zy s) - y)) (x + (hN 271 (zx t) - x))
      + E (w1 199 (zy s) * w0 271 (zx t)) * F (y + (hN 199 (zy s) - y)) (x + (lN 271 (zx t) - x)) + E (w1 199 (zy s) * w1 271 (zx t)) * F (y + (hN 199 (zy s) - y)) (x + (hN 271 (zx t) - x)))) _
    (fun s t hs ht => val_at F y x (zy s) (zx t) (fun h => (hy s hs h).1) (fun h => (hx t ht h).1)) p q hp hq]
  have h := pooled p q hp hq (fun a b => F (y + a) (x + b)) (fun s => vN 199 (zy s)) (fun s => w0 199 (zy s)) (fun s => w1 199 (zy s)) (fun s => vN 271 (zx s)) (fun s => w0 271 (zx s)) (fun s => w1 271 (zx s))
    (fun s => lN 199 (zy s) - y) (fun s => hN 199 (zy s) - y) (fun s => lN 271 (zx s) - x) (fun s => hN 271 (zx s) - x)
    (fun s hs hv => by
      have := hy s hs (vN_ne hv)
      have h3 := (spec 199 (zy s)).2.2.2.2.1
      show lN 199 (zy s) - y < 88 ∧ hN 199 (zy s) - y < 88
      omega)
    (fun s hs hv => by
      have := hx s hs (vN_ne hv)
      have h3 := (spec 271 (zx s)).2.2.2.2.1
      show lN 271 (zx s) - x < 106 ∧ hN 271 (zx s) - x < 106
      omega)
    (wts 199 y zy) (wts 271 x zx) (fun s _ k _ => rfl) (fun s _ k _ => rfl)
  unfold mean quad avg
  exact h

theorem out_at (c : Dev nD) (n : Fin 256) (i : grid0.Coords) (hi : 128 * (i 0).val + (i 1).val = n.val) (O : S1x14x16x256.Idx → Ideal .f32) (hO : Out4 m c i O)
    (ch : Fin 256) (p q : Fin 14) (q' : Fin 16) (hq : q'.val = q.val) (b y x nr nc : ℕ) (hb : b < 2) (hy : y ≤ 112) (hx : x ≤ 166) (hnr : nr ≤ 88) (hnc : nc ≤ 106)
    (eb : (V m c (Proc.devRef .tc main_v2) : IVec S256 32) (ix1 n) = BitVec.ofNat 32 b)
    (ey : (V m c (Proc.devRef .tc main_v89) : IVec S256 32) (ix1 n) = BitVec.ofNat 32 y)
    (ex : (V m c (Proc.devRef .tc main_v108) : IVec S256 32) (ix1 n) = BitVec.ofNat 32 (256 * x))
    (er : (V m c (Proc.devRef .tc main_v99) : IVec S256 32) (ix1 n) = BitVec.ofNat 32 nr)
    (el : (V m c (Proc.devRef .tc main_v110) : IVec S256 32) (ix1 n) = BitVec.ofNat 32 (256 * nc))
    (wy : ∀ s < 30, On 199 (sy m c n s) → y ≤ lN 199 (sy m c n s) ∧ hN 199 (sy m c n s) < y + nr)
    (wx : ∀ s < 30, On 271 (sx m c n s) → x ≤ lN 271 (sx m c n s) ∧ hN 271 (sx m c n s) < x + nc)
    (F : ℕ → ℕ → EReal) (hF : ∀ (y : Fin 200) (x : Fin 272), ((m ((c.tc : Thread nD τ).loc main_arg0) : FVec Ideal S2x256x200x272 .f32) (ix4 (⟨b, hb⟩ : Fin 2) ch y x) : EReal) = F y.val x.val) :
    (O (ix4 0 p q' ch) : EReal) = mean (fun s t => nbr F (sy m c n s) (sx m c n t)) p.val q.val := by
  unfold Out4 at hO
  rw [hi] at hO
  rw [wv_at, wv_at, wv_at, wv_at] at hO
  obtain ⟨g, v, e1, e2, e3⟩ := res_sum hO p q q' hq ch
  rw [its_l, el, toNat_small _ (by omega), its_r, er, toNat_small _ (by omega), its_b, eb, toNat_small _ (by omega), its_y, ey, toNat_small _ (by omega), its_x, ex, toNat_small _ (by omega)] at e3
  rw [its_l, el] at e2
  rw [its_y, ey] at e2
  rw [its_x, ex] at e1
  have hyy : ∀ s : ℕ, samp (tb m c main_v10 (ix1 n)) (tb m c main_v112 (ix1 n)) s = sy m c n s := by
    intro s
    unfold sy
    exact congrArg₂ (fun u w : EReal => samp u w s) (v10_at m c n) (v112_at m c n)
  have hxx : ∀ s : ℕ, samp (tb m c main_v6 (ix1 n)) (tb m c main_v114 (ix1 n)) s = sx m c n s := by
    intro s
    unfold sx
    exact congrArg₂ (fun u w : EReal => samp u w s) (v6_at m c n) (v114_at m c n)
  refine e1.trans ?_
  refine (sums_eq (avg q.val (wts 271 x (sx m c n))) (avg p.val (wts 199 y (sy m c n))) (fun k => mxW (F := Ideal) (BitVec.ofNat 32 (256 * x)) (tb m c main_v6 (ix1 n)) (tb m c main_v114 (ix1 n)) (ix2 q k)) (fun k => myW (F := Ideal) (BitVec.ofNat 32 y) (tb m c main_v10 (ix1 n)) (tb m c main_v112 (ix1 n)) (ix2 p k)) ?_ ?_ v g (fun a b => F (y + a) (x + b)) nc nr ?_ ?_ ?_ ?_).trans
    (pool_at p.val q.val p.isLt q.isLt F y x nr nc hnr hnc (sy m c n) (sx m c n) wy wx)
  · intro k
    refine (mxW_at _ _ _ q k).trans ?_
    refine avg_eq q.val k.val q.isLt _ _ fun s hs => ?_
    have h := colW_at (BitVec.ofNat 32 (256 * x)) (tb m c main_v6 (ix1 n)) (tb m c main_v114 (ix1 n)) x (by rw [small_int _ (by omega)]; push_cast; rfl) s k hs (by rw [hxx]; exact fun h => (wx s.val hs h).1)
    rw [hxx] at h
    exact h
  · intro k
    refine (myW_at _ _ _ p k).trans ?_
    refine avg_eq p.val k.val p.isLt _ _ fun s hs => ?_
    have h := rowW_at (BitVec.ofNat 32 y) (tb m c main_v10 (ix1 n)) (tb m c main_v112 (ix1 n)) y (small_int _ (by omega)) s k hs (by rw [hyy]; exact fun h => (wy s.val hs h).1)
    rw [hyy] at h
    exact h
  · intro k hk
    exact e2 k (lt_of_lt_of_le hk (cols_at ⟨nc, by omega⟩))
  · intro k hk1 hk
    refine avg_zero _ _ q.isLt _ fun s hs => ?_
    refine wt_zero _ _ _ _ _ _ nc (fun hv => ?_) hk
    have h := wx s hs (vN_ne hv)
    have h3 := (spec 271 (sx m c n s)).2.2.2.2.1
    omega
  · intro k hk1 hk
    refine avg_zero _ _ p.isLt _ fun s hs => ?_
    refine wt_zero _ _ _ _ _ _ nr (fun hv => ?_) hk
    have h := wy s hs (vN_ne hv)
    have h3 := (spec 199 (sy m c n s)).2.2.2.2.1
    omega
  · intro k l hk hl hk2 hl2
    have hch := ch.isLt
    refine (e3 k l hk hl hk2 (by omega) (ix3 (⟨b, hb⟩ : Fin 2) (⟨y + k, by omega⟩ : Fin 200) (⟨256 * (x + l) + ch.val, by omega⟩ : Fin 69632)) rfl rfl (show 256 * (x + l) + ch.val = 256 * x + (256 * l + ch.val) by omega)).trans ?_
    exact (v106_at m c ⟨b, hb⟩ ⟨y + k, by omega⟩ ⟨x + l, by omega⟩ ch).trans (hF _ _)

end Cert.KernelIdeal.Hand

end
-- ==== Proof.Value.lean ====
module

public import proofs.«01_k».proof.Proof.KerOut

/-! # The kernel's run, with its results

The boxes' windows holding their neighbours, the kernel ends with the mean of each cell's samples. -/

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.Pipeline Cert.Sums Cert.Axis
open Idealize.SL Idealize.SL.RA Idealize.SL.BI Idealize.SL.Sem

variable (m : (ℓ : Loc nD τ sig) → Buf (Elt Ideal) ℓ)

/-- The features of a box's image at one channel. -/
def feat (c : Dev nD) (n ch : Fin 256) (y x : ℕ) : EReal :=
  if h : y < 200 ∧ x < 272 then (m ((c.tc : Thread nD τ).loc main_arg0) : FVec Ideal S2x256x200x272 .f32)
    (ix4 (⟨(Ideal.fptosi 32 (roi m c n 0)).toNat % 2, Nat.mod_lt _ (by decide)⟩ : Fin 2) ch (⟨y, h.1⟩ : Fin 200) (⟨x, h.2⟩ : Fin 272)) else 0

theorem feat_at (c : Dev nD) (n ch : Fin 256) (b : ℕ) (hb : b < 2) (hw : Ideal.fptosi 32 (roi m c n 0) = BitVec.ofNat 32 b) (y : Fin 200) (x : Fin 272) :
    ((m ((c.tc : Thread nD τ).loc main_arg0) : FVec Ideal S2x256x200x272 .f32) (ix4 (⟨b, hb⟩ : Fin 2) ch y x) : EReal) = feat m c n ch y.val x.val := by
  unfold feat
  rw [dif_pos (show y.val < 200 ∧ x.val < 272 from ⟨y.isLt, x.isLt⟩)]
  have e : (⟨(Ideal.fptosi 32 (roi m c n 0)).toNat % 2, Nat.mod_lt _ (by decide)⟩ : Fin 2) = ⟨b, hb⟩ := Fin.ext (by
    show _ % 2 = b
    rw [hw, toNat_small _ (by omega)]
    omega)
  rw [e]

/-- A cell's mean, from the kernel's arguments. -/
def cell (c : Dev nD) (n ch : Fin 256) (p q : Fin 14) : EReal :=
  mean (fun s t => nbr (feat m c n ch) (sy m c n s) (sx m c n t)) p.val q.val

variable (hpre : ∀ c : Dev nD, Cert.Pre_windows_fit.fn (F := Ideal) (m ((c.tc : Thread nD τ).loc main_arg0)) (m ((c.tc : Thread nD τ).loc main_arg1)) = fun _ => 1#1)

include hpre

theorem imgs_fit (c : Dev nD) (i : S256.Idx) : ((V m c (Proc.devRef .tc main_v2) : IVec S256 32) i).toNat < 2 := by
  obtain ⟨-, b, y, x, nr, nc, hb, -, -, -, -, -, eb, -⟩ := box m c (hpre c) (i 0)
  have hi : i = ix1 (i 0) := by
    funext (a : Fin 1)
    match a with
    | 0 => rfl
  have e := (congrArg (V m c (Proc.devRef .tc main_v2) : IVec S256 32) hi).trans eb
  have e2 := (congrArg BitVec.toNat e).trans (toNat_small b (by omega))
  exact lt_of_eq_of_lt e2 hb

theorem value (ρ : Dev nD → PrngReg) (v0 : (c : Dev nD) → Buf (Elt Ideal) ((c.tc : Thread nD τ).loc main_v117))
    (hv : ∀ (c : Dev nD) (n ch : Fin 256) (p q : Fin 14), ((v0 c : FVec Ideal S256x256x14x14 .f32) (ix4 n ch p q) : EReal) = cell m c n ch p q) :
    θ_run (defs (F := Ideal)) (onTc (τ := τ) (main (F := Ideal))) ⟨m, fun _ => 0, ρ⟩ (fun r => (∀ c : Dev nD,
      r.2.mem ((c.tc : Thread nD τ).loc main_v117) = v0 c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine run m ρ (fun c g _ => its_good m c (imgs_fit m hpre c) g) ?_
  rintro s hs h0
  refine ⟨fun c => ?_, h0⟩
  obtain ⟨A, hA4, hA⟩ := hs c
  refine ⟨?_, ?_, ?_⟩
  · rw [hA main_v117 (by exact (by decide +kernel : main_v117 ∈ restRefsP sig pre0 spec0 \ ({main_v106} : Finset (Ref sig .tc))))]
    show (_ : FVec Ideal S256x256x14x14 .f32) = v0 c
    funext (j : S256x256x14x14.Idx)
    obtain ⟨n, ch, p, q, rfl⟩ : ∃ (n ch : Fin 256) (p q : Fin 14), j = ix4 n ch p q := ⟨j 0, j 1, j 2, j 3, by
      funext (a : Fin 4)
      match a with
      | 0 => rfl
      | 1 => rfl
      | 2 => rfl
      | 3 => rfl⟩
    refine (after_v117 _ n ch p q).trans ?_
    refine Eq.trans ?_ (hv c n ch p q).symm
    refine (congrFun (withArrays_arr_shared spec0 c (V m c) A ?_ (4 : Fin 5)) (ix4 n p (Fin.castLE (by decide) q) ch)).trans ?_
    · have h : ∀ w w' : Fin 5, w ≠ w' → arrRef spec0 w ≠ arrRef spec0 w' := by decide +kernel
      exact fun w w' hne e => absurd e (h w w' hne)
    obtain ⟨t, O, ht, hO, e⟩ := arr_at m c A hA4 (ix4 n p (Fin.castLE (by decide) q) ch)
    refine e.trans ?_
    obtain ⟨-, b, y, x, nr, nc, hb, hy, hx, hnr, hnc, hw, eb, ey, ex, er, el, wy, wx⟩ := box m c (hpre c) n
    exact out_at m c n (grid0.coords t) ht O hO ch p q _ rfl b y x nr nc hb hy hx hnr hnc eb ey ex er el wy wx (feat m c n ch) (feat_at m c n ch b hb hw)
  · rw [hA main_arg0 (by exact (by decide +kernel : main_arg0 ∈ restRefsP sig pre0 spec0 \ ({main_v106} : Finset (Ref sig .tc)))), after_arg0, withArrays_of_ne _ _ _ _ _ (by exact (by decide +kernel : ∀ w : Fin 5, arrRef spec0 w ≠ main_arg0)), V_arg0]
  · rw [hA main_arg1 (by exact (by decide +kernel : main_arg1 ∈ restRefsP sig pre0 spec0 \ ({main_v106} : Finset (Ref sig .tc)))), after_arg1, withArrays_of_ne _ _ _ _ _ (by exact (by decide +kernel : ∀ w : Fin 5, arrRef spec0 w ≠ main_arg1)), V_arg1]

end Cert.KernelIdeal.Hand

end
-- ==== Proof.Bound.lean ====
module

public import proofs.«01_k».proof.Pre_batch_in_range
public import Idealize.ShloMosaic.Lib.ReduceAll
public import Idealize.ShloMosaic.Lib.Affine

/-! # The precondition read

What the precondition says of each box's image number. -/

@[expose] public section

noncomputable section

namespace Cert.Bound

open Idealize.ShloMosaic Cert.Pre_batch_in_range

/-- The shape relations the precondition takes. -/
instance facts : Cert.Pre_batch_in_range.Facts where
  slices_S256x5_S256x1_0_0 := by decide
  shapeCasts_S256x1_S256 := by decide
  bcast_S_S256 := by decide
  reducesTo_S256_S_d0 := by decide
  h_S_ := by decide

variable {F : FTy → Type} [FloatOps F] [Cert.Pre_batch_in_range.Facts]

theorem word_lt {x : BitVec 32} (h0 : (0#32 : BitVec 32).toInt ≤ x.toInt) (h1 : x.toInt < (2#32 : BitVec 32).toInt) : x.toNat < 2 := by
  have e0 : (0#32 : BitVec 32).toInt = 0 := by decide
  have e1 : (2#32 : BitVec 32).toInt = 2 := by decide
  have ex := BitVec.toInt_eq_toNat_cond x
  have lx := x.isLt
  split at ex <;> omega

theorem imgs_lt (a : FVec F S2x256x200x272 .f32) (x : FVec F S256x5 .f32) (h : fn a x = fun _ => 1#1) (i : S256.Idx) :
    ((fptosi 32 (shapeCast S256 ((extractStridedSlice S256x1 ![0, 0] · Facts.slices_S256x5_S256x1_0_0) x) Facts.shapeCasts_S256x1_S256) : IVec S256 32) i).toNat < 2 := by
  dsimp only [fn] at h
  have h1 := Host.reduce_andi_all _ _ _ _ _ (congrFun h (fun a => a.elim0)) i
  obtain ⟨h2, h3⟩ := IntOp.andi_eq_one.1 h1
  exact word_lt (IntOp.cmpi_sge.1 h2) (IntOp.cmpi_slt.1 h3)

end Cert.Bound

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.Same
public import proofs.«01_k».proof.Proof.RefRun
public import proofs.«01_k».proof.Proof.RefOut
public import proofs.«01_k».proof.Proof.Value
public import proofs.«01_k».proof.Proof.Bound
public import Idealize.ShloMosaic.Lib.Quiescent

@[expose] public section

set_option maxRecDepth 65536

noncomputable section

namespace Cert.Proof

open Idealize.ShloMosaic Idealize.ShloMosaic.StableHlo Idealize.SL.Sem

/-- The kernel's frame at bits, its program being the one read at extended reals. -/
theorem frame_bits : Cert.quiescent_Kernel := by
  intro m ρ h
  unfold Cert.Pre_Kernel at h
  rw [Cert.Same.defs_eq, Cert.Same.main_eq]
  exact Cert.KernelIdeal.Hand.frame (F := Bits) m (fun c i => Cert.Bound.imgs_lt _ _ (h c) i) ρ

/-- The kernel's frame at extended reals. -/
theorem frame_ideal : Cert.quiescent_KernelIdeal := fun m ρ h =>
  Cert.KernelIdeal.Hand.frame (F := Ideal) m (fun c i => Cert.Bound.imgs_lt _ _ (h c) i) ρ

/-- The kernel's frame at extended reals, its windows holding their neighbours. -/
theorem frame_fit : Cert.quiescent_KernelIdeal_pre_windows_fit := fun m ρ h =>
  Cert.KernelIdeal.Hand.frame (F := Ideal) m (fun c i => by
    have e := Cert.KernelIdeal.Hand.imgs_fit m h c i
    rw [Cert.KernelIdeal.Hand.bt_at] at e
    exact e) ρ

/-- The reference's frame from any memory. -/
theorem frame_any (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c Cert.ReferenceIdeal.main_arg0).trans (Cert.ReferenceIdeal.Hand.arg0_kept _), (h c Cert.ReferenceIdeal.main_arg1).trans (Cert.ReferenceIdeal.Hand.arg1_kept _)⟩,
      Idealize.ShloMosaic.sem_eq_zero_of_no_sems (by decide) r.2⟩)
    (Cert.ReferenceIdeal.Hand.run (F := Ideal) m ρ)

/-- The reference's frame. -/
theorem frame_ref : Cert.quiescent_ReferenceIdeal := fun m ρ _ => frame_any m ρ

/-- The reference's frame, its boxes' windows fitting. -/
theorem frame_ref_fit : Cert.quiescent_ReferenceIdeal_pre_windows_fit := fun m ρ _ => frame_any m ρ

/-- The kernel and the reference end with equal results. -/
theorem values : Cert.algebraic_KernelIdeal_ReferenceIdeal_pre_windows_fit := by
  intro m g m' g' hpre hargs
  refine ⟨fun c => (Cert.ReferenceIdeal.Hand.R (launchContents m' c) Cert.ReferenceIdeal.main_v275 : FVec Ideal Cert.KernelIdeal.S256x256x14x14 .f32), ?_, ?_⟩
  · refine (θ_run Cert.KernelIdeal.defs _ _).mono (fun r h => h.1) (Cert.KernelIdeal.Hand.value m hpre g _ fun c n ch p q => ?_)
    obtain ⟨h0, h1⟩ := hargs c
    obtain ⟨hfin, b, y, x, nr, nc, hb, -, -, -, -, hw, -⟩ := Cert.KernelIdeal.Hand.box m c (hpre c) n
    refine Cert.ReferenceIdeal.Hand.ref_at (launchContents m' c) n ch p q (Cert.KernelIdeal.Hand.roi m c n) (fun j => ?_) hfin b hb hw (Cert.KernelIdeal.Hand.feat m c n ch) (fun y x => ?_)
    · exact congrFun ((Cert.ReferenceIdeal.Hand.arg1_kept (launchContents m' c)).trans h1) _
    · exact (congrFun ((Cert.ReferenceIdeal.Hand.arg0_kept (launchContents m' c)).trans h0) _).trans (Cert.KernelIdeal.Hand.feat_at m c n ch b hb hw y x)
  · refine (θ_run Cert.ReferenceIdeal.defs _ _).mono (fun r h c => ⟨h c Cert.ReferenceIdeal.main_v275, (h c Cert.ReferenceIdeal.main_arg0).trans (Cert.ReferenceIdeal.Hand.arg0_kept _), (h c Cert.ReferenceIdeal.main_arg1).trans (Cert.ReferenceIdeal.Hand.arg1_kept _)⟩)
      (Cert.ReferenceIdeal.Hand.run (F := Ideal) m' g')

theorem claim : Cert.Claim :=
  ⟨Cert.Kernel.Gen.facts, Cert.KernelIdeal.Gen.facts, Cert.ReferenceIdeal.Gen.facts, Cert.Bound.facts, Cert.Fit.facts,
    frame_bits, frame_ideal, frame_fit, frame_ref, frame_ref_fit, trivial, values⟩

end Cert.Proof

end
